-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_seen [hPre_boxes_seen : Cert.Pre_boxes_seen.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_seen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_seen [hPre_boxes_seen : Cert.Pre_boxes_seen.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_seen.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_seen [hKernelIdeal : Cert.KernelIdeal.Facts] [hPre_boxes_seen : Cert.Pre_boxes_seen.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_seen m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_seen [hReferenceIdeal : Cert.ReferenceIdeal.Facts] [hPre_boxes_seen : Cert.Pre_boxes_seen.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_seen m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_seen [hKernelIdeal : Cert.KernelIdeal.Facts] [hReferenceIdeal : Cert.ReferenceIdeal.Facts] [hPre_boxes_seen : Cert.Pre_boxes_seen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_seen m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_v340) = v2 c
          ∧ r.2.mem ((c.tc : Thread Cert.ReferenceIdeal.nD Cert.ReferenceIdeal.τ).loc Cert.ReferenceIdeal.main_v341) = v3 c
          ∧ r.2.mem ((c.tc : Thread Cert.ReferenceIdeal.nD Cert.ReferenceIdeal.τ).loc Cert.ReferenceIdeal.main_v344) = v4 c
          ∧ r.2.mem ((c.tc : Thread Cert.ReferenceIdeal.nD Cert.ReferenceIdeal.τ).loc Cert.ReferenceIdeal.main_v259) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_seen : Cert.Pre_boxes_seen.Facts),
    quiescent_Kernel (hKernel := hKernel)
    ∧ quiescent_KernelIdeal (hKernelIdeal := hKernelIdeal)
    ∧ quiescent_KernelIdeal_pre_boxes_seen (hKernelIdeal := hKernelIdeal) (hPre_boxes_seen := hPre_boxes_seen)
    ∧ quiescent_ReferenceIdeal (hReferenceIdeal := hReferenceIdeal)
    ∧ quiescent_ReferenceIdeal_pre_boxes_seen (hReferenceIdeal := hReferenceIdeal) (hPre_boxes_seen := hPre_boxes_seen)
    ∧ preserves_Kernel_KernelIdeal
    ∧ algebraic_KernelIdeal_ReferenceIdeal_pre_boxes_seen (hKernelIdeal := hKernelIdeal) (hReferenceIdeal := hReferenceIdeal) (hPre_boxes_seen := hPre_boxes_seen)
-- ==== Pre_boxes_seen.lean ====
abbrev S4x20000x5 : Shape := ⟨3, ![4, 20000, 5]⟩
abbrev S4x50x5 : Shape := ⟨3, ![4, 50, 5]⟩
abbrev S4 : Shape := ⟨1, ![4]⟩
abbrev S4x50x1 : Shape := ⟨3, ![4, 50, 1]⟩
abbrev S4x50 : Shape := ⟨2, ![4, 50]⟩
abbrev S_ : Shape := ⟨0, ![]⟩

class Facts : Prop where
  slices_S4x50x5_S4x50x1_0_0_4 : S4x50x5.Slices ![0, 0, 4] S4x50x1
  shapeCasts_S4x50x1_S4x50 : S4x50x1.ShapeCasts S4x50
  slices_S4x50x5_S4x50x1_0_0_0 : S4x50x5.Slices ![0, 0, 0] S4x50x1
  slices_S4x50x5_S4x50x1_0_0_1 : S4x50x5.Slices ![0, 0, 1] S4x50x1
  slices_S4x50x5_S4x50x1_0_0_2 : S4x50x5.Slices ![0, 0, 2] S4x50x1
  slices_S4x50x5_S4x50x1_0_0_3 : S4x50x5.Slices ![0, 0, 3] S4x50x1
  bcast_S_S4x50 : S_.BroadcastsInDim S4x50 (![] : Fin 0 → Fin S4x50.rank)

variable [Facts]

def fn_part1 {F : FTy → Type} [FloatOps F] (main_v1 : FVec F S4x50 .f32) (main_v14 : IVec S4x50 1) (main_v19 : IVec S4x50 1) : IVec S4x50 1 :=
  let main_v20 : IVec S4x50 1 := ori main_v14 main_v19
  let main_cst_3 : FVec F S_ .f32 := constant S_ .f32 0x00000000#32
  let main_v21 : FVec F S4x50 .f32 := broadcastInDim S4x50 ![] bcast_S_S4x50 main_cst_3
  let main_v22 : IVec S4x50 1 := cmpf .oeq main_v1 main_v21
  let main_cst_4 : FVec F S_ .f32 := constant S_ .f32 0x40000000#32
  let main_v23 : FVec F S4x50 .f32 := broadcastInDim S4x50 ![] bcast_S_S4x50 main_cst_4
  let main_v24 : IVec S4x50 1 := cmpf .oeq main_v1 main_v23
  let main_cst_5 : FVec F S_ .f32 := constant S_ .f32 0x40400000#32
  let main_v25 : FVec F S4x50 .f32 := broadcastInDim S4x50 ![] bcast_S_S4x50 main_cst_5
  let main_v26 : IVec S4x50 1 := cmpf .oeq main_v1 main_v25
  let main_v27 : IVec S4x50 1 := ori main_v24 main_v26
  let main_v28 : IVec S4x50 1 := ori main_v22 main_v27
  let main_v29 : IVec S4x50 1 := ori main_v20 main_v28
  main_v29

def fn {F : FTy → Type} [FloatOps F] (main_arg0 : FVec F S4x20000x5 .f32) (main_arg1 : FVec F S4x50x5 .f32) (main_arg2 : IVec S4 32) : IVec S4x50 1 :=
  let main_v0 : FVec F S4x50x1 .f32 := (extractStridedSlice S4x50x1 ![0, 0, 4] · slices_S4x50x5_S4x50x1_0_0_4) main_arg1
  let main_v1 : FVec F S4x50 .f32 := shapeCast S4x50 main_v0 shapeCasts_S4x50x1_S4x50
  let main_v2 : FVec F S4x50x1 .f32 := (extractStridedSlice S4x50x1 ![0, 0, 0] · slices_S4x50x5_S4x50x1_0_0_0) main_arg1
  let main_v3 : FVec F S4x50 .f32 := shapeCast S4x50 main_v2 shapeCasts_S4x50x1_S4x50
  let main_v4 : FVec F S4x50x1 .f32 := (extractStridedSlice S4x50x1 ![0, 0, 1] · slices_S4x50x5_S4x50x1_0_0_1) main_arg1
  let main_v5 : FVec F S4x50 .f32 := shapeCast S4x50 main_v4 shapeCasts_S4x50x1_S4x50
  let main_v6 : FVec F S4x50x1 .f32 := (extractStridedSlice S4x50x1 ![0, 0, 2] · slices_S4x50x5_S4x50x1_0_0_2) main_arg1
  let main_v7 : FVec F S4x50 .f32 := shapeCast S4x50 main_v6 shapeCasts_S4x50x1_S4x50
  let main_v8 : FVec F S4x50x1 .f32 := (extractStridedSlice S4x50x1 ![0, 0, 3] · slices_S4x50x5_S4x50x1_0_0_3) main_arg1
  let main_v9 : FVec F S4x50 .f32 := shapeCast S4x50 main_v8 shapeCasts_S4x50x1_S4x50
  let main_cst : FVec F S_ .f32 := constant S_ .f32 0x00000000#32
  let main_v10 : FVec F S4x50 .f32 := broadcastInDim S4x50 ![] bcast_S_S4x50 main_cst
  let main_v11 : IVec S4x50 1 := cmpf .une main_v3 main_v10
  let main_cst_0 : FVec F S_ .f32 := constant S_ .f32 0x00000000#32
  let main_v12 : FVec F S4x50 .f32 := broadcastInDim S4x50 ![] bcast_S_S4x50 main_cst_0
  let main_v13 : IVec S4x50 1 := cmpf .une main_v5 main_v12
  let main_v14 : IVec S4x50 1 := ori main_v11 main_v13
  let main_cst_1 : FVec F S_ .f32 := constant S_ .f32 0x00000000#32
  let main_v15 : FVec F S4x50 .f32 := broadcastInDim S4x50 ![] bcast_S_S4x50 main_cst_1
  let main_v16 : IVec S4x50 1 := cmpf .une main_v7 main_v15
  let main_cst_2 : FVec F S_ .f32 := constant S_ .f32 0x00000000#32
  let main_v17 : FVec F S4x50 .f32 := broadcastInDim S4x50 ![] bcast_S_S4x50 main_cst_2
  let main_v18 : IVec S4x50 1 := cmpf .une main_v9 main_v17
  let main_v19 : IVec S4x50 1 := ori main_v16 main_v18
  fn_part1 (F := F) main_v1 main_v14 main_v19
-- ==== Kernel.lean ====
abbrev S4x20000x5 : Shape := ⟨3, ![4, 20000, 5]⟩
abbrev S4x50x5 : Shape := ⟨3, ![4, 50, 5]⟩
abbrev S4 : Shape := ⟨1, ![4]⟩
abbrev S4x50x1 : Shape := ⟨3, ![4, 50, 1]⟩
abbrev S4x50 : Shape := ⟨2, ![4, 50]⟩
abbrev S_ : Shape := ⟨0, ![]⟩
abbrev S4x50x4 : Shape := ⟨3, ![4, 50, 4]⟩
abbrev S4x50x3 : Shape := ⟨3, ![4, 50, 3]⟩
abbrev S4x50x16 : Shape := ⟨3, ![4, 50, 16]⟩
abbrev S4x56x16 : Shape := ⟨3, ![4, 56, 16]⟩
abbrev S4x50x8 : Shape := ⟨3, ![4, 50, 8]⟩
abbrev S4x56x8 : Shape := ⟨3, ![4, 56, 8]⟩
abbrev S4x20050x5 : Shape := ⟨3, ![4, 20050, 5]⟩
abbrev S4x20050x4 : Shape := ⟨3, ![4, 20050, 4]⟩
abbrev S4x20480x4 : Shape := ⟨3, ![4, 20480, 4]⟩
abbrev S4x4x20480 : Shape := ⟨3, ![4, 4, 20480]⟩
abbrev S4x1x20480 : Shape := ⟨3, ![4, 1, 20480]⟩
abbrev S4x1x20050 : Shape := ⟨3, ![4, 1, 20050]⟩
abbrev S4x20050 : Shape := ⟨2, ![4, 20050]⟩
abbrev S4x64 : Shape := ⟨2, ![4, 64]⟩
abbrev S4x192 : Shape := ⟨2, ![4, 192]⟩
abbrev S4x256 : Shape := ⟨2, ![4, 256]⟩
abbrev S4x256x1 : Shape := ⟨3, ![4, 256, 1]⟩
abbrev S4x256x6 : Shape := ⟨3, ![4, 256, 6]⟩
abbrev S4x256x8 : Shape := ⟨3, ![4, 256, 8]⟩
abbrev S4x20480x1 : Shape := ⟨3, ![4, 20480, 1]⟩
abbrev S4x20480x3 : Shape := ⟨3, ![4, 20480, 3]⟩
abbrev S4x20480x8 : Shape := ⟨3, ![4, 20480, 8]⟩
abbrev S4x256x5 : Shape := ⟨3, ![4, 256, 5]⟩
abbrev S4x256x4 : Shape := ⟨3, ![4, 256, 4]⟩
abbrev S1x4x2048 : Shape := ⟨3, ![1, 4, 2048]⟩
abbrev S1x56x16 : Shape := ⟨3, ![1, 56, 16]⟩
abbrev S1x1x2048 : Shape := ⟨3, ![1, 1, 2048]⟩
abbrev S4x2048 : Shape := ⟨2, ![4, 2048]⟩
abbrev S56x16 : Shape := ⟨2, ![56, 16]⟩
abbrev S1x2048 : Shape := ⟨2, ![1, 2048]⟩
abbrev S56x1 : Shape := ⟨2, ![56, 1]⟩
abbrev S56x2048 : Shape := ⟨2, ![56, 2048]⟩
abbrev S2048 : Shape := ⟨1, ![2048]⟩
abbrev S1x20480x8 : Shape := ⟨3, ![1, 20480, 8]⟩
abbrev S1x56x8 : Shape := ⟨3, ![1, 56, 8]⟩
abbrev S1x256x8 : Shape := ⟨3, ![1, 256, 8]⟩
abbrev S1x256x5 : Shape := ⟨3, ![1, 256, 5]⟩
abbrev S1x256x1 : Shape := ⟨3, ![1, 256, 1]⟩
abbrev S1x256x4 : Shape := ⟨3, ![1, 256, 4]⟩
abbrev S256x8 : Shape := ⟨2, ![256, 8]⟩
abbrev S256x1 : Shape := ⟨2, ![256, 1]⟩
abbrev S1x2048x8 : Shape := ⟨3, ![1, 2048, 8]⟩
abbrev S2048x8 : Shape := ⟨2, ![2048, 8]⟩
abbrev S256x2048 : Shape := ⟨2, ![256, 2048]⟩
abbrev S256x4 : Shape := ⟨2, ![256, 4]⟩
abbrev S256x56 : Shape := ⟨2, ![256, 56]⟩
abbrev S56x8 : Shape := ⟨2, ![56, 8]⟩
abbrev S1x4 : Shape := ⟨2, ![1, 4]⟩
abbrev S256x5 : Shape := ⟨2, ![256, 5]⟩

abbrev nBuf : Space → Nat
  | .hbm => 90
  | .vmem => 28
  | .smem => 0
  | _ => 0

abbrev bufTy : (tb : Table) → Fin (tcTables nBuf tb) → BufTy
  | .hbm, ⟨0, _⟩ => ⟨S4x20000x5, .f32⟩
  | .hbm, ⟨1, _⟩ => ⟨S4x50x5, .f32⟩
  | .hbm, ⟨2, _⟩ => ⟨S4, .i32⟩
  | .hbm, ⟨3, _⟩ => ⟨S4x50x1, .f32⟩
  | .hbm, ⟨4, _⟩ => ⟨S4x50, .f32⟩
  | .hbm, ⟨5, _⟩ => ⟨S_, .f32⟩
  | .hbm, ⟨6, _⟩ => ⟨S4x50, .f32⟩
  | .hbm, ⟨7, _⟩ => ⟨S4x50, .i1⟩
  | .hbm, ⟨8, _⟩ => ⟨S_, .f32⟩
  | .hbm, ⟨9, _⟩ => ⟨S4x50, .f32⟩
  | .hbm, ⟨10, _⟩ => ⟨S4x50, .i1⟩
  | .hbm, ⟨11, _⟩ => ⟨S4x50, .i1⟩
  | .hbm, ⟨12, _⟩ => ⟨S4x50, .f32⟩
  | .hbm, ⟨13, _⟩ => ⟨S4x50x1, .f32⟩
  | .hbm, ⟨14, _⟩ => ⟨S4x50x4, .f32⟩
  | .hbm, ⟨15, _⟩ => ⟨S4x50x4, .f32⟩
  | .hbm, ⟨16, _⟩ => ⟨S4x50x4, .f32⟩
  | .hbm, ⟨17, _⟩ => ⟨S4x50x1, .f32⟩
  | .hbm, ⟨18, _⟩ => ⟨S4x50x1, .f32⟩
  | .hbm, ⟨19, _⟩ => ⟨S4x50x4, .f32⟩
  | .hbm, ⟨20, _⟩ => ⟨S_, .f32⟩
  | .hbm, ⟨21, _⟩ => ⟨S4x50, .f32⟩
  | .hbm, ⟨22, _⟩ => ⟨S4x50, .i1⟩
  | .hbm, ⟨23, _⟩ => ⟨S4x50x1, .i1⟩
  | .hbm, ⟨24, _⟩ => ⟨S4x50x1, .f32⟩
  | .hbm, ⟨25, _⟩ => ⟨S4x50x4, .f32⟩
  | .hbm, ⟨26, _⟩ => ⟨S4x50x4, .f32⟩
  | .hbm, ⟨27, _⟩ => ⟨S4x50x4, .f32⟩
  | .hbm, ⟨28, _⟩ => ⟨S_, .f32⟩
  | .hbm, ⟨29, _⟩ => ⟨S4x50, .f32⟩
  | .hbm, ⟨30, _⟩ => ⟨S4x50, .i1⟩
  | .hbm, ⟨31, _⟩ => ⟨S4x50x1, .i1⟩
  | .hbm, ⟨32, _⟩ => ⟨S4x50x1, .f32⟩
  | .hbm, ⟨33, _⟩ => ⟨S4x50x4, .f32⟩
  | .hbm, ⟨34, _⟩ => ⟨S4x50x4, .f32⟩
  | .hbm, ⟨35, _⟩ => ⟨S_, .f32⟩
  | .hbm, ⟨36, _⟩ => ⟨S4x50x3, .f32⟩
  | .hbm, ⟨37, _⟩ => ⟨S4x50x16, .f32⟩
  | .hbm, ⟨38, _⟩ => ⟨S_, .i32⟩
  | .hbm, ⟨39, _⟩ => ⟨S_, .f32⟩
  | .hbm, ⟨40, _⟩ => ⟨S4x56x16, .f32⟩
  | .hbm, ⟨41, _⟩ => ⟨S4x50x8, .f32⟩
  | .hbm, ⟨42, _⟩ => ⟨S_, .i32⟩
  | .hbm, ⟨43, _⟩ => ⟨S_, .f32⟩
  | .hbm, ⟨44, _⟩ => ⟨S4x56x8, .f32⟩
  | .hbm, ⟨45, _⟩ => ⟨S_, .f32⟩
  | .hbm, ⟨46, _⟩ => ⟨S4x50x1, .f32⟩
  | .hbm, ⟨47, _⟩ => ⟨S4x50x5, .f32⟩
  | .hbm, ⟨48, _⟩ => ⟨S4x20050x5, .f32⟩
  | .hbm, ⟨49, _⟩ => ⟨S4x20050x4, .f32⟩
  | .hbm, ⟨50, _⟩ => ⟨S_, .i32⟩
  | .hbm, ⟨51, _⟩ => ⟨S_, .f32⟩
  | .hbm, ⟨52, _⟩ => ⟨S4x20480x4, .f32⟩
  | .hbm, ⟨53, _⟩ => ⟨S4x4x20480, .f32⟩
  | .hbm, ⟨54, _⟩ => ⟨S4x1x20480, .f32⟩
  | .hbm, ⟨55, _⟩ => ⟨S4x1x20480, .f32⟩
  | .hbm, ⟨56, _⟩ => ⟨S4x1x20480, .f32⟩
  | .hbm, ⟨57, _⟩ => ⟨S4x1x20050, .f32⟩
  | .hbm, ⟨58, _⟩ => ⟨S4x20050, .f32⟩
  | .hbm, ⟨59, _⟩ => ⟨S4x64, .f32⟩
  | .hbm, ⟨60, _⟩ => ⟨S4x64, .i32⟩
  | .hbm, ⟨61, _⟩ => ⟨S4x1x20050, .f32⟩
  | .hbm, ⟨62, _⟩ => ⟨S4x20050, .f32⟩
  | .hbm, ⟨63, _⟩ => ⟨S4x192, .f32⟩
  | .hbm, ⟨64, _⟩ => ⟨S4x192, .i32⟩
  | .hbm, ⟨65, _⟩ => ⟨S4x256, .i32⟩
  | .hbm, ⟨66, _⟩ => ⟨S_, .f32⟩
  | .hbm, ⟨67, _⟩ => ⟨S4x64, .f32⟩
  | .hbm, ⟨68, _⟩ => ⟨S4x64, .i1⟩
  | .hbm, ⟨69, _⟩ => ⟨S4x64, .f32⟩
  | .hbm, ⟨70, _⟩ => ⟨S_, .f32⟩
  | .hbm, ⟨71, _⟩ => ⟨S4x192, .f32⟩
  | .hbm, ⟨72, _⟩ => ⟨S4x256, .f32⟩
  | .hbm, ⟨73, _⟩ => ⟨S4x256, .f32⟩
  | .hbm, ⟨74, _⟩ => ⟨S4x256x1, .f32⟩
  | .hbm, ⟨75, _⟩ => ⟨S4x256x1, .f32⟩
  | .hbm, ⟨76, _⟩ => ⟨S_, .f32⟩
  | .hbm, ⟨77, _⟩ => ⟨S4x256x6, .f32⟩
  | .hbm, ⟨78, _⟩ => ⟨S4x256x8, .f32⟩
  | .hbm, ⟨79, _⟩ => ⟨S4x20480x1, .f32⟩
  | .hbm, ⟨80, _⟩ => ⟨S_, .f32⟩
  | .hbm, ⟨81, _⟩ => ⟨S4x20480x3, .f32⟩
  | .hbm, ⟨82, _⟩ => ⟨S4x20480x8, .f32⟩
  | .hbm, ⟨83, _⟩ => ⟨S4x256x5, .f32⟩
  | .hbm, ⟨84, _⟩ => ⟨S4x256x1, .f32⟩
  | .hbm, ⟨85, _⟩ => ⟨S4x256x4, .f32⟩
  | .hbm, ⟨86, _⟩ => ⟨S4x256x4, .f32⟩
  | .hbm, ⟨87, _⟩ => ⟨S4x256x4, .f32⟩
  | .hbm, ⟨88, _⟩ => ⟨S4x256x5, .f32⟩
  | .hbm, ⟨89, _⟩ => ⟨S4x256, .f32⟩
  | .local _ .vmem, ⟨0, _⟩ => ⟨S1x4x2048, .f32⟩
  | .local _ .vmem, ⟨1, _⟩ => ⟨S1x4x2048, .f32⟩
  | .local _ .vmem, ⟨2, _⟩ => ⟨S1x56x16, .f32⟩
  | .local _ .vmem, ⟨3, _⟩ => ⟨S1x56x16, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x20480x8, .f32⟩
  | .local _ .vmem, ⟨11, _⟩ => ⟨S1x20480x8, .f32⟩
  | .local _ .vmem, ⟨12, _⟩ => ⟨S1x56x8, .f32⟩
  | .local _ .vmem, ⟨13, _⟩ => ⟨S1x56x8, .f32⟩
  | .local _ .vmem, ⟨14, _⟩ => ⟨S1x256x8, .f32⟩
  | .local _ .vmem, ⟨15, _⟩ => ⟨S1x256x8, .f32⟩
  | .local _ .vmem, ⟨16, _⟩ => ⟨S1x256x5, .f32⟩
  | .local _ .vmem, ⟨17, _⟩ => ⟨S1x256x5, .f32⟩
  | .local _ .vmem, ⟨18, _⟩ => ⟨S1x256x1, .f32⟩
  | .local _ .vmem, ⟨19, _⟩ => ⟨S1x256x1, .f32⟩
  | .local _ .vmem, ⟨20, _⟩ => ⟨S1x256x4, .f32⟩
  | .local _ .vmem, ⟨21, _⟩ => ⟨S1x256x4, .f32⟩
  | .local _ .vmem, ⟨22, _⟩ => ⟨S1x256x4, .f32⟩
  | .local _ .vmem, ⟨23, _⟩ => ⟨S1x256x4, .f32⟩
  | .local _ .vmem, ⟨24, _⟩ => ⟨S1x256x4, .f32⟩
  | .local _ .vmem, ⟨25, _⟩ => ⟨S1x256x4, .f32⟩
  | .local _ .vmem, ⟨26, _⟩ => ⟨S1x256x5, .f32⟩
  | .local _ .vmem, ⟨27, _⟩ => ⟨S1x256x5, .f32⟩
  | _, _ => ⟨S4x20000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_cst_1 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_cst_2 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_cst_3 : Ref sig .tc := ⟨.hbm, 35, rfl⟩
abbrev main_call0_v28 : Ref sig .tc := ⟨.hbm, 36, rfl⟩
abbrev main_call0_v29 : Ref sig .tc := ⟨.hbm, 37, rfl⟩
abbrev main_call0_c : Ref sig .tc := ⟨.hbm, 38, rfl⟩
abbrev main_call0_call0_v0 : Ref sig .tc := ⟨.hbm, 39, rfl⟩
abbrev main_call0_v30 : Ref sig .tc := ⟨.hbm, 40, rfl⟩
abbrev main_call0_v31 : Ref sig .tc := ⟨.hbm, 41, rfl⟩
abbrev main_call0_c_4 : Ref sig .tc := ⟨.hbm, 42, rfl⟩
abbrev main_call0_call1_v0 : Ref sig .tc := ⟨.hbm, 43, rfl⟩
abbrev main_call0_v32 : Ref sig .tc := ⟨.hbm, 44, rfl⟩
abbrev main_call0_cst_5 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_c_6 : Ref sig .tc := ⟨.hbm, 50, rfl⟩
abbrev main_call0_call2_v0 : Ref sig .tc := ⟨.hbm, 51, rfl⟩
abbrev main_call0_v37 : Ref sig .tc := ⟨.hbm, 52, rfl⟩
abbrev main_call0_v38 : Ref sig .tc := ⟨.hbm, 53, rfl⟩
abbrev main_call0_v39_0 : Ref sig .tc := ⟨.hbm, 54, rfl⟩
abbrev main_call0_v39_1 : Ref sig .tc := ⟨.hbm, 55, rfl⟩
abbrev main_call0_v39_2 : Ref sig .tc := ⟨.hbm, 56, rfl⟩
abbrev main_call0_v40 : Ref sig .tc := ⟨.hbm, 57, rfl⟩
abbrev main_call0_v41 : Ref sig .tc := ⟨.hbm, 58, rfl⟩
abbrev main_call0_values : Ref sig .tc := ⟨.hbm, 59, rfl⟩
abbrev main_call0_indices : Ref sig .tc := ⟨.hbm, 60, rfl⟩
abbrev main_call0_v42 : Ref sig .tc := ⟨.hbm, 61, rfl⟩
abbrev main_call0_v43 : Ref sig .tc := ⟨.hbm, 62, rfl⟩
abbrev main_call0_values_7 : Ref sig .tc := ⟨.hbm, 63, rfl⟩
abbrev main_call0_indices_8 : Ref sig .tc := ⟨.hbm, 64, rfl⟩
abbrev main_call0_v44 : Ref sig .tc := ⟨.hbm, 65, rfl⟩
abbrev main_call0_cst_9 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_cst_10 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_call0_v52 : Ref sig .tc := ⟨.hbm, 75, rfl⟩
abbrev main_call0_cst_11 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_cst_12 : Ref sig .tc := ⟨.hbm, 80, rfl⟩
abbrev main_call0_v56 : Ref sig .tc := ⟨.hbm, 81, rfl⟩
abbrev main_call0_v57 : Ref sig .tc := ⟨.hbm, 82, rfl⟩
abbrev main_v0_0 : Ref sig .tc := ⟨.hbm, 83, rfl⟩
abbrev main_call0_v58_1 : Ref sig .tc := ⟨.hbm, 84, rfl⟩
abbrev main_v0_2 : Ref sig .tc := ⟨.hbm, 85, rfl⟩
abbrev main_v0_3 : Ref sig .tc := ⟨.hbm, 86, rfl⟩
abbrev main_v0_4 : Ref sig .tc := ⟨.hbm, 87, rfl⟩
abbrev main_v0_5 : Ref sig .tc := ⟨.hbm, 88, rfl⟩
abbrev main_v0_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20480x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x56x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x5 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4x20000x5 : Shape := ⟨3, ![4, 20000, 5]⟩
abbrev S4x50x5 : Shape := ⟨3, ![4, 50, 5]⟩
abbrev S4 : Shape := ⟨1, ![4]⟩
abbrev S4x50x1 : Shape := ⟨3, ![4, 50, 1]⟩
abbrev S4x50 : Shape := ⟨2, ![4, 50]⟩
abbrev S_ : Shape := ⟨0, ![]⟩
abbrev S4x50x4 : Shape := ⟨3, ![4, 50, 4]⟩
abbrev S4x20050x5 : Shape := ⟨3, ![4, 20050, 5]⟩
abbrev S4x20050x4 : Shape := ⟨3, ![4, 20050, 4]⟩
abbrev S4x20050x2 : Shape := ⟨3, ![4, 20050, 2]⟩
abbrev S4x20050x1x2 : Shape := ⟨4, ![4, 20050, 1, 2]⟩
abbrev S4x50x2 : Shape := ⟨3, ![4, 50, 2]⟩
abbrev S4x1x50x2 : Shape := ⟨4, ![4, 1, 50, 2]⟩
abbrev S4x20050x50x2 : Shape := ⟨4, ![4, 20050, 50, 2]⟩
abbrev S4x20050x50x1 : Shape := ⟨4, ![4, 20050, 50, 1]⟩
abbrev S4x20050x50 : Shape := ⟨3, ![4, 20050, 50]⟩
abbrev S4x20050x1 : Shape := ⟨3, ![4, 20050, 1]⟩
abbrev S4x20050 : Shape := ⟨2, ![4, 20050]⟩
abbrev S4x1x50 : Shape := ⟨3, ![4, 1, 50]⟩
abbrev S1 : Shape := ⟨1, ![1]⟩
abbrev S1x1x1 : Shape := ⟨3, ![1, 1, 1]⟩
abbrev S4x64 : Shape := ⟨2, ![4, 64]⟩
abbrev S4x192 : Shape := ⟨2, ![4, 192]⟩
abbrev S4x256 : Shape := ⟨2, ![4, 256]⟩
abbrev S4x256x1 : Shape := ⟨3, ![4, 256, 1]⟩
abbrev S4x256x5 : Shape := ⟨3, ![4, 256, 5]⟩
abbrev S4x256x5x1 : Shape := ⟨4, ![4, 256, 5, 1]⟩
abbrev S1x1x1x1 : Shape := ⟨4, ![1, 1, 1, 1]⟩
abbrev S4x1 : Shape := ⟨2, ![4, 1]⟩
abbrev S4x256x4 : Shape := ⟨3, ![4, 256, 4]⟩
abbrev S1x1x4 : Shape := ⟨3, ![1, 1, 4]⟩

abbrev nBuf : Space → Nat
  | .hbm => 556
  | .vmem => 0
  | .smem => 0
  | _ => 0

abbrev hbmTy0_0 (i : Nat) : BufTy := match i % 128 with
  | 0 => ⟨S4x20000x5, .f32⟩
  | 1 => ⟨S4x50x5, .f32⟩
  | 2 => ⟨S4, .i32⟩
  | 3 => ⟨S4, .f32⟩
  | 4 => ⟨S4, .f32⟩
  | 5 => ⟨S4, .f32⟩
  | 6 => ⟨S4x50x1, .f32⟩
  | 7 => ⟨S4x50, .f32⟩
  | 8 => ⟨S_, .f32⟩
  | 9 => ⟨S4x50, .f32⟩
  | 10 => ⟨S4x50, .i1⟩
  | 11 => ⟨S_, .f32⟩
  | 12 => ⟨S4x50, .f32⟩
  | 13 => ⟨S4x50, .i1⟩
  | 14 => ⟨S4x50, .i1⟩
  | 15 => ⟨S4x50x1, .i1⟩
  | 16 => ⟨S4x50x1, .f32⟩
  | 17 => ⟨S4x50x5, .f32⟩
  | 18 => ⟨S4x50x5, .f32⟩
  | 19 => ⟨S4x50x4, .f32⟩
  | 20 => ⟨S_, .f32⟩
  | 21 => ⟨S4x50, .f32⟩
  | 22 => ⟨S4x50, .i1⟩
  | 23 => ⟨S4x50x1, .i1⟩
  | 24 => ⟨S4x50x1, .f32⟩
  | 25 => ⟨S4x50x4, .f32⟩
  | 26 => ⟨S4x50x4, .f32⟩
  | 27 => ⟨S4x50x4, .f32⟩
  | 28 => ⟨S_, .f32⟩
  | 29 => ⟨S4x50, .f32⟩
  | 30 => ⟨S4x50, .i1⟩
  | 31 => ⟨S4x50x1, .i1⟩
  | 32 => ⟨S4x50x1, .f32⟩
  | 33 => ⟨S4x50x4, .f32⟩
  | 34 => ⟨S4x50x4, .f32⟩
  | 35 => ⟨S4x50x1, .f32⟩
  | 36 => ⟨S_, .f32⟩
  | 37 => ⟨S4x50x1, .f32⟩
  | 38 => ⟨S4x50x4, .f32⟩
  | 39 => ⟨S4x50x5, .f32⟩
  | 40 => ⟨S4x20050x5, .f32⟩
  | 41 => ⟨S4x20050x4, .f32⟩
  | 42 => ⟨S4x50x4, .f32⟩
  | 43 => ⟨S4x50x1, .f32⟩
  | 44 => ⟨S4x50, .f32⟩
  | 45 => ⟨S4x50x1, .f32⟩
  | 46 => ⟨S4x50, .f32⟩
  | 47 => ⟨S4x50, .f32⟩
  | 48 => ⟨S_, .f32⟩
  | 49 => ⟨S4x50, .f32⟩
  | 50 => ⟨S4x50, .f32⟩
  | 51 => ⟨S4x50x1, .f32⟩
  | 52 => ⟨S4x50, .f32⟩
  | 53 => ⟨S4x50x1, .f32⟩
  | 54 => ⟨S4x50, .f32⟩
  | 55 => ⟨S4x50, .f32⟩
  | 56 => ⟨S_, .f32⟩
  | 57 => ⟨S4x50, .f32⟩
  | 58 => ⟨S4x50, .f32⟩
  | 59 => ⟨S4x50, .f32⟩
  | 60 => ⟨S4x50x4, .f32⟩
  | 61 => ⟨S_, .f32⟩
  | 62 => ⟨S4x50, .f32⟩
  | 63 => ⟨S_, .f32⟩
  | 64 => ⟨S4x50, .f32⟩
  | 65 => ⟨S4x50, .i1⟩
  | 66 => ⟨S4x20050x2, .f32⟩
  | 67 => ⟨S4x20050x1x2, .f32⟩
  | 68 => ⟨S4x50x2, .f32⟩
  | 69 => ⟨S4x1x50x2, .f32⟩
  | 70 => ⟨S4x20050x50x2, .f32⟩
  | 71 => ⟨S4x20050x50x2, .f32⟩
  | 72 => ⟨S4x20050x50x2, .f32⟩
  | 73 => ⟨S4x20050x2, .f32⟩
  | 74 => ⟨S4x20050x1x2, .f32⟩
  | 75 => ⟨S4x50x2, .f32⟩
  | 76 => ⟨S4x1x50x2, .f32⟩
  | 77 => ⟨S4x20050x50x2, .f32⟩
  | 78 => ⟨S4x20050x50x2, .f32⟩
  | 79 => ⟨S4x20050x50x2, .f32⟩
  | 80 => ⟨S4x20050x50x2, .f32⟩
  | 81 => ⟨S_, .f32⟩
  | 82 => ⟨S4x20050x50x2, .f32⟩
  | 83 => ⟨S4x20050x50x2, .f32⟩
  | 84 => ⟨S_, .f32⟩
  | 85 => ⟨S_, .f32⟩
  | 86 => ⟨S4x20050x50x2, .f32⟩
  | 87 => ⟨S4x20050x50x2, .f32⟩
  | 88 => ⟨S4x20050x50x1, .f32⟩
  | 89 => ⟨S4x20050x50, .f32⟩
  | 90 => ⟨S4x20050x50x1, .f32⟩
  | 91 => ⟨S4x20050x50, .f32⟩
  | 92 => ⟨S4x20050x50, .f32⟩
  | 93 => ⟨S4x20050x1, .f32⟩
  | 94 => ⟨S4x20050, .f32⟩
  | 95 => ⟨S4x20050x1, .f32⟩
  | 96 => ⟨S4x20050, .f32⟩
  | 97 => ⟨S4x20050, .f32⟩
  | 98 => ⟨S_, .f32⟩
  | 99 => ⟨S4x20050, .f32⟩
  | 100 => ⟨S4x20050, .f32⟩
  | 101 => ⟨S4x20050x1, .f32⟩
  | 102 => ⟨S4x20050, .f32⟩
  | 103 => ⟨S4x20050x1, .f32⟩
  | 104 => ⟨S4x20050, .f32⟩
  | 105 => ⟨S4x20050, .f32⟩
  | 106 => ⟨S_, .f32⟩
  | 107 => ⟨S4x20050, .f32⟩
  | 108 => ⟨S4x20050, .f32⟩
  | 109 => ⟨S4x20050, .f32⟩
  | 110 => ⟨S4x20050x1, .f32⟩
  | 111 => ⟨S4x1x50, .f32⟩
  | 112 => ⟨S4x20050x50, .f32⟩
  | 113 => ⟨S4x20050x50, .f32⟩
  | 114 => ⟨S4x20050x50, .f32⟩
  | 115 => ⟨S4x20050x50, .f32⟩
  | 116 => ⟨S_, .f32⟩
  | 117 => ⟨S4x20050x50, .f32⟩
  | 118 => ⟨S4x20050x50, .f32⟩
  | 119 => ⟨S4x20050x50, .f32⟩
  | 120 => ⟨S4x1x50, .i1⟩
  | 121 => ⟨S_, .f32⟩
  | 122 => ⟨S_, .f32⟩
  | 123 => ⟨S4x20050x50, .i1⟩
  | 124 => ⟨S4x20050x50, .f32⟩
  | 125 => ⟨S4x20050x50, .f32⟩
  | 126 => ⟨S_, .f32⟩
  | 127 => ⟨S4x20050, .f32⟩
  | _ => ⟨S4x20000x5, .f32⟩

abbrev hbmTy0_1 (i : Nat) : BufTy := match i % 128 with
  | 0 => ⟨S4x20050x50, .i32⟩
  | 1 => ⟨S_, .f32⟩
  | 2 => ⟨S_, .i32⟩
  | 3 => ⟨S4x20050, .f32⟩
  | 4 => ⟨S4x20050, .i32⟩
  | 5 => ⟨S_, .i32⟩
  | 6 => ⟨S4x20050, .i32⟩
  | 7 => ⟨S4x20050, .i1⟩
  | 8 => ⟨S_, .i32⟩
  | 9 => ⟨S4x20050, .i32⟩
  | 10 => ⟨S4x20050, .i32⟩
  | 11 => ⟨S4x20050, .i32⟩
  | 12 => ⟨S4x20050x1, .i32⟩
  | 13 => ⟨S1, .i32⟩
  | 14 => ⟨S_, .i32⟩
  | 15 => ⟨S4x20050x1, .i32⟩
  | 16 => ⟨S4x20050x1, .i1⟩
  | 17 => ⟨S1x1x1, .i32⟩
  | 18 => ⟨S4x20050x1, .i32⟩
  | 19 => ⟨S4x20050x1, .i1⟩
  | 20 => ⟨S4x20050x1, .i1⟩
  | 21 => ⟨S_, .i1⟩
  | 22 => ⟨S4x20050, .i1⟩
  | 23 => ⟨S4x20050, .f32⟩
  | 24 => ⟨S_, .f32⟩
  | 25 => ⟨S4x20050, .f32⟩
  | 26 => ⟨S4x20050, .f32⟩
  | 27 => ⟨S_, .f32⟩
  | 28 => ⟨S4x20050, .f32⟩
  | 29 => ⟨S4x20050, .i1⟩
  | 30 => ⟨S_, .f32⟩
  | 31 => ⟨S_, .f32⟩
  | 32 => ⟨S4x20050, .f32⟩
  | 33 => ⟨S4x20050, .f32⟩
  | 34 => ⟨S4x64, .f32⟩
  | 35 => ⟨S4x64, .i32⟩
  | 36 => ⟨S_, .f32⟩
  | 37 => ⟨S4x64, .f32⟩
  | 38 => ⟨S4x64, .i1⟩
  | 39 => ⟨S4x20050x4, .f32⟩
  | 40 => ⟨S4x50x1, .f32⟩
  | 41 => ⟨S4x50, .f32⟩
  | 42 => ⟨S4x50x1, .f32⟩
  | 43 => ⟨S4x50, .f32⟩
  | 44 => ⟨S4x50, .f32⟩
  | 45 => ⟨S_, .f32⟩
  | 46 => ⟨S4x50, .f32⟩
  | 47 => ⟨S4x50, .f32⟩
  | 48 => ⟨S4x50x1, .f32⟩
  | 49 => ⟨S4x50, .f32⟩
  | 50 => ⟨S4x50x1, .f32⟩
  | 51 => ⟨S4x50, .f32⟩
  | 52 => ⟨S4x50, .f32⟩
  | 53 => ⟨S_, .f32⟩
  | 54 => ⟨S4x50, .f32⟩
  | 55 => ⟨S4x50, .f32⟩
  | 56 => ⟨S4x50, .f32⟩
  | 57 => ⟨S4x50x4, .f32⟩
  | 58 => ⟨S_, .f32⟩
  | 59 => ⟨S4x50, .f32⟩
  | 60 => ⟨S_, .f32⟩
  | 61 => ⟨S4x50, .f32⟩
  | 62 => ⟨S4x50, .i1⟩
  | 63 => ⟨S4x20050x2, .f32⟩
  | 64 => ⟨S4x20050x1x2, .f32⟩
  | 65 => ⟨S4x50x2, .f32⟩
  | 66 => ⟨S4x1x50x2, .f32⟩
  | 67 => ⟨S4x20050x50x2, .f32⟩
  | 68 => ⟨S4x20050x50x2, .f32⟩
  | 69 => ⟨S4x20050x50x2, .f32⟩
  | 70 => ⟨S4x20050x2, .f32⟩
  | 71 => ⟨S4x20050x1x2, .f32⟩
  | 72 => ⟨S4x50x2, .f32⟩
  | 73 => ⟨S4x1x50x2, .f32⟩
  | 74 => ⟨S4x20050x50x2, .f32⟩
  | 75 => ⟨S4x20050x50x2, .f32⟩
  | 76 => ⟨S4x20050x50x2, .f32⟩
  | 77 => ⟨S4x20050x50x2, .f32⟩
  | 78 => ⟨S_, .f32⟩
  | 79 => ⟨S4x20050x50x2, .f32⟩
  | 80 => ⟨S4x20050x50x2, .f32⟩
  | 81 => ⟨S_, .f32⟩
  | 82 => ⟨S_, .f32⟩
  | 83 => ⟨S4x20050x50x2, .f32⟩
  | 84 => ⟨S4x20050x50x2, .f32⟩
  | 85 => ⟨S4x20050x50x1, .f32⟩
  | 86 => ⟨S4x20050x50, .f32⟩
  | 87 => ⟨S4x20050x50x1, .f32⟩
  | 88 => ⟨S4x20050x50, .f32⟩
  | 89 => ⟨S4x20050x50, .f32⟩
  | 90 => ⟨S4x20050x1, .f32⟩
  | 91 => ⟨S4x20050, .f32⟩
  | 92 => ⟨S4x20050x1, .f32⟩
  | 93 => ⟨S4x20050, .f32⟩
  | 94 => ⟨S4x20050, .f32⟩
  | 95 => ⟨S_, .f32⟩
  | 96 => ⟨S4x20050, .f32⟩
  | 97 => ⟨S4x20050, .f32⟩
  | 98 => ⟨S4x20050x1, .f32⟩
  | 99 => ⟨S4x20050, .f32⟩
  | 100 => ⟨S4x20050x1, .f32⟩
  | 101 => ⟨S4x20050, .f32⟩
  | 102 => ⟨S4x20050, .f32⟩
  | 103 => ⟨S_, .f32⟩
  | 104 => ⟨S4x20050, .f32⟩
  | 105 => ⟨S4x20050, .f32⟩
  | 106 => ⟨S4x20050, .f32⟩
  | 107 => ⟨S4x20050x1, .f32⟩
  | 108 => ⟨S4x1x50, .f32⟩
  | 109 => ⟨S4x20050x50, .f32⟩
  | 110 => ⟨S4x20050x50, .f32⟩
  | 111 => ⟨S4x20050x50, .f32⟩
  | 112 => ⟨S4x20050x50, .f32⟩
  | 113 => ⟨S_, .f32⟩
  | 114 => ⟨S4x20050x50, .f32⟩
  | 115 => ⟨S4x20050x50, .f32⟩
  | 116 => ⟨S4x20050x50, .f32⟩
  | 117 => ⟨S4x1x50, .i1⟩
  | 118 => ⟨S_, .f32⟩
  | 119 => ⟨S_, .f32⟩
  | 120 => ⟨S4x20050x50, .i1⟩
  | 121 => ⟨S4x20050x50, .f32⟩
  | 122 => ⟨S4x20050x50, .f32⟩
  | 123 => ⟨S4x20050x4, .f32⟩
  | 124 => ⟨S4x50x1, .f32⟩
  | 125 => ⟨S4x50, .f32⟩
  | 126 => ⟨S4x50x1, .f32⟩
  | 127 => ⟨S4x50, .f32⟩
  | _ => ⟨S4x20000x5, .f32⟩

abbrev hbmTy0_2 (i : Nat) : BufTy := match i % 128 with
  | 0 => ⟨S4x50, .f32⟩
  | 1 => ⟨S_, .f32⟩
  | 2 => ⟨S4x50, .f32⟩
  | 3 => ⟨S4x50, .f32⟩
  | 4 => ⟨S4x50x1, .f32⟩
  | 5 => ⟨S4x50, .f32⟩
  | 6 => ⟨S4x50x1, .f32⟩
  | 7 => ⟨S4x50, .f32⟩
  | 8 => ⟨S4x50, .f32⟩
  | 9 => ⟨S_, .f32⟩
  | 10 => ⟨S4x50, .f32⟩
  | 11 => ⟨S4x50, .f32⟩
  | 12 => ⟨S4x50, .f32⟩
  | 13 => ⟨S4x50x4, .f32⟩
  | 14 => ⟨S_, .f32⟩
  | 15 => ⟨S4x50, .f32⟩
  | 16 => ⟨S_, .f32⟩
  | 17 => ⟨S4x50, .f32⟩
  | 18 => ⟨S4x50, .i1⟩
  | 19 => ⟨S4x20050x2, .f32⟩
  | 20 => ⟨S4x20050x1x2, .f32⟩
  | 21 => ⟨S4x50x2, .f32⟩
  | 22 => ⟨S4x1x50x2, .f32⟩
  | 23 => ⟨S4x20050x50x2, .f32⟩
  | 24 => ⟨S4x20050x50x2, .f32⟩
  | 25 => ⟨S4x20050x50x2, .f32⟩
  | 26 => ⟨S4x20050x2, .f32⟩
  | 27 => ⟨S4x20050x1x2, .f32⟩
  | 28 => ⟨S4x50x2, .f32⟩
  | 29 => ⟨S4x1x50x2, .f32⟩
  | 30 => ⟨S4x20050x50x2, .f32⟩
  | 31 => ⟨S4x20050x50x2, .f32⟩
  | 32 => ⟨S4x20050x50x2, .f32⟩
  | 33 => ⟨S4x20050x50x2, .f32⟩
  | 34 => ⟨S_, .f32⟩
  | 35 => ⟨S4x20050x50x2, .f32⟩
  | 36 => ⟨S4x20050x50x2, .f32⟩
  | 37 => ⟨S_, .f32⟩
  | 38 => ⟨S_, .f32⟩
  | 39 => ⟨S4x20050x50x2, .f32⟩
  | 40 => ⟨S4x20050x50x2, .f32⟩
  | 41 => ⟨S4x20050x50x1, .f32⟩
  | 42 => ⟨S4x20050x50, .f32⟩
  | 43 => ⟨S4x20050x50x1, .f32⟩
  | 44 => ⟨S4x20050x50, .f32⟩
  | 45 => ⟨S4x20050x50, .f32⟩
  | 46 => ⟨S4x1x50, .f32⟩
  | 47 => ⟨S_, .f32⟩
  | 48 => ⟨S4x1x50, .f32⟩
  | 49 => ⟨S4x1x50, .f32⟩
  | 50 => ⟨S4x20050x50, .f32⟩
  | 51 => ⟨S4x20050x50, .f32⟩
  | 52 => ⟨S4x1x50, .i1⟩
  | 53 => ⟨S_, .f32⟩
  | 54 => ⟨S_, .f32⟩
  | 55 => ⟨S4x20050x50, .i1⟩
  | 56 => ⟨S4x20050x50, .f32⟩
  | 57 => ⟨S4x20050x50, .f32⟩
  | 58 => ⟨S_, .f32⟩
  | 59 => ⟨S4x20050, .f32⟩
  | 60 => ⟨S4x20050, .i1⟩
  | 61 => ⟨S_, .f32⟩
  | 62 => ⟨S4x20050, .f32⟩
  | 63 => ⟨S4x20050, .i1⟩
  | 64 => ⟨S4x20050, .i1⟩
  | 65 => ⟨S_, .f32⟩
  | 66 => ⟨S4x20050, .f32⟩
  | 67 => ⟨S_, .f32⟩
  | 68 => ⟨S4x20050, .f32⟩
  | 69 => ⟨S4x20050, .i1⟩
  | 70 => ⟨S_, .f32⟩
  | 71 => ⟨S4x20050, .f32⟩
  | 72 => ⟨S_, .f32⟩
  | 73 => ⟨S4x20050, .f32⟩
  | 74 => ⟨S4x20050, .i1⟩
  | 75 => ⟨S4x20050, .i1⟩
  | 76 => ⟨S4x20050, .i1⟩
  | 77 => ⟨S_, .f32⟩
  | 78 => ⟨S4x20050, .f32⟩
  | 79 => ⟨S4x20050, .f32⟩
  | 80 => ⟨S_, .f32⟩
  | 81 => ⟨S_, .f32⟩
  | 82 => ⟨S4x20050, .f32⟩
  | 83 => ⟨S4x20050, .f32⟩
  | 84 => ⟨S4x192, .f32⟩
  | 85 => ⟨S4x192, .i32⟩
  | 86 => ⟨S4x256, .i32⟩
  | 87 => ⟨S_, .i1⟩
  | 88 => ⟨S4x192, .i1⟩
  | 89 => ⟨S4x256, .i1⟩
  | 90 => ⟨S_, .i32⟩
  | 91 => ⟨S4x256, .i32⟩
  | 92 => ⟨S4x256, .i1⟩
  | 93 => ⟨S_, .i32⟩
  | 94 => ⟨S4x256, .i32⟩
  | 95 => ⟨S4x256, .i32⟩
  | 96 => ⟨S4x256, .i32⟩
  | 97 => ⟨S4x256x1, .i32⟩
  | 98 => ⟨S1, .i32⟩
  | 99 => ⟨S_, .i32⟩
  | 100 => ⟨S4x256x1, .i32⟩
  | 101 => ⟨S4x256x1, .i1⟩
  | 102 => ⟨S1x1x1, .i32⟩
  | 103 => ⟨S4x256x1, .i32⟩
  | 104 => ⟨S4x256x1, .i1⟩
  | 105 => ⟨S4x256x1, .i1⟩
  | 106 => ⟨S_, .i1⟩
  | 107 => ⟨S4x256, .i1⟩
  | 108 => ⟨S4x256, .f32⟩
  | 109 => ⟨S_, .f32⟩
  | 110 => ⟨S4x256, .f32⟩
  | 111 => ⟨S4x256, .f32⟩
  | 112 => ⟨S_, .f32⟩
  | 113 => ⟨S_, .f32⟩
  | 114 => ⟨S4x256, .f32⟩
  | 115 => ⟨S4x256, .f32⟩
  | 116 => ⟨S4x256x1, .i32⟩
  | 117 => ⟨S4x256x5, .i32⟩
  | 118 => ⟨S_, .i32⟩
  | 119 => ⟨S4x256x5, .i32⟩
  | 120 => ⟨S4x256x5, .i1⟩
  | 121 => ⟨S_, .i32⟩
  | 122 => ⟨S4x256x5, .i32⟩
  | 123 => ⟨S4x256x5, .i32⟩
  | 124 => ⟨S4x256x5, .i32⟩
  | 125 => ⟨S4x256x5x1, .i32⟩
  | 126 => ⟨S1, .i32⟩
  | 127 => ⟨S_, .i32⟩
  | _ => ⟨S4x20000x5, .f32⟩

abbrev hbmTy0_3 (i : Nat) : BufTy := match i % 128 with
  | 0 => ⟨S4x256x5x1, .i32⟩
  | 1 => ⟨S4x256x5x1, .i1⟩
  | 2 => ⟨S1x1x1x1, .i32⟩
  | 3 => ⟨S4x256x5x1, .i32⟩
  | 4 => ⟨S4x256x5x1, .i1⟩
  | 5 => ⟨S4x256x5x1, .i1⟩
  | 6 => ⟨S_, .i1⟩
  | 7 => ⟨S4x256x5, .i1⟩
  | 8 => ⟨S4x256x5, .f32⟩
  | 9 => ⟨S_, .f32⟩
  | 10 => ⟨S4x256x5, .f32⟩
  | 11 => ⟨S4x256x5, .f32⟩
  | 12 => ⟨S4, .f32⟩
  | 13 => ⟨S4x1, .f32⟩
  | 14 => ⟨S4x256, .f32⟩
  | 15 => ⟨S_, .i32⟩
  | 16 => ⟨S1, .i32⟩
  | 17 => ⟨S4x256x5, .f32⟩
  | 18 => ⟨S_, .i32⟩
  | 19 => ⟨S4x256, .i32⟩
  | 20 => ⟨S4x256, .i1⟩
  | 21 => ⟨S_, .i32⟩
  | 22 => ⟨S4x256, .i32⟩
  | 23 => ⟨S4x256, .i32⟩
  | 24 => ⟨S4x256, .i32⟩
  | 25 => ⟨S4x256x1, .i32⟩
  | 26 => ⟨S1, .i32⟩
  | 27 => ⟨S_, .i32⟩
  | 28 => ⟨S4x256x1, .i32⟩
  | 29 => ⟨S4x256x1, .i1⟩
  | 30 => ⟨S1x1x1, .i32⟩
  | 31 => ⟨S4x256x1, .i32⟩
  | 32 => ⟨S4x256x1, .i1⟩
  | 33 => ⟨S4x256x1, .i1⟩
  | 34 => ⟨S_, .i1⟩
  | 35 => ⟨S4x256, .i1⟩
  | 36 => ⟨S4x256, .i32⟩
  | 37 => ⟨S_, .i32⟩
  | 38 => ⟨S4x256, .i32⟩
  | 39 => ⟨S4x256, .i32⟩
  | 40 => ⟨S4x256x1, .i32⟩
  | 41 => ⟨S4x256x5, .i32⟩
  | 42 => ⟨S_, .i32⟩
  | 43 => ⟨S4x256x5, .i32⟩
  | 44 => ⟨S4x256x5, .i1⟩
  | 45 => ⟨S_, .i32⟩
  | 46 => ⟨S4x256x5, .i32⟩
  | 47 => ⟨S4x256x5, .i32⟩
  | 48 => ⟨S4x256x5, .i32⟩
  | 49 => ⟨S4x256x5x1, .i32⟩
  | 50 => ⟨S1, .i32⟩
  | 51 => ⟨S_, .i32⟩
  | 52 => ⟨S4x256x5x1, .i32⟩
  | 53 => ⟨S4x256x5x1, .i1⟩
  | 54 => ⟨S1x1x1x1, .i32⟩
  | 55 => ⟨S4x256x5x1, .i32⟩
  | 56 => ⟨S4x256x5x1, .i1⟩
  | 57 => ⟨S4x256x5x1, .i1⟩
  | 58 => ⟨S_, .i1⟩
  | 59 => ⟨S4x256x5, .i1⟩
  | 60 => ⟨S4x256x5, .f32⟩
  | 61 => ⟨S_, .f32⟩
  | 62 => ⟨S4x256x5, .f32⟩
  | 63 => ⟨S4x256x5, .f32⟩
  | 64 => ⟨S4x256x4, .f32⟩
  | 65 => ⟨S4x256x4, .f32⟩
  | 66 => ⟨S4x256x1, .f32⟩
  | 67 => ⟨S4x256, .f32⟩
  | 68 => ⟨S4x256x1, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S_, .f32⟩
  | 75 => ⟨S4x256, .f32⟩
  | 76 => ⟨S4x256, .f32⟩
  | 77 => ⟨S4x256x1, .f32⟩
  | 78 => ⟨S4x256, .f32⟩
  | 79 => ⟨S4x256x1, .f32⟩
  | 80 => ⟨S4x256, .f32⟩
  | 81 => ⟨S4x256, .f32⟩
  | 82 => ⟨S_, .f32⟩
  | 83 => ⟨S4x256, .f32⟩
  | 84 => ⟨S4x256, .f32⟩
  | 85 => ⟨S_, .f32⟩
  | 86 => ⟨S4x256, .f32⟩
  | 87 => ⟨S4x256, .f32⟩
  | 88 => ⟨S4x256x1, .f32⟩
  | 89 => ⟨S4x256, .f32⟩
  | 90 => ⟨S_, .f32⟩
  | 91 => ⟨S4x256, .f32⟩
  | 92 => ⟨S4x256, .f32⟩
  | 93 => ⟨S4x256, .f32⟩
  | 94 => ⟨S4x256x1, .f32⟩
  | 95 => ⟨S4x256, .f32⟩
  | 96 => ⟨S_, .f32⟩
  | 97 => ⟨S4x256, .f32⟩
  | 98 => ⟨S4x256, .f32⟩
  | 99 => ⟨S4x256, .f32⟩
  | 100 => ⟨S4x256x1, .f32⟩
  | 101 => ⟨S4x256, .f32⟩
  | 102 => ⟨S4x256x1, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S_, .f32⟩
  | 109 => ⟨S4x256, .f32⟩
  | 110 => ⟨S4x256, .f32⟩
  | 111 => ⟨S4x256x1, .f32⟩
  | 112 => ⟨S4x256, .f32⟩
  | 113 => ⟨S4x256x1, .f32⟩
  | 114 => ⟨S4x256, .f32⟩
  | 115 => ⟨S4x256, .f32⟩
  | 116 => ⟨S_, .f32⟩
  | 117 => ⟨S4x256, .f32⟩
  | 118 => ⟨S4x256, .f32⟩
  | 119 => ⟨S_, .f32⟩
  | 120 => ⟨S4x256, .f32⟩
  | 121 => ⟨S4x256, .f32⟩
  | 122 => ⟨S4x256x1, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S4x20000x5, .f32⟩

abbrev hbmTy0_4 (i : Nat) : BufTy := match i % 128 with
  | 0 => ⟨S4x256x1, .f32⟩
  | 1 => ⟨S4x256, .f32⟩
  | 2 => ⟨S_, .f32⟩
  | 3 => ⟨S4x256, .f32⟩
  | 4 => ⟨S4x256, .f32⟩
  | 5 => ⟨S4x256, .f32⟩
  | 6 => ⟨S4x256, .f32⟩
  | 7 => ⟨S4x256, .f32⟩
  | 8 => ⟨S4x256, .f32⟩
  | 9 => ⟨S4x256, .f32⟩
  | 10 => ⟨S4x256, .f32⟩
  | 11 => ⟨S4x256, .f32⟩
  | 12 => ⟨S4x256, .f32⟩
  | 13 => ⟨S4x256, .f32⟩
  | 14 => ⟨S4x256x1, .f32⟩
  | 15 => ⟨S4x256x1, .f32⟩
  | 16 => ⟨S4x256x1, .f32⟩
  | 17 => ⟨S4x256x1, .f32⟩
  | 18 => ⟨S4x256x4, .f32⟩
  | 19 => ⟨S1x1x4, .f32⟩
  | 20 => ⟨S4x256x4, .f32⟩
  | 21 => ⟨S4x256x4, .f32⟩
  | 22 => ⟨S1x1x4, .f32⟩
  | 23 => ⟨S4x256x4, .f32⟩
  | 24 => ⟨S4x256x4, .f32⟩
  | 25 => ⟨S_, .f32⟩
  | 26 => ⟨S4x256, .f32⟩
  | 27 => ⟨S4x256, .i1⟩
  | 28 => ⟨S4x256x1, .i1⟩
  | 29 => ⟨S_, .f32⟩
  | 30 => ⟨S_, .f32⟩
  | 31 => ⟨S4x256x4, .i1⟩
  | 32 => ⟨S4x256x4, .f32⟩
  | 33 => ⟨S4x256x4, .f32⟩
  | 34 => ⟨S_, .f32⟩
  | 35 => ⟨S_, .f32⟩
  | 36 => ⟨S4x256x4, .i1⟩
  | 37 => ⟨S4x256x4, .f32⟩
  | 38 => ⟨S4x256x4, .f32⟩
  | 39 => ⟨S4x256x4, .f32⟩
  | 40 => ⟨S_, .f32⟩
  | 41 => ⟨S4x256x4, .f32⟩
  | 42 => ⟨S4x256x4, .i1⟩
  | 43 => ⟨S4x256x4, .f32⟩
  | _ => ⟨S4x20000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x20000x5, .f32⟩

abbrev bufTy : (tb : Table) → Fin (tcTables nBuf tb) → BufTy
  | .hbm, ⟨i, _⟩ => hbmTy i
  | _, _ => ⟨S4x20000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_11 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_call0_v0 : Ref sig .tc := ⟨.hbm, 85, rfl⟩
abbrev main_call0_v1 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_14 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_15 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_16 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_call2_v0 : Ref sig .tc := ⟨.hbm, 128, rfl⟩
abbrev main_call2_cst : Ref sig .tc := ⟨.hbm, 129, rfl⟩
abbrev main_call2_c : Ref sig .tc := ⟨.hbm, 130, rfl⟩
abbrev main_call2_v1_0 : Ref sig .tc := ⟨.hbm, 131, rfl⟩
abbrev main_v101 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_cst : Ref sig .tc := ⟨.hbm, 152, rfl⟩
abbrev main_call3_v14 : Ref sig .tc := ⟨.hbm, 153, rfl⟩
abbrev main_v102 : Ref sig .tc := ⟨.hbm, 154, rfl⟩
abbrev main_cst_18 : Ref sig .tc := ⟨.hbm, 155, rfl⟩
abbrev main_v103 : Ref sig .tc := ⟨.hbm, 156, rfl⟩
abbrev main_v104 : Ref sig .tc := ⟨.hbm, 157, rfl⟩
abbrev main_cst_19 : Ref sig .tc := ⟨.hbm, 158, rfl⟩
abbrev main_call4_v0 : Ref sig .tc := ⟨.hbm, 159, rfl⟩
abbrev main_call4_v1 : Ref sig .tc := ⟨.hbm, 160, rfl⟩
abbrev main_v105 : Ref sig .tc := ⟨.hbm, 161, rfl⟩
abbrev main_values : Ref sig .tc := ⟨.hbm, 162, rfl⟩
abbrev main_indices : Ref sig .tc := ⟨.hbm, 163, rfl⟩
abbrev main_cst_20 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_21 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_22 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_23 : Ref sig .tc := ⟨.hbm, 186, rfl⟩
abbrev main_v125 : Ref sig .tc := ⟨.hbm, 187, rfl⟩
abbrev main_cst_24 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_25 : Ref sig .tc := ⟨.hbm, 206, rfl⟩
abbrev main_v143 : Ref sig .tc := ⟨.hbm, 207, rfl⟩
abbrev main_v144 : Ref sig .tc := ⟨.hbm, 208, rfl⟩
abbrev main_cst_26 : Ref sig .tc := ⟨.hbm, 209, rfl⟩
abbrev main_call5_v0 : Ref sig .tc := ⟨.hbm, 210, rfl⟩
abbrev main_call5_v1 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_cst_27 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_28 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_29 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_cst_30 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_cst_31 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_cst_32 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_cst_33 : Ref sig .tc := ⟨.hbm, 270, rfl⟩
abbrev main_v194 : Ref sig .tc := ⟨.hbm, 271, rfl⟩
abbrev main_cst_34 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_35 : Ref sig .tc := ⟨.hbm, 290, rfl⟩
abbrev main_v212 : Ref sig .tc := ⟨.hbm, 291, rfl⟩
abbrev main_v213 : Ref sig .tc := ⟨.hbm, 292, rfl⟩
abbrev main_cst_36 : Ref sig .tc := ⟨.hbm, 293, rfl⟩
abbrev main_call7_v0 : Ref sig .tc := ⟨.hbm, 294, rfl⟩
abbrev main_call7_v1 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_cst_37 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_cst_38 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_v226 : Ref sig .tc := ⟨.hbm, 313, rfl⟩
abbrev main_cst_39 : Ref sig .tc := ⟨.hbm, 314, rfl⟩
abbrev main_v227 : Ref sig .tc := ⟨.hbm, 315, rfl⟩
abbrev main_v228 : Ref sig .tc := ⟨.hbm, 316, rfl⟩
abbrev main_cst_40 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_cst_41 : Ref sig .tc := ⟨.hbm, 321, rfl⟩
abbrev main_v232 : Ref sig .tc := ⟨.hbm, 322, rfl⟩
abbrev main_cst_42 : Ref sig .tc := ⟨.hbm, 323, rfl⟩
abbrev main_v233 : Ref sig .tc := ⟨.hbm, 324, rfl⟩
abbrev main_v234 : Ref sig .tc := ⟨.hbm, 325, rfl⟩
abbrev main_cst_43 : Ref sig .tc := ⟨.hbm, 326, rfl⟩
abbrev main_v235 : Ref sig .tc := ⟨.hbm, 327, rfl⟩
abbrev main_cst_44 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_cst_45 : Ref sig .tc := ⟨.hbm, 333, rfl⟩
abbrev main_v240 : Ref sig .tc := ⟨.hbm, 334, rfl⟩
abbrev main_v241 : Ref sig .tc := ⟨.hbm, 335, rfl⟩
abbrev main_cst_46 : Ref sig .tc := ⟨.hbm, 336, rfl⟩
abbrev main_call9_v0 : Ref sig .tc := ⟨.hbm, 337, rfl⟩
abbrev main_call9_v1 : Ref sig .tc := ⟨.hbm, 338, rfl⟩
abbrev main_v242 : Ref sig .tc := ⟨.hbm, 339, rfl⟩
abbrev main_values_47 : Ref sig .tc := ⟨.hbm, 340, rfl⟩
abbrev main_indices_48 : Ref sig .tc := ⟨.hbm, 341, rfl⟩
abbrev main_v243 : Ref sig .tc := ⟨.hbm, 342, rfl⟩
abbrev main_c : Ref sig .tc := ⟨.hbm, 343, rfl⟩
abbrev main_v244 : Ref sig .tc := ⟨.hbm, 344, rfl⟩
abbrev main_v245 : Ref sig .tc := ⟨.hbm, 345, rfl⟩
abbrev main_call10_c : Ref sig .tc := ⟨.hbm, 346, rfl⟩
abbrev main_call10_v0 : Ref sig .tc := ⟨.hbm, 347, rfl⟩
abbrev main_call10_v1 : Ref sig .tc := ⟨.hbm, 348, rfl⟩
abbrev main_call10_c_0 : Ref sig .tc := ⟨.hbm, 349, rfl⟩
abbrev main_call10_v2 : Ref sig .tc := ⟨.hbm, 350, rfl⟩
abbrev main_call10_v3 : Ref sig .tc := ⟨.hbm, 351, rfl⟩
abbrev main_call10_v4 : Ref sig .tc := ⟨.hbm, 352, rfl⟩
abbrev main_call10_v5 : Ref sig .tc := ⟨.hbm, 353, rfl⟩
abbrev main_call10_c_1 : Ref sig .tc := ⟨.hbm, 354, rfl⟩
abbrev main_call10_c_2 : Ref sig .tc := ⟨.hbm, 355, rfl⟩
abbrev main_call10_v6 : Ref sig .tc := ⟨.hbm, 356, rfl⟩
abbrev main_call10_v7 : Ref sig .tc := ⟨.hbm, 357, rfl⟩
abbrev main_call10_v8 : Ref sig .tc := ⟨.hbm, 358, rfl⟩
abbrev main_call10_v9 : Ref sig .tc := ⟨.hbm, 359, rfl⟩
abbrev main_call10_v10 : Ref sig .tc := ⟨.hbm, 360, rfl⟩
abbrev main_call10_v11 : Ref sig .tc := ⟨.hbm, 361, rfl⟩
abbrev main_call10_c_3 : Ref sig .tc := ⟨.hbm, 362, rfl⟩
abbrev main_call10_v12 : Ref sig .tc := ⟨.hbm, 363, rfl⟩
abbrev main_call10_v13 : Ref sig .tc := ⟨.hbm, 364, rfl⟩
abbrev main_call10_cst : Ref sig .tc := ⟨.hbm, 365, rfl⟩
abbrev main_call10_v14 : Ref sig .tc := ⟨.hbm, 366, rfl⟩
abbrev main_v246 : Ref sig .tc := ⟨.hbm, 367, rfl⟩
abbrev main_cst_49 : Ref sig .tc := ⟨.hbm, 368, rfl⟩
abbrev main_call11_v0 : Ref sig .tc := ⟨.hbm, 369, rfl⟩
abbrev main_call11_v1 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_call12_c : Ref sig .tc := ⟨.hbm, 374, rfl⟩
abbrev main_call12_v0 : Ref sig .tc := ⟨.hbm, 375, rfl⟩
abbrev main_call12_v1 : Ref sig .tc := ⟨.hbm, 376, rfl⟩
abbrev main_call12_c_0 : Ref sig .tc := ⟨.hbm, 377, rfl⟩
abbrev main_call12_v2 : Ref sig .tc := ⟨.hbm, 378, rfl⟩
abbrev main_call12_v3 : Ref sig .tc := ⟨.hbm, 379, rfl⟩
abbrev main_call12_v4 : Ref sig .tc := ⟨.hbm, 380, rfl⟩
abbrev main_call12_v5 : Ref sig .tc := ⟨.hbm, 381, rfl⟩
abbrev main_call12_c_1 : Ref sig .tc := ⟨.hbm, 382, rfl⟩
abbrev main_call12_c_2 : Ref sig .tc := ⟨.hbm, 383, rfl⟩
abbrev main_call12_v6 : Ref sig .tc := ⟨.hbm, 384, rfl⟩
abbrev main_call12_v7 : Ref sig .tc := ⟨.hbm, 385, rfl⟩
abbrev main_call12_v8 : Ref sig .tc := ⟨.hbm, 386, rfl⟩
abbrev main_call12_v9 : Ref sig .tc := ⟨.hbm, 387, rfl⟩
abbrev main_call12_v10 : Ref sig .tc := ⟨.hbm, 388, rfl⟩
abbrev main_call12_v11 : Ref sig .tc := ⟨.hbm, 389, rfl⟩
abbrev main_call12_c_3 : Ref sig .tc := ⟨.hbm, 390, rfl⟩
abbrev main_call12_v12 : Ref sig .tc := ⟨.hbm, 391, rfl⟩
abbrev main_call12_v13 : Ref sig .tc := ⟨.hbm, 392, rfl⟩
abbrev main_call12_cst : Ref sig .tc := ⟨.hbm, 393, rfl⟩
abbrev main_call12_v14 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_c_50 : Ref sig .tc := ⟨.hbm, 399, rfl⟩
abbrev main_v254 : Ref sig .tc := ⟨.hbm, 400, rfl⟩
abbrev main_v255 : Ref sig .tc := ⟨.hbm, 401, rfl⟩
abbrev main_call13_c : Ref sig .tc := ⟨.hbm, 402, rfl⟩
abbrev main_call13_v0 : Ref sig .tc := ⟨.hbm, 403, rfl⟩
abbrev main_call13_v1 : Ref sig .tc := ⟨.hbm, 404, rfl⟩
abbrev main_call13_c_0 : Ref sig .tc := ⟨.hbm, 405, rfl⟩
abbrev main_call13_v2 : Ref sig .tc := ⟨.hbm, 406, rfl⟩
abbrev main_call13_v3 : Ref sig .tc := ⟨.hbm, 407, rfl⟩
abbrev main_call13_v4 : Ref sig .tc := ⟨.hbm, 408, rfl⟩
abbrev main_call13_v5 : Ref sig .tc := ⟨.hbm, 409, rfl⟩
abbrev main_call13_c_1 : Ref sig .tc := ⟨.hbm, 410, rfl⟩
abbrev main_call13_c_2 : Ref sig .tc := ⟨.hbm, 411, rfl⟩
abbrev main_call13_v6 : Ref sig .tc := ⟨.hbm, 412, rfl⟩
abbrev main_call13_v7 : Ref sig .tc := ⟨.hbm, 413, rfl⟩
abbrev main_call13_v8 : Ref sig .tc := ⟨.hbm, 414, rfl⟩
abbrev main_call13_v9 : Ref sig .tc := ⟨.hbm, 415, rfl⟩
abbrev main_call13_v10 : Ref sig .tc := ⟨.hbm, 416, rfl⟩
abbrev main_call13_v11 : Ref sig .tc := ⟨.hbm, 417, rfl⟩
abbrev main_call13_c_3 : Ref sig .tc := ⟨.hbm, 418, rfl⟩
abbrev main_call13_v12 : Ref sig .tc := ⟨.hbm, 419, rfl⟩
abbrev main_call13_v13 : Ref sig .tc := ⟨.hbm, 420, rfl⟩
abbrev main_call13_c_4 : Ref sig .tc := ⟨.hbm, 421, rfl⟩
abbrev main_call13_v14 : Ref sig .tc := ⟨.hbm, 422, rfl⟩
abbrev main_v256 : Ref sig .tc := ⟨.hbm, 423, rfl⟩
abbrev main_v257 : Ref sig .tc := ⟨.hbm, 424, rfl⟩
abbrev main_v258 : Ref sig .tc := ⟨.hbm, 425, rfl⟩
abbrev main_call14_c : Ref sig .tc := ⟨.hbm, 426, rfl⟩
abbrev main_call14_v0 : Ref sig .tc := ⟨.hbm, 427, rfl⟩
abbrev main_call14_v1 : Ref sig .tc := ⟨.hbm, 428, rfl⟩
abbrev main_call14_c_0 : Ref sig .tc := ⟨.hbm, 429, rfl⟩
abbrev main_call14_v2 : Ref sig .tc := ⟨.hbm, 430, rfl⟩
abbrev main_call14_v3 : Ref sig .tc := ⟨.hbm, 431, rfl⟩
abbrev main_call14_v4 : Ref sig .tc := ⟨.hbm, 432, rfl⟩
abbrev main_call14_v5 : Ref sig .tc := ⟨.hbm, 433, rfl⟩
abbrev main_call14_c_1 : Ref sig .tc := ⟨.hbm, 434, rfl⟩
abbrev main_call14_c_2 : Ref sig .tc := ⟨.hbm, 435, rfl⟩
abbrev main_call14_v6 : Ref sig .tc := ⟨.hbm, 436, rfl⟩
abbrev main_call14_v7 : Ref sig .tc := ⟨.hbm, 437, rfl⟩
abbrev main_call14_v8 : Ref sig .tc := ⟨.hbm, 438, rfl⟩
abbrev main_call14_v9 : Ref sig .tc := ⟨.hbm, 439, rfl⟩
abbrev main_call14_v10 : Ref sig .tc := ⟨.hbm, 440, rfl⟩
abbrev main_call14_v11 : Ref sig .tc := ⟨.hbm, 441, rfl⟩
abbrev main_call14_c_3 : Ref sig .tc := ⟨.hbm, 442, rfl⟩
abbrev main_call14_v12 : Ref sig .tc := ⟨.hbm, 443, rfl⟩
abbrev main_call14_v13 : Ref sig .tc := ⟨.hbm, 444, rfl⟩
abbrev main_call14_cst : Ref sig .tc := ⟨.hbm, 445, rfl⟩
abbrev main_call14_v14 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_v265 : Ref sig .tc := ⟨.hbm, 453, rfl⟩
abbrev main_v266 : Ref sig .tc := ⟨.hbm, 454, rfl⟩
abbrev main_cst_51 : Ref sig .tc := ⟨.hbm, 455, rfl⟩
abbrev main_v267 : Ref sig .tc := ⟨.hbm, 456, rfl⟩
abbrev main_v268 : Ref sig .tc := ⟨.hbm, 457, rfl⟩
abbrev main_cst_52 : Ref sig .tc := ⟨.hbm, 458, rfl⟩
abbrev main_v269 : Ref sig .tc := ⟨.hbm, 459, rfl⟩
abbrev main_v270 : Ref sig .tc := ⟨.hbm, 460, rfl⟩
abbrev main_v271 : Ref sig .tc := ⟨.hbm, 461, rfl⟩
abbrev main_v272 : Ref sig .tc := ⟨.hbm, 462, rfl⟩
abbrev main_v273 : Ref sig .tc := ⟨.hbm, 463, rfl⟩
abbrev main_v274 : Ref sig .tc := ⟨.hbm, 464, rfl⟩
abbrev main_v275 : Ref sig .tc := ⟨.hbm, 465, rfl⟩
abbrev main_cst_53 : Ref sig .tc := ⟨.hbm, 466, rfl⟩
abbrev main_v276 : Ref sig .tc := ⟨.hbm, 467, rfl⟩
abbrev main_v277 : Ref sig .tc := ⟨.hbm, 468, rfl⟩
abbrev main_cst_54 : Ref sig .tc := ⟨.hbm, 469, rfl⟩
abbrev main_v278 : Ref sig .tc := ⟨.hbm, 470, rfl⟩
abbrev main_v279 : Ref sig .tc := ⟨.hbm, 471, rfl⟩
abbrev main_v280 : Ref sig .tc := ⟨.hbm, 472, rfl⟩
abbrev main_v281 : Ref sig .tc := ⟨.hbm, 473, rfl⟩
abbrev main_cst_55 : Ref sig .tc := ⟨.hbm, 474, rfl⟩
abbrev main_v282 : Ref sig .tc := ⟨.hbm, 475, rfl⟩
abbrev main_v283 : Ref sig .tc := ⟨.hbm, 476, rfl⟩
abbrev main_v284 : Ref sig .tc := ⟨.hbm, 477, rfl⟩
abbrev main_v285 : Ref sig .tc := ⟨.hbm, 478, rfl⟩
abbrev main_v286 : Ref sig .tc := ⟨.hbm, 479, rfl⟩
abbrev main_cst_56 : Ref sig .tc := ⟨.hbm, 480, rfl⟩
abbrev main_v287 : Ref sig .tc := ⟨.hbm, 481, rfl⟩
abbrev main_v288 : Ref sig .tc := ⟨.hbm, 482, rfl⟩
abbrev main_v289 : Ref sig .tc := ⟨.hbm, 483, rfl⟩
abbrev main_v290 : Ref sig .tc := ⟨.hbm, 484, rfl⟩
abbrev main_v291 : Ref sig .tc := ⟨.hbm, 485, rfl⟩
abbrev main_v292 : Ref sig .tc := ⟨.hbm, 486, rfl⟩
abbrev main_v293 : Ref sig .tc := ⟨.hbm, 487, rfl⟩
abbrev main_v294 : Ref sig .tc := ⟨.hbm, 488, rfl⟩
abbrev main_cst_57 : Ref sig .tc := ⟨.hbm, 489, rfl⟩
abbrev main_v295 : Ref sig .tc := ⟨.hbm, 490, rfl⟩
abbrev main_v296 : Ref sig .tc := ⟨.hbm, 491, rfl⟩
abbrev main_cst_58 : Ref sig .tc := ⟨.hbm, 492, rfl⟩
abbrev main_v297 : Ref sig .tc := ⟨.hbm, 493, rfl⟩
abbrev main_v298 : Ref sig .tc := ⟨.hbm, 494, rfl⟩
abbrev main_v299 : Ref sig .tc := ⟨.hbm, 495, rfl⟩
abbrev main_v300 : Ref sig .tc := ⟨.hbm, 496, rfl⟩
abbrev main_v301 : Ref sig .tc := ⟨.hbm, 497, rfl⟩
abbrev main_v302 : Ref sig .tc := ⟨.hbm, 498, rfl⟩
abbrev main_v303 : Ref sig .tc := ⟨.hbm, 499, rfl⟩
abbrev main_cst_59 : Ref sig .tc := ⟨.hbm, 500, rfl⟩
abbrev main_v304 : Ref sig .tc := ⟨.hbm, 501, rfl⟩
abbrev main_v305 : Ref sig .tc := ⟨.hbm, 502, rfl⟩
abbrev main_cst_60 : Ref sig .tc := ⟨.hbm, 503, rfl⟩
abbrev main_v306 : Ref sig .tc := ⟨.hbm, 504, rfl⟩
abbrev main_v307 : Ref sig .tc := ⟨.hbm, 505, rfl⟩
abbrev main_v308 : Ref sig .tc := ⟨.hbm, 506, rfl⟩
abbrev main_v309 : Ref sig .tc := ⟨.hbm, 507, rfl⟩
abbrev main_cst_61 : Ref sig .tc := ⟨.hbm, 508, rfl⟩
abbrev main_v310 : Ref sig .tc := ⟨.hbm, 509, rfl⟩
abbrev main_v311 : Ref sig .tc := ⟨.hbm, 510, rfl⟩
abbrev main_v312 : Ref sig .tc := ⟨.hbm, 511, rfl⟩
abbrev main_v313 : Ref sig .tc := ⟨.hbm, 512, rfl⟩
abbrev main_v314 : Ref sig .tc := ⟨.hbm, 513, rfl⟩
abbrev main_cst_62 : Ref sig .tc := ⟨.hbm, 514, rfl⟩
abbrev main_v315 : Ref sig .tc := ⟨.hbm, 515, rfl⟩
abbrev main_v316 : Ref sig .tc := ⟨.hbm, 516, rfl⟩
abbrev main_v317 : Ref sig .tc := ⟨.hbm, 517, rfl⟩
abbrev main_v318 : Ref sig .tc := ⟨.hbm, 518, rfl⟩
abbrev main_v319 : Ref sig .tc := ⟨.hbm, 519, rfl⟩
abbrev main_v320 : Ref sig .tc := ⟨.hbm, 520, rfl⟩
abbrev main_v321 : Ref sig .tc := ⟨.hbm, 521, rfl⟩
abbrev main_v322 : Ref sig .tc := ⟨.hbm, 522, rfl⟩
abbrev main_v323 : Ref sig .tc := ⟨.hbm, 523, rfl⟩
abbrev main_v324 : Ref sig .tc := ⟨.hbm, 524, rfl⟩
abbrev main_v325 : Ref sig .tc := ⟨.hbm, 525, rfl⟩
abbrev main_v326 : Ref sig .tc := ⟨.hbm, 526, rfl⟩
abbrev main_v327 : Ref sig .tc := ⟨.hbm, 527, rfl⟩
abbrev main_v328 : Ref sig .tc := ⟨.hbm, 528, rfl⟩
abbrev main_v329 : Ref sig .tc := ⟨.hbm, 529, rfl⟩
abbrev main_v330 : Ref sig .tc := ⟨.hbm, 530, rfl⟩
abbrev main_v331 : Ref sig .tc := ⟨.hbm, 531, rfl⟩
abbrev main_v332 : Ref sig .tc := ⟨.hbm, 532, rfl⟩
abbrev main_v333 : Ref sig .tc := ⟨.hbm, 533, rfl⟩
abbrev main_v334 : Ref sig .tc := ⟨.hbm, 534, rfl⟩
abbrev main_v335 : Ref sig .tc := ⟨.hbm, 535, rfl⟩
abbrev main_v336 : Ref sig .tc := ⟨.hbm, 536, rfl⟩
abbrev main_cst_63 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_cst_64 : Ref sig .tc := ⟨.hbm, 541, rfl⟩
abbrev main_call15_v0 : Ref sig .tc := ⟨.hbm, 542, rfl⟩
abbrev main_call15_v1 : Ref sig .tc := ⟨.hbm, 543, rfl⟩
abbrev main_call15_v2 : Ref sig .tc := ⟨.hbm, 544, rfl⟩
abbrev main_v340 : Ref sig .tc := ⟨.hbm, 545, rfl⟩
abbrev main_cst_65 : Ref sig .tc := ⟨.hbm, 546, rfl⟩
abbrev main_call16_v0 : Ref sig .tc := ⟨.hbm, 547, rfl⟩
abbrev main_call16_v1 : Ref sig .tc := ⟨.hbm, 548, rfl⟩
abbrev main_call16_v2 : Ref sig .tc := ⟨.hbm, 549, rfl⟩
abbrev main_call16_v3 : Ref sig .tc := ⟨.hbm, 550, rfl⟩
abbrev main_v341 : Ref sig .tc := ⟨.hbm, 551, rfl⟩
abbrev main_cst_66 : Ref sig .tc := ⟨.hbm, 552, rfl⟩
abbrev main_v342 : Ref sig .tc := ⟨.hbm, 553, rfl⟩
abbrev main_v343 : Ref sig .tc := ⟨.hbm, 554, rfl⟩
abbrev main_v344 : Ref sig .tc := ⟨.hbm, 555, rfl⟩

abbrev nD : Nat := 1
abbrev τ : Topo := Topo.v7x

variable {F : FTy → Type} [FloatOps F]
-- ==== Proof.IdealRun.lean ====
/- The idealized program as a run of five segments: host operations, the scoring call, host operations, the sampling
   call, a reshape. Each call's body is run once on any blocks; from that follow the contents of memory after every segment, a
   function of the launch contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The block that window `w` of the scoring call shows at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x4x2048 := Rect.unit (s := S1x4x2048) ![0, 0, 0] S1x4x2048.size inb_S1x4x2048_S1x4x2048_0_0_0
abbrev r0_1 : Rect S1x56x16 := Rect.unit (s := S1x56x16) ![0, 0, 0] S1x56x16.size inb_S1x56x16_S1x56x16_0_0_0
abbrev r0_2 : Rect S1x1x2048 := Rect.unit (s := S1x1x2048) ![0, 0, 0] S1x1x2048.size inb_S1x1x2048_S1x1x2048_0_0_0

def score_v3 (i : grid0.Coords) (x0 : Vec F S1x4x2048 .f32) (x1 : Vec F S1x56x16 .f32) : FVec F S56x16 .f32 :=
  k0_pay6 (View.ld x1 r0_1)
def score_v4 (i : grid0.Coords) (x0 : Vec F S1x4x2048 .f32) (x1 : Vec F S1x56x16 .f32) : FVec F S1x2048 .f32 :=
  k0_pay7 (View.ld x0 r0_0)
def score_v5 (i : grid0.Coords) (x0 : Vec F S1x4x2048 .f32) (x1 : Vec F S1x56x16 .f32) : FVec F S1x2048 .f32 :=
  k0_pay8 (View.ld x0 r0_0)
def score_v6 (i : grid0.Coords) (x0 : Vec F S1x4x2048 .f32) (x1 : Vec F S1x56x16 .f32) : FVec F S1x2048 .f32 :=
  k0_pay9 (View.ld x0 r0_0)
def score_v7 (i : grid0.Coords) (x0 : Vec F S1x4x2048 .f32) (x1 : Vec F S1x56x16 .f32) : FVec F S1x2048 .f32 :=
  k0_pay10 (View.ld x0 r0_0)
def score_v14 (i : grid0.Coords) (x0 : Vec F S1x4x2048 .f32) (x1 : Vec F S1x56x16 .f32) : FVec F S1x2048 .f32 :=
  k0_pay11 (View.ld x0 r0_0)
def score_v19 (i : grid0.Coords) (x0 : Vec F S1x4x2048 .f32) (x1 : Vec F S1x56x16 .f32) : FVec F S56x1 .f32 :=
  k0_pay15 (View.ld x1 r0_1)
def score_v30 (i : grid0.Coords) (x0 : Vec F S1x4x2048 .f32) (x1 : Vec F S1x56x16 .f32) : IVec S56x1 1 :=
  k0_pay16 (View.ld x1 r0_1)
def score_v37 (i : grid0.Coords) (x0 : Vec F S1x4x2048 .f32) (x1 : Vec F S1x56x16 .f32) : FVec F S56x1 .f32 :=
  k0_pay17 (View.ld x1 r0_1)
def score_v40 (i : grid0.Coords) (x0 : Vec F S1x4x2048 .f32) (x1 : Vec F S1x56x16 .f32) : FVec F S56x2048 .f32 :=
  k0_pay18 (View.ld x0 r0_0) (View.ld x1 r0_1)
def score_v43 (i : grid0.Coords) (x0 : Vec F S1x4x2048 .f32) (x1 : Vec F S1x56x16 .f32) : FVec F S56x2048 .f32 :=
  k0_pay19 (View.ld x0 r0_0) (View.ld x1 r0_1)
def score_v46 (i : grid0.Coords) (x0 : Vec F S1x4x2048 .f32) (x1 : Vec F S1x56x16 .f32) : FVec F S56x2048 .f32 :=
  k0_pay20 (View.ld x0 r0_0) (View.ld x1 r0_1)
def score_v73 (i : grid0.Coords) (x0 : Vec F S1x4x2048 .f32) (x1 : Vec F S1x56x16 .f32) : FVec F S1x2048 .f32 :=
  k0_pay22 (score_v7 i x0 x1) (score_v14 i x0 x1) (score_v19 i x0 x1) (score_v30 i x0 x1) (score_v37 i x0 x1) (score_v40 i x0 x1) (score_v43 i x0 x1) (score_v46 i x0 x1)
def score_v194 (i : grid0.Coords) (x0 : Vec F S1x4x2048 .f32) (x1 : Vec F S1x56x16 .f32) : IVec S1x2048 32 :=
  k0_pay38 (BitVec.ofNat 32 (i 1).val)
def score_v195 (i : grid0.Coords) (x0 : Vec F S1x4x2048 .f32) (x1 : Vec F S1x56x16 .f32) : IVec S1x2048 32 :=
  k0_pay39

/-- The block of foreground scores that the scoring body leaves. -/
def out0_2 (i : grid0.Coords) (x0 : Vec F S1x4x2048 .f32) (x1 : Vec F S1x56x16 .f32) : Vec F S1x1x2048 .f32 :=
  View.canon [⟨r0_2, k0_pay2 (score_v73 i x0 x1) (score_v194 i x0 x1) (score_v195 i x0 x1)⟩]

theorem cover0_2 (p0 : Vec F S1x1x2048 .f32) (y : S1x1x2048.Idx) :
    ∃ pc ∈ ([⟨r0_2, p0⟩] : List (View.Piece (Elt F) S1x1x2048 .f32)), y ∈ pc.1.set :=
  View.cover_of_tiled [⟨r0_2, p0⟩] S1x1x2048.size (by rfl) y

/-- The block of background scores that the scoring body leaves. -/
def out0_3 (i : grid0.Coords) (x0 : Vec F S1x4x2048 .f32) (x1 : Vec F S1x56x16 .f32) : Vec F S1x1x2048 .f32 :=
  View.canon [⟨r0_2, k0_pay3 (score_v73 i x0 x1) (k0_pay30 (score_v4 i x0 x1) (score_v5 i x0 x1) (score_v6 i x0 x1) (score_v7 i x0 x1) (score_v14 i x0 x1) (k0_pay24 (score_v3 i x0 x1)) (k0_pay25 (score_v3 i x0 x1)) (k0_pay26 (score_v3 i x0 x1)) (k0_pay27 (score_v3 i x0 x1)) (k0_pay28 (score_v3 i x0 x1)) (k0_pay29 (score_v3 i x0 x1)) (Scalar.ofBits .f32 0x3F800000#32)) (k0_pay37 (score_v4 i x0 x1) (score_v5 i x0 x1) (score_v6 i x0 x1) (score_v7 i x0 x1) (k0_pay31 (score_v3 i x0 x1)) (k0_pay32 (score_v3 i x0 x1)) (k0_pay33 (score_v3 i x0 x1)) (k0_pay34 (score_v3 i x0 x1)) (k0_pay35 (score_v3 i x0 x1)) (k0_pay36 (score_v3 i x0 x1))) (score_v194 i x0 x1) (score_v195 i x0 x1)⟩]

theorem cover0_3 (p0 : Vec F S1x1x2048 .f32) (y : S1x1x2048.Idx) :
    ∃ pc ∈ ([⟨r0_2, p0⟩] : List (View.Piece (Elt F) S1x1x2048 .f32)), y ∈ pc.1.set :=
  View.cover_of_tiled [⟨r0_2, p0⟩] S1x1x2048.size (by rfl) y

/-- The block of best boxes' numbers that the scoring body leaves. -/
def out0_4 (i : grid0.Coords) (x0 : Vec F S1x4x2048 .f32) (x1 : Vec F S1x56x16 .f32) : Vec F S1x1x2048 .f32 :=
  View.canon [⟨r0_2, k0_pay4 (k0_pay23 (score_v7 i x0 x1) (score_v14 i x0 x1) (score_v19 i x0 x1) (score_v30 i x0 x1) (score_v37 i x0 x1) (score_v40 i x0 x1) (score_v43 i x0 x1) (score_v46 i x0 x1))⟩]

theorem cover0_4 (p0 : Vec F S1x1x2048 .f32) (y : S1x1x2048.Idx) :
    ∃ pc ∈ ([⟨r0_2, p0⟩] : List (View.Piece (Elt F) S1x1x2048 .f32)), y ∈ pc.1.set :=
  View.cover_of_tiled [⟨r0_2, p0⟩] S1x1x2048.size (by rfl) y

set_option maxHeartbeats 1000000 in
/-- The scoring body, run on any blocks, leaves its inputs and fills its three outputs. -/
theorem sound_kernel0 (c : Dev nD) (E : Set ℕ) (i : grid0.Coords) (arg2 : Memref sig .tc .vmem S1x4x2048 .f32) (harg2 : arg2.IsWhole) (arg3 : Memref sig .tc .vmem S1x56x16 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole)
    (x0 : Vec F S1x4x2048 .f32) (x1 : Vec F S1x56x16 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare (out0_2 i x0 x1) ∗ owns (c : Thread nD τ) arg5 fullShare (out0_3 i x0 x1) ∗ owns (c : Thread nD τ) arg6 fullShare (out0_4 i x0 x1)) -∗ K ⟨⟩))
      ⊢ wp frame (wpE (defs₀ (F := F)) Variants.none c none) E (cc0__score_body i arg2 harg2 arg3 harg3 arg4 harg4 arg5 harg5 arg6 harg6) K := by
  simp only [cc0__score_body_eq_skeleton]; unfold cc0__score_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
    | ⟨3, _⟩ => out0_3 (grid0.coords t) (iblk0 V c 0 t) (iblk0 V c 1 t)
    | ⟨4, _⟩ => out0_4 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]
theorem after0_3 (c : Dev nD) (t : Fin cfg0.N) : (dat0 V c).after 3 t = out0_3 (grid0.coords t) (iblk0 V c 0 t) (iblk0 V c 1 t) := by dsimp only [dat0]
theorem after0_4 (c : Dev nD) (t : Fin cfg0.N) : (dat0 V c).after 4 t = out0_4 (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block that window `w` of the sampling call shows at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x8 := Rect.unit (s := S1x256x8) ![0, 0, 0] S1x256x8.size inb_S1x256x8_S1x256x8_0_0_0
abbrev r1_1 : Rect S1x20480x8 := Rect.unit (s := S1x20480x8) ![0, 0, 0] S1x2048x8.size inb_S1x20480x8_S1x2048x8_0_0_0
abbrev r1_2 : Rect S1x20480x8 := Rect.unit (s := S1x20480x8) ![0, 2048, 0] S1x2048x8.size inb_S1x20480x8_S1x2048x8_0_2048_0
abbrev r1_3 : Rect S1x20480x8 := Rect.unit (s := S1x20480x8) ![0, 4096, 0] S1x2048x8.size inb_S1x20480x8_S1x2048x8_0_4096_0
abbrev r1_4 : Rect S1x20480x8 := Rect.unit (s := S1x20480x8) ![0, 6144, 0] S1x2048x8.size inb_S1x20480x8_S1x2048x8_0_6144_0
abbrev r1_5 : Rect S1x20480x8 := Rect.unit (s := S1x20480x8) ![0, 8192, 0] S1x2048x8.size inb_S1x20480x8_S1x2048x8_0_8192_0
abbrev r1_6 : Rect S1x20480x8 := Rect.unit (s := S1x20480x8) ![0, 10240, 0] S1x2048x8.size inb_S1x20480x8_S1x2048x8_0_10240_0
abbrev r1_7 : Rect S1x20480x8 := Rect.unit (s := S1x20480x8) ![0, 12288, 0] S1x2048x8.size inb_S1x20480x8_S1x2048x8_0_12288_0
abbrev r1_8 : Rect S1x20480x8 := Rect.unit (s := S1x20480x8) ![0, 14336, 0] S1x2048x8.size inb_S1x20480x8_S1x2048x8_0_14336_0
abbrev r1_9 : Rect S1x20480x8 := Rect.unit (s := S1x20480x8) ![0, 16384, 0] S1x2048x8.size inb_S1x20480x8_S1x2048x8_0_16384_0
abbrev r1_10 : Rect S1x20480x8 := Rect.unit (s := S1x20480x8) ![0, 18432, 0] S1x2048x8.size inb_S1x20480x8_S1x2048x8_0_18432_0
abbrev r1_11 : Rect S1x56x8 := Rect.unit (s := S1x56x8) ![0, 0, 0] S1x56x8.size inb_S1x56x8_S1x56x8_0_0_0
abbrev r1_12 : Rect S1x256x4 := Rect.unit (s := S1x256x4) ![0, 0, 0] S1x256x4.size inb_S1x256x4_S1x256x4_0_0_0
abbrev r1_13 : Rect S1x256x5 := Rect.unit (s := S1x256x5) ![0, 0, 0] S1x256x5.size inb_S1x256x5_S1x256x5_0_0_0
abbrev r1_14 : Rect S1x256x1 := Rect.unit (s := S1x256x1) ![0, 0, 0] S1x256x1.size inb_S1x256x1_S1x256x1_0_0_0

def sample_v2 (i : grid1.Coords) (x0 : Vec F S1x20480x8 .f32) (x1 : Vec F S1x56x8 .f32) (x2 : Vec F S1x256x8 .f32) : FVec F S256x1 .f32 :=
  k1_pay7 (View.ld x2 r1_0)
def sample_v124 (i : grid1.Coords) (x0 : Vec F S1x20480x8 .f32) (x1 : Vec F S1x56x8 .f32) (x2 : Vec F S1x256x8 .f32) : FVec F S256x8 .f32 :=
  k1_pay14 (sample_v2 i x0 x1 x2) (k1_pay11 (sample_v2 i x0 x1 x2) (k1_pay9 (View.ld x2 r1_0) (View.ld x0 r1_1) (View.ld x0 r1_2)) (k1_pay10 (View.ld x2 r1_0) (View.ld x0 r1_3)) (View.ld x0 r1_4) (View.ld x0 r1_5) (View.ld x0 r1_6)) (k1_pay12 (View.ld x0 r1_7)) (k1_pay13 (F := F)) (Scalar.ofBits .f32 0x46400000#32) (View.ld x0 r1_8) (View.ld x0 r1_9) (View.ld x0 r1_10)
def sample_v141 (i : grid1.Coords) (x0 : Vec F S1x20480x8 .f32) (x1 : Vec F S1x56x8 .f32) (x2 : Vec F S1x256x8 .f32) : FVec F S256x1 .f32 :=
  k1_pay18 (k1_pay8 (View.ld x2 r1_0)) (sample_v124 i x0 x1 x2) (View.ld x1 r1_11)
def sample_v212 (i : grid1.Coords) (x0 : Vec F S1x20480x8 .f32) (x1 : Vec F S1x56x8 .f32) (x2 : Vec F S1x256x8 .f32) : FVec F S256x4 .f32 :=
  k1_pay31 (sample_v141 i x0 x1 x2)

/-- The block of chosen rectangles that the sampling body leaves. -/
def out1_3 (i : grid1.Coords) (x0 : Vec F S1x20480x8 .f32) (x1 : Vec F S1x56x8 .f32) (x2 : Vec F S1x256x8 .f32) : Vec F S1x256x5 .f32 :=
  View.canon [⟨r1_13, k1_pay3 (BitVec.ofNat 32 (i 0).val) (k1_pay15 (sample_v124 i x0 x1 x2))⟩]

theorem cover1_3 (p0 : Vec F S1x256x5 .f32) (y : S1x256x5.Idx) :
    ∃ pc ∈ ([⟨r1_13, p0⟩] : List (View.Piece (Elt F) S1x256x5 .f32)), y ∈ pc.1.set :=
  View.cover_of_tiled [⟨r1_13, p0⟩] S1x256x5.size (by rfl) y

/-- The block of labels that the sampling body leaves. -/
def out1_4 (i : grid1.Coords) (x0 : Vec F S1x20480x8 .f32) (x1 : Vec F S1x56x8 .f32) (x2 : Vec F S1x256x8 .f32) : Vec F S1x256x1 .f32 :=
  View.canon [⟨r1_14, k1_pay4 (sample_v141 i x0 x1 x2)⟩]

theorem cover1_4 (p0 : Vec F S1x256x1 .f32) (y : S1x256x1.Idx) :
    ∃ pc ∈ ([⟨r1_14, p0⟩] : List (View.Piece (Elt F) S1x256x1 .f32)), y ∈ pc.1.set :=
  View.cover_of_tiled [⟨r1_14, p0⟩] S1x256x1.size (by rfl) y

/-- The block of regression targets that the sampling body leaves. -/
def out1_5 (i : grid1.Coords) (x0 : Vec F S1x20480x8 .f32) (x1 : Vec F S1x56x8 .f32) (x2 : Vec F S1x256x8 .f32) : Vec F S1x256x4 .f32 :=
  View.canon [⟨r1_12, k1_pay30 (sample_v141 i x0 x1 x2) (k1_pay21 (sample_v124 i x0 x1 x2) (View.ld x1 r1_11)) (k1_pay22 (sample_v124 i x0 x1 x2) (View.ld x1 r1_11)) (k1_pay23 (sample_v124 i x0 x1 x2) (View.ld x1 r1_11)) (k1_pay24 (sample_v124 i x0 x1 x2)) (k1_pay25 (sample_v124 i x0 x1 x2)) (k1_pay26 (sample_v124 i x0 x1 x2)) (k1_pay27 (sample_v124 i x0 x1 x2)) (k1_pay28 (sample_v124 i x0 x1 x2) (View.ld x1 r1_11))⟩]

theorem cover1_5 (p0 : Vec F S1x256x4 .f32) (y : S1x256x4.Idx) :
    ∃ pc ∈ ([⟨r1_12, p0⟩] : List (View.Piece (Elt F) S1x256x4 .f32)), y ∈ pc.1.set :=
  View.cover_of_tiled [⟨r1_12, p0⟩] S1x256x4.size (by rfl) y

/-- The block of inside weights that the sampling body leaves. -/
def out1_6 (i : grid1.Coords) (x0 : Vec F S1x20480x8 .f32) (x1 : Vec F S1x56x8 .f32) (x2 : Vec F S1x256x8 .f32) : Vec F S1x256x4 .f32 :=
  View.canon [⟨r1_12, k1_pay1 (sample_v212 i x0 x1 x2)⟩]

theorem cover1_6 (p0 : Vec F S1x256x4 .f32) (y : S1x256x4.Idx) :
    ∃ pc ∈ ([⟨r1_12, p0⟩] : List (View.Piece (Elt F) S1x256x4 .f32)), y ∈ pc.1.set :=
  View.cover_of_tiled [⟨r1_12, p0⟩] S1x256x4.size (by rfl) y

/-- The block of outside weights that the sampling body leaves. -/
def out1_7 (i : grid1.Coords) (x0 : Vec F S1x20480x8 .f32) (x1 : Vec F S1x56x8 .f32) (x2 : Vec F S1x256x8 .f32) : Vec F S1x256x4 .f32 :=
  View.canon [⟨r1_12, k1_pay2 (sample_v212 i x0 x1 x2)⟩]

theorem cover1_7 (p0 : Vec F S1x256x4 .f32) (y : S1x256x4.Idx) :
    ∃ pc ∈ ([⟨r1_12, p0⟩] : List (View.Piece (Elt F) S1x256x4 .f32)), y ∈ pc.1.set :=
  View.cover_of_tiled [⟨r1_12, p0⟩] S1x256x4.size (by rfl) y

/-- The block of best ground-truth boxes that the sampling body leaves. -/
def out1_8 (i : grid1.Coords) (x0 : Vec F S1x20480x8 .f32) (x1 : Vec F S1x56x8 .f32) (x2 : Vec F S1x256x8 .f32) : Vec F S1x256x5 .f32 :=
  View.canon [⟨r1_13, k1_pay5 (k1_pay16 (sample_v124 i x0 x1 x2) (View.ld x1 r1_11))⟩]

theorem cover1_8 (p0 : Vec F S1x256x5 .f32) (y : S1x256x5.Idx) :
    ∃ pc ∈ ([⟨r1_13, p0⟩] : List (View.Piece (Elt F) S1x256x5 .f32)), y ∈ pc.1.set :=
  View.cover_of_tiled [⟨r1_13, p0⟩] S1x256x5.size (by rfl) y

set_option maxHeartbeats 1000000 in
/-- The sampling body, run on any blocks, leaves its inputs and fills its six outputs. -/
theorem sound_kernel1 (c : Dev nD) (E : Set ℕ) (i : grid1.Coords) (arg1 : Memref sig .tc .vmem S1x20480x8 .f32) (harg1 : arg1.IsWhole) (arg2 : Memref sig .tc .vmem S1x56x8 .f32) (harg2 : arg2.IsWhole) (arg3 : Memref sig .tc .vmem S1x256x8 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole) (arg8 : Memref sig .tc .vmem S1x256x4 .f32) (harg8 : arg8.IsWhole) (arg9 : Memref sig .tc .vmem S1x256x5 .f32) (harg9 : arg9.IsWhole)
    (x0 : Vec F S1x20480x8 .f32) (x1 : Vec F S1x56x8 .f32) (x2 : Vec F S1x256x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 i x0 x1 x2) ∗ owns (c : Thread nD τ) arg5 fullShare (out1_4 i x0 x1 x2) ∗ owns (c : Thread nD τ) arg6 fullShare (out1_5 i x0 x1 x2) ∗ owns (c : Thread nD τ) arg7 fullShare (out1_6 i x0 x1 x2) ∗ owns (c : Thread nD τ) arg8 fullShare (out1_7 i x0 x1 x2) ∗ owns (c : Thread nD τ) arg9 fullShare (out1_8 i x0 x1 x2)) -∗ K ⟨⟩))
      ⊢ wp frame (wpE (defs₀ (F := F)) Variants.none c none) E (cc1__sample_body i arg1 harg1 arg2 harg2 arg3 harg3 arg4 harg4 arg5 harg5 arg6 harg6 arg7 harg7 arg8 harg8 arg9 harg9) K := by
  simp only [cc1__sample_body_eq_skeleton]; unfold cc1__sample_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  isplitl [H4]
  · iexists _; isplitr
    swap; · iexact H4
    ipureintro
    refine (View.read_writes_eq_canon _ _ _ (cover1_4 _)).trans ?_
    rfl
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  isplitl [H7]
  · iexists _; isplitr
    swap; · iexact H7
    ipureintro
    refine (View.read_writes_eq_canon _ _ _ (cover1_7 _)).trans ?_
    rfl
  iexists _; isplitr
  swap; · iexact H8
  ipureintro
  refine (View.read_writes_eq_canon _ _ _ (cover1_8 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => out1_4 (grid1.coords t) (iblk1 V c 0 t) (iblk1 V c 1 t) (iblk1 V c 2 t)
    | ⟨5, _⟩ => out1_5 (grid1.coords t) (iblk1 V c 0 t) (iblk1 V c 1 t) (iblk1 V c 2 t)
    | ⟨6, _⟩ => out1_6 (grid1.coords t) (iblk1 V c 0 t) (iblk1 V c 1 t) (iblk1 V c 2 t)
    | ⟨7, _⟩ => out1_7 (grid1.coords t) (iblk1 V c 0 t) (iblk1 V c 1 t) (iblk1 V c 2 t)
    | ⟨8, _⟩ => out1_8 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]
theorem after1_4 (c : Dev nD) (t : Fin cfg1.N) : (dat1 V c).after 4 t = out1_4 (grid1.coords t) (iblk1 V c 0 t) (iblk1 V c 1 t) (iblk1 V c 2 t) := by dsimp only [dat1]
theorem after1_5 (c : Dev nD) (t : Fin cfg1.N) : (dat1 V c).after 5 t = out1_5 (grid1.coords t) (iblk1 V c 0 t) (iblk1 V c 1 t) (iblk1 V c 2 t) := by dsimp only [dat1]
theorem after1_6 (c : Dev nD) (t : Fin cfg1.N) : (dat1 V c).after 6 t = out1_6 (grid1.coords t) (iblk1 V c 0 t) (iblk1 V c 1 t) (iblk1 V c 2 t) := by dsimp only [dat1]
theorem after1_7 (c : Dev nD) (t : Fin cfg1.N) : (dat1 V c).after 7 t = out1_7 (grid1.coords t) (iblk1 V c 0 t) (iblk1 V c 1 t) (iblk1 V c 2 t) := by dsimp only [dat1]
theorem after1_8 (c : Dev nD) (t : Fin cfg1.N) : (dat1 V c).after 8 t = out1_8 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_cst, main_call0_v2, main_call0_v3, main_call0_cst_0, main_call0_v4, main_call0_v5, main_call0_v6, main_call0_v7, main_call0_v8, main_call0_v9, main_call0_v10, main_call0_v11, main_call0_v12, main_call0_v13, main_call0_v14, main_call0_cst_1, main_call0_v15, main_call0_v16, main_call0_v17, main_call0_v18, main_call0_v19, main_call0_v20, main_call0_v21, main_call0_cst_2, main_call0_v22, main_call0_v23, main_call0_v24, main_call0_v25, main_call0_v26, main_call0_v27, main_call0_cst_3, main_call0_v28, main_call0_v29, main_call0_c, main_call0_call0_v0, main_call0_v30, main_call0_v31, main_call0_c_4, main_call0_call1_v0, main_call0_v32, main_call0_cst_5, main_call0_v33, main_call0_v34, main_call0_v35, main_call0_v36, main_call0_c_6, main_call0_call2_v0, main_call0_v37, main_call0_v38]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_v40, main_call0_v41, main_call0_values, main_call0_indices, main_call0_v42, main_call0_v43, main_call0_values_7, main_call0_indices_8, main_call0_v44, main_call0_cst_9, main_call0_v45, main_call0_v46, main_call0_v47, main_call0_cst_10, main_call0_v48, main_call0_v49, main_call0_v50, main_call0_v51, main_call0_v52, main_call0_cst_11, main_call0_v53, main_call0_v54, main_call0_v55, main_call0_cst_12, main_call0_v56, main_call0_v57]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v0_1]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The contents of memory at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The contents after the host operations before the scoring call. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents after the scoring call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents after the host operations between the calls. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The contents after the sampling call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The contents at the end. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The scoring call as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The sampling call as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with every buffer of the program's memory at the contents `W5`, which the launch contents determine, and
    with every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c)⟩, h.2⟩) (run m ρ)

end Cert.KernelIdeal.Two

end
-- ==== Proof.RefOps.lean ====
module

public import proofs.«01_k».proof.Proof.Gen.ReferenceIdeal
public import Idealize.ShloMosaic.Lib.StableHlo.Run
public import Idealize.ShloMosaic.Lib.Pipeline.Frame

/-! The operations of the reference written out as a list, and the reference as that list run in order. -/

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- One piece of the reference's operations. -/
abbrev part0 : List (HloOp τ sig (Elt F)) :=
  [ nullary main_cst (constant S4 .f32 0x00000000#32),
    nullary main_cst_0 (fun i => FloatOps.ofBits .f32 (lit0 (S4.rowMajor i))),
    nullary main_cst_1 (constant S4 .f32 0x3F800000#32),
    unary main_arg1 main_v0 ((extractStridedSlice S4x50x1 ![0, 0, 4] · slices_S4x50x5_S4x50x1_0_0_4) : (⟨S4x50x5, .f32⟩ : BufTy).Contents (Elt F) → (⟨S4x50x1, .f32⟩ : BufTy).Contents (Elt F)),
    reshape main_v0 main_v1 (rfl : (.f32 : EltTy) = .f32) shapeCasts_S4x50x1_S4x50,
    nullary main_cst_2 (constant S_ .f32 0x40000000#32),
    unary main_cst_2 main_v2 (broadcastInDim S4x50 ![] bcast_S_S4x50 : (⟨S_, .f32⟩ : BufTy).Contents (Elt F) → (⟨S4x50, .f32⟩ : BufTy).Contents (Elt F)),
    binary main_v1 main_v2 main_v3 (cmpf .une : (⟨S4x50, .f32⟩ : BufTy).Contents (Elt F) → (⟨S4x50, .f32⟩ : BufTy).Contents (Elt F) → (⟨S4x50, .i1⟩ : BufTy).Contents (Elt F)),
    nullary main_cst_3 (constant S_ .f32 0x40400000#32),
    unary main_cst_3 main_v4 (broadcastInDim S4x50 ![] bcast_S_S4x50 : (⟨S_, .f32⟩ : BufTy).Contents (Elt F) → (⟨S4x50, .f32⟩ : BufTy).Contents (Elt F)),
    binary main_v1 main_v4 main_v5 (cmpf .une : (⟨S4x50, .f32⟩ : BufTy).Contents (Elt F) → (⟨S4x50, .f32⟩ : BufTy).Contents (Elt F) → (⟨S4x50, .i1⟩ : BufTy).Contents (Elt F)),
    binary main_v3 main_v5 main_v6 (andi : (⟨S4x50, .i1⟩ : BufTy).Contents (Elt F) → (⟨S4x50, .i1⟩ : BufTy).Contents (Elt F) → (⟨S4x50, .i1⟩ : BufTy).Contents (Elt F)),
    unary main_v6 main_v7 (broadcastInDim S4x50x1 ![0, 1] bcast_S4x50_S4x50x1_0_1 : (⟨S4x50, .i1⟩ : BufTy).Contents (Elt F) → (⟨S4x50x1, .i1⟩ : BufTy).Contents (Elt F)),
    unary main_v7 main_v8 (uitofp .f32 : (⟨S4x50x1, .i1⟩ : BufTy).Contents (Elt F) → (⟨S4x50x1, .f32⟩ : BufTy).Contents (Elt F)),
    unary main_v8 main_v9 (broadcastInDim S4x50x5 ![0, 1, 2] bcast_S4x50x1_S4x50x5_0_1_2 : (⟨S4x50x1, .f32⟩ : BufTy).Contents (Elt F) → (⟨S4x50x5, .f32⟩ : BufTy).Contents (Elt F)),
    binary main_arg1 main_v9 main_v10 (mulf : (⟨S4x50x5, .f32⟩ : BufTy).Contents (Elt F) → (⟨S4x50x5, .f32⟩ : BufTy).Contents (Elt F) → (⟨S4x50x5, .f32⟩ : BufTy).Contents (Elt F)),
    unary main_arg1 main_v11 ((extractStridedSlice S4x50x4 ![0, 0, 0] · slices_S4x50x5_S4x50x4_0_0_0) : (⟨S4x50x5, .f32⟩ : BufTy).Contents (Elt F) → (⟨S4x50x4, .f32⟩ : BufTy).Contents (Elt F)),
    nullary main_cst_4 (constant S_ .f32 0x40000000#32),
    unary main_cst_4 main_v12 (broadcastInDim S4x50 ![] bcast_S_S4x50 : (⟨S_, .f32⟩ : BufTy).Contents (Elt F) → (⟨S4x50, .f32⟩ : BufTy).Contents (Elt F)),
    binary main_v1 main_v12 main_v13 (cmpf .oeq : (⟨S4x50, .f32⟩ : BufTy).Contents (Elt F) → (⟨S4x50, .f32⟩ : BufTy).Contents (Elt F) → (⟨S4x50, .i1⟩ : BufTy).Contents (Elt F)),
    unary main_v13 main_v14 (broadcastInDim S4x50x1 ![0, 1] bcast_S4x50_S4x50x1_0_1 : (⟨S4x50, .i1⟩ : BufTy).Contents (Elt F) → (⟨S4x50x1, .i1⟩ : BufTy).Contents (Elt F)),
    unary main_v14 main_v15 (uitofp .f32 : (⟨S4x50x1, .i1⟩ : BufTy).Contents (Elt F) → (⟨S4x50x1, .f32⟩ : BufTy).Contents (Elt F)),
    unary main_v15 main_v16 (broadcastInDim S4x50x4 ![0, 1, 2] bcast_S4x50x1_S4x50x4_0_1_2 : (⟨S4x50x1, .f32⟩ : BufTy).Contents (Elt F) → (⟨S4x50x4, .f32⟩ : BufTy).Contents (Elt F)),
    binary main_v11 main_v16 main_v17 (mulf : (⟨S4x50x4, .f32⟩ : BufTy).Contents (Elt F) → (⟨S4x50x4, .f32⟩ : BufTy).Contents (Elt F) → (⟨S4x50x4, .f32⟩ : BufTy).Contents (Elt F)),
    unary main_arg1 main_v18 ((extractStridedSlice S4x50x4 ![0, 0, 0] · slices_S4x50x5_S4x50x4_0_0_0) : (⟨S4x50x5, .f32⟩ : BufTy).Contents (Elt F) → (⟨S4x50x4, .f32⟩ : BufTy).Contents (Elt F)),
    nullary main_cst_5 (constant S_ .f32 0x40400000#32),
    unary main_cst_5 main_v19 (broadcastInDim S4x50 ![] bcast_S_S4x50 : (⟨S_, .f32⟩ : BufTy).Contents (Elt F) → (⟨S4x50, .f32⟩ : BufTy).Contents (Elt F)),
    binary main_v1 main_v19 main_v20 (cmpf .oeq : (⟨S4x50, .f32⟩ : BufTy).Contents (Elt F) → (⟨S4x50, .f32⟩ : BufTy).Contents (Elt F) → (⟨S4x50, .i1⟩ : BufTy).Contents (Elt F)),
    unary main_v20 main_v21 (broadcastInDim S4x50x1 ![0, 1] bcast_S4x50_S4x50x1_0_1 : (⟨S4x50, .i1⟩ : BufTy).Contents (Elt F) → (⟨S4x50x1, .i1⟩ : BufTy).Contents (Elt F)),
    unary main_v21 main_v22 (uitofp .f32 : (⟨S4x50x1, .i1⟩ : BufTy).Contents (Elt F) → (⟨S4x50x1, .f32⟩ : BufTy).Contents (Elt F)),
    unary main_v22 main_v23 (broadcastInDim S4x50x4 ![0, 1, 2] bcast_S4x50x1_S4x50x4_0_1_2 : (⟨S4x50x1, .f32⟩ : BufTy).Contents (Elt F) → (⟨S4x50x4, .f32⟩ : BufTy).Contents (Elt F)),
    binary main_v18 main_v23 main_v24 (mulf : (⟨S4x50x4, .f32⟩ : BufTy).Contents (Elt F) → (⟨S4x50x4, .f32⟩ : BufTy).Contents (Elt F) → (⟨S4x50x4, .f32⟩ : BufTy).Contents (Elt F)),
    unary main_v10 main_v25 ((extractStridedSlice S4x50x1 ![0, 0, 0] · slices_S4x50x5_S4x50x1_0_0_0) : (⟨S4x50x5, .f32⟩ : BufTy).Contents (Elt F) → (⟨S4x50x1, .f32⟩ : BufTy).Contents (Elt F)),
    nullary main_cst_6 (constant S_ .f32 0x00000000#32),
    unary main_cst_6 main_v26 (broadcastInDim S4x50x1 ![] bcast_S_S4x50x1 : (⟨S_, .f32⟩ : BufTy).Contents (Elt F) → (⟨S4x50x1, .f32⟩ : BufTy).Contents (Elt F)),
    unary main_v10 main_v27 ((extractStridedSlice S4x50x4 ![0, 0, 0] · slices_S4x50x5_S4x50x4_0_0_0) : (⟨S4x50x5, .f32⟩ : BufTy).Contents (Elt F) → (⟨S4x50x4, .f32⟩ : BufTy).Contents (Elt F)),
    binary main_v26 main_v27 main_v28 ((fun a b => concatenate S4x50x5 2 [⟨S4x50x1, a⟩, ⟨S4x50x4, b⟩] concatenates_S4x50x1_S4x50x4_S4x50x5_d2) : (⟨S4x50x1, .f32⟩ : BufTy).Contents (Elt F) → (⟨S4x50x4, .f32⟩ : BufTy).Contents (Elt F) → (⟨S4x50x5, .f32⟩ : BufTy).Contents (Elt F)),
    binary main_arg0 main_v28 main_v29 ((fun a b => concatenate S4x20050x5 1 [⟨S4x20000x5, a⟩, ⟨S4x50x5, b⟩] concatenates_S4x20000x5_S4x50x5_S4x20050x5_d1) : (⟨S4x20000x5, .f32⟩ : BufTy).Contents (Elt F) → (⟨S4x50x5, .f32⟩ : BufTy).Contents (Elt F) → (⟨S4x20050x5, .f32⟩ : BufTy).Contents (Elt F)),
    unary main_v29 main_v30 ((extractStridedSlice S4x20050x4 ![0, 0, 1] · slices_S4x20050x5_S4x20050x4_0_0_1) : (⟨S4x20050x5, .f32⟩ : BufTy).Contents (Elt F) → (⟨S4x20050x4, .f32⟩ : BufTy).Contents (Elt F)),
    unary main_v10 main_v31 ((extractStridedSlice S4x50x4 ![0, 0, 0] · slices_S4x50x5_S4x50x4_0_0_0) : (⟨S4x50x5, .f32⟩ : BufTy).Contents (Elt F) → (⟨S4x50x4, .f32⟩ : BufTy).Contents (Elt F)),
    unary main_v31 main_v32 ((extractStridedSlice S4x50x1 ![0, 0, 2] · slices_S4x50x4_S4x50x1_0_0_2) : (⟨S4x50x4, .f32⟩ : BufTy).Contents (Elt F) → (⟨S4x50x1, .f32⟩ : BufTy).Contents (Elt F)),
    reshape main_v32 main_v33 (rfl : (.f32 : EltTy) = .f32) shapeCasts_S4x50x1_S4x50,
    unary main_v31 main_v34 ((extractStridedSlice S4x50x1 ![0, 0, 0] · slices_S4x50x4_S4x50x1_0_0_0) : (⟨S4x50x4, .f32⟩ : BufTy).Contents (Elt F) → (⟨S4x50x1, .f32⟩ : BufTy).Contents (Elt F)),
    reshape main_v34 main_v35 (rfl : (.f32 : EltTy) = .f32) shapeCasts_S4x50x1_S4x50,
    binary main_v33 main_v35 main_v36 (subf : (⟨S4x50, .f32⟩ : BufTy).Contents (Elt F) → (⟨S4x50, .f32⟩ : BufTy).Contents (Elt F) → (⟨S4x50, .f32⟩ : BufTy).Contents (Elt F)),
    nullary main_cst_7 (constant S_ .f32 0x3F800000#32),
    unary main_cst_7 main_v37 (broadcastInDim S4x50 ![] bcast_S_S4x50 : (⟨S_, .f32⟩ : BufTy).Contents (Elt F) → (⟨S4x50, .f32⟩ : BufTy).Contents (Elt F)),
    binary main_v36 main_v37 main_v38 (addf : (⟨S4x50, .f32⟩ : BufTy).Contents (Elt F) → (⟨S4x50, .f32⟩ : BufTy).Contents (Elt F) → (⟨S4x50, .f32⟩ : BufTy).Contents (Elt F)),
    unary main_v31 main_v39 ((extractStridedSlice S4x50x1 ![0, 0, 3] · slices_S4x50x4_S4x50x1_0_0_3) : (⟨S4x50x4, .f32⟩ : BufTy).Contents (Elt F) → (⟨S4x50x1, .f32⟩ : BufTy).Contents (Elt F)),
    reshape main_v39 main_v40 (rfl : (.f32 : EltTy) = .f32) shapeCasts_S4x50x1_S4x50,
    unary main_v31 main_v41 ((extractStridedSlice S4x50x1 ![0, 0, 1] · slices_S4x50x4_S4x50x1_0_0_1) : (⟨S4x50x4, .f32⟩ : BufTy).Contents (Elt F) → (⟨S4x50x1, .f32⟩ : BufTy).Contents (Elt F)),
    reshape main_v41 main_v42 (rfl : (.f32 : EltTy) = .f32) shapeCasts_S4x50x1_S4x50,
    binary main_v40 main_v42 main_v43 (subf : (⟨S4x50, .f32⟩ : BufTy).Contents (Elt F) → (⟨S4x50, .f32⟩ : BufTy).Contents (Elt F) → (⟨S4x50, .f32⟩ : BufTy).Contents (Elt F)),
    nullary main_cst_8 (constant S_ .f32 0x3F800000#32),
    unary main_cst_8 main_v44 (broadcastInDim S4x50 ![] bcast_S_S4x50 : (⟨S_, .f32⟩ : BufTy).Contents (Elt F) → (⟨S4x50, .f32⟩ : BufTy).Contents (Elt F)),
    binary main_v43 main_v44 main_v45 (addf : (⟨S4x50, .f32⟩ : BufTy).Contents (Elt F) → (⟨S4x50, .f32⟩ : BufTy).Contents (Elt F) → (⟨S4x50, .f32⟩ : BufTy).Contents (Elt F)),
    binary main_v38 main_v45 main_v46 (mulf : (⟨S4x50, .f32⟩ : BufTy).Contents (Elt F) → (⟨S4x50, .f32⟩ : BufTy).Contents (Elt F) → (⟨S4x50, .f32⟩ : BufTy).Contents (Elt F)),
    unary main_v31 main_v47 (Host.absf : (⟨S4x50x4, .f32⟩ : BufTy).Contents (Elt F) → (⟨S4x50x4, .f32⟩ : BufTy).Contents (Elt F)),
    nullary main_cst_9 (constant S_ .f32 0x00000000#32),
    binary main_v47 main_cst_9 main_v48 ((fun x v => Host.reduceAdd x v reducesTo_S4x50x4_S4x50_d2 h_S_) : (⟨S4x50x4, .f32⟩ : BufTy).Contents (Elt F) → (⟨S_, .f32⟩ : BufTy).Contents (Elt F) → (⟨S4x50, .f32⟩ : BufTy).Contents (Elt F)) ]

/-- A run of operations of the reference, in order. -/
abbrev chunk10 : List (HloOp τ sig (Elt F)) :=
  [ nullary main_cst_10 (constant S_ .f32 0x00000000#32),
    unary main_cst_10 main_v49 (broadcastInDim S4x50 ![] bcast_S_S4x50 : (⟨S_, .f32⟩ : BufTy).Contents (Elt F) → (⟨S4x50, .f32⟩ : BufTy).Contents (Elt F)),
    binary main_v48 main_v49 main_v50 (cmpf .oeq : (⟨S4x50, .f32⟩ : BufTy).Contents (Elt F) → (⟨S4x50, .f32⟩ : BufTy).Contents (Elt F) → (⟨S4x50, .i1⟩ : BufTy).Contents (Elt F)),
    unary main_v30 main_v51 ((extractStridedSlice S4x20050x2 ![0, 0, 0] · slices_S4x20050x4_S4x20050x2_0_0_0) : (⟨S4x20050x4, .f32⟩ : BufTy).Contents (Elt F) → (⟨S4x20050x2, .f32⟩ : BufTy).Contents (Elt F)),
    unary main_v51 main_v52 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)),
    unary main_v31 main_v53 ((extractStridedSlice S4x50x2 ![0, 0, 0] · slices_S4x50x4_S4x50x2_0_0_0) : (⟨S4x50x4, .f32⟩ : BufTy).Contents (Elt F) → (⟨S4x50x2, .f32⟩ : BufTy).Contents (Elt F)),
    unary main_v53 main_v54 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v52 main_v55 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)),
    unary main_v54 main_v56 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v55 main_v56 main_v57 (maximumf : (⟨S4x20050x50x2, .f32⟩ : BufTy).Contents (Elt F) → (⟨S4x20050x50x2, .f32⟩ : BufTy).Contents (Elt F) → (⟨S4x20050x50x2, .f32⟩ : BufTy).Contents (Elt F)),
    unary main_v30 main_v58 ((extractStridedSlice S4x20050x2 ![0, 0, 2] · slices_S4x20050x4_S4x20050x2_0_0_2) : (⟨S4x20050x4, .f32⟩ : BufTy).Contents (Elt F) → (⟨S4x20050x2, .f32⟩ : BufTy).Contents (Elt F)),
    unary main_v58 main_v59 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)),
    unary main_v31 main_v60 ((extractStridedSlice S4x50x2 ![0, 0, 2] · slices_S4x50x4_S4x50x2_0_0_2) : (⟨S4x50x4, .f32⟩ : BufTy).Contents (Elt F) → (⟨S4x50x2, .f32⟩ : BufTy).Contents (Elt F)),
    unary main_v60 main_v61 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v59 main_v62 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)),
    unary main_v61 main_v63 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v62 main_v63 main_v64 (minimumf : (⟨S4x20050x50x2, .f32⟩ : BufTy).Contents (Elt F) → (⟨S4x20050x50x2, .f32⟩ : BufTy).Contents (Elt F) → (⟨S4x20050x50x2, .f32⟩ : BufTy).Contents (Elt F)),
    binary main_v64 main_v57 main_v65 (subf : (⟨S4x20050x50x2, .f32⟩ : BufTy).Contents (Elt F) → (⟨S4x20050x50x2, .f32⟩ : BufTy).Contents (Elt F) → (⟨S4x20050x50x2, .f32⟩ : BufTy).Contents (Elt F)),
    nullary main_cst_11 (constant S_ .f32 0x3F800000#32),
    unary main_cst_11 main_v66 (broadcastInDim S4x20050x50x2 ![] bcast_S_S4x20050x50x2 : (⟨S_, .f32⟩ : BufTy).Contents (Elt F) → (⟨S4x20050x50x2, .f32⟩ : BufTy).Contents (Elt F)),
    binary main_v65 main_v66 main_v67 (addf : (⟨S4x20050x50x2, .f32⟩ : BufTy).Contents (Elt F) → (⟨S4x20050x50x2, .f32⟩ : BufTy).Contents (Elt F) → (⟨S4x20050x50x2, .f32⟩ : BufTy).Contents (Elt F)),
    nullary main_cst_12 (constant S_ .f32 0x00000000#32),
    TRef.unary (TRef.of (T := ⟨S_, .f32⟩) main_cst_12) (TRef.of (T := ⟨S_, .f32⟩) main_call0_v0) id,
    TRef.unary (TRef.of (T := ⟨S_, .f32⟩) main_call0_v0) (TRef.of (T := ⟨S4x20050x50x2, .f32⟩) main_call0_v1) (broadcastInDim S4x20050x50x2 ![] bcast_S_S4x20050x50x2),
    TRef.binary (TRef.of (T := ⟨S4x20050x50x2, .f32⟩) main_call0_v1) (TRef.of (T := ⟨S4x20050x50x2, .f32⟩) main_v67) (TRef.of (T := ⟨S4x20050x50x2, .f32⟩) main_v68) maximumf,
    unary main_v68 main_v69 ((extractStridedSlice S4x20050x50x1 ![0, 0, 0, 0] · slices_S4x20050x50x2_S4x20050x50x1_0_0_0_0) : (⟨S4x20050x50x2, .f32⟩ : BufTy).Contents (Elt F) → (⟨S4x20050x50x1, .f32⟩ : BufTy).Contents (Elt F)),
    reshape main_v69 main_v70 (rfl : (.f32 : EltTy) = .f32) shapeCasts_S4x20050x50x1_S4x20050x50,
    unary main_v68 main_v71 ((extractStridedSlice S4x20050x50x1 ![0, 0, 0, 1] · slices_S4x20050x50x2_S4x20050x50x1_0_0_0_1) : (⟨S4x20050x50x2, .f32⟩ : BufTy).Contents (Elt F) → (⟨S4x20050x50x1, .f32⟩ : BufTy).Contents (Elt F)),
    reshape main_v71 main_v72 (rfl : (.f32 : EltTy) = .f32) shapeCasts_S4x20050x50x1_S4x20050x50,
    binary main_v70 main_v72 main_v73 (mulf : (⟨S4x20050x50, .f32⟩ : BufTy).Contents (Elt F) → (⟨S4x20050x50, .f32⟩ : BufTy).Contents (Elt F) → (⟨S4x20050x50, .f32⟩ : BufTy).Contents (Elt F)) ]

/-- A run of operations of the reference, in order. -/
abbrev chunk11 : List (HloOp τ sig (Elt F)) :=
  [ unary main_v30 main_v74 ((extractStridedSlice S4x20050x1 ![0, 0, 2] · slices_S4x20050x4_S4x20050x1_0_0_2) : (⟨S4x20050x4, .f32⟩ : BufTy).Contents (Elt F) → (⟨S4x20050x1, .f32⟩ : BufTy).Contents (Elt F)),
    reshape main_v74 main_v75 (rfl : (.f32 : EltTy) = .f32) shapeCasts_S4x20050x1_S4x20050,
    unary main_v30 main_v76 ((extractStridedSlice S4x20050x1 ![0, 0, 0] · slices_S4x20050x4_S4x20050x1_0_0_0) : (⟨S4x20050x4, .f32⟩ : BufTy).Contents (Elt F) → (⟨S4x20050x1, .f32⟩ : BufTy).Contents (Elt F)),
    reshape main_v76 main_v77 (rfl : (.f32 : EltTy) = .f32) shapeCasts_S4x20050x1_S4x20050,
    binary main_v75 main_v77 main_v78 (subf : (⟨S4x20050, .f32⟩ : BufTy).Contents (Elt F) → (⟨S4x20050, .f32⟩ : BufTy).Contents (Elt F) → (⟨S4x20050, .f32⟩ : BufTy).Contents (Elt F)),
    nullary main_cst_13 (constant S_ .f32 0x3F800000#32),
    unary main_cst_13 main_v79 (broadcastInDim S4x20050 ![] bcast_S_S4x20050 : (⟨S_, .f32⟩ : BufTy).Contents (Elt F) → (⟨S4x20050, .f32⟩ : BufTy).Contents (Elt F)),
    binary main_v78 main_v79 main_v80 (addf : (⟨S4x20050, .f32⟩ : BufTy).Contents (Elt F) → (⟨S4x20050, .f32⟩ : BufTy).Contents (Elt F) → (⟨S4x20050, .f32⟩ : BufTy).Contents (Elt F)),
    unary main_v30 main_v81 ((extractStridedSlice S4x20050x1 ![0, 0, 3] · slices_S4x20050x4_S4x20050x1_0_0_3) : (⟨S4x20050x4, .f32⟩ : BufTy).Contents (Elt F) → (⟨S4x20050x1, .f32⟩ : BufTy).Contents (Elt F)),
    reshape main_v81 main_v82 (rfl : (.f32 : EltTy) = .f32) shapeCasts_S4x20050x1_S4x20050,
    unary main_v30 main_v83 ((extractStridedSlice S4x20050x1 ![0, 0, 1] · slices_S4x20050x4_S4x20050x1_0_0_1) : (⟨S4x20050x4, .f32⟩ : BufTy).Contents (Elt F) → (⟨S4x20050x1, .f32⟩ : BufTy).Contents (Elt F)),
    reshape main_v83 main_v84 (rfl : (.f32 : EltTy) = .f32) shapeCasts_S4x20050x1_S4x20050,
    binary main_v82 main_v84 main_v85 (subf : (⟨S4x20050, .f32⟩ : BufTy).Contents (Elt F) → (⟨S4x20050, .f32⟩ : BufTy).Contents (Elt F) → (⟨S4x20050, .f32⟩ : BufTy).Contents (Elt F)),
    nullary main_cst_14 (constant S_ .f32 0x3F800000#32),
    unary main_cst_14 main_v86 (broadcastInDim S4x20050 ![] bcast_S_S4x20050 : (⟨S_, .f32⟩ : BufTy).Contents (Elt F) → (⟨S4x20050, .f32⟩ : BufTy).Contents (Elt F)),
    binary main_v85 main_v86 main_v87 (addf : (⟨S4x20050, .f32⟩ : BufTy).Contents (Elt F) → (⟨S4x20050, .f32⟩ : BufTy).Contents (Elt F) → (⟨S4x20050, .f32⟩ : BufTy).Contents (Elt F)),
    binary main_v80 main_v87 main_v88 (mulf : (⟨S4x20050, .f32⟩ : BufTy).Contents (Elt F) → (⟨S4x20050, .f32⟩ : BufTy).Contents (Elt F) → (⟨S4x20050, .f32⟩ : BufTy).Contents (Elt F)),
    unary main_v88 main_v89 (broadcastInDim S4x20050x1 ![0, 1] bcast_S4x20050_S4x20050x1_0_1 : (⟨S4x20050, .f32⟩ : BufTy).Contents (Elt F) → (⟨S4x20050x1, .f32⟩ : BufTy).Contents (Elt F)),
    unary main_v46 main_v90 (broadcastInDim S4x1x50 ![0, 2] bcast_S4x50_S4x1x50_0_2 : (⟨S4x50, .f32⟩ : BufTy).Contents (Elt F) → (⟨S4x1x50, .f32⟩ : BufTy).Contents (Elt F)),
    unary main_v89 main_v91 (broadcastInDim S4x20050x50 ![0, 1, 2] bcast_S4x20050x1_S4x20050x50_0_1_2 : (⟨S4x20050x1, .f32⟩ : BufTy).Contents (Elt F) → (⟨S4x20050x50, .f32⟩ : BufTy).Contents (Elt F)),
    unary main_v90 main_v92 (broadcastInDim S4x20050x50 ![0, 1, 2] bcast_S4x1x50_S4x20050x50_0_1_2 : (⟨S4x1x50, .f32⟩ : BufTy).Contents (Elt F) → (⟨S4x20050x50, .f32⟩ : BufTy).Contents (Elt F)),
    binary main_v91 main_v92 main_v93 (addf : (⟨S4x20050x50, .f32⟩ : BufTy).Contents (Elt F) → (⟨S4x20050x50, .f32⟩ : BufTy).Contents (Elt F) → (⟨S4x20050x50, .f32⟩ : BufTy).Contents (Elt F)),
    binary main_v93 main_v73 main_v94 (subf : (⟨S4x20050x50, .f32⟩ : BufTy).Contents (Elt F) → (⟨S4x20050x50, .f32⟩ : BufTy).Contents (Elt F) → (⟨S4x20050x50, .f32⟩ : BufTy).Contents (Elt F)),
    nullary main_cst_15 (constant S_ .f32 0x322BCC77#32),
    unary main_cst_15 main_v95 (broadcastInDim S4x20050x50 ![] bcast_S_S4x20050x50 : (⟨S_, .f32⟩ : BufTy).Contents (Elt F) → (⟨S4x20050x50, .f32⟩ : BufTy).Contents (Elt F)),
    binary main_v94 main_v95 main_v96 (maximumf : (⟨S4x20050x50, .f32⟩ : BufTy).Contents (Elt F) → (⟨S4x20050x50, .f32⟩ : BufTy).Contents (Elt F) → (⟨S4x20050x50, .f32⟩ : BufTy).Contents (Elt F)),
    binary main_v73 main_v96 main_v97 (Host.divf : (⟨S4x20050x50, .f32⟩ : BufTy).Contents (Elt F) → (⟨S4x20050x50, .f32⟩ : BufTy).Contents (Elt F) → (⟨S4x20050x50, .f32⟩ : BufTy).Contents (Elt F)),
    unary main_v50 main_v98 (broadcastInDim S4x1x50 ![0, 2] bcast_S4x50_S4x1x50_0_2 : (⟨S4x50, .i1⟩ : BufTy).Contents (Elt F) → (⟨S4x1x50, .i1⟩ : BufTy).Contents (Elt F)),
    nullary main_cst_16 (constant S_ .f32 0x00000000#32),
    TRef.unary (TRef.of (T := ⟨S_, .f32⟩) main_cst_16) (TRef.of (T := ⟨S_, .f32⟩) main_call1_v0) id ]

/-- A run of operations of the reference, in order. -/
abbrev chunk12 : List (HloOp τ sig (Elt F)) :=
  [ TRef.unary (TRef.of (T := ⟨S4x1x50, .i1⟩) main_v98) (TRef.of (T := ⟨S4x20050x50, .i1⟩) main_call1_v1) (broadcastInDim S4x20050x50 ![0, 1, 2] bcast_S4x1x50_S4x20050x50_0_1_2),
    TRef.unary (TRef.of (T := ⟨S_, .f32⟩) main_call1_v0) (TRef.of (T := ⟨S4x20050x50, .f32⟩) main_call1_v2) (broadcastInDim S4x20050x50 ![] bcast_S_S4x20050x50),
    TRef.ternary (TRef.of (T := ⟨S4x20050x50, .i1⟩) main_call1_v1) (TRef.of (T := ⟨S4x20050x50, .f32⟩) main_call1_v2) (TRef.of (T := ⟨S4x20050x50, .f32⟩) main_v97) (TRef.of (T := ⟨S4x20050x50, .f32⟩) main_v99) select,
    nullary main_cst_17 (constant S_ .f32 0xFF800000#32),
    binary main_v99 main_cst_17 main_v100 ((fun x v => Host.reduce FloatOps.maximumf x v reducesTo_S4x20050x50_S4x20050_d2 h_S_) : (⟨S4x20050x50, .f32⟩ : BufTy).Contents (Elt F) → (⟨S_, .f32⟩ : BufTy).Contents (Elt F) → (⟨S4x20050, .f32⟩ : BufTy).Contents (Elt F)) ]

/-- One piece of the reference's operations. -/
def part1 : List (HloOp τ sig (Elt F)) :=
  chunk10 ++ (chunk11 ++ (chunk12))

/-- A run of operations of the reference, in order. -/
abbrev chunk20 : List (HloOp τ sig (Elt F)) :=
  [ TRef.nullary (TRef.of (T := ⟨S4x20050x50, .i32⟩) main_call2_v0) (iotaInDim S4x20050x50 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S4x20050x50, .f32⟩) main_v99) (TRef.of (T := ⟨S4x20050x50, .i32⟩) main_call2_v0) (TRef.of (T := ⟨S_, .f32⟩) main_call2_cst) (TRef.of (T := ⟨S_, .i32⟩) main_call2_c) (TRef.of (T := ⟨S4x20050, .f32⟩) main_call2_v1_0) (fun x y u v j => (Host.argReduce reducer_argmax_f32_i32 x y u v reducesTo_S4x20050x50_S4x20050_d2 h_S_ j).1),
    TRef.quaternary (TRef.of (T := ⟨S4x20050x50, .f32⟩) main_v99) (TRef.of (T := ⟨S4x20050x50, .i32⟩) main_call2_v0) (TRef.of (T := ⟨S_, .f32⟩) main_call2_cst) (TRef.of (T := ⟨S_, .i32⟩) main_call2_c) (TRef.of (T := ⟨S4x20050, .i32⟩) main_v101) (fun x y u v j => (Host.argReduce reducer_argmax_f32_i32 x y u v reducesTo_S4x20050x50_S4x20050_d2 h_S_ j).2),
    TRef.nullary (TRef.of (T := ⟨S_, .i32⟩) main_call3_c) (constantI S_ 32 0#32),
    TRef.unary (TRef.of (T := ⟨S_, .i32⟩) main_call3_c) (TRef.of (T := ⟨S4x20050, .i32⟩) main_call3_v0) (broadcastInDim S4x20050 ![] bcast_S_S4x20050),
    TRef.binary (TRef.of (T := ⟨S4x20050, .i32⟩) main_v101) (TRef.of (T := ⟨S4x20050, .i32⟩) main_call3_v0) (TRef.of (T := ⟨S4x20050, .i1⟩) main_call3_v1) (cmpi .slt),
    TRef.nullary (TRef.of (T := ⟨S_, .i32⟩) main_call3_c_0) (constantI S_ 32 50#32),
    TRef.unary (TRef.of (T := ⟨S_, .i32⟩) main_call3_c_0) (TRef.of (T := ⟨S4x20050, .i32⟩) main_call3_v2) (broadcastInDim S4x20050 ![] bcast_S_S4x20050),
    TRef.binary (TRef.of (T := ⟨S4x20050, .i32⟩) main_v101) (TRef.of (T := ⟨S4x20050, .i32⟩) main_call3_v2) (TRef.of (T := ⟨S4x20050, .i32⟩) main_call3_v3) addi,
    TRef.ternary (TRef.of (T := ⟨S4x20050, .i1⟩) main_call3_v1) (TRef.of (T := ⟨S4x20050, .i32⟩) main_call3_v3) (TRef.of (T := ⟨S4x20050, .i32⟩) main_v101) (TRef.of (T := ⟨S4x20050, .i32⟩) main_call3_v4) select,
    TRef.reshape (TRef.of (T := ⟨S4x20050, .i32⟩) main_call3_v4) (TRef.of (T := ⟨S4x20050x1, .i32⟩) main_call3_v5) (rfl : (.i32 : EltTy) = .i32) shapeCasts_S4x20050_S4x20050x1,
    TRef.nullary (TRef.of (T := ⟨S1, .i32⟩) main_call3_c_1) (constantI S1 32 49#32),
    TRef.nullary (TRef.of (T := ⟨S_, .i32⟩) main_call3_c_2) (constantI S_ 32 0#32),
    TRef.unary (TRef.of (T := ⟨S_, .i32⟩) main_call3_c_2) (TRef.of (T := ⟨S4x20050x1, .i32⟩) main_call3_v6) (broadcastInDim S4x20050x1 ![] bcast_S_S4x20050x1),
    TRef.binary (TRef.of (T := ⟨S4x20050x1, .i32⟩) main_call3_v5) (TRef.of (T := ⟨S4x20050x1, .i32⟩) main_call3_v6) (TRef.of (T := ⟨S4x20050x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4x20050x1, .i32⟩) main_call3_v9) (broadcastInDim S4x20050x1 ![0, 1, 2] bcast_S1x1x1_S4x20050x1_0_1_2),
    TRef.binary (TRef.of (T := ⟨S4x20050x1, .i32⟩) main_call3_v5) (TRef.of (T := ⟨S4x20050x1, .i32⟩) main_call3_v9) (TRef.of (T := ⟨S4x20050x1, .i1⟩) main_call3_v10) (cmpi .sle),
    TRef.binary (TRef.of (T := ⟨S4x20050x1, .i1⟩) main_call3_v7) (TRef.of (T := ⟨S4x20050x1, .i1⟩) main_call3_v10) (TRef.of (T := ⟨S4x20050x1, .i1⟩) main_call3_v11) andi,
    TRef.nullary (TRef.of (T := ⟨S_, .i1⟩) main_call3_c_3) (constantI S_ 1 1#1),
    TRef.binary (TRef.of (T := ⟨S4x20050x1, .i1⟩) main_call3_v11) (TRef.of (T := ⟨S_, .i1⟩) main_call3_c_3) (TRef.of (T := ⟨S4x20050, .i1⟩) main_call3_v12) (fun x v => Host.reduce IntOp.andi x v reducesTo_S4x20050x1_S4x20050_d2 h_S_),
    TRef.binary (TRef.of (T := ⟨S4x50, .f32⟩) main_v1) (TRef.of (T := ⟨S4x20050x1, .i32⟩) main_call3_v5) (TRef.of (T := ⟨S4x20050, .f32⟩) main_call3_v13) (fun x i => Host.gather gather_S4x50_S4x20050x1_S4x20050_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4x20050, .f32⟩) main_call3_v14) (broadcastInDim S4x20050 ![] bcast_S_S4x20050),
    TRef.ternary (TRef.of (T := ⟨S4x20050, .i1⟩) main_call3_v12) (TRef.of (T := ⟨S4x20050, .f32⟩) main_call3_v13) (TRef.of (T := ⟨S4x20050, .f32⟩) main_call3_v14) (TRef.of (T := ⟨S4x20050, .f32⟩) main_v102) select,
    nullary main_cst_18 (constant S_ .f32 0x3F000000#32),
    unary main_cst_18 main_v103 (broadcastInDim S4x20050 ![] bcast_S_S4x20050 : (⟨S_, .f32⟩ : BufTy).Contents (Elt F) → (⟨S4x20050, .f32⟩ : BufTy).Contents (Elt F)),
    binary main_v100 main_v103 main_v104 (cmpf .oge : (⟨S4x20050, .f32⟩ : BufTy).Contents (Elt F) → (⟨S4x20050, .f32⟩ : BufTy).Contents (Elt F) → (⟨S4x20050, .i1⟩ : BufTy).Contents (Elt F)) ]

/-- A run of operations of the reference, in order. -/
abbrev chunk21 : List (HloOp τ sig (Elt F)) :=
  [ nullary main_cst_19 (constant S_ .f32 0xBF800000#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S4x20050, .f32⟩) main_call4_v1) (broadcastInDim S4x20050 ![] bcast_S_S4x20050),
    TRef.ternary (TRef.of (T := ⟨S4x20050, .i1⟩) main_v104) (TRef.of (T := ⟨S4x20050, .f32⟩) main_v100) (TRef.of (T := ⟨S4x20050, .f32⟩) main_call4_v1) (TRef.of (T := ⟨S4x20050, .f32⟩) main_v105) select,
    unary main_v105 main_values ((fun x => (Host.topK S4x64 1 (FloatOps.cmpfTotal .gt) x sliceFits_S4x20050_S4x64).1) : (⟨S4x20050, .f32⟩ : BufTy).Contents (Elt F) → (⟨S4x64, .f32⟩ : BufTy).Contents (Elt F)),
    unary main_v105 main_indices ((fun x => (Host.topK S4x64 1 (FloatOps.cmpfTotal .gt) x sliceFits_S4x20050_S4x64).2) : (⟨S4x20050, .f32⟩ : BufTy).Contents (Elt F) → (⟨S4x64, .i32⟩ : BufTy).Contents (Elt F)),
    nullary main_cst_20 (constant S_ .f32 0x3F000000#32),
    unary main_cst_20 main_v106 (broadcastInDim S4x64 ![] bcast_S_S4x64 : (⟨S_, .f32⟩ : BufTy).Contents (Elt F) → (⟨S4x64, .f32⟩ : BufTy).Contents (Elt F)),
    binary main_values main_v106 main_v107 (cmpf .oge : (⟨S4x64, .f32⟩ : BufTy).Contents (Elt F) → (⟨S4x64, .f32⟩ : BufTy).Contents (Elt F) → (⟨S4x64, .i1⟩ : BufTy).Contents (Elt F)),
    unary main_v29 main_v108 ((extractStridedSlice S4x20050x4 ![0, 0, 1] · slices_S4x20050x5_S4x20050x4_0_0_1) : (⟨S4x20050x5, .f32⟩ : BufTy).Contents (Elt F) → (⟨S4x20050x4, .f32⟩ : BufTy).Contents (Elt F)),
    unary main_v24 main_v109 ((extractStridedSlice S4x50x1 ![0, 0, 2] · slices_S4x50x4_S4x50x1_0_0_2) : (⟨S4x50x4, .f32⟩ : BufTy).Contents (Elt F) → (⟨S4x50x1, .f32⟩ : BufTy).Contents (Elt F)),
    reshape main_v109 main_v110 (rfl : (.f32 : EltTy) = .f32) shapeCasts_S4x50x1_S4x50,
    unary main_v24 main_v111 ((extractStridedSlice S4x50x1 ![0, 0, 0] · slices_S4x50x4_S4x50x1_0_0_0) : (⟨S4x50x4, .f32⟩ : BufTy).Contents (Elt F) → (⟨S4x50x1, .f32⟩ : BufTy).Contents (Elt F)),
    reshape main_v111 main_v112 (rfl : (.f32 : EltTy) = .f32) shapeCasts_S4x50x1_S4x50,
    binary main_v110 main_v112 main_v113 (subf : (⟨S4x50, .f32⟩ : BufTy).Contents (Elt F) → (⟨S4x50, .f32⟩ : BufTy).Contents (Elt F) → (⟨S4x50, .f32⟩ : BufTy).Contents (Elt F)),
    nullary main_cst_21 (constant S_ .f32 0x3F800000#32),
    unary main_cst_21 main_v114 (broadcastInDim S4x50 ![] bcast_S_S4x50 : (⟨S_, .f32⟩ : BufTy).Contents (Elt F) → (⟨S4x50, .f32⟩ : BufTy).Contents (Elt F)),
    binary main_v113 main_v114 main_v115 (addf : (⟨S4x50, .f32⟩ : BufTy).Contents (Elt F) → (⟨S4x50, .f32⟩ : BufTy).Contents (Elt F) → (⟨S4x50, .f32⟩ : BufTy).Contents (Elt F)),
    unary main_v24 main_v116 ((extractStridedSlice S4x50x1 ![0, 0, 3] · slices_S4x50x4_S4x50x1_0_0_3) : (⟨S4x50x4, .f32⟩ : BufTy).Contents (Elt F) → (⟨S4x50x1, .f32⟩ : BufTy).Contents (Elt F)),
    reshape main_v116 main_v117 (rfl : (.f32 : EltTy) = .f32) shapeCasts_S4x50x1_S4x50,
    unary main_v24 main_v118 ((extractStridedSlice S4x50x1 ![0, 0, 1] · slices_S4x50x4_S4x50x1_0_0_1) : (⟨S4x50x4, .f32⟩ : BufTy).Contents (Elt F) → (⟨S4x50x1, .f32⟩ : BufTy).Contents (Elt F)),
    reshape main_v118 main_v119 (rfl : (.f32 : EltTy) = .f32) shapeCasts_S4x50x1_S4x50,
    binary main_v117 main_v119 main_v120 (subf : (⟨S4x50, .f32⟩ : BufTy).Contents (Elt F) → (⟨S4x50, .f32⟩ : BufTy).Contents (Elt F) → (⟨S4x50, .f32⟩ : BufTy).Contents (Elt F)),
    nullary main_cst_22 (constant S_ .f32 0x3F800000#32),
    unary main_cst_22 main_v121 (broadcastInDim S4x50 ![] bcast_S_S4x50 : (⟨S_, .f32⟩ : BufTy).Contents (Elt F) → (⟨S4x50, .f32⟩ : BufTy).Contents (Elt F)),
    binary main_v120 main_v121 main_v122 (addf : (⟨S4x50, .f32⟩ : BufTy).Contents (Elt F) → (⟨S4x50, .f32⟩ : BufTy).Contents (Elt F) → (⟨S4x50, .f32⟩ : BufTy).Contents (Elt F)),
    binary main_v115 main_v122 main_v123 (mulf : (⟨S4x50, .f32⟩ : BufTy).Contents (Elt F) → (⟨S4x50, .f32⟩ : BufTy).Contents (Elt F) → (⟨S4x50, .f32⟩ : BufTy).Contents (Elt F)),
    unary main_v24 main_v124 (Host.absf : (⟨S4x50x4, .f32⟩ : BufTy).Contents (Elt F) → (⟨S4x50x4, .f32⟩ : BufTy).Contents (Elt F)),
    nullary main_cst_23 (constant S_ .f32 0x00000000#32),
    binary main_v124 main_cst_23 main_v125 ((fun x v => Host.reduceAdd x v reducesTo_S4x50x4_S4x50_d2 h_S_) : (⟨S4x50x4, .f32⟩ : BufTy).Contents (Elt F) → (⟨S_, .f32⟩ : BufTy).Contents (Elt F) → (⟨S4x50, .f32⟩ : BufTy).Contents (Elt F)) ]

/-- A run of operations of the reference, in order. -/
abbrev chunk22 : List (HloOp τ sig (Elt F)) :=
  [ nullary main_cst_24 (constant S_ .f32 0x00000000#32),
    unary main_cst_24 main_v126 (broadcastInDim S4x50 ![] bcast_S_S4x50 : (⟨S_, .f32⟩ : BufTy).Contents (Elt F) → (⟨S4x50, .f32⟩ : BufTy).Contents (Elt F)),
    binary main_v125 main_v126 main_v127 (cmpf .oeq : (⟨S4x50, .f32⟩ : BufTy).Contents (Elt F) → (⟨S4x50, .f32⟩ : BufTy).Contents (Elt F) → (⟨S4x50, .i1⟩ : BufTy).Contents (Elt F)),
    unary main_v108 main_v128 ((extractStridedSlice S4x20050x2 ![0, 0, 0] · slices_S4x20050x4_S4x20050x2_0_0_0) : (⟨S4x20050x4, .f32⟩ : BufTy).Contents (Elt F) → (⟨S4x20050x2, .f32⟩ : BufTy).Contents (Elt F)),
    unary main_v128 main_v129 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)),
    unary main_v24 main_v130 ((extractStridedSlice S4x50x2 ![0, 0, 0] · slices_S4x50x4_S4x50x2_0_0_0) : (⟨S4x50x4, .f32⟩ : BufTy).Contents (Elt F) → (⟨S4x50x2, .f32⟩ : BufTy).Contents (Elt F)),
    unary main_v130 main_v131 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v129 main_v132 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)),
    unary main_v131 main_v133 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v132 main_v133 main_v134 (maximumf : (⟨S4x20050x50x2, .f32⟩ : BufTy).Contents (Elt F) → (⟨S4x20050x50x2, .f32⟩ : BufTy).Contents (Elt F) → (⟨S4x20050x50x2, .f32⟩ : BufTy).Contents (Elt F)),
    unary main_v108 main_v135 ((extractStridedSlice S4x20050x2 ![0, 0, 2] · slices_S4x20050x4_S4x20050x2_0_0_2) : (⟨S4x20050x4, .f32⟩ : BufTy).Contents (Elt F) → (⟨S4x20050x2, .f32⟩ : BufTy).Contents (Elt F)),
    unary main_v135 main_v136 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)),
    unary main_v24 main_v137 ((extractStridedSlice S4x50x2 ![0, 0, 2] · slices_S4x50x4_S4x50x2_0_0_2) : (⟨S4x50x4, .f32⟩ : BufTy).Contents (Elt F) → (⟨S4x50x2, .f32⟩ : BufTy).Contents (Elt F)),
    unary main_v137 main_v138 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v136 main_v139 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)),
    unary main_v138 main_v140 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v139 main_v140 main_v141 (minimumf : (⟨S4x20050x50x2, .f32⟩ : BufTy).Contents (Elt F) → (⟨S4x20050x50x2, .f32⟩ : BufTy).Contents (Elt F) → (⟨S4x20050x50x2, .f32⟩ : BufTy).Contents (Elt F)),
    binary main_v141 main_v134 main_v142 (subf : (⟨S4x20050x50x2, .f32⟩ : BufTy).Contents (Elt F) → (⟨S4x20050x50x2, .f32⟩ : BufTy).Contents (Elt F) → (⟨S4x20050x50x2, .f32⟩ : BufTy).Contents (Elt F)),
    nullary main_cst_25 (constant S_ .f32 0x3F800000#32),
    unary main_cst_25 main_v143 (broadcastInDim S4x20050x50x2 ![] bcast_S_S4x20050x50x2 : (⟨S_, .f32⟩ : BufTy).Contents (Elt F) → (⟨S4x20050x50x2, .f32⟩ : BufTy).Contents (Elt F)),
    binary main_v142 main_v143 main_v144 (addf : (⟨S4x20050x50x2, .f32⟩ : BufTy).Contents (Elt F) → (⟨S4x20050x50x2, .f32⟩ : BufTy).Contents (Elt F) → (⟨S4x20050x50x2, .f32⟩ : BufTy).Contents (Elt F)),
    nullary main_cst_26 (constant S_ .f32 0x00000000#32),
    TRef.unary (TRef.of (T := ⟨S_, .f32⟩) main_cst_26) (TRef.of (T := ⟨S_, .f32⟩) main_call5_v0) id,
    TRef.unary (TRef.of (T := ⟨S_, .f32⟩) main_call5_v0) (TRef.of (T := ⟨S4x20050x50x2, .f32⟩) main_call5_v1) (broadcastInDim S4x20050x50x2 ![] bcast_S_S4x20050x50x2),
    TRef.binary (TRef.of (T := ⟨S4x20050x50x2, .f32⟩) main_call5_v1) (TRef.of (T := ⟨S4x20050x50x2, .f32⟩) main_v144) (TRef.of (T := ⟨S4x20050x50x2, .f32⟩) main_v145) maximumf,
    unary main_v145 main_v146 ((extractStridedSlice S4x20050x50x1 ![0, 0, 0, 0] · slices_S4x20050x50x2_S4x20050x50x1_0_0_0_0) : (⟨S4x20050x50x2, .f32⟩ : BufTy).Contents (Elt F) → (⟨S4x20050x50x1, .f32⟩ : BufTy).Contents (Elt F)),
    reshape main_v146 main_v147 (rfl : (.f32 : EltTy) = .f32) shapeCasts_S4x20050x50x1_S4x20050x50,
    unary main_v145 main_v148 ((extractStridedSlice S4x20050x50x1 ![0, 0, 0, 1] · slices_S4x20050x50x2_S4x20050x50x1_0_0_0_1) : (⟨S4x20050x50x2, .f32⟩ : BufTy).Contents (Elt F) → (⟨S4x20050x50x1, .f32⟩ : BufTy).Contents (Elt F)),
    reshape main_v148 main_v149 (rfl : (.f32 : EltTy) = .f32) shapeCasts_S4x20050x50x1_S4x20050x50 ]

/-- One piece of the reference's operations. -/
def part2 : List (HloOp τ sig (Elt F)) :=
  chunk20 ++ (chunk21 ++ (chunk22))

/-- A run of operations of the reference, in order. -/
abbrev chunk30 : List (HloOp τ sig (Elt F)) :=
  [ binary main_v147 main_v149 main_v150 (mulf : (⟨S4x20050x50, .f32⟩ : BufTy).Contents (Elt F) → (⟨S4x20050x50, .f32⟩ : BufTy).Contents (Elt F) → (⟨S4x20050x50, .f32⟩ : BufTy).Contents (Elt F)),
    unary main_v108 main_v151 ((extractStridedSlice S4x20050x1 ![0, 0, 2] · slices_S4x20050x4_S4x20050x1_0_0_2) : (⟨S4x20050x4, .f32⟩ : BufTy).Contents (Elt F) → (⟨S4x20050x1, .f32⟩ : BufTy).Contents (Elt F)),
    reshape main_v151 main_v152 (rfl : (.f32 : EltTy) = .f32) shapeCasts_S4x20050x1_S4x20050,
    unary main_v108 main_v153 ((extractStridedSlice S4x20050x1 ![0, 0, 0] · slices_S4x20050x4_S4x20050x1_0_0_0) : (⟨S4x20050x4, .f32⟩ : BufTy).Contents (Elt F) → (⟨S4x20050x1, .f32⟩ : BufTy).Contents (Elt F)),
    reshape main_v153 main_v154 (rfl : (.f32 : EltTy) = .f32) shapeCasts_S4x20050x1_S4x20050,
    binary main_v152 main_v154 main_v155 (subf : (⟨S4x20050, .f32⟩ : BufTy).Contents (Elt F) → (⟨S4x20050, .f32⟩ : BufTy).Contents (Elt F) → (⟨S4x20050, .f32⟩ : BufTy).Contents (Elt F)),
    nullary main_cst_27 (constant S_ .f32 0x3F800000#32),
    unary main_cst_27 main_v156 (broadcastInDim S4x20050 ![] bcast_S_S4x20050 : (⟨S_, .f32⟩ : BufTy).Contents (Elt F) → (⟨S4x20050, .f32⟩ : BufTy).Contents (Elt F)),
    binary main_v155 main_v156 main_v157 (addf : (⟨S4x20050, .f32⟩ : BufTy).Contents (Elt F) → (⟨S4x20050, .f32⟩ : BufTy).Contents (Elt F) → (⟨S4x20050, .f32⟩ : BufTy).Contents (Elt F)),
    unary main_v108 main_v158 ((extractStridedSlice S4x20050x1 ![0, 0, 3] · slices_S4x20050x4_S4x20050x1_0_0_3) : (⟨S4x20050x4, .f32⟩ : BufTy).Contents (Elt F) → (⟨S4x20050x1, .f32⟩ : BufTy).Contents (Elt F)),
    reshape main_v158 main_v159 (rfl : (.f32 : EltTy) = .f32) shapeCasts_S4x20050x1_S4x20050,
    unary main_v108 main_v160 ((extractStridedSlice S4x20050x1 ![0, 0, 1] · slices_S4x20050x4_S4x20050x1_0_0_1) : (⟨S4x20050x4, .f32⟩ : BufTy).Contents (Elt F) → (⟨S4x20050x1, .f32⟩ : BufTy).Contents (Elt F)),
    reshape main_v160 main_v161 (rfl : (.f32 : EltTy) = .f32) shapeCasts_S4x20050x1_S4x20050,
    binary main_v159 main_v161 main_v162 (subf : (⟨S4x20050, .f32⟩ : BufTy).Contents (Elt F) → (⟨S4x20050, .f32⟩ : BufTy).Contents (Elt F) → (⟨S4x20050, .f32⟩ : BufTy).Contents (Elt F)),
    nullary main_cst_28 (constant S_ .f32 0x3F800000#32),
    unary main_cst_28 main_v163 (broadcastInDim S4x20050 ![] bcast_S_S4x20050 : (⟨S_, .f32⟩ : BufTy).Contents (Elt F) → (⟨S4x20050, .f32⟩ : BufTy).Contents (Elt F)),
    binary main_v162 main_v163 main_v164 (addf : (⟨S4x20050, .f32⟩ : BufTy).Contents (Elt F) → (⟨S4x20050, .f32⟩ : BufTy).Contents (Elt F) → (⟨S4x20050, .f32⟩ : BufTy).Contents (Elt F)),
    binary main_v157 main_v164 main_v165 (mulf : (⟨S4x20050, .f32⟩ : BufTy).Contents (Elt F) → (⟨S4x20050, .f32⟩ : BufTy).Contents (Elt F) → (⟨S4x20050, .f32⟩ : BufTy).Contents (Elt F)),
    unary main_v165 main_v166 (broadcastInDim S4x20050x1 ![0, 1] bcast_S4x20050_S4x20050x1_0_1 : (⟨S4x20050, .f32⟩ : BufTy).Contents (Elt F) → (⟨S4x20050x1, .f32⟩ : BufTy).Contents (Elt F)),
    unary main_v123 main_v167 (broadcastInDim S4x1x50 ![0, 2] bcast_S4x50_S4x1x50_0_2 : (⟨S4x50, .f32⟩ : BufTy).Contents (Elt F) → (⟨S4x1x50, .f32⟩ : BufTy).Contents (Elt F)),
    unary main_v166 main_v168 (broadcastInDim S4x20050x50 ![0, 1, 2] bcast_S4x20050x1_S4x20050x50_0_1_2 : (⟨S4x20050x1, .f32⟩ : BufTy).Contents (Elt F) → (⟨S4x20050x50, .f32⟩ : BufTy).Contents (Elt F)),
    unary main_v167 main_v169 (broadcastInDim S4x20050x50 ![0, 1, 2] bcast_S4x1x50_S4x20050x50_0_1_2 : (⟨S4x1x50, .f32⟩ : BufTy).Contents (Elt F) → (⟨S4x20050x50, .f32⟩ : BufTy).Contents (Elt F)),
    binary main_v168 main_v169 main_v170 (addf : (⟨S4x20050x50, .f32⟩ : BufTy).Contents (Elt F) → (⟨S4x20050x50, .f32⟩ : BufTy).Contents (Elt F) → (⟨S4x20050x50, .f32⟩ : BufTy).Contents (Elt F)),
    binary main_v170 main_v150 main_v171 (subf : (⟨S4x20050x50, .f32⟩ : BufTy).Contents (Elt F) → (⟨S4x20050x50, .f32⟩ : BufTy).Contents (Elt F) → (⟨S4x20050x50, .f32⟩ : BufTy).Contents (Elt F)),
    nullary main_cst_29 (constant S_ .f32 0x322BCC77#32),
    unary main_cst_29 main_v172 (broadcastInDim S4x20050x50 ![] bcast_S_S4x20050x50 : (⟨S_, .f32⟩ : BufTy).Contents (Elt F) → (⟨S4x20050x50, .f32⟩ : BufTy).Contents (Elt F)),
    binary main_v171 main_v172 main_v173 (maximumf : (⟨S4x20050x50, .f32⟩ : BufTy).Contents (Elt F) → (⟨S4x20050x50, .f32⟩ : BufTy).Contents (Elt F) → (⟨S4x20050x50, .f32⟩ : BufTy).Contents (Elt F)),
    binary main_v150 main_v173 main_v174 (Host.divf : (⟨S4x20050x50, .f32⟩ : BufTy).Contents (Elt F) → (⟨S4x20050x50, .f32⟩ : BufTy).Contents (Elt F) → (⟨S4x20050x50, .f32⟩ : BufTy).Contents (Elt F)),
    unary main_v127 main_v175 (broadcastInDim S4x1x50 ![0, 2] bcast_S4x50_S4x1x50_0_2 : (⟨S4x50, .i1⟩ : BufTy).Contents (Elt F) → (⟨S4x1x50, .i1⟩ : BufTy).Contents (Elt F)),
    nullary main_cst_30 (constant S_ .f32 0x00000000#32) ]

/-- A run of operations of the reference, in order. -/
abbrev chunk31 : List (HloOp τ sig (Elt F)) :=
  [ TRef.unary (TRef.of (T := ⟨S_, .f32⟩) main_cst_30) (TRef.of (T := ⟨S_, .f32⟩) main_call6_v0) id,
    TRef.unary (TRef.of (T := ⟨S4x1x50, .i1⟩) main_v175) (TRef.of (T := ⟨S4x20050x50, .i1⟩) main_call6_v1) (broadcastInDim S4x20050x50 ![0, 1, 2] bcast_S4x1x50_S4x20050x50_0_1_2),
    TRef.unary (TRef.of (T := ⟨S_, .f32⟩) main_call6_v0) (TRef.of (T := ⟨S4x20050x50, .f32⟩) main_call6_v2) (broadcastInDim S4x20050x50 ![] bcast_S_S4x20050x50),
    TRef.ternary (TRef.of (T := ⟨S4x20050x50, .i1⟩) main_call6_v1) (TRef.of (T := ⟨S4x20050x50, .f32⟩) main_call6_v2) (TRef.of (T := ⟨S4x20050x50, .f32⟩) main_v174) (TRef.of (T := ⟨S4x20050x50, .f32⟩) main_v176) select,
    unary main_v29 main_v177 ((extractStridedSlice S4x20050x4 ![0, 0, 1] · slices_S4x20050x5_S4x20050x4_0_0_1) : (⟨S4x20050x5, .f32⟩ : BufTy).Contents (Elt F) → (⟨S4x20050x4, .f32⟩ : BufTy).Contents (Elt F)),
    unary main_v17 main_v178 ((extractStridedSlice S4x50x1 ![0, 0, 2] · slices_S4x50x4_S4x50x1_0_0_2) : (⟨S4x50x4, .f32⟩ : BufTy).Contents (Elt F) → (⟨S4x50x1, .f32⟩ : BufTy).Contents (Elt F)),
    reshape main_v178 main_v179 (rfl : (.f32 : EltTy) = .f32) shapeCasts_S4x50x1_S4x50,
    unary main_v17 main_v180 ((extractStridedSlice S4x50x1 ![0, 0, 0] · slices_S4x50x4_S4x50x1_0_0_0) : (⟨S4x50x4, .f32⟩ : BufTy).Contents (Elt F) → (⟨S4x50x1, .f32⟩ : BufTy).Contents (Elt F)),
    reshape main_v180 main_v181 (rfl : (.f32 : EltTy) = .f32) shapeCasts_S4x50x1_S4x50,
    binary main_v179 main_v181 main_v182 (subf : (⟨S4x50, .f32⟩ : BufTy).Contents (Elt F) → (⟨S4x50, .f32⟩ : BufTy).Contents (Elt F) → (⟨S4x50, .f32⟩ : BufTy).Contents (Elt F)),
    nullary main_cst_31 (constant S_ .f32 0x3F800000#32),
    unary main_cst_31 main_v183 (broadcastInDim S4x50 ![] bcast_S_S4x50 : (⟨S_, .f32⟩ : BufTy).Contents (Elt F) → (⟨S4x50, .f32⟩ : BufTy).Contents (Elt F)),
    binary main_v182 main_v183 main_v184 (addf : (⟨S4x50, .f32⟩ : BufTy).Contents (Elt F) → (⟨S4x50, .f32⟩ : BufTy).Contents (Elt F) → (⟨S4x50, .f32⟩ : BufTy).Contents (Elt F)),
    unary main_v17 main_v185 ((extractStridedSlice S4x50x1 ![0, 0, 3] · slices_S4x50x4_S4x50x1_0_0_3) : (⟨S4x50x4, .f32⟩ : BufTy).Contents (Elt F) → (⟨S4x50x1, .f32⟩ : BufTy).Contents (Elt F)),
    reshape main_v185 main_v186 (rfl : (.f32 : EltTy) = .f32) shapeCasts_S4x50x1_S4x50,
    unary main_v17 main_v187 ((extractStridedSlice S4x50x1 ![0, 0, 1] · slices_S4x50x4_S4x50x1_0_0_1) : (⟨S4x50x4, .f32⟩ : BufTy).Contents (Elt F) → (⟨S4x50x1, .f32⟩ : BufTy).Contents (Elt F)),
    reshape main_v187 main_v188 (rfl : (.f32 : EltTy) = .f32) shapeCasts_S4x50x1_S4x50,
    binary main_v186 main_v188 main_v189 (subf : (⟨S4x50, .f32⟩ : BufTy).Contents (Elt F) → (⟨S4x50, .f32⟩ : BufTy).Contents (Elt F) → (⟨S4x50, .f32⟩ : BufTy).Contents (Elt F)),
    nullary main_cst_32 (constant S_ .f32 0x3F800000#32),
    unary main_cst_32 main_v190 (broadcastInDim S4x50 ![] bcast_S_S4x50 : (⟨S_, .f32⟩ : BufTy).Contents (Elt F) → (⟨S4x50, .f32⟩ : BufTy).Contents (Elt F)),
    binary main_v189 main_v190 main_v191 (addf : (⟨S4x50, .f32⟩ : BufTy).Contents (Elt F) → (⟨S4x50, .f32⟩ : BufTy).Contents (Elt F) → (⟨S4x50, .f32⟩ : BufTy).Contents (Elt F)),
    binary main_v184 main_v191 main_v192 (mulf : (⟨S4x50, .f32⟩ : BufTy).Contents (Elt F) → (⟨S4x50, .f32⟩ : BufTy).Contents (Elt F) → (⟨S4x50, .f32⟩ : BufTy).Contents (Elt F)),
    unary main_v17 main_v193 (Host.absf : (⟨S4x50x4, .f32⟩ : BufTy).Contents (Elt F) → (⟨S4x50x4, .f32⟩ : BufTy).Contents (Elt F)),
    nullary main_cst_33 (constant S_ .f32 0x00000000#32),
    binary main_v193 main_cst_33 main_v194 ((fun x v => Host.reduceAdd x v reducesTo_S4x50x4_S4x50_d2 h_S_) : (⟨S4x50x4, .f32⟩ : BufTy).Contents (Elt F) → (⟨S_, .f32⟩ : BufTy).Contents (Elt F) → (⟨S4x50, .f32⟩ : BufTy).Contents (Elt F)),
    nullary main_cst_34 (constant S_ .f32 0x00000000#32),
    unary main_cst_34 main_v195 (broadcastInDim S4x50 ![] bcast_S_S4x50 : (⟨S_, .f32⟩ : BufTy).Contents (Elt F) → (⟨S4x50, .f32⟩ : BufTy).Contents (Elt F)),
    binary main_v194 main_v195 main_v196 (cmpf .oeq : (⟨S4x50, .f32⟩ : BufTy).Contents (Elt F) → (⟨S4x50, .f32⟩ : BufTy).Contents (Elt F) → (⟨S4x50, .i1⟩ : BufTy).Contents (Elt F)),
    unary main_v177 main_v197 ((extractStridedSlice S4x20050x2 ![0, 0, 0] · slices_S4x20050x4_S4x20050x2_0_0_0) : (⟨S4x20050x4, .f32⟩ : BufTy).Contents (Elt F) → (⟨S4x20050x2, .f32⟩ : BufTy).Contents (Elt F)),
    unary main_v197 main_v198 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)) ]

/-- A run of operations of the reference, in order. -/
abbrev chunk32 : List (HloOp τ sig (Elt F)) :=
  [ unary main_v17 main_v199 ((extractStridedSlice S4x50x2 ![0, 0, 0] · slices_S4x50x4_S4x50x2_0_0_0) : (⟨S4x50x4, .f32⟩ : BufTy).Contents (Elt F) → (⟨S4x50x2, .f32⟩ : BufTy).Contents (Elt F)),
    unary main_v199 main_v200 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v198 main_v201 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)) ]

/-- One piece of the reference's operations. -/
def part3 : List (HloOp τ sig (Elt F)) :=
  chunk30 ++ (chunk31 ++ (chunk32))

/-- A run of operations of the reference, in order. -/
abbrev chunk40 : List (HloOp τ sig (Elt F)) :=
  [ unary main_v200 main_v202 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v201 main_v202 main_v203 (maximumf : (⟨S4x20050x50x2, .f32⟩ : BufTy).Contents (Elt F) → (⟨S4x20050x50x2, .f32⟩ : BufTy).Contents (Elt F) → (⟨S4x20050x50x2, .f32⟩ : BufTy).Contents (Elt F)),
    unary main_v177 main_v204 ((extractStridedSlice S4x20050x2 ![0, 0, 2] · slices_S4x20050x4_S4x20050x2_0_0_2) : (⟨S4x20050x4, .f32⟩ : BufTy).Contents (Elt F) → (⟨S4x20050x2, .f32⟩ : BufTy).Contents (Elt F)),
    unary main_v204 main_v205 (broadcastInDim S4x20050x1x2 ![0, 1, 3] bcast_S4x20050x2_S4x20050x1x2_0_1_3 : (⟨S4x20050x2, .f32⟩ : BufTy).Contents (Elt F) → (⟨S4x20050x1x2, .f32⟩ : BufTy).Contents (Elt F)),
    unary main_v17 main_v206 ((extractStridedSlice S4x50x2 ![0, 0, 2] · slices_S4x50x4_S4x50x2_0_0_2) : (⟨S4x50x4, .f32⟩ : BufTy).Contents (Elt F) → (⟨S4x50x2, .f32⟩ : BufTy).Contents (Elt F)),
    unary main_v206 main_v207 (broadcastInDim S4x1x50x2 ![0, 2, 3] bcast_S4x50x2_S4x1x50x2_0_2_3 : (⟨S4x50x2, .f32⟩ : BufTy).Contents (Elt F) → (⟨S4x1x50x2, .f32⟩ : BufTy).Contents (Elt F)),
    unary main_v205 main_v208 (broadcastInDim S4x20050x50x2 ![0, 1, 2, 3] bcast_S4x20050x1x2_S4x20050x50x2_0_1_2_3 : (⟨S4x20050x1x2, .f32⟩ : BufTy).Contents (Elt F) → (⟨S4x20050x50x2, .f32⟩ : BufTy).Contents (Elt F)),
    unary main_v207 main_v209 (broadcastInDim S4x20050x50x2 ![0, 1, 2, 3] bcast_S4x1x50x2_S4x20050x50x2_0_1_2_3 : (⟨S4x1x50x2, .f32⟩ : BufTy).Contents (Elt F) → (⟨S4x20050x50x2, .f32⟩ : BufTy).Contents (Elt F)),
    binary main_v208 main_v209 main_v210 (minimumf : (⟨S4x20050x50x2, .f32⟩ : BufTy).Contents (Elt F) → (⟨S4x20050x50x2, .f32⟩ : BufTy).Contents (Elt F) → (⟨S4x20050x50x2, .f32⟩ : BufTy).Contents (Elt F)),
    binary main_v210 main_v203 main_v211 (subf : (⟨S4x20050x50x2, .f32⟩ : BufTy).Contents (Elt F) → (⟨S4x20050x50x2, .f32⟩ : BufTy).Contents (Elt F) → (⟨S4x20050x50x2, .f32⟩ : BufTy).Contents (Elt F)),
    nullary main_cst_35 (constant S_ .f32 0x3F800000#32),
    unary main_cst_35 main_v212 (broadcastInDim S4x20050x50x2 ![] bcast_S_S4x20050x50x2 : (⟨S_, .f32⟩ : BufTy).Contents (Elt F) → (⟨S4x20050x50x2, .f32⟩ : BufTy).Contents (Elt F)),
    binary main_v211 main_v212 main_v213 (addf : (⟨S4x20050x50x2, .f32⟩ : BufTy).Contents (Elt F) → (⟨S4x20050x50x2, .f32⟩ : BufTy).Contents (Elt F) → (⟨S4x20050x50x2, .f32⟩ : BufTy).Contents (Elt F)),
    nullary main_cst_36 (constant S_ .f32 0x00000000#32),
    TRef.unary (TRef.of (T := ⟨S_, .f32⟩) main_cst_36) (TRef.of (T := ⟨S_, .f32⟩) main_call7_v0) id,
    TRef.unary (TRef.of (T := ⟨S_, .f32⟩) main_call7_v0) (TRef.of (T := ⟨S4x20050x50x2, .f32⟩) main_call7_v1) (broadcastInDim S4x20050x50x2 ![] bcast_S_S4x20050x50x2),
    TRef.binary (TRef.of (T := ⟨S4x20050x50x2, .f32⟩) main_call7_v1) (TRef.of (T := ⟨S4x20050x50x2, .f32⟩) main_v213) (TRef.of (T := ⟨S4x20050x50x2, .f32⟩) main_v214) maximumf,
    unary main_v214 main_v215 ((extractStridedSlice S4x20050x50x1 ![0, 0, 0, 0] · slices_S4x20050x50x2_S4x20050x50x1_0_0_0_0) : (⟨S4x20050x50x2, .f32⟩ : BufTy).Contents (Elt F) → (⟨S4x20050x50x1, .f32⟩ : BufTy).Contents (Elt F)),
    reshape main_v215 main_v216 (rfl : (.f32 : EltTy) = .f32) shapeCasts_S4x20050x50x1_S4x20050x50,
    unary main_v214 main_v217 ((extractStridedSlice S4x20050x50x1 ![0, 0, 0, 1] · slices_S4x20050x50x2_S4x20050x50x1_0_0_0_1) : (⟨S4x20050x50x2, .f32⟩ : BufTy).Contents (Elt F) → (⟨S4x20050x50x1, .f32⟩ : BufTy).Contents (Elt F)),
    reshape main_v217 main_v218 (rfl : (.f32 : EltTy) = .f32) shapeCasts_S4x20050x50x1_S4x20050x50,
    binary main_v216 main_v218 main_v219 (mulf : (⟨S4x20050x50, .f32⟩ : BufTy).Contents (Elt F) → (⟨S4x20050x50, .f32⟩ : BufTy).Contents (Elt F) → (⟨S4x20050x50, .f32⟩ : BufTy).Contents (Elt F)),
    unary main_v192 main_v220 (broadcastInDim S4x1x50 ![0, 2] bcast_S4x50_S4x1x50_0_2 : (⟨S4x50, .f32⟩ : BufTy).Contents (Elt F) → (⟨S4x1x50, .f32⟩ : BufTy).Contents (Elt F)),
    nullary main_cst_37 (constant S_ .f32 0x322BCC77#32),
    unary main_cst_37 main_v221 (broadcastInDim S4x1x50 ![] bcast_S_S4x1x50 : (⟨S_, .f32⟩ : BufTy).Contents (Elt F) → (⟨S4x1x50, .f32⟩ : BufTy).Contents (Elt F)),
    binary main_v220 main_v221 main_v222 (maximumf : (⟨S4x1x50, .f32⟩ : BufTy).Contents (Elt F) → (⟨S4x1x50, .f32⟩ : BufTy).Contents (Elt F) → (⟨S4x1x50, .f32⟩ : BufTy).Contents (Elt F)),
    unary main_v222 main_v223 (broadcastInDim S4x20050x50 ![0, 1, 2] bcast_S4x1x50_S4x20050x50_0_1_2 : (⟨S4x1x50, .f32⟩ : BufTy).Contents (Elt F) → (⟨S4x20050x50, .f32⟩ : BufTy).Contents (Elt F)),
    binary main_v219 main_v223 main_v224 (Host.divf : (⟨S4x20050x50, .f32⟩ : BufTy).Contents (Elt F) → (⟨S4x20050x50, .f32⟩ : BufTy).Contents (Elt F) → (⟨S4x20050x50, .f32⟩ : BufTy).Contents (Elt F)),
    unary main_v196 main_v225 (broadcastInDim S4x1x50 ![0, 2] bcast_S4x50_S4x1x50_0_2 : (⟨S4x50, .i1⟩ : BufTy).Contents (Elt F) → (⟨S4x1x50, .i1⟩ : BufTy).Contents (Elt F)),
    nullary main_cst_38 (constant S_ .f32 0x00000000#32) ]

/-- A run of operations of the reference, in order. -/
abbrev chunk41 : List (HloOp τ sig (Elt F)) :=
  [ TRef.unary (TRef.of (T := ⟨S_, .f32⟩) main_cst_38) (TRef.of (T := ⟨S_, .f32⟩) main_call8_v0) id,
    TRef.unary (TRef.of (T := ⟨S4x1x50, .i1⟩) main_v225) (TRef.of (T := ⟨S4x20050x50, .i1⟩) main_call8_v1) (broadcastInDim S4x20050x50 ![0, 1, 2] bcast_S4x1x50_S4x20050x50_0_1_2),
    TRef.unary (TRef.of (T := ⟨S_, .f32⟩) main_call8_v0) (TRef.of (T := ⟨S4x20050x50, .f32⟩) main_call8_v2) (broadcastInDim S4x20050x50 ![] bcast_S_S4x20050x50),
    TRef.ternary (TRef.of (T := ⟨S4x20050x50, .i1⟩) main_call8_v1) (TRef.of (T := ⟨S4x20050x50, .f32⟩) main_call8_v2) (TRef.of (T := ⟨S4x20050x50, .f32⟩) main_v224) (TRef.of (T := ⟨S4x20050x50, .f32⟩) main_v226) select,
    nullary main_cst_39 (constant S_ .f32 0x3F000000#32),
    unary main_cst_39 main_v227 (broadcastInDim S4x20050 ![] bcast_S_S4x20050 : (⟨S_, .f32⟩ : BufTy).Contents (Elt F) → (⟨S4x20050, .f32⟩ : BufTy).Contents (Elt F)),
    binary main_v100 main_v227 main_v228 (cmpf .olt : (⟨S4x20050, .f32⟩ : BufTy).Contents (Elt F) → (⟨S4x20050, .f32⟩ : BufTy).Contents (Elt F) → (⟨S4x20050, .i1⟩ : BufTy).Contents (Elt F)),
    nullary main_cst_40 (constant S_ .f32 0x3DCCCCCD#32),
    unary main_cst_40 main_v229 (broadcastInDim S4x20050 ![] bcast_S_S4x20050 : (⟨S_, .f32⟩ : BufTy).Contents (Elt F) → (⟨S4x20050, .f32⟩ : BufTy).Contents (Elt F)),
    binary main_v100 main_v229 main_v230 (cmpf .oge : (⟨S4x20050, .f32⟩ : BufTy).Contents (Elt F) → (⟨S4x20050, .f32⟩ : BufTy).Contents (Elt F) → (⟨S4x20050, .i1⟩ : BufTy).Contents (Elt F)),
    binary main_v228 main_v230 main_v231 (andi : (⟨S4x20050, .i1⟩ : BufTy).Contents (Elt F) → (⟨S4x20050, .i1⟩ : BufTy).Contents (Elt F) → (⟨S4x20050, .i1⟩ : BufTy).Contents (Elt F)),
    nullary main_cst_41 (constant S_ .f32 0x00000000#32),
    binary main_v176 main_cst_41 main_v232 ((fun x v => Host.reduceAdd x v reducesTo_S4x20050x50_S4x20050_d2 h_S_) : (⟨S4x20050x50, .f32⟩ : BufTy).Contents (Elt F) → (⟨S_, .f32⟩ : BufTy).Contents (Elt F) → (⟨S4x20050, .f32⟩ : BufTy).Contents (Elt F)),
    nullary main_cst_42 (constant S_ .f32 0x358637BD#32),
    unary main_cst_42 main_v233 (broadcastInDim S4x20050 ![] bcast_S_S4x20050 : (⟨S_, .f32⟩ : BufTy).Contents (Elt F) → (⟨S4x20050, .f32⟩ : BufTy).Contents (Elt F)),
    binary main_v232 main_v233 main_v234 (cmpf .ole : (⟨S4x20050, .f32⟩ : BufTy).Contents (Elt F) → (⟨S4x20050, .f32⟩ : BufTy).Contents (Elt F) → (⟨S4x20050, .i1⟩ : BufTy).Contents (Elt F)),
    nullary main_cst_43 (constant S_ .f32 0x00000000#32),
    binary main_v226 main_cst_43 main_v235 ((fun x v => Host.reduceAdd x v reducesTo_S4x20050x50_S4x20050_d2 h_S_) : (⟨S4x20050x50, .f32⟩ : BufTy).Contents (Elt F) → (⟨S_, .f32⟩ : BufTy).Contents (Elt F) → (⟨S4x20050, .f32⟩ : BufTy).Contents (Elt F)),
    nullary main_cst_44 (constant S_ .f32 0x358637BD#32),
    unary main_cst_44 main_v236 (broadcastInDim S4x20050 ![] bcast_S_S4x20050 : (⟨S_, .f32⟩ : BufTy).Contents (Elt F) → (⟨S4x20050, .f32⟩ : BufTy).Contents (Elt F)),
    binary main_v235 main_v236 main_v237 (cmpf .ole : (⟨S4x20050, .f32⟩ : BufTy).Contents (Elt F) → (⟨S4x20050, .f32⟩ : BufTy).Contents (Elt F) → (⟨S4x20050, .i1⟩ : BufTy).Contents (Elt F)),
    binary main_v234 main_v237 main_v238 (andi : (⟨S4x20050, .i1⟩ : BufTy).Contents (Elt F) → (⟨S4x20050, .i1⟩ : BufTy).Contents (Elt F) → (⟨S4x20050, .i1⟩ : BufTy).Contents (Elt F)),
    binary main_v231 main_v238 main_v239 (andi : (⟨S4x20050, .i1⟩ : BufTy).Contents (Elt F) → (⟨S4x20050, .i1⟩ : BufTy).Contents (Elt F) → (⟨S4x20050, .i1⟩ : BufTy).Contents (Elt F)),
    nullary main_cst_45 (constant S_ .f32 0x3F800000#32),
    unary main_cst_45 main_v240 (broadcastInDim S4x20050 ![] bcast_S_S4x20050 : (⟨S_, .f32⟩ : BufTy).Contents (Elt F) → (⟨S4x20050, .f32⟩ : BufTy).Contents (Elt F)),
    binary main_v240 main_v100 main_v241 (addf : (⟨S4x20050, .f32⟩ : BufTy).Contents (Elt F) → (⟨S4x20050, .f32⟩ : BufTy).Contents (Elt F) → (⟨S4x20050, .f32⟩ : BufTy).Contents (Elt F)),
    nullary main_cst_46 (constant S_ .f32 0xBF800000#32),
    TRef.unary (TRef.of (T := ⟨S_, .f32⟩) main_cst_46) (TRef.of (T := ⟨S_, .f32⟩) main_call9_v0) id,
    TRef.unary (TRef.of (T := ⟨S_, .f32⟩) main_call9_v0) (TRef.of (T := ⟨S4x20050, .f32⟩) main_call9_v1) (broadcastInDim S4x20050 ![] bcast_S_S4x20050),
    TRef.ternary (TRef.of (T := ⟨S4x20050, .i1⟩) main_v239) (TRef.of (T := ⟨S4x20050, .f32⟩) main_v241) (TRef.of (T := ⟨S4x20050, .f32⟩) main_call9_v1) (TRef.of (T := ⟨S4x20050, .f32⟩) main_v242) select ]

/-- A run of operations of the reference, in order. -/
abbrev chunk42 : List (HloOp τ sig (Elt F)) :=
  [ unary main_v242 main_values_47 ((fun x => (Host.topK S4x192 1 (FloatOps.cmpfTotal .gt) x sliceFits_S4x20050_S4x192).1) : (⟨S4x20050, .f32⟩ : BufTy).Contents (Elt F) → (⟨S4x192, .f32⟩ : BufTy).Contents (Elt F)),
    unary main_v242 main_indices_48 ((fun x => (Host.topK S4x192 1 (FloatOps.cmpfTotal .gt) x sliceFits_S4x20050_S4x192).2) : (⟨S4x20050, .f32⟩ : BufTy).Contents (Elt F) → (⟨S4x192, .i32⟩ : BufTy).Contents (Elt F)),
    binary main_indices main_indices_48 main_v243 ((fun a b => concatenate S4x256 1 [⟨S4x64, a⟩, ⟨S4x192, b⟩] concatenates_S4x64_S4x192_S4x256_d1) : (⟨S4x64, .i32⟩ : BufTy).Contents (Elt F) → (⟨S4x192, .i32⟩ : BufTy).Contents (Elt F) → (⟨S4x256, .i32⟩ : BufTy).Contents (Elt F)),
    nullary main_c (constantI S_ 1 0#1),
    unary main_c main_v244 (broadcastInDim S4x192 ![] bcast_S_S4x192 : (⟨S_, .i1⟩ : BufTy).Contents (Elt F) → (⟨S4x192, .i1⟩ : BufTy).Contents (Elt F)),
    binary main_v107 main_v244 main_v245 ((fun a b => concatenate S4x256 1 [⟨S4x64, a⟩, ⟨S4x192, b⟩] concatenates_S4x64_S4x192_S4x256_d1) : (⟨S4x64, .i1⟩ : BufTy).Contents (Elt F) → (⟨S4x192, .i1⟩ : BufTy).Contents (Elt F) → (⟨S4x256, .i1⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S4x256, .i32⟩) main_call10_v0) (broadcastInDim S4x256 ![] bcast_S_S4x256),
    TRef.binary (TRef.of (T := ⟨S4x256, .i32⟩) main_v243) (TRef.of (T := ⟨S4x256, .i32⟩) main_call10_v0) (TRef.of (T := ⟨S4x256, .i1⟩) main_call10_v1) (cmpi .slt),
    TRef.nullary (TRef.of (T := ⟨S_, .i32⟩) main_call10_c_0) (constantI S_ 32 20050#32),
    TRef.unary (TRef.of (T := ⟨S_, .i32⟩) main_call10_c_0) (TRef.of (T := ⟨S4x256, .i32⟩) main_call10_v2) (broadcastInDim S4x256 ![] bcast_S_S4x256),
    TRef.binary (TRef.of (T := ⟨S4x256, .i32⟩) main_v243) (TRef.of (T := ⟨S4x256, .i32⟩) main_call10_v2) (TRef.of (T := ⟨S4x256, .i32⟩) main_call10_v3) addi,
    TRef.ternary (TRef.of (T := ⟨S4x256, .i1⟩) main_call10_v1) (TRef.of (T := ⟨S4x256, .i32⟩) main_call10_v3) (TRef.of (T := ⟨S4x256, .i32⟩) main_v243) (TRef.of (T := ⟨S4x256, .i32⟩) main_call10_v4) select,
    TRef.reshape (TRef.of (T := ⟨S4x256, .i32⟩) main_call10_v4) (TRef.of (T := ⟨S4x256x1, .i32⟩) main_call10_v5) (rfl : (.i32 : EltTy) = .i32) shapeCasts_S4x256_S4x256x1,
    TRef.nullary (TRef.of (T := ⟨S1, .i32⟩) main_call10_c_1) (constantI S1 32 20049#32),
    TRef.nullary (TRef.of (T := ⟨S_, .i32⟩) main_call10_c_2) (constantI S_ 32 0#32),
    TRef.unary (TRef.of (T := ⟨S_, .i32⟩) main_call10_c_2) (TRef.of (T := ⟨S4x256x1, .i32⟩) main_call10_v6) (broadcastInDim S4x256x1 ![] bcast_S_S4x256x1),
    TRef.binary (TRef.of (T := ⟨S4x256x1, .i32⟩) main_call10_v5) (TRef.of (T := ⟨S4x256x1, .i32⟩) main_call10_v6) (TRef.of (T := ⟨S4x256x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S4x256x1, .i32⟩) main_call10_v9) (broadcastInDim S4x256x1 ![0, 1, 2] bcast_S1x1x1_S4x256x1_0_1_2),
    TRef.binary (TRef.of (T := ⟨S4x256x1, .i32⟩) main_call10_v5) (TRef.of (T := ⟨S4x256x1, .i32⟩) main_call10_v9) (TRef.of (T := ⟨S4x256x1, .i1⟩) main_call10_v10) (cmpi .sle),
    TRef.binary (TRef.of (T := ⟨S4x256x1, .i1⟩) main_call10_v7) (TRef.of (T := ⟨S4x256x1, .i1⟩) main_call10_v10) (TRef.of (T := ⟨S4x256x1, .i1⟩) main_call10_v11) andi,
    TRef.nullary (TRef.of (T := ⟨S_, .i1⟩) main_call10_c_3) (constantI S_ 1 1#1),
    TRef.binary (TRef.of (T := ⟨S4x256x1, .i1⟩) main_call10_v11) (TRef.of (T := ⟨S_, .i1⟩) main_call10_c_3) (TRef.of (T := ⟨S4x256, .i1⟩) main_call10_v12) (fun x v => Host.reduce IntOp.andi x v reducesTo_S4x256x1_S4x256_d2 h_S_),
    TRef.binary (TRef.of (T := ⟨S4x20050, .f32⟩) main_v102) (TRef.of (T := ⟨S4x256x1, .i32⟩) main_call10_v5) (TRef.of (T := ⟨S4x256, .f32⟩) main_call10_v13) (fun x i => Host.gather gather_S4x20050_S4x256x1_S4x256_n_1_0_0_1_2_11 x i),
    TRef.nullary (TRef.of (T := ⟨S_, .f32⟩) main_call10_cst) (constant S_ .f32 0x7FC00000#32),
    TRef.unary (TRef.of (T := ⟨S_, .f32⟩) main_call10_cst) (TRef.of (T := ⟨S4x256, .f32⟩) main_call10_v14) (broadcastInDim S4x256 ![] bcast_S_S4x256),
    TRef.ternary (TRef.of (T := ⟨S4x256, .i1⟩) main_call10_v12) (TRef.of (T := ⟨S4x256, .f32⟩) main_call10_v13) (TRef.of (T := ⟨S4x256, .f32⟩) main_call10_v14) (TRef.of (T := ⟨S4x256, .f32⟩) main_v246) select ]

/-- One piece of the reference's operations. -/
def part4 : List (HloOp τ sig (Elt F)) :=
  chunk40 ++ (chunk41 ++ (chunk42))

/-- A run of operations of the reference, in order. -/
abbrev chunk50 : List (HloOp τ sig (Elt F)) :=
  [ nullary main_cst_49 (constant S_ .f32 0x00000000#32),
    TRef.unary (TRef.of (T := ⟨S_, .f32⟩) main_cst_49) (TRef.of (T := ⟨S_, .f32⟩) main_call11_v0) id,
    TRef.unary (TRef.of (T := ⟨S_, .f32⟩) main_call11_v0) (TRef.of (T := ⟨S4x256, .f32⟩) main_call11_v1) (broadcastInDim S4x256 ![] bcast_S_S4x256),
    TRef.ternary (TRef.of (T := ⟨S4x256, .i1⟩) main_v245) (TRef.of (T := ⟨S4x256, .f32⟩) main_v246) (TRef.of (T := ⟨S4x256, .f32⟩) main_call11_v1) (TRef.of (T := ⟨S4x256, .f32⟩) main_v247) select,
    unary main_v243 main_v248 (broadcastInDim S4x256x1 ![0, 1] bcast_S4x256_S4x256x1_0_1 : (⟨S4x256, .i32⟩ : BufTy).Contents (Elt F) → (⟨S4x256x1, .i32⟩ : BufTy).Contents (Elt F)),
    unary main_v248 main_v249 (broadcastInDim S4x256x5 ![0, 1, 2] bcast_S4x256x1_S4x256x5_0_1_2 : (⟨S4x256x1, .i32⟩ : BufTy).Contents (Elt F) → (⟨S4x256x5, .i32⟩ : BufTy).Contents (Elt F)),
    TRef.nullary (TRef.of (T := ⟨S_, .i32⟩) main_call12_c) (constantI S_ 32 0#32),
    TRef.unary (TRef.of (T := ⟨S_, .i32⟩) main_call12_c) (TRef.of (T := ⟨S4x256x5, .i32⟩) main_call12_v0) (broadcastInDim S4x256x5 ![] bcast_S_S4x256x5),
    TRef.binary (TRef.of (T := ⟨S4x256x5, .i32⟩) main_v249) (TRef.of (T := ⟨S4x256x5, .i32⟩) main_call12_v0) (TRef.of (T := ⟨S4x256x5, .i1⟩) main_call12_v1) (cmpi .slt),
    TRef.nullary (TRef.of (T := ⟨S_, .i32⟩) main_call12_c_0) (constantI S_ 32 20050#32),
    TRef.unary (TRef.of (T := ⟨S_, .i32⟩) main_call12_c_0) (TRef.of (T := ⟨S4x256x5, .i32⟩) main_call12_v2) (broadcastInDim S4x256x5 ![] bcast_S_S4x256x5),
    TRef.binary (TRef.of (T := ⟨S4x256x5, .i32⟩) main_v249) (TRef.of (T := ⟨S4x256x5, .i32⟩) main_call12_v2) (TRef.of (T := ⟨S4x256x5, .i32⟩) main_call12_v3) addi,
    TRef.ternary (TRef.of (T := ⟨S4x256x5, .i1⟩) main_call12_v1) (TRef.of (T := ⟨S4x256x5, .i32⟩) main_call12_v3) (TRef.of (T := ⟨S4x256x5, .i32⟩) main_v249) (TRef.of (T := ⟨S4x256x5, .i32⟩) main_call12_v4) select,
    TRef.reshape (TRef.of (T := ⟨S4x256x5, .i32⟩) main_call12_v4) (TRef.of (T := ⟨S4x256x5x1, .i32⟩) main_call12_v5) (rfl : (.i32 : EltTy) = .i32) shapeCasts_S4x256x5_S4x256x5x1,
    TRef.nullary (TRef.of (T := ⟨S1, .i32⟩) main_call12_c_1) (constantI S1 32 20049#32),
    TRef.nullary (TRef.of (T := ⟨S_, .i32⟩) main_call12_c_2) (constantI S_ 32 0#32),
    TRef.unary (TRef.of (T := ⟨S_, .i32⟩) main_call12_c_2) (TRef.of (T := ⟨S4x256x5x1, .i32⟩) main_call12_v6) (broadcastInDim S4x256x5x1 ![] bcast_S_S4x256x5x1),
    TRef.binary (TRef.of (T := ⟨S4x256x5x1, .i32⟩) main_call12_v5) (TRef.of (T := ⟨S4x256x5x1, .i32⟩) main_call12_v6) (TRef.of (T := ⟨S4x256x5x1, .i1⟩) main_call12_v7) (cmpi .sge),
    TRef.unary (TRef.of (T := ⟨S1, .i32⟩) main_call12_c_1) (TRef.of (T := ⟨S1x1x1x1, .i32⟩) main_call12_v8) (broadcastInDim S1x1x1x1 ![3] bcast_S1_S1x1x1x1_3),
    TRef.unary (TRef.of (T := ⟨S1x1x1x1, .i32⟩) main_call12_v8) (TRef.of (T := ⟨S4x256x5x1, .i32⟩) main_call12_v9) (broadcastInDim S4x256x5x1 ![0, 1, 2, 3] bcast_S1x1x1x1_S4x256x5x1_0_1_2_3),
    TRef.binary (TRef.of (T := ⟨S4x256x5x1, .i32⟩) main_call12_v5) (TRef.of (T := ⟨S4x256x5x1, .i32⟩) main_call12_v9) (TRef.of (T := ⟨S4x256x5x1, .i1⟩) main_call12_v10) (cmpi .sle),
    TRef.binary (TRef.of (T := ⟨S4x256x5x1, .i1⟩) main_call12_v7) (TRef.of (T := ⟨S4x256x5x1, .i1⟩) main_call12_v10) (TRef.of (T := ⟨S4x256x5x1, .i1⟩) main_call12_v11) andi,
    TRef.nullary (TRef.of (T := ⟨S_, .i1⟩) main_call12_c_3) (constantI S_ 1 1#1),
    TRef.binary (TRef.of (T := ⟨S4x256x5x1, .i1⟩) main_call12_v11) (TRef.of (T := ⟨S_, .i1⟩) main_call12_c_3) (TRef.of (T := ⟨S4x256x5, .i1⟩) main_call12_v12) (fun x v => Host.reduce IntOp.andi x v reducesTo_S4x256x5x1_S4x256x5_d3 h_S_),
    TRef.binary (TRef.of (T := ⟨S4x20050x5, .f32⟩) main_v29) (TRef.of (T := ⟨S4x256x5x1, .i32⟩) main_call12_v5) (TRef.of (T := ⟨S4x256x5, .f32⟩) main_call12_v13) (fun x i => Host.gather gather_S4x20050x5_S4x256x5x1_S4x256x5_n_1_02_02_1_3_111 x i),
    TRef.nullary (TRef.of (T := ⟨S_, .f32⟩) main_call12_cst) (constant S_ .f32 0x7FC00000#32),
    TRef.unary (TRef.of (T := ⟨S_, .f32⟩) main_call12_cst) (TRef.of (T := ⟨S4x256x5, .f32⟩) main_call12_v14) (broadcastInDim S4x256x5 ![] bcast_S_S4x256x5),
    TRef.ternary (TRef.of (T := ⟨S4x256x5, .i1⟩) main_call12_v12) (TRef.of (T := ⟨S4x256x5, .f32⟩) main_call12_v13) (TRef.of (T := ⟨S4x256x5, .f32⟩) main_call12_v14) (TRef.of (T := ⟨S4x256x5, .f32⟩) main_v250) select,
    nullary main_v251 (sitofp .f32 (iotaInDim S4 32 0)),
    unary main_v251 main_v252 (broadcastInDim S4x1 ![0] bcast_S4_S4x1_0 : (⟨S4, .f32⟩ : BufTy).Contents (Elt F) → (⟨S4x1, .f32⟩ : BufTy).Contents (Elt F)) ]

/-- A run of operations of the reference, in order. -/
abbrev chunk51 : List (HloOp τ sig (Elt F)) :=
  [ unary main_v252 main_v253 (broadcastInDim S4x256 ![0, 1] bcast_S4x1_S4x256_0_1 : (⟨S4x1, .f32⟩ : BufTy).Contents (Elt F) → (⟨S4x256, .f32⟩ : BufTy).Contents (Elt F)),
    nullary main_c_50 (constantI S_ 32 0#32),
    unary main_c_50 main_v254 (broadcastInDim S1 ![] bcast_S_S1 : (⟨S_, .i32⟩ : BufTy).Contents (Elt F) → (⟨S1, .i32⟩ : BufTy).Contents (Elt F)),
    ternary main_v250 main_v254 main_v253 main_v255 ((fun x i u => Host.scatter scatter_S4x256x5_S1_S4x256_01_2_2_0 (fun _ b => b) x i u) : (⟨S4x256x5, .f32⟩ : BufTy).Contents (Elt F) → (⟨S1, .i32⟩ : BufTy).Contents (Elt F) → (⟨S4x256, .f32⟩ : BufTy).Contents (Elt F) → (⟨S4x256x5, .f32⟩ : BufTy).Contents (Elt F)),
    TRef.nullary (TRef.of (T := ⟨S_, .i32⟩) main_call13_c) (constantI S_ 32 0#32),
    TRef.unary (TRef.of (T := ⟨S_, .i32⟩) main_call13_c) (TRef.of (T := ⟨S4x256, .i32⟩) main_call13_v0) (broadcastInDim S4x256 ![] bcast_S_S4x256),
    TRef.binary (TRef.of (T := ⟨S4x256, .i32⟩) main_v243) (TRef.of (T := ⟨S4x256, .i32⟩) main_call13_v0) (TRef.of (T := ⟨S4x256, .i1⟩) main_call13_v1) (cmpi .slt),
    TRef.nullary (TRef.of (T := ⟨S_, .i32⟩) main_call13_c_0) (constantI S_ 32 20050#32),
    TRef.unary (TRef.of (T := ⟨S_, .i32⟩) main_call13_c_0) (TRef.of (T := ⟨S4x256, .i32⟩) main_call13_v2) (broadcastInDim S4x256 ![] bcast_S_S4x256),
    TRef.binary (TRef.of (T := ⟨S4x256, .i32⟩) main_v243) (TRef.of (T := ⟨S4x256, .i32⟩) main_call13_v2) (TRef.of (T := ⟨S4x256, .i32⟩) main_call13_v3) addi,
    TRef.ternary (TRef.of (T := ⟨S4x256, .i1⟩) main_call13_v1) (TRef.of (T := ⟨S4x256, .i32⟩) main_call13_v3) (TRef.of (T := ⟨S4x256, .i32⟩) main_v243) (TRef.of (T := ⟨S4x256, .i32⟩) main_call13_v4) select,
    TRef.reshape (TRef.of (T := ⟨S4x256, .i32⟩) main_call13_v4) (TRef.of (T := ⟨S4x256x1, .i32⟩) main_call13_v5) (rfl : (.i32 : EltTy) = .i32) shapeCasts_S4x256_S4x256x1,
    TRef.nullary (TRef.of (T := ⟨S1, .i32⟩) main_call13_c_1) (constantI S1 32 20049#32),
    TRef.nullary (TRef.of (T := ⟨S_, .i32⟩) main_call13_c_2) (constantI S_ 32 0#32),
    TRef.unary (TRef.of (T := ⟨S_, .i32⟩) main_call13_c_2) (TRef.of (T := ⟨S4x256x1, .i32⟩) main_call13_v6) (broadcastInDim S4x256x1 ![] bcast_S_S4x256x1),
    TRef.binary (TRef.of (T := ⟨S4x256x1, .i32⟩) main_call13_v5) (TRef.of (T := ⟨S4x256x1, .i32⟩) main_call13_v6) (TRef.of (T := ⟨S4x256x1, .i1⟩) main_call13_v7) (cmpi .sge),
    TRef.unary (TRef.of (T := ⟨S1, .i32⟩) main_call13_c_1) (TRef.of (T := ⟨S1x1x1, .i32⟩) main_call13_v8) (broadcastInDim S1x1x1 ![2] bcast_S1_S1x1x1_2),
    TRef.unary (TRef.of (T := ⟨S1x1x1, .i32⟩) main_call13_v8) (TRef.of (T := ⟨S4x256x1, .i32⟩) main_call13_v9) (broadcastInDim S4x256x1 ![0, 1, 2] bcast_S1x1x1_S4x256x1_0_1_2),
    TRef.binary (TRef.of (T := ⟨S4x256x1, .i32⟩) main_call13_v5) (TRef.of (T := ⟨S4x256x1, .i32⟩) main_call13_v9) (TRef.of (T := ⟨S4x256x1, .i1⟩) main_call13_v10) (cmpi .sle),
    TRef.binary (TRef.of (T := ⟨S4x256x1, .i1⟩) main_call13_v7) (TRef.of (T := ⟨S4x256x1, .i1⟩) main_call13_v10) (TRef.of (T := ⟨S4x256x1, .i1⟩) main_call13_v11) andi,
    TRef.nullary (TRef.of (T := ⟨S_, .i1⟩) main_call13_c_3) (constantI S_ 1 1#1),
    TRef.binary (TRef.of (T := ⟨S4x256x1, .i1⟩) main_call13_v11) (TRef.of (T := ⟨S_, .i1⟩) main_call13_c_3) (TRef.of (T := ⟨S4x256, .i1⟩) main_call13_v12) (fun x v => Host.reduce IntOp.andi x v reducesTo_S4x256x1_S4x256_d2 h_S_),
    TRef.binary (TRef.of (T := ⟨S4x20050, .i32⟩) main_v101) (TRef.of (T := ⟨S4x256x1, .i32⟩) main_call13_v5) (TRef.of (T := ⟨S4x256, .i32⟩) main_call13_v13) (fun x i => Host.gather gather_S4x20050_S4x256x1_S4x256_n_1_0_0_1_2_11 x i),
    TRef.nullary (TRef.of (T := ⟨S_, .i32⟩) main_call13_c_4) (constantI S_ 32 2147483648#32),
    TRef.unary (TRef.of (T := ⟨S_, .i32⟩) main_call13_c_4) (TRef.of (T := ⟨S4x256, .i32⟩) main_call13_v14) (broadcastInDim S4x256 ![] bcast_S_S4x256),
    TRef.ternary (TRef.of (T := ⟨S4x256, .i1⟩) main_call13_v12) (TRef.of (T := ⟨S4x256, .i32⟩) main_call13_v13) (TRef.of (T := ⟨S4x256, .i32⟩) main_call13_v14) (TRef.of (T := ⟨S4x256, .i32⟩) main_v256) select,
    unary main_v256 main_v257 (broadcastInDim S4x256x1 ![0, 1] bcast_S4x256_S4x256x1_0_1 : (⟨S4x256, .i32⟩ : BufTy).Contents (Elt F) → (⟨S4x256x1, .i32⟩ : BufTy).Contents (Elt F)),
    unary main_v257 main_v258 (broadcastInDim S4x256x5 ![0, 1, 2] bcast_S4x256x1_S4x256x5_0_1_2 : (⟨S4x256x1, .i32⟩ : BufTy).Contents (Elt F) → (⟨S4x256x5, .i32⟩ : BufTy).Contents (Elt F)),
    TRef.nullary (TRef.of (T := ⟨S_, .i32⟩) main_call14_c) (constantI S_ 32 0#32),
    TRef.unary (TRef.of (T := ⟨S_, .i32⟩) main_call14_c) (TRef.of (T := ⟨S4x256x5, .i32⟩) main_call14_v0) (broadcastInDim S4x256x5 ![] bcast_S_S4x256x5) ]

/-- A run of operations of the reference, in order. -/
abbrev chunk52 : List (HloOp τ sig (Elt F)) :=
  [ TRef.binary (TRef.of (T := ⟨S4x256x5, .i32⟩) main_v258) (TRef.of (T := ⟨S4x256x5, .i32⟩) main_call14_v0) (TRef.of (T := ⟨S4x256x5, .i1⟩) main_call14_v1) (cmpi .slt),
    TRef.nullary (TRef.of (T := ⟨S_, .i32⟩) main_call14_c_0) (constantI S_ 32 50#32),
    TRef.unary (TRef.of (T := ⟨S_, .i32⟩) main_call14_c_0) (TRef.of (T := ⟨S4x256x5, .i32⟩) main_call14_v2) (broadcastInDim S4x256x5 ![] bcast_S_S4x256x5),
    TRef.binary (TRef.of (T := ⟨S4x256x5, .i32⟩) main_v258) (TRef.of (T := ⟨S4x256x5, .i32⟩) main_call14_v2) (TRef.of (T := ⟨S4x256x5, .i32⟩) main_call14_v3) addi,
    TRef.ternary (TRef.of (T := ⟨S4x256x5, .i1⟩) main_call14_v1) (TRef.of (T := ⟨S4x256x5, .i32⟩) main_call14_v3) (TRef.of (T := ⟨S4x256x5, .i32⟩) main_v258) (TRef.of (T := ⟨S4x256x5, .i32⟩) main_call14_v4) select,
    TRef.reshape (TRef.of (T := ⟨S4x256x5, .i32⟩) main_call14_v4) (TRef.of (T := ⟨S4x256x5x1, .i32⟩) main_call14_v5) (rfl : (.i32 : EltTy) = .i32) shapeCasts_S4x256x5_S4x256x5x1,
    TRef.nullary (TRef.of (T := ⟨S1, .i32⟩) main_call14_c_1) (constantI S1 32 49#32),
    TRef.nullary (TRef.of (T := ⟨S_, .i32⟩) main_call14_c_2) (constantI S_ 32 0#32),
    TRef.unary (TRef.of (T := ⟨S_, .i32⟩) main_call14_c_2) (TRef.of (T := ⟨S4x256x5x1, .i32⟩) main_call14_v6) (broadcastInDim S4x256x5x1 ![] bcast_S_S4x256x5x1),
    TRef.binary (TRef.of (T := ⟨S4x256x5x1, .i32⟩) main_call14_v5) (TRef.of (T := ⟨S4x256x5x1, .i32⟩) main_call14_v6) (TRef.of (T := ⟨S4x256x5x1, .i1⟩) main_call14_v7) (cmpi .sge),
    TRef.unary (TRef.of (T := ⟨S1, .i32⟩) main_call14_c_1) (TRef.of (T := ⟨S1x1x1x1, .i32⟩) main_call14_v8) (broadcastInDim S1x1x1x1 ![3] bcast_S1_S1x1x1x1_3),
    TRef.unary (TRef.of (T := ⟨S1x1x1x1, .i32⟩) main_call14_v8) (TRef.of (T := ⟨S4x256x5x1, .i32⟩) main_call14_v9) (broadcastInDim S4x256x5x1 ![0, 1, 2, 3] bcast_S1x1x1x1_S4x256x5x1_0_1_2_3),
    TRef.binary (TRef.of (T := ⟨S4x256x5x1, .i32⟩) main_call14_v5) (TRef.of (T := ⟨S4x256x5x1, .i32⟩) main_call14_v9) (TRef.of (T := ⟨S4x256x5x1, .i1⟩) main_call14_v10) (cmpi .sle),
    TRef.binary (TRef.of (T := ⟨S4x256x5x1, .i1⟩) main_call14_v7) (TRef.of (T := ⟨S4x256x5x1, .i1⟩) main_call14_v10) (TRef.of (T := ⟨S4x256x5x1, .i1⟩) main_call14_v11) andi,
    TRef.nullary (TRef.of (T := ⟨S_, .i1⟩) main_call14_c_3) (constantI S_ 1 1#1),
    TRef.binary (TRef.of (T := ⟨S4x256x5x1, .i1⟩) main_call14_v11) (TRef.of (T := ⟨S_, .i1⟩) main_call14_c_3) (TRef.of (T := ⟨S4x256x5, .i1⟩) main_call14_v12) (fun x v => Host.reduce IntOp.andi x v reducesTo_S4x256x5x1_S4x256x5_d3 h_S_),
    TRef.binary (TRef.of (T := ⟨S4x50x5, .f32⟩) main_v10) (TRef.of (T := ⟨S4x256x5x1, .i32⟩) main_call14_v5) (TRef.of (T := ⟨S4x256x5, .f32⟩) main_call14_v13) (fun x i => Host.gather gather_S4x50x5_S4x256x5x1_S4x256x5_n_1_02_02_1_3_111 x i),
    TRef.nullary (TRef.of (T := ⟨S_, .f32⟩) main_call14_cst) (constant S_ .f32 0x7FC00000#32),
    TRef.unary (TRef.of (T := ⟨S_, .f32⟩) main_call14_cst) (TRef.of (T := ⟨S4x256x5, .f32⟩) main_call14_v14) (broadcastInDim S4x256x5 ![] bcast_S_S4x256x5),
    TRef.ternary (TRef.of (T := ⟨S4x256x5, .i1⟩) main_call14_v12) (TRef.of (T := ⟨S4x256x5, .f32⟩) main_call14_v13) (TRef.of (T := ⟨S4x256x5, .f32⟩) main_call14_v14) (TRef.of (T := ⟨S4x256x5, .f32⟩) main_v259) select,
    unary main_v255 main_v260 ((extractStridedSlice S4x256x4 ![0, 0, 1] · slices_S4x256x5_S4x256x4_0_0_1) : (⟨S4x256x5, .f32⟩ : BufTy).Contents (Elt F) → (⟨S4x256x4, .f32⟩ : BufTy).Contents (Elt F)),
    unary main_v259 main_v261 ((extractStridedSlice S4x256x4 ![0, 0, 0] · slices_S4x256x5_S4x256x4_0_0_0) : (⟨S4x256x5, .f32⟩ : BufTy).Contents (Elt F) → (⟨S4x256x4, .f32⟩ : BufTy).Contents (Elt F)),
    unary main_v260 main_v262 ((extractStridedSlice S4x256x1 ![0, 0, 2] · slices_S4x256x4_S4x256x1_0_0_2) : (⟨S4x256x4, .f32⟩ : BufTy).Contents (Elt F) → (⟨S4x256x1, .f32⟩ : BufTy).Contents (Elt F)),
    reshape main_v262 main_v263 (rfl : (.f32 : EltTy) = .f32) shapeCasts_S4x256x1_S4x256,
    unary main_v260 main_v264 ((extractStridedSlice S4x256x1 ![0, 0, 0] · slices_S4x256x4_S4x256x1_0_0_0) : (⟨S4x256x4, .f32⟩ : BufTy).Contents (Elt F) → (⟨S4x256x1, .f32⟩ : BufTy).Contents (Elt F)),
    reshape main_v264 main_v265 (rfl : (.f32 : EltTy) = .f32) shapeCasts_S4x256x1_S4x256,
    binary main_v263 main_v265 main_v266 (subf : (⟨S4x256, .f32⟩ : BufTy).Contents (Elt F) → (⟨S4x256, .f32⟩ : BufTy).Contents (Elt F) → (⟨S4x256, .f32⟩ : BufTy).Contents (Elt F)),
    nullary main_cst_51 (constant S_ .f32 0x3F800000#32),
    unary main_cst_51 main_v267 (broadcastInDim S4x256 ![] bcast_S_S4x256 : (⟨S_, .f32⟩ : BufTy).Contents (Elt F) → (⟨S4x256, .f32⟩ : BufTy).Contents (Elt F)),
    binary main_v266 main_v267 main_v268 (addf : (⟨S4x256, .f32⟩ : BufTy).Contents (Elt F) → (⟨S4x256, .f32⟩ : BufTy).Contents (Elt F) → (⟨S4x256, .f32⟩ : BufTy).Contents (Elt F)) ]

/-- A run of operations of the reference, in order. -/
abbrev chunk53 : List (HloOp τ sig (Elt F)) :=
  [ nullary main_cst_52 (constant S_ .f32 0x358637BD#32),
    unary main_cst_52 main_v269 (broadcastInDim S4x256 ![] bcast_S_S4x256 : (⟨S_, .f32⟩ : BufTy).Contents (Elt F) → (⟨S4x256, .f32⟩ : BufTy).Contents (Elt F)),
    binary main_v268 main_v269 main_v270 (maximumf : (⟨S4x256, .f32⟩ : BufTy).Contents (Elt F) → (⟨S4x256, .f32⟩ : BufTy).Contents (Elt F) → (⟨S4x256, .f32⟩ : BufTy).Contents (Elt F)),
    unary main_v260 main_v271 ((extractStridedSlice S4x256x1 ![0, 0, 3] · slices_S4x256x4_S4x256x1_0_0_3) : (⟨S4x256x4, .f32⟩ : BufTy).Contents (Elt F) → (⟨S4x256x1, .f32⟩ : BufTy).Contents (Elt F)),
    reshape main_v271 main_v272 (rfl : (.f32 : EltTy) = .f32) shapeCasts_S4x256x1_S4x256,
    unary main_v260 main_v273 ((extractStridedSlice S4x256x1 ![0, 0, 1] · slices_S4x256x4_S4x256x1_0_0_1) : (⟨S4x256x4, .f32⟩ : BufTy).Contents (Elt F) → (⟨S4x256x1, .f32⟩ : BufTy).Contents (Elt F)),
    reshape main_v273 main_v274 (rfl : (.f32 : EltTy) = .f32) shapeCasts_S4x256x1_S4x256,
    binary main_v272 main_v274 main_v275 (subf : (⟨S4x256, .f32⟩ : BufTy).Contents (Elt F) → (⟨S4x256, .f32⟩ : BufTy).Contents (Elt F) → (⟨S4x256, .f32⟩ : BufTy).Contents (Elt F)),
    nullary main_cst_53 (constant S_ .f32 0x3F800000#32),
    unary main_cst_53 main_v276 (broadcastInDim S4x256 ![] bcast_S_S4x256 : (⟨S_, .f32⟩ : BufTy).Contents (Elt F) → (⟨S4x256, .f32⟩ : BufTy).Contents (Elt F)),
    binary main_v275 main_v276 main_v277 (addf : (⟨S4x256, .f32⟩ : BufTy).Contents (Elt F) → (⟨S4x256, .f32⟩ : BufTy).Contents (Elt F) → (⟨S4x256, .f32⟩ : BufTy).Contents (Elt F)),
    nullary main_cst_54 (constant S_ .f32 0x358637BD#32),
    unary main_cst_54 main_v278 (broadcastInDim S4x256 ![] bcast_S_S4x256 : (⟨S_, .f32⟩ : BufTy).Contents (Elt F) → (⟨S4x256, .f32⟩ : BufTy).Contents (Elt F)),
    binary main_v277 main_v278 main_v279 (maximumf : (⟨S4x256, .f32⟩ : BufTy).Contents (Elt F) → (⟨S4x256, .f32⟩ : BufTy).Contents (Elt F) → (⟨S4x256, .f32⟩ : BufTy).Contents (Elt F)),
    unary main_v260 main_v280 ((extractStridedSlice S4x256x1 ![0, 0, 0] · slices_S4x256x4_S4x256x1_0_0_0) : (⟨S4x256x4, .f32⟩ : BufTy).Contents (Elt F) → (⟨S4x256x1, .f32⟩ : BufTy).Contents (Elt F)),
    reshape main_v280 main_v281 (rfl : (.f32 : EltTy) = .f32) shapeCasts_S4x256x1_S4x256,
    nullary main_cst_55 (constant S_ .f32 0x3F000000#32),
    unary main_cst_55 main_v282 (broadcastInDim S4x256 ![] bcast_S_S4x256 : (⟨S_, .f32⟩ : BufTy).Contents (Elt F) → (⟨S4x256, .f32⟩ : BufTy).Contents (Elt F)),
    binary main_v282 main_v270 main_v283 (mulf : (⟨S4x256, .f32⟩ : BufTy).Contents (Elt F) → (⟨S4x256, .f32⟩ : BufTy).Contents (Elt F) → (⟨S4x256, .f32⟩ : BufTy).Contents (Elt F)),
    binary main_v281 main_v283 main_v284 (addf : (⟨S4x256, .f32⟩ : BufTy).Contents (Elt F) → (⟨S4x256, .f32⟩ : BufTy).Contents (Elt F) → (⟨S4x256, .f32⟩ : BufTy).Contents (Elt F)),
    unary main_v260 main_v285 ((extractStridedSlice S4x256x1 ![0, 0, 1] · slices_S4x256x4_S4x256x1_0_0_1) : (⟨S4x256x4, .f32⟩ : BufTy).Contents (Elt F) → (⟨S4x256x1, .f32⟩ : BufTy).Contents (Elt F)),
    reshape main_v285 main_v286 (rfl : (.f32 : EltTy) = .f32) shapeCasts_S4x256x1_S4x256,
    nullary main_cst_56 (constant S_ .f32 0x3F000000#32),
    unary main_cst_56 main_v287 (broadcastInDim S4x256 ![] bcast_S_S4x256 : (⟨S_, .f32⟩ : BufTy).Contents (Elt F) → (⟨S4x256, .f32⟩ : BufTy).Contents (Elt F)),
    binary main_v287 main_v279 main_v288 (mulf : (⟨S4x256, .f32⟩ : BufTy).Contents (Elt F) → (⟨S4x256, .f32⟩ : BufTy).Contents (Elt F) → (⟨S4x256, .f32⟩ : BufTy).Contents (Elt F)),
    binary main_v286 main_v288 main_v289 (addf : (⟨S4x256, .f32⟩ : BufTy).Contents (Elt F) → (⟨S4x256, .f32⟩ : BufTy).Contents (Elt F) → (⟨S4x256, .f32⟩ : BufTy).Contents (Elt F)),
    unary main_v261 main_v290 ((extractStridedSlice S4x256x1 ![0, 0, 2] · slices_S4x256x4_S4x256x1_0_0_2) : (⟨S4x256x4, .f32⟩ : BufTy).Contents (Elt F) → (⟨S4x256x1, .f32⟩ : BufTy).Contents (Elt F)),
    reshape main_v290 main_v291 (rfl : (.f32 : EltTy) = .f32) shapeCasts_S4x256x1_S4x256,
    unary main_v261 main_v292 ((extractStridedSlice S4x256x1 ![0, 0, 0] · slices_S4x256x4_S4x256x1_0_0_0) : (⟨S4x256x4, .f32⟩ : BufTy).Contents (Elt F) → (⟨S4x256x1, .f32⟩ : BufTy).Contents (Elt F)),
    reshape main_v292 main_v293 (rfl : (.f32 : EltTy) = .f32) shapeCasts_S4x256x1_S4x256 ]

/-- A run of operations of the reference, in order. -/
abbrev chunk54 : List (HloOp τ sig (Elt F)) :=
  [ binary main_v291 main_v293 main_v294 (subf : (⟨S4x256, .f32⟩ : BufTy).Contents (Elt F) → (⟨S4x256, .f32⟩ : BufTy).Contents (Elt F) → (⟨S4x256, .f32⟩ : BufTy).Contents (Elt F)),
    nullary main_cst_57 (constant S_ .f32 0x3F800000#32),
    unary main_cst_57 main_v295 (broadcastInDim S4x256 ![] bcast_S_S4x256 : (⟨S_, .f32⟩ : BufTy).Contents (Elt F) → (⟨S4x256, .f32⟩ : BufTy).Contents (Elt F)),
    binary main_v294 main_v295 main_v296 (addf : (⟨S4x256, .f32⟩ : BufTy).Contents (Elt F) → (⟨S4x256, .f32⟩ : BufTy).Contents (Elt F) → (⟨S4x256, .f32⟩ : BufTy).Contents (Elt F)),
    nullary main_cst_58 (constant S_ .f32 0x358637BD#32) ]

/-- One piece of the reference's operations. -/
def part5 : List (HloOp τ sig (Elt F)) :=
  chunk50 ++ (chunk51 ++ (chunk52 ++ (chunk53 ++ (chunk54))))

/-- A run of operations of the reference, in order. -/
abbrev chunk60 : List (HloOp τ sig (Elt F)) :=
  [ unary main_cst_58 main_v297 (broadcastInDim S4x256 ![] bcast_S_S4x256 : (⟨S_, .f32⟩ : BufTy).Contents (Elt F) → (⟨S4x256, .f32⟩ : BufTy).Contents (Elt F)),
    binary main_v296 main_v297 main_v298 (maximumf : (⟨S4x256, .f32⟩ : BufTy).Contents (Elt F) → (⟨S4x256, .f32⟩ : BufTy).Contents (Elt F) → (⟨S4x256, .f32⟩ : BufTy).Contents (Elt F)),
    unary main_v261 main_v299 ((extractStridedSlice S4x256x1 ![0, 0, 3] · slices_S4x256x4_S4x256x1_0_0_3) : (⟨S4x256x4, .f32⟩ : BufTy).Contents (Elt F) → (⟨S4x256x1, .f32⟩ : BufTy).Contents (Elt F)),
    reshape main_v299 main_v300 (rfl : (.f32 : EltTy) = .f32) shapeCasts_S4x256x1_S4x256,
    unary main_v261 main_v301 ((extractStridedSlice S4x256x1 ![0, 0, 1] · slices_S4x256x4_S4x256x1_0_0_1) : (⟨S4x256x4, .f32⟩ : BufTy).Contents (Elt F) → (⟨S4x256x1, .f32⟩ : BufTy).Contents (Elt F)),
    reshape main_v301 main_v302 (rfl : (.f32 : EltTy) = .f32) shapeCasts_S4x256x1_S4x256,
    binary main_v300 main_v302 main_v303 (subf : (⟨S4x256, .f32⟩ : BufTy).Contents (Elt F) → (⟨S4x256, .f32⟩ : BufTy).Contents (Elt F) → (⟨S4x256, .f32⟩ : BufTy).Contents (Elt F)),
    nullary main_cst_59 (constant S_ .f32 0x3F800000#32),
    unary main_cst_59 main_v304 (broadcastInDim S4x256 ![] bcast_S_S4x256 : (⟨S_, .f32⟩ : BufTy).Contents (Elt F) → (⟨S4x256, .f32⟩ : BufTy).Contents (Elt F)),
    binary main_v303 main_v304 main_v305 (addf : (⟨S4x256, .f32⟩ : BufTy).Contents (Elt F) → (⟨S4x256, .f32⟩ : BufTy).Contents (Elt F) → (⟨S4x256, .f32⟩ : BufTy).Contents (Elt F)),
    nullary main_cst_60 (constant S_ .f32 0x358637BD#32),
    unary main_cst_60 main_v306 (broadcastInDim S4x256 ![] bcast_S_S4x256 : (⟨S_, .f32⟩ : BufTy).Contents (Elt F) → (⟨S4x256, .f32⟩ : BufTy).Contents (Elt F)),
    binary main_v305 main_v306 main_v307 (maximumf : (⟨S4x256, .f32⟩ : BufTy).Contents (Elt F) → (⟨S4x256, .f32⟩ : BufTy).Contents (Elt F) → (⟨S4x256, .f32⟩ : BufTy).Contents (Elt F)),
    unary main_v261 main_v308 ((extractStridedSlice S4x256x1 ![0, 0, 0] · slices_S4x256x4_S4x256x1_0_0_0) : (⟨S4x256x4, .f32⟩ : BufTy).Contents (Elt F) → (⟨S4x256x1, .f32⟩ : BufTy).Contents (Elt F)),
    reshape main_v308 main_v309 (rfl : (.f32 : EltTy) = .f32) shapeCasts_S4x256x1_S4x256,
    nullary main_cst_61 (constant S_ .f32 0x3F000000#32),
    unary main_cst_61 main_v310 (broadcastInDim S4x256 ![] bcast_S_S4x256 : (⟨S_, .f32⟩ : BufTy).Contents (Elt F) → (⟨S4x256, .f32⟩ : BufTy).Contents (Elt F)),
    binary main_v310 main_v298 main_v311 (mulf : (⟨S4x256, .f32⟩ : BufTy).Contents (Elt F) → (⟨S4x256, .f32⟩ : BufTy).Contents (Elt F) → (⟨S4x256, .f32⟩ : BufTy).Contents (Elt F)),
    binary main_v309 main_v311 main_v312 (addf : (⟨S4x256, .f32⟩ : BufTy).Contents (Elt F) → (⟨S4x256, .f32⟩ : BufTy).Contents (Elt F) → (⟨S4x256, .f32⟩ : BufTy).Contents (Elt F)),
    unary main_v261 main_v313 ((extractStridedSlice S4x256x1 ![0, 0, 1] · slices_S4x256x4_S4x256x1_0_0_1) : (⟨S4x256x4, .f32⟩ : BufTy).Contents (Elt F) → (⟨S4x256x1, .f32⟩ : BufTy).Contents (Elt F)),
    reshape main_v313 main_v314 (rfl : (.f32 : EltTy) = .f32) shapeCasts_S4x256x1_S4x256,
    nullary main_cst_62 (constant S_ .f32 0x3F000000#32),
    unary main_cst_62 main_v315 (broadcastInDim S4x256 ![] bcast_S_S4x256 : (⟨S_, .f32⟩ : BufTy).Contents (Elt F) → (⟨S4x256, .f32⟩ : BufTy).Contents (Elt F)),
    binary main_v315 main_v307 main_v316 (mulf : (⟨S4x256, .f32⟩ : BufTy).Contents (Elt F) → (⟨S4x256, .f32⟩ : BufTy).Contents (Elt F) → (⟨S4x256, .f32⟩ : BufTy).Contents (Elt F)),
    binary main_v314 main_v316 main_v317 (addf : (⟨S4x256, .f32⟩ : BufTy).Contents (Elt F) → (⟨S4x256, .f32⟩ : BufTy).Contents (Elt F) → (⟨S4x256, .f32⟩ : BufTy).Contents (Elt F)),
    binary main_v312 main_v284 main_v318 (subf : (⟨S4x256, .f32⟩ : BufTy).Contents (Elt F) → (⟨S4x256, .f32⟩ : BufTy).Contents (Elt F) → (⟨S4x256, .f32⟩ : BufTy).Contents (Elt F)),
    binary main_v318 main_v270 main_v319 (Host.divf : (⟨S4x256, .f32⟩ : BufTy).Contents (Elt F) → (⟨S4x256, .f32⟩ : BufTy).Contents (Elt F) → (⟨S4x256, .f32⟩ : BufTy).Contents (Elt F)),
    binary main_v317 main_v289 main_v320 (subf : (⟨S4x256, .f32⟩ : BufTy).Contents (Elt F) → (⟨S4x256, .f32⟩ : BufTy).Contents (Elt F) → (⟨S4x256, .f32⟩ : BufTy).Contents (Elt F)),
    binary main_v320 main_v279 main_v321 (Host.divf : (⟨S4x256, .f32⟩ : BufTy).Contents (Elt F) → (⟨S4x256, .f32⟩ : BufTy).Contents (Elt F) → (⟨S4x256, .f32⟩ : BufTy).Contents (Elt F)),
    binary main_v298 main_v270 main_v322 (Host.divf : (⟨S4x256, .f32⟩ : BufTy).Contents (Elt F) → (⟨S4x256, .f32⟩ : BufTy).Contents (Elt F) → (⟨S4x256, .f32⟩ : BufTy).Contents (Elt F)) ]

/-- A run of operations of the reference, in order. -/
abbrev chunk61 : List (HloOp τ sig (Elt F)) :=
  [ unary main_v322 main_v323 (Host.log : (⟨S4x256, .f32⟩ : BufTy).Contents (Elt F) → (⟨S4x256, .f32⟩ : BufTy).Contents (Elt F)),
    binary main_v307 main_v279 main_v324 (Host.divf : (⟨S4x256, .f32⟩ : BufTy).Contents (Elt F) → (⟨S4x256, .f32⟩ : BufTy).Contents (Elt F) → (⟨S4x256, .f32⟩ : BufTy).Contents (Elt F)),
    unary main_v324 main_v325 (Host.log : (⟨S4x256, .f32⟩ : BufTy).Contents (Elt F) → (⟨S4x256, .f32⟩ : BufTy).Contents (Elt F)),
    unary main_v319 main_v326 (broadcastInDim S4x256x1 ![0, 1] bcast_S4x256_S4x256x1_0_1 : (⟨S4x256, .f32⟩ : BufTy).Contents (Elt F) → (⟨S4x256x1, .f32⟩ : BufTy).Contents (Elt F)),
    unary main_v321 main_v327 (broadcastInDim S4x256x1 ![0, 1] bcast_S4x256_S4x256x1_0_1 : (⟨S4x256, .f32⟩ : BufTy).Contents (Elt F) → (⟨S4x256x1, .f32⟩ : BufTy).Contents (Elt F)),
    unary main_v323 main_v328 (broadcastInDim S4x256x1 ![0, 1] bcast_S4x256_S4x256x1_0_1 : (⟨S4x256, .f32⟩ : BufTy).Contents (Elt F) → (⟨S4x256x1, .f32⟩ : BufTy).Contents (Elt F)),
    unary main_v325 main_v329 (broadcastInDim S4x256x1 ![0, 1] bcast_S4x256_S4x256x1_0_1 : (⟨S4x256, .f32⟩ : BufTy).Contents (Elt F) → (⟨S4x256x1, .f32⟩ : BufTy).Contents (Elt F)),
    nary ![main_v326, main_v327, main_v328, main_v329] main_v330 (fun u => (concatenate S4x256x4 2 [⟨S4x256x1, (u 0 : (⟨S4x256x1, .f32⟩ : BufTy).Contents (Elt F))⟩, ⟨S4x256x1, (u 1 : (⟨S4x256x1, .f32⟩ : BufTy).Contents (Elt F))⟩, ⟨S4x256x1, (u 2 : (⟨S4x256x1, .f32⟩ : BufTy).Contents (Elt F))⟩, ⟨S4x256x1, (u 3 : (⟨S4x256x1, .f32⟩ : BufTy).Contents (Elt F))⟩] concatenates_S4x256x1_S4x256x1_S4x256x1_S4x256x1_S4x256x4_d2 : (⟨S4x256x4, .f32⟩ : BufTy).Contents (Elt F))),
    unary main_cst main_v331 (broadcastInDim S1x1x4 ![2] bcast_S4_S1x1x4_2 : (⟨S4, .f32⟩ : BufTy).Contents (Elt F) → (⟨S1x1x4, .f32⟩ : BufTy).Contents (Elt F)),
    unary main_v331 main_v332 (broadcastInDim S4x256x4 ![0, 1, 2] bcast_S1x1x4_S4x256x4_0_1_2 : (⟨S1x1x4, .f32⟩ : BufTy).Contents (Elt F) → (⟨S4x256x4, .f32⟩ : BufTy).Contents (Elt F)),
    binary main_v330 main_v332 main_v333 (subf : (⟨S4x256x4, .f32⟩ : BufTy).Contents (Elt F) → (⟨S4x256x4, .f32⟩ : BufTy).Contents (Elt F) → (⟨S4x256x4, .f32⟩ : BufTy).Contents (Elt F)),
    unary main_cst_0 main_v334 (broadcastInDim S1x1x4 ![2] bcast_S4_S1x1x4_2 : (⟨S4, .f32⟩ : BufTy).Contents (Elt F) → (⟨S1x1x4, .f32⟩ : BufTy).Contents (Elt F)),
    unary main_v334 main_v335 (broadcastInDim S4x256x4 ![0, 1, 2] bcast_S1x1x4_S4x256x4_0_1_2 : (⟨S1x1x4, .f32⟩ : BufTy).Contents (Elt F) → (⟨S4x256x4, .f32⟩ : BufTy).Contents (Elt F)),
    binary main_v333 main_v335 main_v336 (Host.divf : (⟨S4x256x4, .f32⟩ : BufTy).Contents (Elt F) → (⟨S4x256x4, .f32⟩ : BufTy).Contents (Elt F) → (⟨S4x256x4, .f32⟩ : BufTy).Contents (Elt F)),
    nullary main_cst_63 (constant S_ .f32 0x00000000#32),
    unary main_cst_63 main_v337 (broadcastInDim S4x256 ![] bcast_S_S4x256 : (⟨S_, .f32⟩ : BufTy).Contents (Elt F) → (⟨S4x256, .f32⟩ : BufTy).Contents (Elt F)),
    binary main_v247 main_v337 main_v338 (cmpf .ogt : (⟨S4x256, .f32⟩ : BufTy).Contents (Elt F) → (⟨S4x256, .f32⟩ : BufTy).Contents (Elt F) → (⟨S4x256, .i1⟩ : BufTy).Contents (Elt F)),
    unary main_v338 main_v339 (broadcastInDim S4x256x1 ![0, 1] bcast_S4x256_S4x256x1_0_1 : (⟨S4x256, .i1⟩ : BufTy).Contents (Elt F) → (⟨S4x256x1, .i1⟩ : BufTy).Contents (Elt F)),
    nullary main_cst_64 (constant S_ .f32 0x00000000#32),
    TRef.unary (TRef.of (T := ⟨S_, .f32⟩) main_cst_64) (TRef.of (T := ⟨S_, .f32⟩) main_call15_v0) id,
    TRef.unary (TRef.of (T := ⟨S4x256x1, .i1⟩) main_v339) (TRef.of (T := ⟨S4x256x4, .i1⟩) main_call15_v1) (broadcastInDim S4x256x4 ![0, 1, 2] bcast_S4x256x1_S4x256x4_0_1_2),
    TRef.unary (TRef.of (T := ⟨S_, .f32⟩) main_call15_v0) (TRef.of (T := ⟨S4x256x4, .f32⟩) main_call15_v2) (broadcastInDim S4x256x4 ![] bcast_S_S4x256x4),
    TRef.ternary (TRef.of (T := ⟨S4x256x4, .i1⟩) main_call15_v1) (TRef.of (T := ⟨S4x256x4, .f32⟩) main_v336) (TRef.of (T := ⟨S4x256x4, .f32⟩) main_call15_v2) (TRef.of (T := ⟨S4x256x4, .f32⟩) main_v340) select,
    nullary main_cst_65 (constant S_ .f32 0x00000000#32),
    TRef.unary (TRef.of (T := ⟨S_, .f32⟩) main_cst_65) (TRef.of (T := ⟨S_, .f32⟩) main_call16_v0) id,
    TRef.unary (TRef.of (T := ⟨S4x256x1, .i1⟩) main_v339) (TRef.of (T := ⟨S4x256x4, .i1⟩) main_call16_v1) (broadcastInDim S4x256x4 ![0, 1, 2] bcast_S4x256x1_S4x256x4_0_1_2),
    TRef.unary (TRef.of (T := ⟨S4, .f32⟩) main_cst_1) (TRef.of (T := ⟨S4x256x4, .f32⟩) main_call16_v2) (broadcastInDim S4x256x4 ![2] bcast_S4_S4x256x4_2),
    TRef.unary (TRef.of (T := ⟨S_, .f32⟩) main_call16_v0) (TRef.of (T := ⟨S4x256x4, .f32⟩) main_call16_v3) (broadcastInDim S4x256x4 ![] bcast_S_S4x256x4),
    TRef.ternary (TRef.of (T := ⟨S4x256x4, .i1⟩) main_call16_v1) (TRef.of (T := ⟨S4x256x4, .f32⟩) main_call16_v2) (TRef.of (T := ⟨S4x256x4, .f32⟩) main_call16_v3) (TRef.of (T := ⟨S4x256x4, .f32⟩) main_v341) select,
    nullary main_cst_66 (constant S_ .f32 0x00000000#32) ]

/-- A run of operations of the reference, in order. -/
abbrev chunk62 : List (HloOp τ sig (Elt F)) :=
  [ unary main_cst_66 main_v342 (broadcastInDim S4x256x4 ![] bcast_S_S4x256x4 : (⟨S_, .f32⟩ : BufTy).Contents (Elt F) → (⟨S4x256x4, .f32⟩ : BufTy).Contents (Elt F)),
    binary main_v341 main_v342 main_v343 (cmpf .ogt : (⟨S4x256x4, .f32⟩ : BufTy).Contents (Elt F) → (⟨S4x256x4, .f32⟩ : BufTy).Contents (Elt F) → (⟨S4x256x4, .i1⟩ : BufTy).Contents (Elt F)),
    unary main_v343 main_v344 (uitofp .f32 : (⟨S4x256x4, .i1⟩ : BufTy).Contents (Elt F) → (⟨S4x256x4, .f32⟩ : BufTy).Contents (Elt F)) ]

/-- One piece of the reference's operations. -/
def part6 : List (HloOp τ sig (Elt F)) :=
  chunk60 ++ (chunk61 ++ (chunk62))

/-- All the operations of the reference, in order. -/
abbrev ops : List (HloOp τ sig (Elt F)) :=
  part0 ++ (part1 ++ (part2 ++ (part3 ++ (part4 ++ (part5 ++ (part6))))))
set_option maxRecDepth 8192 in
set_option maxHeartbeats 4000000 in
theorem main_part0_seq (c : Dev nD) : main_part0 (F := F) c = seq part0 := rfl
set_option maxRecDepth 8192 in
set_option maxHeartbeats 4000000 in
theorem main_part1_seq (c : Dev nD) : main_part1 (F := F) c = seq part1 := rfl
set_option maxRecDepth 8192 in
set_option maxHeartbeats 4000000 in
theorem main_part2_seq (c : Dev nD) : main_part2 (F := F) c = seq part2 := rfl
set_option maxRecDepth 8192 in
set_option maxHeartbeats 4000000 in
theorem main_part3_seq (c : Dev nD) : main_part3 (F := F) c = seq part3 := rfl
set_option maxRecDepth 8192 in
set_option maxHeartbeats 4000000 in
theorem main_part4_seq (c : Dev nD) : main_part4 (F := F) c = seq part4 := rfl
set_option maxRecDepth 8192 in
set_option maxHeartbeats 4000000 in
theorem main_part5_seq (c : Dev nD) : main_part5 (F := F) c = seq part5 := rfl
set_option maxRecDepth 8192 in
set_option maxHeartbeats 4000000 in
theorem main_part6_seq (c : Dev nD) : main_part6 (F := F) c = seq part6 := rfl

set_option maxRecDepth 8192 in
/-- The reference runs its operations in order. -/
theorem main_seq (c : Dev nD) : main (F := F) c = seq ops := by
  simp only [ops, seq_append, ← main_part0_seq c, ← main_part1_seq c, ← main_part2_seq c, ← main_part3_seq c, ← main_part4_seq c, ← main_part5_seq c, ← main_part6_seq c]
  rfl

end Cert.ReferenceIdeal.Ops

end
-- ==== Proof.Steps.lean ====
module

public import Idealize.ShloMosaic.Lib.StableHlo.Run

/-! A straight line of operations in which every value is computed once, after the values it is computed
from. After such a line every value still satisfies the equation of the operation that computed it. -/

@[expose] public section

noncomputable section

namespace Cert.Steps

open Idealize.ShloMosaic Idealize.ShloMosaic.TcCoe Idealize.SL.Sem Idealize.ShloMosaic.StableHlo

variable {τ : Topo} {sig : RefSig} {Val : EltTy → Type}

/-- The place of a buffer in the order of the program. -/
def key (b : Ref sig .tc) : Nat := b.idx.1

theorem ne_of_key {x y : Ref sig .tc} (h : key x < key y) : x ≠ y := fun e => by
  subst e; exact Nat.lt_irrefl _ h

/-- The operation computes the buffer `y`, and nothing else, from the buffers `xs`. -/
structure Computes (op : HloOp τ sig Val) (xs : List (Ref sig .tc)) (y : Ref sig .tc) : Prop where
  writes : op.writes = {Proc.devRef .tc y}
  bufs : op.bufs ⊆ tcRefs τ sig
  fresh : op.fresh = ∅
  congr : ∀ V V' : Valuation τ sig Val, (∀ x ∈ xs, V (Proc.devRef .tc x) = V' (Proc.devRef .tc x)) →
    op.result V (Proc.devRef .tc y) = op.result V' (Proc.devRef .tc y)

theorem computes_nullary (y : Ref sig .tc) (v : y.ty.Contents Val) (hy) :
    Computes (nullary (τ := τ) y v hy) [] y :=
  ⟨rfl, nullary_bufs_sub .., rfl, fun V V' _ => by rw [nullary_result, nullary_result]⟩

theorem computes_unary (x y : Ref sig .tc) (f : x.ty.Contents Val → y.ty.Contents Val) (hx hy) :
    Computes (unary (τ := τ) x y f hx hy) [x] y :=
  ⟨rfl, unary_bufs_sub .., rfl, fun V V' h => by rw [unary_result, unary_result, h x (by simp)]⟩

theorem computes_binary (a b y : Ref sig .tc) (f : a.ty.Contents Val → b.ty.Contents Val → y.ty.Contents Val) (ha hb hy) :
    Computes (binary (τ := τ) a b y f ha hb hy) [a, b] y :=
  ⟨rfl, binary_bufs_sub .., rfl, fun V V' h => by rw [binary_result, binary_result, h a (by simp), h b (by simp)]⟩

theorem computes_ternary (c a b y : Ref sig .tc)
    (f : c.ty.Contents Val → a.ty.Contents Val → b.ty.Contents Val → y.ty.Contents Val) (hc ha hb hy) :
    Computes (ternary (τ := τ) c a b y f hc ha hb hy) [c, a, b] y :=
  ⟨rfl, ternary_bufs_sub .., rfl, fun V V' h => by rw [ternary_result, ternary_result, h c (by simp), h a (by simp), h b (by simp)]⟩

theorem computes_quaternary (a b c e y : Ref sig .tc)
    (f : a.ty.Contents Val → b.ty.Contents Val → c.ty.Contents Val → e.ty.Contents Val → y.ty.Contents Val) (ha hb hc he hy) :
    Computes (quaternary (τ := τ) a b c e y f ha hb hc he hy) [a, b, c, e] y :=
  ⟨rfl, quaternary_bufs_sub .., rfl, fun V V' h => by
    rw [quaternary_result, quaternary_result, h a (by simp), h b (by simp), h c (by simp), h e (by simp)]⟩

theorem computes_reshape (x y : Ref sig .tc) (he hn hx hy) :
    Computes (reshape (τ := τ) (Val := Val) x y he hn hx hy) [x] y :=
  ⟨rfl, reshape_bufs_sub .., rfl, fun V V' h => by rw [reshape_result, reshape_result, h x (by simp)]⟩

theorem computes_nary {n : Nat} (xs : Fin n → Ref sig .tc) (y : Ref sig .tc)
    (f : ((k : Fin n) → (xs k).ty.Contents Val) → y.ty.Contents Val) (hxs hy) :
    Computes (nary (τ := τ) xs y f hxs hy) (List.ofFn xs) y :=
  ⟨rfl, nary_bufs_sub .., rfl, fun V V' h => by
    rw [nary_result, nary_result]
    exact congrArg f (funext fun k => h (xs k) (List.mem_ofFn.2 ⟨k, rfl⟩))⟩

/-- The line's operations with the buffers each reads and the one it computes. -/
inductive Line : List (HloOp τ sig Val) → List (List (Ref sig .tc) × Ref sig .tc) → Prop
  | nil : Line [] []
  | cons {op ops xs y t} : Computes op xs y → Line ops t → Line (op :: ops) ((xs, y) :: t)

theorem Line.append {o₁ o₂ : List (HloOp τ sig Val)} {t₁ t₂} (h₁ : Line o₁ t₁) (h₂ : Line o₂ t₂) : Line (o₁ ++ o₂) (t₁ ++ t₂) := by
  induction h₁ with
  | nil => exact h₂
  | cons h _ ih => exact .cons h ih

theorem Line.forall_bufs {ops : List (HloOp τ sig Val)} {t} (h : Line ops t) : ops.Forall fun op => op.bufs ⊆ tcRefs τ sig := by
  rw [List.forall_iff_forall_mem]
  induction h with
  | nil => intro _ h; cases h
  | cons hc _ ih => intro o ho; rcases List.mem_cons.1 ho with rfl | ho; exacts [hc.bufs, ih o ho]

theorem Line.fresh {ops : List (HloOp τ sig Val)} {t} (h : Line ops t) : ∀ op ∈ ops, op.fresh = ∅ := by
  induction h with
  | nil => intro _ h; cases h
  | cons hc _ ih => intro o ho; rcases List.mem_cons.1 ho with rfl | ho; exacts [hc.fresh, ih o ho]

/-- Every value is computed after the ones it is computed from, and none twice. -/
def ordered : Nat → List (List (Ref sig .tc) × Ref sig .tc) → Bool
  | _, [] => true
  | n, (xs, y) :: t => Nat.ble n (key y) && xs.all (fun x => Nat.blt (key x) (key y)) && ordered (key y + 1) t

/-- The line leaves every buffer alone that comes before it. -/
theorem after_before {ops : List (HloOp τ sig Val)} {t} (h : Line ops t) : ∀ {n : Nat}, ordered n t = true →
    ∀ (x : Ref sig .tc), key x < n → ∀ V : Valuation τ sig Val, after ops V (Proc.devRef .tc x) = V (Proc.devRef .tc x) := by
  induction h with
  | nil => intros; rfl
  | @cons op ops xs y t hc _ ih =>
    intro n ho x hx V
    simp only [ordered, Bool.and_eq_true, Nat.ble_eq] at ho
    obtain ⟨⟨h1, h2⟩, h3⟩ := ho
    rw [after_cons, ih h3 x (by omega) _, op.result_of_not_mem]
    rw [hc.writes]
    exact fun hm => devRef_ne_of_ne (ne_of_key (by omega)) (Finset.mem_singleton.1 hm)

/-- After the line every operation's equation holds. -/
theorem after_fix {ops : List (HloOp τ sig Val)} {t} (h : Line ops t) : ∀ {n : Nat}, ordered n t = true →
    ∀ (V : Valuation τ sig Val), ∀ op ∈ ops, op.result (after ops V) = after ops V := by
  induction h with
  | nil => intro _ _ _ op hop; cases hop
  | @cons op ops xs y t hc hl ih =>
    intro n ho V o hmem
    simp only [ordered, Bool.and_eq_true, Nat.ble_eq] at ho
    obtain ⟨⟨h1, h2⟩, h3⟩ := ho
    rw [after_cons]
    rcases List.mem_cons.1 hmem with rfl | hmem
    · funext b
      by_cases hb : b ∈ o.writes
      · have hb' : b = Proc.devRef .tc y := by rw [hc.writes] at hb; exact Finset.mem_singleton.1 hb
        subst hb'
        rw [after_before hl h3 y (by omega) _]
        refine hc.congr _ _ fun x hx => ?_
        have hk : key x < key y := by
          have := List.all_eq_true.1 h2 x hx
          simpa [Nat.blt_eq] using this
        rw [after_before hl h3 x (by omega) _, o.result_of_not_mem]
        rw [hc.writes]
        exact fun hm => devRef_ne_of_ne (ne_of_key hk) (Finset.mem_singleton.1 hm)
      · exact o.result_of_not_mem _ hb
    · exact ih h3 _ o hmem

section Equations

variable {V : Valuation τ sig Val}

theorem eq_nullary {y : Ref sig .tc} {v : y.ty.Contents Val} {hy} (h : (nullary (τ := τ) y v hy).result V = V) :
    V (Proc.devRef .tc y) = v := by rw [← h, nullary_result]
theorem eq_unary {x y : Ref sig .tc} {f : x.ty.Contents Val → y.ty.Contents Val} {hx hy}
    (h : (unary (τ := τ) x y f hx hy).result V = V) : V (Proc.devRef .tc y) = f (V (Proc.devRef .tc x)) := by
  conv_lhs => rw [← h]
  rw [unary_result]
theorem eq_binary {a b y : Ref sig .tc} {f : a.ty.Contents Val → b.ty.Contents Val → y.ty.Contents Val} {ha hb hy}
    (h : (binary (τ := τ) a b y f ha hb hy).result V = V) :
    V (Proc.devRef .tc y) = f (V (Proc.devRef .tc a)) (V (Proc.devRef .tc b)) := by
  conv_lhs => rw [← h]
  rw [binary_result]
theorem eq_ternary {c a b y : Ref sig .tc} {f : c.ty.Contents Val → a.ty.Contents Val → b.ty.Contents Val → y.ty.Contents Val}
    {hc ha hb hy} (h : (ternary (τ := τ) c a b y f hc ha hb hy).result V = V) :
    V (Proc.devRef .tc y) = f (V (Proc.devRef .tc c)) (V (Proc.devRef .tc a)) (V (Proc.devRef .tc b)) := by
  conv_lhs => rw [← h]
  rw [ternary_result]
theorem eq_quaternary {a b c e y : Ref sig .tc}
    {f : a.ty.Contents Val → b.ty.Contents Val → c.ty.Contents Val → e.ty.Contents Val → y.ty.Contents Val} {ha hb hc he hy}
    (h : (quaternary (τ := τ) a b c e y f ha hb hc he hy).result V = V) :
    V (Proc.devRef .tc y) = f (V (Proc.devRef .tc a)) (V (Proc.devRef .tc b)) (V (Proc.devRef .tc c)) (V (Proc.devRef .tc e)) := by
  conv_lhs => rw [← h]
  rw [quaternary_result]
theorem eq_reshape {x y : Ref sig .tc} {he hn hx hy} (h : (reshape (τ := τ) (Val := Val) x y he hn hx hy).result V = V) :
    V (Proc.devRef .tc y) = fun i => he ▸ shapeCast y.ty.shape (V (Proc.devRef .tc x)) hn i := by
  conv_lhs => rw [← h]
  rw [reshape_result]
theorem eq_nary {n : Nat} {xs : Fin n → Ref sig .tc} {y : Ref sig .tc}
    {f : ((k : Fin n) → (xs k).ty.Contents Val) → y.ty.Contents Val} {hxs hy}
    (h : (nary (τ := τ) xs y f hxs hy).result V = V) :
    V (Proc.devRef .tc y) = f (fun k => V (Proc.devRef .tc (xs k))) := by
  conv_lhs => rw [← h]
  rw [nary_result]

end Equations

end Cert.Steps

end
-- ==== Proof.RefRun.lean ====
module

public import proofs.«01_k».proof.Proof.RefOps
public import proofs.«01_k».proof.Proof.Steps
public import Idealize.ShloMosaic.Lib.StableHlo.RunHlo

/-! The reference's run: what every buffer holds at the end, and the equation of each of its operations there. -/

@[expose] public section

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.Steps

variable {F : FTy → Type} [FloatOps F]

set_option maxHeartbeats 4000000 in
/-- The operations are a line: each computes one value from earlier ones. -/
theorem line : ∃ t, Line (ops : List (HloOp τ sig (Elt F))) t ∧ ordered 3 t = true := by
  apply Exists.intro
  apply And.intro
  · unfold ops part1 part2 part3 part4 part5 part6
    repeat' apply Line.append
    all_goals
      repeat (first
        | exact Line.nil
        | apply Line.cons (computes_unary ..)
        | apply Line.cons (computes_binary ..)
        | apply Line.cons (computes_nullary ..)
        | apply Line.cons (computes_reshape ..)
        | apply Line.cons (computes_ternary ..)
        | apply Line.cons (computes_quaternary ..)
        | apply Line.cons (computes_nary ..))
  · decide +kernel

/-- What the buffers hold at the end. -/
def fin (m : (ℓ : Loc nD τ sig) → Buf (Elt F) ℓ) (c : Dev nD) : Valuation τ sig (Elt F) := after ops (launchContents m c)

/-- At the end the equation of every operation holds. -/
theorem fin_fix (m : (ℓ : Loc nD τ sig) → Buf (Elt F) ℓ) (c : Dev nD) : ∀ op ∈ (ops : List (HloOp τ sig (Elt F))),
    op.result (fin m c) = fin m c := by
  obtain ⟨t, hl, ho⟩ := line (F := F)
  exact after_fix hl ho _

/-- An argument keeps its contents. -/
theorem fin_arg (m : (ℓ : Loc nD τ sig) → Buf (Elt F) ℓ) (c : Dev nD) (b : Ref sig .tc) (hb : key b < 3) :
    fin m c (Proc.devRef .tc b) = m ((c.tc : Thread nD τ).loc b) := by
  obtain ⟨t, hl, ho⟩ := line (F := F)
  exact after_before hl ho b hb _

/-- The reference runs to its end, and every buffer then holds `fin`. -/
theorem run (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b) = fin m d (Proc.devRef .tc b) := by
  obtain ⟨t, hl, ho⟩ := line (F := F)
  exact run_hlo defs main (fun d => main_seq d) (by decide) (by decide) hl.forall_bufs hl.fresh m ρ

/-- The reference's frame: it ends, with its arguments unchanged and every counter at zero. -/
theorem frame (m : (ℓ : Loc nD τ sig) → Buf (Elt F) ℓ) (ρ : Dev nD → PrngReg) :
    θ_run defs (onTc (τ := τ) main) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (run m ρ) fun r h =>
    ⟨fun c => ⟨(h c _).trans (fin_arg m c main_arg0 (by decide)), (h c _).trans (fin_arg m c main_arg1 (by decide)),
      (h c _).trans (fin_arg m c main_arg2 (by decide))⟩, sem_eq_zero_of_no_sems (by decide) _⟩

end Cert.ReferenceIdeal.Ops

end
-- ==== Proof.KerVals.lean ====
module

public import proofs.«01_k».proof.Proof.IdealRun
public import proofs.«01_k».proof.Proof.Steps
public import Idealize.ShloMosaic.Lib.Pointwise

/-! The kernel's host buffers as arrays, and the equation of each host operation. -/

@[expose] public section

set_option maxRecDepth 16384

noncomputable section

namespace Cert.KernelIdeal.Vals

open Cert.KernelIdeal Cert.KernelIdeal.Gen Cert.KernelIdeal.Two Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

noncomputable def arg1 : FVec Ideal S4x50x5 .f32 := V (Proc.devRef .tc main_arg1)
noncomputable def v0 : FVec Ideal S4x50x1 .f32 := V (Proc.devRef .tc main_call0_v0)
noncomputable def v1 : FVec Ideal S4x50 .f32 := V (Proc.devRef .tc main_call0_v1)
noncomputable def cst : FVec Ideal S_ .f32 := V (Proc.devRef .tc main_call0_cst)
noncomputable def v2 : FVec Ideal S4x50 .f32 := V (Proc.devRef .tc main_call0_v2)
noncomputable def v3 : IVec S4x50 1 := V (Proc.devRef .tc main_call0_v3)
noncomputable def cst_0 : FVec Ideal S_ .f32 := V (Proc.devRef .tc main_call0_cst_0)
noncomputable def v4 : FVec Ideal S4x50 .f32 := V (Proc.devRef .tc main_call0_v4)
noncomputable def v5 : IVec S4x50 1 := V (Proc.devRef .tc main_call0_v5)
noncomputable def v6 : IVec S4x50 1 := V (Proc.devRef .tc main_call0_v6)
noncomputable def v7 : FVec Ideal S4x50 .f32 := V (Proc.devRef .tc main_call0_v7)
noncomputable def v8 : FVec Ideal S4x50x1 .f32 := V (Proc.devRef .tc main_call0_v8)
noncomputable def v9 : FVec Ideal S4x50x4 .f32 := V (Proc.devRef .tc main_call0_v9)
noncomputable def v10 : FVec Ideal S4x50x4 .f32 := V (Proc.devRef .tc main_call0_v10)
noncomputable def v11 : FVec Ideal S4x50x4 .f32 := V (Proc.devRef .tc main_call0_v11)
noncomputable def v12 : FVec Ideal S4x50x1 .f32 := V (Proc.devRef .tc main_call0_v12)
noncomputable def v13 : FVec Ideal S4x50x1 .f32 := V (Proc.devRef .tc main_call0_v13)
noncomputable def v14 : FVec Ideal S4x50x4 .f32 := V (Proc.devRef .tc main_call0_v14)
noncomputable def cst_1 : FVec Ideal S_ .f32 := V (Proc.devRef .tc main_call0_cst_1)
noncomputable def v15 : FVec Ideal S4x50 .f32 := V (Proc.devRef .tc main_call0_v15)
noncomputable def v16 : IVec S4x50 1 := V (Proc.devRef .tc main_call0_v16)
noncomputable def v17 : IVec S4x50x1 1 := V (Proc.devRef .tc main_call0_v17)
noncomputable def v18 : FVec Ideal S4x50x1 .f32 := V (Proc.devRef .tc main_call0_v18)
noncomputable def v19 : FVec Ideal S4x50x4 .f32 := V (Proc.devRef .tc main_call0_v19)
noncomputable def v20 : FVec Ideal S4x50x4 .f32 := V (Proc.devRef .tc main_call0_v20)
noncomputable def v21 : FVec Ideal S4x50x4 .f32 := V (Proc.devRef .tc main_call0_v21)
noncomputable def cst_2 : FVec Ideal S_ .f32 := V (Proc.devRef .tc main_call0_cst_2)
noncomputable def v22 : FVec Ideal S4x50 .f32 := V (Proc.devRef .tc main_call0_v22)
noncomputable def v23 : IVec S4x50 1 := V (Proc.devRef .tc main_call0_v23)
noncomputable def v24 : IVec S4x50x1 1 := V (Proc.devRef .tc main_call0_v24)
noncomputable def v25 : FVec Ideal S4x50x1 .f32 := V (Proc.devRef .tc main_call0_v25)
noncomputable def v26 : FVec Ideal S4x50x4 .f32 := V (Proc.devRef .tc main_call0_v26)
noncomputable def v27 : FVec Ideal S4x50x4 .f32 := V (Proc.devRef .tc main_call0_v27)
noncomputable def cst_3 : FVec Ideal S_ .f32 := V (Proc.devRef .tc main_call0_cst_3)
noncomputable def v28 : FVec Ideal S4x50x3 .f32 := V (Proc.devRef .tc main_call0_v28)
noncomputable def v29 : FVec Ideal S4x50x16 .f32 := V (Proc.devRef .tc main_call0_v29)
noncomputable def c : IVec S_ 32 := V (Proc.devRef .tc main_call0_c)
noncomputable def call0_v0 : FVec Ideal S_ .f32 := V (Proc.devRef .tc main_call0_call0_v0)
noncomputable def v30 : FVec Ideal S4x56x16 .f32 := V (Proc.devRef .tc main_call0_v30)
noncomputable def v31 : FVec Ideal S4x50x8 .f32 := V (Proc.devRef .tc main_call0_v31)
noncomputable def c_4 : IVec S_ 32 := V (Proc.devRef .tc main_call0_c_4)
noncomputable def call1_v0 : FVec Ideal S_ .f32 := V (Proc.devRef .tc main_call0_call1_v0)
noncomputable def v32 : FVec Ideal S4x56x8 .f32 := V (Proc.devRef .tc main_call0_v32)
noncomputable def cst_5 : FVec Ideal S_ .f32 := V (Proc.devRef .tc main_call0_cst_5)
noncomputable def v33 : FVec Ideal S4x50x1 .f32 := V (Proc.devRef .tc main_call0_v33)
noncomputable def v34 : FVec Ideal S4x50x5 .f32 := V (Proc.devRef .tc main_call0_v34)
noncomputable def arg0 : FVec Ideal S4x20000x5 .f32 := V (Proc.devRef .tc main_arg0)
noncomputable def v35 : FVec Ideal S4x20050x5 .f32 := V (Proc.devRef .tc main_call0_v35)
noncomputable def v36 : FVec Ideal S4x20050x4 .f32 := V (Proc.devRef .tc main_call0_v36)
noncomputable def c_6 : IVec S_ 32 := V (Proc.devRef .tc main_call0_c_6)
noncomputable def call2_v0 : FVec Ideal S_ .f32 := V (Proc.devRef .tc main_call0_call2_v0)
noncomputable def v37 : FVec Ideal S4x20480x4 .f32 := V (Proc.devRef .tc main_call0_v37)
noncomputable def v38 : FVec Ideal S4x4x20480 .f32 := V (Proc.devRef .tc main_call0_v38)
noncomputable def v39_0 : FVec Ideal S4x1x20480 .f32 := V (Proc.devRef .tc main_call0_v39_0)
noncomputable def v40 : FVec Ideal S4x1x20050 .f32 := V (Proc.devRef .tc main_call0_v40)
noncomputable def v41 : FVec Ideal S4x20050 .f32 := V (Proc.devRef .tc main_call0_v41)
noncomputable def values : FVec Ideal S4x64 .f32 := V (Proc.devRef .tc main_call0_values)
noncomputable def indices : IVec S4x64 32 := V (Proc.devRef .tc main_call0_indices)
noncomputable def v39_1 : FVec Ideal S4x1x20480 .f32 := V (Proc.devRef .tc main_call0_v39_1)
noncomputable def v42 : FVec Ideal S4x1x20050 .f32 := V (Proc.devRef .tc main_call0_v42)
noncomputable def v43 : FVec Ideal S4x20050 .f32 := V (Proc.devRef .tc main_call0_v43)
noncomputable def values_7 : FVec Ideal S4x192 .f32 := V (Proc.devRef .tc main_call0_values_7)
noncomputable def indices_8 : IVec S4x192 32 := V (Proc.devRef .tc main_call0_indices_8)
noncomputable def v44 : IVec S4x256 32 := V (Proc.devRef .tc main_call0_v44)
noncomputable def cst_9 : FVec Ideal S_ .f32 := V (Proc.devRef .tc main_call0_cst_9)
noncomputable def v45 : FVec Ideal S4x64 .f32 := V (Proc.devRef .tc main_call0_v45)
noncomputable def v46 : IVec S4x64 1 := V (Proc.devRef .tc main_call0_v46)
noncomputable def v47 : FVec Ideal S4x64 .f32 := V (Proc.devRef .tc main_call0_v47)
noncomputable def cst_10 : FVec Ideal S_ .f32 := V (Proc.devRef .tc main_call0_cst_10)
noncomputable def v48 : FVec Ideal S4x192 .f32 := V (Proc.devRef .tc main_call0_v48)
noncomputable def v49 : FVec Ideal S4x256 .f32 := V (Proc.devRef .tc main_call0_v49)
noncomputable def v50 : FVec Ideal S4x256 .f32 := V (Proc.devRef .tc main_call0_v50)
noncomputable def v51 : FVec Ideal S4x256x1 .f32 := V (Proc.devRef .tc main_call0_v51)
noncomputable def v52 : FVec Ideal S4x256x1 .f32 := V (Proc.devRef .tc main_call0_v52)
noncomputable def cst_11 : FVec Ideal S_ .f32 := V (Proc.devRef .tc main_call0_cst_11)
noncomputable def v53 : FVec Ideal S4x256x6 .f32 := V (Proc.devRef .tc main_call0_v53)
noncomputable def v54 : FVec Ideal S4x256x8 .f32 := V (Proc.devRef .tc main_call0_v54)
noncomputable def v39_2 : FVec Ideal S4x1x20480 .f32 := V (Proc.devRef .tc main_call0_v39_2)
noncomputable def v55 : FVec Ideal S4x20480x1 .f32 := V (Proc.devRef .tc main_call0_v55)
noncomputable def cst_12 : FVec Ideal S_ .f32 := V (Proc.devRef .tc main_call0_cst_12)
noncomputable def v56 : FVec Ideal S4x20480x3 .f32 := V (Proc.devRef .tc main_call0_v56)
noncomputable def v57 : FVec Ideal S4x20480x8 .f32 := V (Proc.devRef .tc main_call0_v57)
noncomputable def v58_1 : FVec Ideal S4x256x1 .f32 := V (Proc.devRef .tc main_call0_v58_1)
noncomputable def out1 : FVec Ideal S4x256 .f32 := V (Proc.devRef .tc main_v0_1)
noncomputable def out0 : FVec Ideal S4x256x5 .f32 := V (Proc.devRef .tc main_v0_0)
noncomputable def out2 : FVec Ideal S4x256x4 .f32 := V (Proc.devRef .tc main_v0_2)
noncomputable def out3 : FVec Ideal S4x256x4 .f32 := V (Proc.devRef .tc main_v0_3)
noncomputable def out4 : FVec Ideal S4x256x4 .f32 := V (Proc.devRef .tc main_v0_4)
noncomputable def out5 : FVec Ideal S4x256x5 .f32 := V (Proc.devRef .tc main_v0_5)

/-- The equations of one stretch hold. -/
def Fix0 : Prop := ∀ op ∈ (hostOps0 : List (HloOp τ sig (Elt Ideal))), op.result V = V
variable {V} in
theorem Fix0.at (h : Fix0 V) (i : Nat) {op : HloOp τ sig (Elt Ideal)} (hi : (hostOps0 : List (HloOp τ sig (Elt Ideal)))[i]? = some op) :
    op.result V = V := h op (List.mem_of_getElem? hi)

/-- The equations of one stretch hold. -/
def Fix1 : Prop := ∀ op ∈ (hostOps1 : List (HloOp τ sig (Elt Ideal))), op.result V = V
variable {V} in
theorem Fix1.at (h : Fix1 V) (i : Nat) {op : HloOp τ sig (Elt Ideal)} (hi : (hostOps1 : List (HloOp τ sig (Elt Ideal)))[i]? = some op) :
    op.result V = V := h op (List.mem_of_getElem? hi)

/-- The equations of one stretch hold. -/
def Fix2 : Prop := ∀ op ∈ (hostOps2 : List (HloOp τ sig (Elt Ideal))), op.result V = V
variable {V} in
theorem Fix2.at (h : Fix2 V) (i : Nat) {op : HloOp τ sig (Elt Ideal)} (hi : (hostOps2 : List (HloOp τ sig (Elt Ideal)))[i]? = some op) :
    op.result V = V := h op (List.mem_of_getElem? hi)
theorem e_v0 (h : Fix0 V) : v0 V = extractStridedSlice S4x50x1 ![0, 0, 4] (arg1 V) slices_S4x50x5_S4x50x1_0_0_4 := by
  have e := eq_unary (h.at 0 rfl)
  exact e
theorem e_v1 (h : Fix0 V) : v1 V = shapeCast _ (v0 V) shapeCasts_S4x50x1_S4x50 := by
  have e := eq_reshape (h.at 1 rfl)
  exact e
theorem e_cst (h : Fix0 V) : cst V = constant S_ .f32 0x40000000#32 := by
  have e := eq_nullary (h.at 2 rfl)
  exact e
theorem e_v2 (h : Fix0 V) : v2 V = broadcastInDim S4x50 ![] bcast_S_S4x50 (cst V) := by
  have e := eq_unary (h.at 3 rfl)
  exact e
theorem e_v3 (h : Fix0 V) : v3 V = cmpf .une (v1 V) (v2 V) := by
  have e := eq_binary (h.at 4 rfl)
  exact e
theorem e_cst_0 (h : Fix0 V) : cst_0 V = constant S_ .f32 0x40400000#32 := by
  have e := eq_nullary (h.at 5 rfl)
  exact e
theorem e_v4 (h : Fix0 V) : v4 V = broadcastInDim S4x50 ![] bcast_S_S4x50 (cst_0 V) := by
  have e := eq_unary (h.at 6 rfl)
  exact e
theorem e_v5 (h : Fix0 V) : v5 V = cmpf .une (v1 V) (v4 V) := by
  have e := eq_binary (h.at 7 rfl)
  exact e
theorem e_v6 (h : Fix0 V) : v6 V = andi (v3 V) (v5 V) := by
  have e := eq_binary (h.at 8 rfl)
  exact e
theorem e_v7 (h : Fix0 V) : v7 V = uitofp .f32 (v6 V) := by
  have e := eq_unary (h.at 9 rfl)
  exact e
theorem e_v8 (h : Fix0 V) : v8 V = broadcastInDim S4x50x1 ![0, 1] bcast_S4x50_S4x50x1_0_1 (v7 V) := by
  have e := eq_unary (h.at 10 rfl)
  exact e
theorem e_v9 (h : Fix0 V) : v9 V = extractStridedSlice S4x50x4 ![0, 0, 0] (arg1 V) slices_S4x50x5_S4x50x4_0_0_0 := by
  have e := eq_unary (h.at 11 rfl)
  exact e
theorem e_v10 (h : Fix0 V) : v10 V = broadcastInDim S4x50x4 ![0, 1, 2] bcast_S4x50x1_S4x50x4_0_1_2 (v8 V) := by
  have e := eq_unary (h.at 12 rfl)
  exact e
theorem e_v11 (h : Fix0 V) : v11 V = mulf (v9 V) (v10 V) := by
  have e := eq_binary (h.at 13 rfl)
  exact e
theorem e_v12 (h : Fix0 V) : v12 V = extractStridedSlice S4x50x1 ![0, 0, 4] (arg1 V) slices_S4x50x5_S4x50x1_0_0_4 := by
  have e := eq_unary (h.at 14 rfl)
  exact e
theorem e_v13 (h : Fix0 V) : v13 V = mulf (v12 V) (v8 V) := by
  have e := eq_binary (h.at 15 rfl)
  exact e
theorem e_v14 (h : Fix0 V) : v14 V = extractStridedSlice S4x50x4 ![0, 0, 0] (arg1 V) slices_S4x50x5_S4x50x4_0_0_0 := by
  have e := eq_unary (h.at 16 rfl)
  exact e
theorem e_cst_1 (h : Fix0 V) : cst_1 V = constant S_ .f32 0x40400000#32 := by
  have e := eq_nullary (h.at 17 rfl)
  exact e
theorem e_v15 (h : Fix0 V) : v15 V = broadcastInDim S4x50 ![] bcast_S_S4x50 (cst_1 V) := by
  have e := eq_unary (h.at 18 rfl)
  exact e
theorem e_v16 (h : Fix0 V) : v16 V = cmpf .oeq (v1 V) (v15 V) := by
  have e := eq_binary (h.at 19 rfl)
  exact e
theorem e_v17 (h : Fix0 V) : v17 V = broadcastInDim S4x50x1 ![0, 1] bcast_S4x50_S4x50x1_0_1 (v16 V) := by
  have e := eq_unary (h.at 20 rfl)
  exact e
theorem e_v18 (h : Fix0 V) : v18 V = uitofp .f32 (v17 V) := by
  have e := eq_unary (h.at 21 rfl)
  exact e
theorem e_v19 (h : Fix0 V) : v19 V = broadcastInDim S4x50x4 ![0, 1, 2] bcast_S4x50x1_S4x50x4_0_1_2 (v18 V) := by
  have e := eq_unary (h.at 22 rfl)
  exact e
theorem e_v20 (h : Fix0 V) : v20 V = mulf (v14 V) (v19 V) := by
  have e := eq_binary (h.at 23 rfl)
  exact e
theorem e_v21 (h : Fix0 V) : v21 V = extractStridedSlice S4x50x4 ![0, 0, 0] (arg1 V) slices_S4x50x5_S4x50x4_0_0_0 := by
  have e := eq_unary (h.at 24 rfl)
  exact e
theorem e_cst_2 (h : Fix0 V) : cst_2 V = constant S_ .f32 0x40000000#32 := by
  have e := eq_nullary (h.at 25 rfl)
  exact e
theorem e_v22 (h : Fix0 V) : v22 V = broadcastInDim S4x50 ![] bcast_S_S4x50 (cst_2 V) := by
  have e := eq_unary (h.at 26 rfl)
  exact e
theorem e_v23 (h : Fix0 V) : v23 V = cmpf .oeq (v1 V) (v22 V) := by
  have e := eq_binary (h.at 27 rfl)
  exact e
theorem e_v24 (h : Fix0 V) : v24 V = broadcastInDim S4x50x1 ![0, 1] bcast_S4x50_S4x50x1_0_1 (v23 V) := by
  have e := eq_unary (h.at 28 rfl)
  exact e
theorem e_v25 (h : Fix0 V) : v25 V = uitofp .f32 (v24 V) := by
  have e := eq_unary (h.at 29 rfl)
  exact e
theorem e_v26 (h : Fix0 V) : v26 V = broadcastInDim S4x50x4 ![0, 1, 2] bcast_S4x50x1_S4x50x4_0_1_2 (v25 V) := by
  have e := eq_unary (h.at 30 rfl)
  exact e
theorem e_v27 (h : Fix0 V) : v27 V = mulf (v21 V) (v26 V) := by
  have e := eq_binary (h.at 31 rfl)
  exact e
theorem e_cst_3 (h : Fix0 V) : cst_3 V = constant S_ .f32 0x00000000#32 := by
  have e := eq_nullary (h.at 32 rfl)
  exact e
theorem e_v28 (h : Fix0 V) : v28 V = broadcastInDim S4x50x3 ![] bcast_S_S4x50x3 (cst_3 V) := by
  have e := eq_unary (h.at 33 rfl)
  exact e
theorem e_v29 (h : Fix0 V) : v29 V = concatenate S4x50x16 2 [⟨S4x50x4, v11 V⟩, ⟨S4x50x4, v20 V⟩, ⟨S4x50x4, v27 V⟩, ⟨S4x50x1, v13 V⟩, ⟨S4x50x3, v28 V⟩] concatenates_S4x50x4_S4x50x4_S4x50x4_S4x50x1_S4x50x3_S4x50x16_d2 := by
  have e := eq_nary (h.at 34 rfl)
  exact e
theorem e_c (h : Fix0 V) : c V = constantI S_ 32 0#32 := by
  have e := eq_nullary (h.at 35 rfl)
  exact e
theorem e_call0_v0 (h : Fix0 V) : call0_v0 V = sitofp .f32 (c V) := by
  have e := eq_unary (h.at 36 rfl)
  exact e
theorem e_v30 (h : Fix0 V) : v30 V = pad S4x56x16 ![0, 0, 0] ![0, 6, 0] ![0, 0, 0] (v29 V) (call0_v0 V) pads_S4x50x16_S4x56x16_000_060_000 h_S_ := by
  have e := eq_binary (h.at 37 rfl)
  exact e
theorem e_v31 (h : Fix0 V) : v31 V = concatenate S4x50x8 2 [⟨S4x50x4, v11 V⟩, ⟨S4x50x1, v13 V⟩, ⟨S4x50x3, v28 V⟩] concatenates_S4x50x4_S4x50x1_S4x50x3_S4x50x8_d2 := by
  have e := eq_nary (h.at 38 rfl)
  exact e
theorem e_c_4 (h : Fix0 V) : c_4 V = constantI S_ 32 0#32 := by
  have e := eq_nullary (h.at 39 rfl)
  exact e
theorem e_call1_v0 (h : Fix0 V) : call1_v0 V = sitofp .f32 (c_4 V) := by
  have e := eq_unary (h.at 40 rfl)
  exact e
theorem e_v32 (h : Fix0 V) : v32 V = pad S4x56x8 ![0, 0, 0] ![0, 6, 0] ![0, 0, 0] (v31 V) (call1_v0 V) pads_S4x50x8_S4x56x8_000_060_000 h_S_ := by
  have e := eq_binary (h.at 41 rfl)
  exact e
theorem e_cst_5 (h : Fix0 V) : cst_5 V = constant S_ .f32 0x00000000#32 := by
  have e := eq_nullary (h.at 42 rfl)
  exact e
theorem e_v33 (h : Fix0 V) : v33 V = broadcastInDim S4x50x1 ![] bcast_S_S4x50x1 (cst_5 V) := by
  have e := eq_unary (h.at 43 rfl)
  exact e
theorem e_v34 (h : Fix0 V) : v34 V = concatenate S4x50x5 2 [⟨S4x50x1, (v33 V)⟩, ⟨S4x50x4, (v11 V)⟩] concatenates_S4x50x1_S4x50x4_S4x50x5_d2 := by
  have e := eq_binary (h.at 44 rfl)
  exact e
theorem e_v35 (h : Fix0 V) : v35 V = concatenate S4x20050x5 1 [⟨S4x20000x5, (arg0 V)⟩, ⟨S4x50x5, (v34 V)⟩] concatenates_S4x20000x5_S4x50x5_S4x20050x5_d1 := by
  have e := eq_binary (h.at 45 rfl)
  exact e
theorem e_v36 (h : Fix0 V) : v36 V = extractStridedSlice S4x20050x4 ![0, 0, 1] (v35 V) slices_S4x20050x5_S4x20050x4_0_0_1 := by
  have e := eq_unary (h.at 46 rfl)
  exact e
theorem e_c_6 (h : Fix0 V) : c_6 V = constantI S_ 32 0#32 := by
  have e := eq_nullary (h.at 47 rfl)
  exact e
theorem e_call2_v0 (h : Fix0 V) : call2_v0 V = sitofp .f32 (c_6 V) := by
  have e := eq_unary (h.at 48 rfl)
  exact e
theorem e_v37 (h : Fix0 V) : v37 V = pad S4x20480x4 ![0, 0, 0] ![0, 430, 0] ![0, 0, 0] (v36 V) (call2_v0 V) pads_S4x20050x4_S4x20480x4_000_04300_000 h_S_ := by
  have e := eq_binary (h.at 49 rfl)
  exact e
theorem e_v38 (h : Fix0 V) : v38 V = transpose S4x4x20480 [0, 2, 1] (v37 V) transposes_S4x20480x4_S4x4x20480_0_2_1 := by
  have e := eq_unary (h.at 50 rfl)
  exact e
theorem e_v40 (h : Fix1 V) : v40 V = extractStridedSlice S4x1x20050 ![0, 0, 0] (v39_0 V) slices_S4x1x20480_S4x1x20050_0_0_0 := by
  have e := eq_unary (h.at 0 rfl)
  exact e
theorem e_v41 (h : Fix1 V) : v41 V = shapeCast _ (v40 V) shapeCasts_S4x1x20050_S4x20050 := by
  have e := eq_reshape (h.at 1 rfl)
  exact e
theorem e_values (h : Fix1 V) : values V = (Host.topK S4x64 1 (FloatOps.cmpfTotal .gt) (v41 V) sliceFits_S4x20050_S4x64).1 := by
  have e := eq_unary (h.at 2 rfl)
  exact e
theorem e_indices (h : Fix1 V) : indices V = (Host.topK S4x64 1 (FloatOps.cmpfTotal .gt) (v41 V) sliceFits_S4x20050_S4x64).2 := by
  have e := eq_unary (h.at 3 rfl)
  exact e
theorem e_v42 (h : Fix1 V) : v42 V = extractStridedSlice S4x1x20050 ![0, 0, 0] (v39_1 V) slices_S4x1x20480_S4x1x20050_0_0_0 := by
  have e := eq_unary (h.at 4 rfl)
  exact e
theorem e_v43 (h : Fix1 V) : v43 V = shapeCast _ (v42 V) shapeCasts_S4x1x20050_S4x20050 := by
  have e := eq_reshape (h.at 5 rfl)
  exact e
theorem e_values_7 (h : Fix1 V) : values_7 V = (Host.topK S4x192 1 (FloatOps.cmpfTotal .gt) (v43 V) sliceFits_S4x20050_S4x192).1 := by
  have e := eq_unary (h.at 6 rfl)
  exact e
theorem e_indices_8 (h : Fix1 V) : indices_8 V = (Host.topK S4x192 1 (FloatOps.cmpfTotal .gt) (v43 V) sliceFits_S4x20050_S4x192).2 := by
  have e := eq_unary (h.at 7 rfl)
  exact e
theorem e_v44 (h : Fix1 V) : v44 V = concatenate S4x256 1 [⟨S4x64, (indices V)⟩, ⟨S4x192, (indices_8 V)⟩] concatenates_S4x64_S4x192_S4x256_d1 := by
  have e := eq_binary (h.at 8 rfl)
  exact e
theorem e_cst_9 (h : Fix1 V) : cst_9 V = constant S_ .f32 0x3F000000#32 := by
  have e := eq_nullary (h.at 9 rfl)
  exact e
theorem e_v45 (h : Fix1 V) : v45 V = broadcastInDim S4x64 ![] bcast_S_S4x64 (cst_9 V) := by
  have e := eq_unary (h.at 10 rfl)
  exact e
theorem e_v46 (h : Fix1 V) : v46 V = cmpf .oge (values V) (v45 V) := by
  have e := eq_binary (h.at 11 rfl)
  exact e
theorem e_v47 (h : Fix1 V) : v47 V = uitofp .f32 (v46 V) := by
  have e := eq_unary (h.at 12 rfl)
  exact e
theorem e_cst_10 (h : Fix1 V) : cst_10 V = constant S_ .f32 0x00000000#32 := by
  have e := eq_nullary (h.at 13 rfl)
  exact e
theorem e_v48 (h : Fix1 V) : v48 V = broadcastInDim S4x192 ![] bcast_S_S4x192 (cst_10 V) := by
  have e := eq_unary (h.at 14 rfl)
  exact e
theorem e_v49 (h : Fix1 V) : v49 V = concatenate S4x256 1 [⟨S4x64, (v47 V)⟩, ⟨S4x192, (v48 V)⟩] concatenates_S4x64_S4x192_S4x256_d1 := by
  have e := eq_binary (h.at 15 rfl)
  exact e
theorem e_v50 (h : Fix1 V) : v50 V = sitofp .f32 (v44 V) := by
  have e := eq_unary (h.at 16 rfl)
  exact e
theorem e_v51 (h : Fix1 V) : v51 V = broadcastInDim S4x256x1 ![0, 1] bcast_S4x256_S4x256x1_0_1 (v50 V) := by
  have e := eq_unary (h.at 17 rfl)
  exact e
theorem e_v52 (h : Fix1 V) : v52 V = broadcastInDim S4x256x1 ![0, 1] bcast_S4x256_S4x256x1_0_1 (v49 V) := by
  have e := eq_unary (h.at 18 rfl)
  exact e
theorem e_cst_11 (h : Fix1 V) : cst_11 V = constant S_ .f32 0x00000000#32 := by
  have e := eq_nullary (h.at 19 rfl)
  exact e
theorem e_v53 (h : Fix1 V) : v53 V = broadcastInDim S4x256x6 ![] bcast_S_S4x256x6 (cst_11 V) := by
  have e := eq_unary (h.at 20 rfl)
  exact e
theorem e_v54 (h : Fix1 V) : v54 V = concatenate S4x256x8 2 [⟨S4x256x1, v51 V⟩, ⟨S4x256x1, v52 V⟩, ⟨S4x256x6, v53 V⟩] concatenates_S4x256x1_S4x256x1_S4x256x6_S4x256x8_d2 := by
  have e := eq_nary (h.at 21 rfl)
  exact e
theorem e_v55 (h : Fix1 V) : v55 V = transpose S4x20480x1 [0, 2, 1] (v39_2 V) transposes_S4x1x20480_S4x20480x1_0_2_1 := by
  have e := eq_unary (h.at 22 rfl)
  exact e
theorem e_cst_12 (h : Fix1 V) : cst_12 V = constant S_ .f32 0x00000000#32 := by
  have e := eq_nullary (h.at 23 rfl)
  exact e
theorem e_v56 (h : Fix1 V) : v56 V = broadcastInDim S4x20480x3 ![] bcast_S_S4x20480x3 (cst_12 V) := by
  have e := eq_unary (h.at 24 rfl)
  exact e
theorem e_v57 (h : Fix1 V) : v57 V = concatenate S4x20480x8 2 [⟨S4x20480x4, v37 V⟩, ⟨S4x20480x1, v55 V⟩, ⟨S4x20480x3, v56 V⟩] concatenates_S4x20480x4_S4x20480x1_S4x20480x3_S4x20480x8_d2 := by
  have e := eq_nary (h.at 25 rfl)
  exact e
theorem e_out1 (h : Fix2 V) : out1 V = shapeCast _ (v58_1 V) shapeCasts_S4x256x1_S4x256 := by
  have e := eq_reshape (h.at 0 rfl)
  exact e

set_option maxHeartbeats 4000000 in
theorem line0 : ∃ t, Line (hostOps0 : List (HloOp τ sig (Elt Ideal))) t ∧ ordered 3 t = true := by
  apply Exists.intro
  apply And.intro
  · repeat (first
      | exact Line.nil
      | apply Line.cons (computes_unary ..)
      | apply Line.cons (computes_binary ..)
      | apply Line.cons (computes_nullary ..)
      | apply Line.cons (computes_reshape ..)
      | apply Line.cons (computes_ternary ..)
      | apply Line.cons (computes_nary ..))
  · decide +kernel
/-- After the stretch its equations hold. -/
theorem fix0 (V₀ : Valuation τ sig (Elt Ideal)) : Fix0 (after hostOps0 V₀) := by
  obtain ⟨t, hl, ho⟩ := line0
  exact after_fix hl ho _

set_option maxHeartbeats 4000000 in
theorem line1 : ∃ t, Line (hostOps1 : List (HloOp τ sig (Elt Ideal))) t ∧ ordered 3 t = true := by
  apply Exists.intro
  apply And.intro
  · repeat (first
      | exact Line.nil
      | apply Line.cons (computes_unary ..)
      | apply Line.cons (computes_binary ..)
      | apply Line.cons (computes_nullary ..)
      | apply Line.cons (computes_reshape ..)
      | apply Line.cons (computes_ternary ..)
      | apply Line.cons (computes_nary ..))
  · decide +kernel
/-- After the stretch its equations hold. -/
theorem fix1 (V₀ : Valuation τ sig (Elt Ideal)) : Fix1 (after hostOps1 V₀) := by
  obtain ⟨t, hl, ho⟩ := line1
  exact after_fix hl ho _

set_option maxHeartbeats 4000000 in
theorem line2 : ∃ t, Line (hostOps2 : List (HloOp τ sig (Elt Ideal))) t ∧ ordered 3 t = true := by
  apply Exists.intro
  apply And.intro
  · repeat (first
      | exact Line.nil
      | apply Line.cons (computes_unary ..)
      | apply Line.cons (computes_binary ..)
      | apply Line.cons (computes_nullary ..)
      | apply Line.cons (computes_reshape ..)
      | apply Line.cons (computes_ternary ..)
      | apply Line.cons (computes_nary ..))
  · decide +kernel
/-- After the stretch its equations hold. -/
theorem fix2 (V₀ : Valuation τ sig (Elt Ideal)) : Fix2 (after hostOps2 V₀) := by
  obtain ⟨t, hl, ho⟩ := line2
  exact after_fix hl ho _

end Cert.KernelIdeal.Vals

end
-- ==== Proof.Spec.lean ====
module

public import Idealize.ShloMosaic.Lib.Pointwise

/-!
# What the sampling layer computes, over the extended reals

A box is its four coordinates. `iou` and `iog` are the two overlap ratios of a proposal with a ground truth box
(zero for an absent box, one whose coordinates are all zero), `firstMax` is the index of the first greatest entry of
a finite family (what an argmax gives), `fgScore` and `bgScore` are the two scores the selection ranks by.
Beside the definitions: the facts about finite folds that both programs need.
-/

@[expose] public section

noncomputable section

namespace Cert.Spec

open Idealize.ShloMosaic

/-- A box: its four coordinates. -/
abbrev Box := Fin 4 → EReal

/-- The floor of the denominators, `1e-8`. -/
def eps : EReal := Ideal.ofBits .f32 841731191#32
/-- One half. -/
def half : EReal := Ideal.ofBits .f32 0x3F000000#32

/-- Minus one, the score of a proposal that may not be chosen. -/
def minusOne : EReal := Ideal.ofBits .f32 0xBF800000#32

/-- Area of the intersection of a proposal `r` and a box `b`. -/
def inter (r b : Box) : EReal :=
  max 0 (min (r 2) (b 2) - max (r 0) (b 0) + 1) * max 0 (min (r 3) (b 3) - max (r 1) (b 1) + 1)
/-- Area of a box. -/
def area (r : Box) : EReal := (r 2 - r 0 + 1) * (r 3 - r 1 + 1)

/-- An absent box: every coordinate is zero. -/
def Absent (b : Box) : Prop := ∀ k, b k = 0

/-- Intersection over union; zero for an absent box. -/
def iou (r b : Box) : EReal :=
  open Classical in if Absent b then 0 else Ideal.div (inter r b) (max (area r + area b - inter r b) eps)
/-- Intersection over the box's own area; zero for an absent box. -/
def iog (r b : Box) : EReal :=
  open Classical in if Absent b then 0 else Ideal.div (inter r b) (max (area b) eps)

theorem eps_pos : 0 < eps := by
  simp only [eps, Ideal.ofBits, Ideal.ieee]
  simp [-EReal.coe_mul]

theorem half_pos : 0 < half := by
  simp only [half, Ideal.ofBits, Ideal.ieee]
  simp [-EReal.coe_mul]

theorem minusOne_neg : minusOne < 0 := by
  simp only [minusOne, Ideal.ofBits, Ideal.ieee]
  simp [-EReal.coe_mul]

theorem inter_nonneg (r b : Box) : 0 ≤ inter r b := mul_nonneg (le_max_left _ _) (le_max_left _ _)

theorem div_nonneg' {a b : EReal} (ha : 0 ≤ a) (hb : 0 < b) : 0 ≤ Ideal.div a b := by
  rw [Ideal.div, if_neg hb.ne']
  exact mul_nonneg ha (EReal.inv_nonneg_of_nonneg hb.le)

theorem iou_nonneg (r b : Box) : 0 ≤ iou r b := by
  unfold iou
  split
  · exact le_rfl
  · exact div_nonneg' (inter_nonneg r b) (lt_max_of_lt_right eps_pos)

/-! ## Absolute values and bits -/

theorem absf_nonneg (a : EReal) : (0 : EReal) ≤ FloatOps.absf (F := Ideal) (φ := .f32) a := by
  show (0 : EReal) ≤ max a (-a)
  rcases le_total 0 a with h | h
  · exact le_max_of_le_left h
  · exact le_max_of_le_right (EReal.neg_nonneg.2 h)

theorem absf_eq_zero {a : EReal} : (FloatOps.absf (F := Ideal) (φ := .f32) a : EReal) = 0 ↔ a = 0 := by
  constructor
  · intro h
    by_contra hne
    exact absurd h ((Ideal.zero_lt_max_neg_iff a).2 hne).ne'
  · rintro rfl
    show max (0 : EReal) (-0) = 0
    simp

theorem abs4_eq_zero (b : Box) :
    (FloatOps.absf (F := Ideal) (φ := .f32) (b 0) + FloatOps.absf (F := Ideal) (φ := .f32) (b 1)
      + FloatOps.absf (F := Ideal) (φ := .f32) (b 2) + FloatOps.absf (F := Ideal) (φ := .f32) (b 3) : EReal) = 0 ↔ ∀ k, b k = 0 := by
  have n := fun k => absf_nonneg (b k)
  rw [add_eq_zero_iff_of_nonneg (add_nonneg (add_nonneg (n 0) (n 1)) (n 2)) (n 3),
    add_eq_zero_iff_of_nonneg (add_nonneg (n 0) (n 1)) (n 2), add_eq_zero_iff_of_nonneg (n 0) (n 1)]
  simp only [absf_eq_zero]
  constructor
  · rintro ⟨⟨⟨h0, h1⟩, h2⟩, h3⟩ k
    fin_cases k <;> assumption
  · exact fun h => ⟨⟨⟨h 0, h 1⟩, h 2⟩, h 3⟩

theorem sumabs_eq_zero (b : Box) :
    (∑ k : Fin 4, FloatOps.absf (F := Ideal) (φ := .f32) (b k) : EReal) = 0 ↔ ∀ k, b k = 0 := by
  rw [Finset.sum_eq_zero_iff_of_nonneg fun k _ => absf_nonneg (b k)]
  simp only [Finset.mem_univ, true_imp_iff, absf_eq_zero]

/-- A truth bit read as a number. -/
theorem bit_value (P : Prop) [Decidable P] :
    (FloatOps.uitofp (F := Ideal) .f32 (BitVec.ofBool (decide P)) : EReal) = if P then 1 else 0 := by
  show (((BitVec.ofBool (decide P)).toNat : ℝ) : EReal) = _
  by_cases h : P <;> simp [h]

theorem bit_and (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

theorem bit_select {α : Type} (P : Prop) [Decidable P] (a b : α) :
    Scalar.select (BitVec.ofBool (decide P)) a b = if P then a else b := by
  by_cases h : P <;> simp [h, Scalar.select]

theorem ite_same {α : Type} {P Q : Prop} {_ : Decidable P} {_ : Decidable Q} (h : P ↔ Q) (a b : α) :
    (if P then a else b) = if Q then a else b := by
  by_cases hp : P
  · rw [if_pos hp, if_pos (h.1 hp)]
  · rw [if_neg hp, if_neg fun hq => hp (h.2 hq)]

theorem ite_eq {α : Type} {P Q : Prop} {_ : Decidable P} {_ : Decidable Q} (h : P ↔ Q) {a a' b b' : α} (ha : a = a')
    (hb : b = b') : (if P then a else b) = if Q then a' else b' := by
  rw [ha, hb]; exact ite_same h _ _

/-- Is lane `l` of block `q` a proposal and not padding? -/
theorem valid_bit (l q : ℕ) (hl : l < 2048) (hq : q < 10) :
    IntOp.cmpi .slt (IntOp.addi (BitVec.ofNat 32 l) (Scalar.muli (BitVec.ofNat 32 q) 2048#32)) 20050#32
      = BitVec.ofBool (decide (l + q * 2048 < 20050)) := by
  have h : IntOp.addi (BitVec.ofNat 32 l) (Scalar.muli (BitVec.ofNat 32 q) 2048#32) = BitVec.ofNat 32 (l + q * 2048) := by
    apply BitVec.eq_of_toNat_eq
    show (BitVec.ofNat 32 l + BitVec.ofNat 32 q * 2048#32).toNat = _
    simp [BitVec.toNat_add, BitVec.toNat_mul]
  rw [h]
  show BitVec.ofBool ((BitVec.ofNat 32 (l + q * 2048)).slt 20050#32) = _
  congr 1
  rw [BitVec.slt, decide_eq_decide, BitVec.toInt_ofNat', BitVec.toInt_ofNat']
  simp only [Int.bmod]
  have : (l + q * 2048) < 2 ^ 31 := by omega
  norm_num
  omega

/-- A small natural number written in 32 bits and read as a signed number. -/
theorem int_value (n : ℕ) (hn : n < 2 ^ 31) :
    (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_ofNat']
    have hn' : n % 2 ^ 32 = n := Nat.mod_eq_of_lt (by omega)
    simp only [Int.bmod]
    norm_num at hn ⊢
    omega
  rw [this]; simp

/-! ## The first greatest entry -/

section FirstMax
variable {n : ℕ}

/-- `j` is the index of the first greatest entry of `f`. -/
def IsFirstMax (f : Fin n → EReal) (j : Fin n) : Prop := (∀ i, f i ≤ f j) ∧ ∀ i, i < j → f i < f j

theorem exists_firstMax (f : Fin (n + 1) → EReal) : ∃ j, IsFirstMax f j := by
  obtain ⟨j, -, hj⟩ := Finset.exists_max_image Finset.univ f ⟨0, Finset.mem_univ _⟩
  have hne : (Finset.univ.filter fun i => f i = f j).Nonempty := ⟨j, by simp⟩
  refine ⟨(Finset.univ.filter fun i => f i = f j).min' hne, ?_, ?_⟩
  · intro i
    have hm := (Finset.mem_filter.1 (Finset.min'_mem _ hne)).2
    rw [hm]; exact hj i (Finset.mem_univ _)
  · intro i hi
    have hm := (Finset.mem_filter.1 (Finset.min'_mem _ hne)).2
    rw [hm]
    refine lt_of_le_of_ne (hj i (Finset.mem_univ _)) fun he => ?_
    exact absurd (Finset.min'_le _ i (by simp [he])) (not_le.2 hi)

/-- The index of the first greatest entry. -/
def firstMax (f : Fin (n + 1) → EReal) : Fin (n + 1) := (exists_firstMax f).choose

theorem firstMax_spec (f : Fin (n + 1) → EReal) : IsFirstMax f (firstMax f) := (exists_firstMax f).choose_spec

theorem firstMax_unique {f : Fin (n + 1) → EReal} {j : Fin (n + 1)} (h : IsFirstMax f j) : j = firstMax f := by
  have h' := firstMax_spec f
  rcases lt_trichotomy j (firstMax f) with hl | he | hl
  · exact absurd (h'.2 j hl) (not_lt.2 (h.1 _))
  · exact he
  · exact absurd (h.2 _ hl) (not_lt.2 (h'.1 _))

/-- The greatest entry is the entry at `firstMax`. -/
theorem fold_max_eq (f : Fin (n + 1) → EReal) : (Finset.univ : Finset (Fin (n + 1))).fold max ⊥ f = f (firstMax f) := by
  refine le_antisymm ?_ ?_
  · rw [Finset.fold_max_le]
    exact ⟨bot_le, fun i _ => (firstMax_spec f).1 i⟩
  · rw [Finset.le_fold_max]
    exact Or.inr ⟨_, Finset.mem_univ _, le_rfl⟩

end FirstMax

theorem ofBits_ninf : (Ideal.ofBits .f32 4286578688#32 : EReal) = ⊥ := by simp [Ideal.ofBits, Ideal.ieee]
theorem ofBits_pinf : (Ideal.ofBits .f32 2139095040#32 : EReal) = ⊤ := by simp [Ideal.ofBits, Ideal.ieee]

/-- Padding with zeros does not change the greatest of nonnegative entries. -/
theorem fold_max_pad (f : Fin 50 → EReal) (hf : ∀ g, 0 ≤ f g) (f' : Fin 56 → EReal)
    (hlt : ∀ (g : Fin 56) (h : g.val < 50), f' g = f ⟨g.val, h⟩) (hge : ∀ g : Fin 56, 50 ≤ g.val → f' g = 0) :
    (Finset.univ : Finset (Fin 56)).fold max ⊥ f' = f (firstMax f) := by
  refine le_antisymm ?_ ?_
  · rw [Finset.fold_max_le]
    refine ⟨bot_le, fun i _ => ?_⟩
    by_cases h : i.val < 50
    · rw [hlt i h]; exact (firstMax_spec f).1 _
    · rw [hge i (by omega)]; exact hf _
  · rw [Finset.le_fold_max]
    have h50 := (firstMax f).isLt
    exact Or.inr ⟨⟨(firstMax f).val, by omega⟩, Finset.mem_univ _, (hlt ⟨(firstMax f).val, by omega⟩ h50).ge⟩

/-- The least row index holding the greatest entry, as a number, among entries padded with zeros. -/
theorem fold_min_pad (f : Fin 50 → EReal) (hf : ∀ g, 0 ≤ f g) (f' : Fin 56 → EReal)
    (hlt : ∀ (g : Fin 56) (h : g.val < 50), f' g = f ⟨g.val, h⟩) (c : EReal) (hc : (((firstMax f).val : ℝ) : EReal) ≤ c) :
    (Finset.univ : Finset (Fin 56)).fold min ⊤ (fun g => open Classical in if f' g = f (firstMax f) then ((g.val : ℝ) : EReal) else c)
      = (((firstMax f).val : ℝ) : EReal) := by
  refine le_antisymm ?_ ?_
  · rw [Finset.fold_min_le]
    have h50 := (firstMax f).isLt
    refine Or.inr ⟨⟨(firstMax f).val, by omega⟩, Finset.mem_univ _, ?_⟩
    rw [if_pos (hlt ⟨(firstMax f).val, by omega⟩ h50)]
  · rw [Finset.le_fold_min]
    refine ⟨le_top, fun i _ => ?_⟩
    split
    · rename_i he
      have hle : (firstMax f).val ≤ i.val := by
        by_contra hlt'
        have h50 : i.val < 50 := by omega
        rw [hlt i h50] at he
        have := (firstMax_spec f).2 ⟨i.val, h50⟩ (by rw [Fin.lt_def]; exact not_le.1 hlt')
        exact absurd he this.ne
      exact EReal.coe_le_coe_iff.2 (by exact_mod_cast hle)
    · exact hc

/-- A sum over padded rows whose padding is zero. -/
theorem sum_pad (f : Fin 50 → EReal) (f' : Fin 56 → EReal)
    (hlt : ∀ (g : Fin 56) (h : g.val < 50), f' g = f ⟨g.val, h⟩) (hge : ∀ g : Fin 56, 50 ≤ g.val → f' g = 0) :
    ∑ g, f' g = ∑ g, f g := by
  rw [show (∑ g : Fin 56, f' g) = ∑ g : Fin (50 + 6), f' g from rfl, Fin.sum_univ_add]
  rw [Finset.sum_eq_zero (s := (Finset.univ : Finset (Fin 6))) fun i _ => hge _ (by simp), add_zero]
  exact Finset.sum_congr rfl fun g _ => hlt _ g.isLt

/-! ## The arrays -/

section Arrays

/-- The proposals: four images of 20000 rows of five entries, the coordinates in columns 1 to 4. -/
abbrev Rois := FVec Ideal ⟨3, ![4, 20000, 5]⟩ .f32
/-- The ground truth boxes: four images of 50 rows, four coordinates and the label. -/
abbrev Gts := FVec Ideal ⟨3, ![4, 50, 5]⟩ .f32

/-- The labels 2 (a region to ignore) and 3 (a hard box). -/
def two : EReal := Ideal.ofBits .f32 1073741824#32
def three : EReal := Ideal.ofBits .f32 1077936128#32

/-- The ordinary boxes: a row labelled 2 or 3 is zeroed, label and all. -/
def ped (A1 : Gts) (b : Fin 4) (g : Fin 50) (k : Fin 5) : EReal :=
  A1 (ix3 b g k) * (open Classical in if A1 (ix3 b g 4) ≠ two ∧ A1 (ix3 b g 4) ≠ three then 1 else 0)
/-- The coordinates of the ordinary boxes. -/
def pedBox (A1 : Gts) (b : Fin 4) (g : Fin 50) : Box := fun k => ped A1 b g ⟨k.val, by omega⟩
/-- The hard boxes. -/
def hardBox (A1 : Gts) (b : Fin 4) (g : Fin 50) : Box := fun k =>
  A1 (ix3 b g ⟨k.val, by omega⟩) * (open Classical in if A1 (ix3 b g 4) = three then 1 else 0)
/-- The regions to ignore. -/
def ignBox (A1 : Gts) (b : Fin 4) (g : Fin 50) : Box := fun k =>
  A1 (ix3 b g ⟨k.val, by omega⟩) * (open Classical in if A1 (ix3 b g 4) = two then 1 else 0)
/-- Every proposal: the given ones, then the ordinary boxes. -/
def roi (A0 : Rois) (A1 : Gts) (b : Fin 4) (m : Fin 20050) : Box := fun k =>
  if h : m.val < 20000 then A0 (ix3 b ⟨m.val, h⟩ ⟨k.val + 1, by omega⟩)
  else pedBox A1 b ⟨m.val - 20000, by omega⟩ k

/-- Per proposal: the row of the box it overlaps most (the first such), and that overlap. -/
def best (A1 : Gts) (b : Fin 4) (r : Box) : Fin 50 := firstMax fun g => iou r (pedBox A1 b g)
def bestIou (A1 : Gts) (b : Fin 4) (r : Box) : EReal := iou r (pedBox A1 b (best A1 b r))
def hardSum (A1 : Gts) (b : Fin 4) (r : Box) : EReal := ∑ g, iou r (hardBox A1 b g)
def ignSum (A1 : Gts) (b : Fin 4) (r : Box) : EReal := ∑ g, iog r (ignBox A1 b g)

/-- The score the foreground is ranked by. -/
def fgScore (A1 : Gts) (b : Fin 4) (r : Box) : EReal :=
  open Classical in if half ≤ bestIou A1 b r then bestIou A1 b r else minusOne
/-- May the proposal serve as background? -/
def BgOk (A1 : Gts) (b : Fin 4) (r : Box) : Prop :=
  (bestIou A1 b r < half ∧ Ideal.ofBits .f32 0x3DCCCCCD#32 ≤ bestIou A1 b r)
    ∧ (hardSum A1 b r ≤ Ideal.ofBits .f32 0x358637BD#32 ∧ ignSum A1 b r ≤ Ideal.ofBits .f32 0x358637BD#32)
/-- The score the background is ranked by. -/
def bgScore (A1 : Gts) (b : Fin 4) (r : Box) : EReal :=
  open Classical in if BgOk A1 b r then 1 + bestIou A1 b r else minusOne

/-- Every ground truth box has a coordinate that is not zero, or a label 0, 2 or 3. -/
def Seen (A1 : Gts) : Prop :=
  ∀ (b : Fin 4) (g : Fin 50), (∃ k : Fin 4, A1 (ix3 b g ⟨k.val, by omega⟩) ≠ 0)
    ∨ A1 (ix3 b g 4) = 0 ∨ A1 (ix3 b g 4) = two ∨ A1 (ix3 b g 4) = three

/-- An absent ordinary box has label zero. -/
theorem ped_label_zero {A1 : Gts} (h : Seen A1) (b : Fin 4) (g : Fin 50) (hz : ∀ k, pedBox A1 b g k = 0) :
    ped A1 b g 4 = 0 := by
  unfold ped
  by_cases hm : A1 (ix3 b g 4) ≠ two ∧ A1 (ix3 b g 4) ≠ three
  · rcases h b g with ⟨k, hk⟩ | h0 | h2 | h3
    · have := hz k
      simp only [pedBox, ped] at this
      rw [if_pos hm, mul_one] at this
      exact absurd this hk
    · rw [h0, zero_mul]
    · exact absurd h2 hm.1
    · exact absurd h3 hm.2
  · rw [if_neg hm, mul_zero]

/-- A proposal that overlaps its best box at all has an ordinary box there, whose label is kept. -/
theorem label_of_fg {A1 : Gts} (b : Fin 4) (r : Box) (h : half ≤ bestIou A1 b r) :
    ped A1 b (best A1 b r) 4 = A1 (ix3 b (best A1 b r) 4) := by
  unfold ped
  by_cases hm : A1 (ix3 b (best A1 b r) 4) ≠ two ∧ A1 (ix3 b (best A1 b r) 4) ≠ three
  · rw [if_pos hm, mul_one]
  · refine absurd (h.trans (le_of_eq ?_)) (not_le.2 half_pos)
    unfold bestIou iou
    rw [if_pos]
    intro k
    simp only [pedBox, ped]
    rw [if_neg hm, mul_zero]

theorem half_le_fgScore (A1 : Gts) (b : Fin 4) (r : Box) : half ≤ fgScore A1 b r → half ≤ bestIou A1 b r := by
  intro h
  by_contra hn
  rw [fgScore, if_neg hn] at h
  have : (half : EReal) < half := lt_of_le_of_lt h (minusOne_neg.trans half_pos)
  exact lt_irrefl _ this

end Arrays

/-! ## A one-hot row times a matrix -/

/-- A sum against an indicator of one index picks that entry. -/
theorem sum_onehot {n : ℕ} (f : Fin n → EReal) (j : Fin n) (c : Fin n → EReal) (hc : ∀ i, c i = if i = j then 1 else 0) :
    ∑ i, c i * f i = f j := by
  rw [Finset.sum_eq_single j]
  · rw [hc, if_pos rfl, one_mul]
  · intro i _ hi; rw [hc, if_neg hi, zero_mul]
  · intro h; exact absurd (Finset.mem_univ _) h

end Cert.Spec

end
end
-- ==== Proof.HostPack.lean ====
module

public import proofs.«01_k».proof.Proof.KerVals
public import proofs.«01_k».proof.Proof.Spec

/-!
# The arrays the kernel's host prepares for the two calls, at an index
-/

@[expose] public section

set_option maxRecDepth 16384
noncomputable section

namespace Cert.KernelIdeal.Vals

open Cert.KernelIdeal Cert.KernelIdeal.Gen Cert.KernelIdeal.Two Idealize.ShloMosaic Idealize.ShloMosaic.TcCoe
  Idealize.SL.Sem Idealize.ShloMosaic.StableHlo
open Cert.Spec (Box Gts ped pedBox hardBox ignBox iou iog)

variable (V : Valuation τ sig (Elt Ideal))

/-- The ordinary boxes, their labels, the hard boxes and the regions to ignore. -/
theorem ped_at (h : Fix0 V) (b : Fin 4) (g : Fin 50) (k : Fin 4) : v11 V (ix3 b g k) = pedBox (arg1 V) b g k := by
  pointwise [e_v11 V h, e_v9 V h, e_v10 V h, e_v8 V h, e_v7 V h, e_v6 V h, e_v3 V h, e_v1 V h, e_v0 V h, e_v2 V h,
    e_cst V h, e_v5 V h, e_v4 V h, e_cst_0 V h]
  rw [Spec.bit_and, Spec.bit_value]
  unfold pedBox ped Spec.two Spec.three
  congr 1

theorem label_at (h : Fix0 V) (b : Fin 4) (g : Fin 50) : v13 V (ix3 b g 0) = ped (arg1 V) b g 4 := by
  pointwise [e_v13 V h, e_v12 V h, e_v8 V h, e_v7 V h, e_v6 V h, e_v3 V h, e_v1 V h, e_v0 V h, e_v2 V h, e_cst V h,
    e_v5 V h, e_v4 V h, e_cst_0 V h]
  rw [Spec.bit_and, Spec.bit_value]
  unfold ped Spec.two Spec.three
  congr 1

theorem hard_at (h : Fix0 V) (b : Fin 4) (g : Fin 50) (k : Fin 4) : v20 V (ix3 b g k) = hardBox (arg1 V) b g k := by
  pointwise [e_v20 V h, e_v14 V h, e_v19 V h, e_v18 V h, e_v17 V h, e_v16 V h, e_v1 V h, e_v0 V h, e_v15 V h,
    e_cst_1 V h]
  rw [Spec.bit_value]
  unfold hardBox Spec.three
  congr 1

theorem ign_at (h : Fix0 V) (b : Fin 4) (g : Fin 50) (k : Fin 4) : v27 V (ix3 b g k) = ignBox (arg1 V) b g k := by
  pointwise [e_v27 V h, e_v21 V h, e_v26 V h, e_v25 V h, e_v24 V h, e_v23 V h, e_v1 V h, e_v0 V h, e_v22 V h,
    e_cst_2 V h]
  rw [Spec.bit_value]
  unfold ignBox Spec.two
  congr 1

/-- The pad value, the integer zero as a number. -/
theorem pad_value : (FloatOps.sitofp (F := Ideal) FTy.f32 0#32 : EReal) = 0 := by
  show (((0#32).toInt : ℝ) : EReal) = 0
  simp

theorem pack_at (h : Fix0 V) (b : Fin 4) (g : Fin 56) (k : Fin 16) : v30 V (ix3 b g k)
    = if h1 : g.val < 50 then
        if h2 : k.val < 4 then v11 V (ix3 b ⟨g.val, h1⟩ ⟨k.val, h2⟩)
        else if h3 : k.val - 4 < 4 then v20 V (ix3 b ⟨g.val, h1⟩ ⟨k.val - 4, h3⟩)
        else if h4 : k.val - 4 - 4 < 4 then v27 V (ix3 b ⟨g.val, h1⟩ ⟨k.val - 4 - 4, h4⟩)
        else if h5 : k.val - 4 - 4 - 4 < 1 then v13 V (ix3 b ⟨g.val, h1⟩ ⟨k.val - 4 - 4 - 4, h5⟩) else 0
      else 0 := by
  pointwise [e_v30 V h, e_v29 V h, e_v28 V h, e_cst_3 V h, e_call0_v0 V h, e_c V h]
  rw [pad_value]

theorem ped5_raw (h : Fix0 V) (b : Fin 4) (g : Fin 56) (k : Fin 8) : v32 V (ix3 b g k)
    = if h1 : g.val < 50 then
        if h2 : k.val < 4 then v11 V (ix3 b ⟨g.val, h1⟩ ⟨k.val, h2⟩)
        else if h3 : k.val - 4 < 1 then v13 V (ix3 b ⟨g.val, h1⟩ ⟨k.val - 4, h3⟩) else 0
      else 0 := by
  pointwise [e_v32 V h, e_v31 V h, e_v28 V h, e_cst_3 V h, e_call1_v0 V h, e_c_4 V h]
  rw [pad_value]

/-- The second call's boxes: four coordinates and the label. -/
theorem ped5_at (h : Fix0 V) (b : Fin 4) (g : Fin 50) (k : Fin 5) :
    v32 V (ix3 b ⟨g.val, by omega⟩ ⟨k.val, by omega⟩) = ped (arg1 V) b g k := by
  rw [ped5_raw V h, dif_pos g.isLt]
  by_cases hk : k.val < 4
  · rw [dif_pos hk]
    exact ped_at V h b g ⟨k.val, hk⟩
  · obtain rfl : k = 4 := Fin.ext (by omega)
    exact label_at V h b g

/-- The proposals' coordinates, padded. -/
theorem coords_at (h : Fix0 V) (b : Fin 4) (m : Fin 20480) (k : Fin 4) (hm : m.val < 20050) : v37 V (ix3 b m k)
    = Spec.roi (arg0 V) (arg1 V) b ⟨m.val, hm⟩ k := by
  have e : v37 V (ix3 b m k) = if h1 : m.val < 20050 then
      if h2 : m.val < 20000 then arg0 V (ix3 b ⟨m.val, h2⟩ ⟨1 + k.val, by omega⟩)
        else v11 V (ix3 b ⟨m.val - 20000, by omega⟩ k) else 0 := by
    pointwise [e_v37 V h, e_v36 V h, e_v35 V h, e_v34 V h, e_v33 V h, e_cst_5 V h, e_call2_v0 V h, e_c_6 V h]
    rw [pad_value]
  rw [e, dif_pos hm]
  unfold Spec.roi
  split
  · simp only [Nat.add_comm 1]
  · exact ped_at V h _ _ _

theorem pt_at (h : Fix0 V) (b : Fin 4) (m : Fin 20480) (k : Fin 4) : v38 V (ix3 b k m) = v37 V (ix3 b m k) := by
  pointwise [e_v38 V h]

end Cert.KernelIdeal.Vals

end
end
-- ==== Proof.ScoreBody.lean ====
module

public import Idealize.ShloMosaic.Lib.Pointwise
public import Idealize.ShloMosaic.Lib.Pipeline.ValueKit
public import proofs.«01_k».proof.Proof.IdealRun
public import proofs.«01_k».proof.Proof.Spec

/-!
# What the scoring body computes on one block

The block of ground truth data is 56 rows of 16 entries: the ordinary box, the hard box, the region to ignore, the label
of the ordinary box; six rows of padding. The block of proposals is four rows of 2048 coordinates. Each intermediate
array of the body at an index, in the terms of `Spec`.
-/

@[expose] public section

set_option maxRecDepth 16384
noncomputable section

namespace Cert.KernelIdeal.Body

open Cert.KernelIdeal Cert.KernelIdeal.Gen Cert.KernelIdeal.Two Idealize.ShloMosaic Idealize.ShloMosaic.TcCoe
  Idealize.SL.Sem Idealize.ShloMosaic.StableHlo
open Cert.Spec (Box Gts ped pedBox hardBox ignBox iou iog)

/-- The block `x1` holds image `b`'s ground truth data. -/
structure Packed (A1 : Gts) (b : Fin 4) (x1 : Vec Ideal S1x56x16 .f32) : Prop where
  ped : ∀ (g : Fin 50) (k : Fin 4), x1 (ix3 0 ⟨g.val, by omega⟩ ⟨k.val, by omega⟩) = pedBox A1 b g k
  hard : ∀ (g : Fin 50) (k : Fin 4), x1 (ix3 0 ⟨g.val, by omega⟩ ⟨4 + k.val, by omega⟩) = hardBox A1 b g k
  ign : ∀ (g : Fin 50) (k : Fin 4), x1 (ix3 0 ⟨g.val, by omega⟩ ⟨8 + k.val, by omega⟩) = ignBox A1 b g k
  lab : ∀ g : Fin 50, x1 (ix3 0 ⟨g.val, by omega⟩ 12) = Spec.ped A1 b g 4
  pad : ∀ (g : Fin 56) (k : Fin 16), 50 ≤ g.val → x1 (ix3 0 g k) = 0

variable (i : grid0.Coords) (x0 : Vec Ideal S1x4x2048 .f32) (x1 : Vec Ideal S1x56x16 .f32)

/-- Proposal `l` of the block. -/
def colBox (l : Fin 2048) : Box := fun k => x0 (ix3 0 k l)
/-- The box in columns `o` to `o + 3` of row `g`. -/
def rowBox (o : ℕ) (ho : o ≤ 8) (g : Fin 56) : Box := fun k => x1 (ix3 0 g ⟨o + k.val, by omega⟩)

/-- The overlaps with the ordinary boxes. -/
def pedIou : FVec Ideal S56x2048 .f32 :=
  k0_pay21 (score_v7 i x0 x1) (score_v14 i x0 x1) (score_v19 i x0 x1) (score_v30 i x0 x1) (score_v37 i x0 x1)
    (score_v40 i x0 x1) (score_v43 i x0 x1) (score_v46 i x0 x1)

theorem pedIou_raw (g : Fin 56) (l : Fin 2048) : pedIou i x0 x1 (ix2 g l)
    = open Classical in if Spec.Absent (rowBox x1 0 (by omega) g) ∧ x1 (ix3 0 g 12) = 0 then 0 else
      Ideal.div (Spec.inter (colBox x0 l) (rowBox x1 0 (by omega) g))
        (max (Spec.area (colBox x0 l) + Spec.area (rowBox x1 0 (by omega) g)
          - Spec.inter (colBox x0 l) (rowBox x1 0 (by omega) g)) Spec.eps) := by
  pointwise [pedIou, k0_pay21, score_v7, score_v14, score_v19, score_v30, score_v37, score_v40, score_v43, score_v46,
    k0_pay10, k0_pay11, k0_pay15, k0_pay16, k0_pay17, k0_pay18, k0_pay19, k0_pay20, k0_pay5, k0_pay6, k0_pay7, k0_pay8,
    k0_pay9, k0_pay12, k0_pay13, k0_pay14]
  refine Spec.ite_eq ?_ rfl rfl
  unfold Spec.Absent
  rw [← Spec.abs4_eq_zero, ← Spec.absf_eq_zero (a := x1 (ix3 0 g 12))]
  exact add_eq_zero_iff_of_nonneg (add_nonneg (add_nonneg (add_nonneg (Spec.absf_nonneg _) (Spec.absf_nonneg _))
    (Spec.absf_nonneg _)) (Spec.absf_nonneg _)) (Spec.absf_nonneg _)

variable {A1 : Gts} {b : Fin 4}

theorem pedIou_lt (hs : Spec.Seen A1) (hp : Packed A1 b x1) (g : Fin 56) (l : Fin 2048) (hg : g.val < 50) :
    pedIou i x0 x1 (ix2 g l) = iou (colBox x0 l) (pedBox A1 b ⟨g.val, hg⟩) := by
  rw [pedIou_raw]
  have hb : rowBox x1 0 (by omega) g = pedBox A1 b ⟨g.val, hg⟩ := by
    funext k
    rw [← hp.ped]
    simp only [rowBox, Nat.zero_add]
  have hl : x1 (ix3 0 g 12) = Spec.ped A1 b ⟨g.val, hg⟩ 4 := hp.lab ⟨g.val, hg⟩
  rw [hb, hl]
  unfold iou
  refine Spec.ite_eq ?_ rfl rfl
  exact ⟨fun h => h.1, fun h => ⟨h, Spec.ped_label_zero hs b _ h⟩⟩

theorem pedIou_ge (hp : Packed A1 b x1) (g : Fin 56) (l : Fin 2048) (hg : 50 ≤ g.val) :
    pedIou i x0 x1 (ix2 g l) = 0 := by
  rw [pedIou_raw, if_pos]
  exact ⟨fun k => hp.pad _ _ hg, hp.pad _ _ hg⟩

/-- The greatest overlap. -/
theorem best_at (hs : Spec.Seen A1) (hp : Packed A1 b x1) (l : Fin 2048) :
    score_v73 i x0 x1 (ix2 0 l) = Spec.bestIou A1 b (colBox x0 l) := by
  pointwise [score_v73, k0_pay22]
  rw [Spec.ofBits_ninf]
  exact Spec.fold_max_pad (fun g => iou (colBox x0 l) (pedBox A1 b g)) (fun g => Spec.iou_nonneg _ _) _
    (fun g hg => pedIou_lt i x0 x1 hs hp g l hg) (fun g hg => pedIou_ge i x0 x1 hp g l hg)

/-- The number the body puts where a row is not the greatest. -/
theorem ofBits_56 : (Ideal.ofBits .f32 0x42600000#32 : EReal) = ((56 : ℝ) : EReal) := by
  simp only [Ideal.ofBits, Ideal.ieee]
  simp [-EReal.coe_mul]
  norm_num

/-- The first row of greatest overlap, as a number. -/
def gaRow : FVec Ideal S1x2048 .f32 :=
  k0_pay23 (score_v7 i x0 x1) (score_v14 i x0 x1) (score_v19 i x0 x1) (score_v30 i x0 x1) (score_v37 i x0 x1)
    (score_v40 i x0 x1) (score_v43 i x0 x1) (score_v46 i x0 x1)

theorem ga_at (hs : Spec.Seen A1) (hp : Packed A1 b x1) (l : Fin 2048) :
    gaRow i x0 x1 (ix2 0 l) = (((Spec.best A1 b (colBox x0 l)).val : ℝ) : EReal) := by
  have hb : k0_pay22 (score_v7 i x0 x1) (score_v14 i x0 x1) (score_v19 i x0 x1) (score_v30 i x0 x1) (score_v37 i x0 x1)
    (score_v40 i x0 x1) (score_v43 i x0 x1) (score_v46 i x0 x1) (ix2 0 l) = Spec.bestIou A1 b (colBox x0 l) := best_at i x0 x1 hs hp l
  pointwise [gaRow, k0_pay23]
  rw [hb, Spec.ofBits_pinf, ofBits_56]
  have := Spec.fold_min_pad (fun g => iou (colBox x0 l) (pedBox A1 b g)) (fun g => Spec.iou_nonneg _ _)
    (fun g => pedIou i x0 x1 (ix2 g l))
    (fun g hg => pedIou_lt i x0 x1 hs hp g l hg) ((56 : ℝ) : EReal) (EReal.coe_le_coe_iff.2 (by
      have := (Spec.firstMax fun g => iou (colBox x0 l) (pedBox A1 b g)).isLt
      exact_mod_cast (by omega : (Spec.firstMax fun g => iou (colBox x0 l) (pedBox A1 b g)).val ≤ 56)))
  refine Eq.trans ?_ this
  refine Finset.fold_congr fun g _ => ?_
  rw [Spec.int_value _ (by omega)]
  exact Spec.ite_eq Iff.rfl rfl rfl

/-- The summed overlaps with the hard boxes. -/
def hardRow : FVec Ideal S1x2048 .f32 :=
  k0_pay30 (score_v4 i x0 x1) (score_v5 i x0 x1) (score_v6 i x0 x1) (score_v7 i x0 x1) (score_v14 i x0 x1) (k0_pay24 (score_v3 i x0 x1)) (k0_pay25 (score_v3 i x0 x1)) (k0_pay26 (score_v3 i x0 x1)) (k0_pay27 (score_v3 i x0 x1)) (k0_pay28 (score_v3 i x0 x1)) (k0_pay29 (score_v3 i x0 x1)) (Scalar.ofBits .f32 0x3F800000#32)
theorem hard_raw (l : Fin 2048) : hardRow i x0 x1 (ix2 0 l) = ∑ g : Fin 56, iou (colBox x0 l) (rowBox x1 4 (by omega) g) := by
  pointwise [hardRow, score_v3, score_v4, score_v5, score_v6, score_v7, score_v14, k0_pay30, k0_pay24, k0_pay25, k0_pay26, k0_pay27, k0_pay28, k0_pay29, k0_pay5, k0_pay6, k0_pay7, k0_pay8,
    k0_pay9, k0_pay10, k0_pay11]
  refine Finset.sum_congr rfl fun g _ => ?_
  unfold iou
  refine Spec.ite_eq ?_ rfl ?_
  · exact Spec.abs4_eq_zero (rowBox x1 4 (by omega) g)
  · rfl

/-- The summed overlaps with the regions to ignore. -/
def ignRow : FVec Ideal S1x2048 .f32 :=
  k0_pay37 (score_v4 i x0 x1) (score_v5 i x0 x1) (score_v6 i x0 x1) (score_v7 i x0 x1) (k0_pay31 (score_v3 i x0 x1))
    (k0_pay32 (score_v3 i x0 x1)) (k0_pay33 (score_v3 i x0 x1)) (k0_pay34 (score_v3 i x0 x1))
    (k0_pay35 (score_v3 i x0 x1)) (k0_pay36 (score_v3 i x0 x1))
theorem ign_raw (l : Fin 2048) : ignRow i x0 x1 (ix2 0 l) = ∑ g : Fin 56, iog (colBox x0 l) (rowBox x1 8 (by omega) g) := by
  pointwise [ignRow, score_v3, score_v4, score_v5, score_v6, score_v7, k0_pay37, k0_pay31, k0_pay32, k0_pay33,
    k0_pay34, k0_pay35, k0_pay36, k0_pay5, k0_pay6, k0_pay7, k0_pay8, k0_pay9, k0_pay10]
  refine Finset.sum_congr rfl fun g _ => ?_
  unfold iog
  refine Spec.ite_eq ?_ rfl ?_
  · exact Spec.abs4_eq_zero (rowBox x1 8 (by omega) g)
  · rfl

theorem ign_at (hp : Packed A1 b x1) (l : Fin 2048) : ignRow i x0 x1 (ix2 0 l) = Spec.ignSum A1 b (colBox x0 l) := by
  rw [ign_raw]
  refine Spec.sum_pad _ _ (fun g hg => ?_) (fun g hg => ?_)
  · exact congrArg _ (funext fun k => hp.ign ⟨g.val, hg⟩ k)
  · unfold iog
    exact if_pos fun k => hp.pad _ _ hg

theorem hard_at (hp : Packed A1 b x1) (l : Fin 2048) : hardRow i x0 x1 (ix2 0 l) = Spec.hardSum A1 b (colBox x0 l) := by
  rw [hard_raw]
  refine Spec.sum_pad _ _ (fun g hg => ?_) (fun g hg => ?_)
  · exact congrArg _ (funext fun k => hp.hard ⟨g.val, hg⟩ k)
  · unfold iou
    exact if_pos fun k => hp.pad _ _ hg

/-- The foreground scores the body writes, `q` the block's place along the proposals. -/
theorem fg_at (hs : Spec.Seen A1) (hp : Packed A1 b x1) (l : Fin 2048) :
    k0_pay2 (score_v73 i x0 x1) (score_v194 i x0 x1) (score_v195 i x0 x1) (ix3 0 0 l)
      = if l.val + (i 1).val * 2048 < 20050 then Spec.fgScore A1 b (colBox x0 l) else Spec.minusOne := by
  pointwise [k0_pay2, k0_pay1, score_v194, score_v195, k0_pay38, k0_pay39]
  rw [best_at i x0 x1 hs hp, Spec.valid_bit _ _ l.isLt (i 1).isLt, Spec.bit_and, Spec.bit_select]
  unfold Spec.fgScore
  by_cases hv : l.val + (i 1).val * 2048 < 20050
  · rw [if_pos hv]
    exact Spec.ite_same (and_iff_left hv) _ _
  · rw [if_neg hv, if_neg fun h => hv h.2]
    rfl

/-- The background scores the body writes. -/
theorem bg_at (hs : Spec.Seen A1) (hp : Packed A1 b x1) (l : Fin 2048) :
    k0_pay3 (score_v73 i x0 x1) (hardRow i x0 x1) (ignRow i x0 x1) (score_v194 i x0 x1) (score_v195 i x0 x1) (ix3 0 0 l)
      = if l.val + (i 1).val * 2048 < 20050 then Spec.bgScore A1 b (colBox x0 l) else Spec.minusOne := by
  pointwise [k0_pay3, k0_pay1, score_v194, score_v195, k0_pay38, k0_pay39]
  rw [best_at i x0 x1 hs hp, hard_at i x0 x1 hp, ign_at i x0 x1 hp, Spec.valid_bit _ _ l.isLt (i 1).isLt, Spec.bit_and,
    Spec.bit_and, Spec.bit_and, Spec.bit_and, Spec.bit_select]
  unfold Spec.bgScore Spec.BgOk
  by_cases hv : l.val + (i 1).val * 2048 < 20050
  · rw [if_pos hv]
    exact Spec.ite_same (and_iff_left hv) _ _
  · rw [if_neg hv, if_neg fun h => hv h.2]
    rfl

/-- The row numbers the body writes. -/
theorem ga_store_at (hs : Spec.Seen A1) (hp : Packed A1 b x1) (l : Fin 2048) :
    k0_pay4 (gaRow i x0 x1) (ix3 0 0 l) = (((Spec.best A1 b (colBox x0 l)).val : ℝ) : EReal) := by
  pointwise [k0_pay4]
  exact ga_at i x0 x1 hs hp l

end Cert.KernelIdeal.Body

end
end
-- ==== Proof.Region0.lean ====
module

public import proofs.«01_k».proof.Proof.HostPack
public import proofs.«01_k».proof.Proof.ScoreBody

/-!
# The scoring call's three result arrays

At each grid point the blocks shown to the body are the image's ground truth data and 2048 of its proposals; the blocks
written back tile the result arrays.
-/

@[expose] public section

set_option maxRecDepth 16384
noncomputable section

namespace Cert.KernelIdeal.Region0

open Cert.KernelIdeal Cert.KernelIdeal.Gen Cert.KernelIdeal.Two Idealize.ShloMosaic Idealize.ShloMosaic.TcCoe
  Idealize.SL.Sem
open Idealize.ShloMosaic.Pipeline (Dat)
open Cert.KernelIdeal.Body (Packed colBox)

variable (m : (ℓ : Loc nD τ sig) → Buf (Elt Ideal) ℓ) (ρ : Dev nD → PrngReg)

theorem idx : ∀ t : Fin cfg0.N,
    win0_0.index t = ![(grid0.coords t 0).val, 0, (grid0.coords t 1).val]
      ∧ win0_1.index t = ![(grid0.coords t 0).val, 0, 0]
      ∧ win0_2.index t = ![(grid0.coords t 0).val, 0, (grid0.coords t 1).val]
      ∧ win0_3.index t = ![(grid0.coords t 0).val, 0, (grid0.coords t 1).val]
      ∧ win0_4.index t = ![(grid0.coords t 0).val, 0, (grid0.coords t 1).val]
      ∧ (grid0.coords t 0).val < 4 ∧ (grid0.coords t 1).val < 10 :=
  (by decide +kernel : ∀ t : Fin grid0.N, _)

/-- The image of a grid point. -/
def img (t : Fin cfg0.N) : Fin 4 := ⟨(grid0.coords t 0).val, (idx t).2.2.2.2.2.1⟩

theorem gt_block (c : Dev nD) (t : Fin cfg0.N) (g : Fin 56) (k : Fin 16) :
    iblk0 (V1 m ρ) c 1 t (ix3 0 g k) = Vals.v30 (W1 m ρ c) (ix3 (img t) g k) := by
  blk_ext [iblk0, V1, Vals.v30, idx t, img]

theorem roi_block (c : Dev nD) (t : Fin cfg0.N) (k : Fin 4) (l : Fin 2048) :
    iblk0 (V1 m ρ) c 0 t (ix3 0 k l) = Vals.v38 (W1 m ρ c) (ix3 (img t) k ⟨(grid0.coords t 1).val * 2048 + l.val, by
      have := (idx t).2.2.2.2.2.2; omega⟩) := by
  blk_ext [iblk0, V1, Vals.v38, idx t, img]

theorem packed (c : Dev nD) (t : Fin cfg0.N) : Packed (Vals.arg1 (W1 m ρ c)) (img t) (iblk0 (V1 m ρ) c 1 t) where
  ped g k := by
    refine (gt_block m ρ c t _ _).trans ((Vals.pack_at _ (Vals.fix0 _) _ _ _).trans ?_)
    rw [dif_pos g.isLt, dif_pos k.isLt]
    exact Vals.ped_at _ (Vals.fix0 _) _ _ _
  hard g k := by
    refine (gt_block m ρ c t _ _).trans ((Vals.pack_at _ (Vals.fix0 _) _ _ _).trans ?_)
    rw [dif_pos g.isLt, dif_neg (by simp), dif_pos (by simp)]
    refine Eq.trans ?_ (Vals.hard_at _ (Vals.fix0 _) _ g k)
    congr 2; exact Fin.ext (by simp)
  ign g k := by
    refine (gt_block m ρ c t _ _).trans ((Vals.pack_at _ (Vals.fix0 _) _ _ _).trans ?_)
    rw [dif_pos g.isLt, dif_neg (by simp; omega), dif_neg (by simp; omega), dif_pos (by simp; omega)]
    refine Eq.trans ?_ (Vals.ign_at _ (Vals.fix0 _) _ g k)
    congr 2; exact Fin.ext (by simp; omega)
  lab g := by
    refine (gt_block m ρ c t _ _).trans ((Vals.pack_at _ (Vals.fix0 _) _ _ _).trans ?_)
    rw [dif_pos g.isLt, dif_neg (by simp), dif_neg (by simp), dif_neg (by simp), dif_pos (by simp)]
    exact Vals.label_at _ (Vals.fix0 _) _ g
  pad g k hg := by
    refine (gt_block m ρ c t _ _).trans ((Vals.pack_at _ (Vals.fix0 _) _ _ _).trans ?_)
    rw [dif_neg (by omega)]

/-- Proposal `x` of image `b`, read off the transposed padded coordinates. -/
def col (V : Valuation τ sig (Elt Ideal)) (b : Fin 4) (x : Fin 20480) : Spec.Box := fun k => Vals.v38 V (ix3 b k x)

theorem colBox_eq (c : Dev nD) (t : Fin cfg0.N) (l : Fin 2048) :
    colBox (iblk0 (V1 m ρ) c 0 t) l = col (W1 m ρ c) (img t) ⟨(grid0.coords t 1).val * 2048 + l.val, by
      have := (idx t).2.2.2.2.2.2; omega⟩ := funext fun k => roi_block m ρ c t k l

/-- The three result arrays. -/
def fgArr (V : Valuation τ sig (Elt Ideal)) : FVec Ideal S4x1x20480 .f32 := fun y =>
  if (y 2).val < 20050 then Spec.fgScore (Vals.arg1 V) ⟨(y 0).val, (y 0).isLt⟩ (col V ⟨(y 0).val, (y 0).isLt⟩ ⟨(y 2).val, (y 2).isLt⟩)
  else Spec.minusOne
def bgArr (V : Valuation τ sig (Elt Ideal)) : FVec Ideal S4x1x20480 .f32 := fun y =>
  if (y 2).val < 20050 then Spec.bgScore (Vals.arg1 V) ⟨(y 0).val, (y 0).isLt⟩ (col V ⟨(y 0).val, (y 0).isLt⟩ ⟨(y 2).val, (y 2).isLt⟩)
  else Spec.minusOne
def gaArr (V : Valuation τ sig (Elt Ideal)) : FVec Ideal S4x1x20480 .f32 := fun y =>
  (((Spec.best (Vals.arg1 V) ⟨(y 0).val, (y 0).isLt⟩ (col V ⟨(y 0).val, (y 0).isLt⟩ ⟨(y 2).val, (y 2).isLt⟩)).val : ℝ) : EReal)

theorem flat (y : S1x1x2048.Idx) : ∃ l : Fin 2048, y = ix3 0 0 l :=
  ⟨y 2, funext fun a => match a with
    | 0 => Subsingleton.elim (α := Fin 1) _ _
    | 1 => Subsingleton.elim (α := Fin 1) _ _
    | 2 => rfl⟩

/-- Array 2 of the call. -/
theorem final2 (hs : ∀ c, Spec.Seen (Vals.arg1 (W1 m ρ c))) (c : Dev nD) :
    (dat0 (V1 m ρ) c).arrAt 2 cfg0.N = fgArr (W1 m ρ c) := by
  refine (dat0 (V1 m ρ) c).arrAt_eq_of_covers 2 _ (by decide +kernel) fun t _ y => ?_
  blk_simp
  rw [after0_2]; frame_out
  obtain ⟨l, rfl⟩ := flat y
  unfold fgArr
  blk_simp [idx t]
  exact (Body.fg_at _ _ _ (hs c) (packed m ρ c t) l).trans (by rw [colBox_eq, Nat.add_comm l.val]; rfl)

/-- Array 3 of the call. -/
theorem final3 (hs : ∀ c, Spec.Seen (Vals.arg1 (W1 m ρ c))) (c : Dev nD) :
    (dat0 (V1 m ρ) c).arrAt 3 cfg0.N = bgArr (W1 m ρ c) := by
  refine (dat0 (V1 m ρ) c).arrAt_eq_of_covers 3 _ (by decide +kernel) fun t _ y => ?_
  blk_simp
  rw [after0_3]; frame_out
  obtain ⟨l, rfl⟩ := flat y
  unfold bgArr
  blk_simp [idx t]
  exact (Body.bg_at _ _ _ (hs c) (packed m ρ c t) l).trans (by rw [colBox_eq, Nat.add_comm l.val]; rfl)

/-- Array 4 of the call. -/
theorem final4 (hs : ∀ c, Spec.Seen (Vals.arg1 (W1 m ρ c))) (c : Dev nD) :
    (dat0 (V1 m ρ) c).arrAt 4 cfg0.N = gaArr (W1 m ρ c) := by
  refine (dat0 (V1 m ρ) c).arrAt_eq_of_covers 4 _ (by decide +kernel) fun t _ y => ?_
  blk_simp
  rw [after0_4]; frame_out
  obtain ⟨l, rfl⟩ := flat y
  unfold gaArr
  blk_simp [idx t]
  exact (Body.ga_store_at _ _ _ (hs c) (packed m ρ c t) l).trans (by rw [colBox_eq]; rfl)

end Cert.KernelIdeal.Region0

end
end
-- ==== Proof.Chosen.lean ====
module

public import proofs.«01_k».proof.Proof.Spec

/-!
# The chosen proposals

Of each image the 64 proposals of greatest foreground score and the 192 of greatest background score are kept. Both
programs choose by the same operation on the same scores, so all that is needed of it is that it gives row numbers.
-/

@[expose] public section

noncomputable section

namespace Cert.Spec

open Idealize.ShloMosaic

/-- A sort along the rows puts at each place the pair of some row. -/
theorem sort_at {β : Type} (cmp : EReal × β → EReal × β → BitVec 1) (x : (⟨2, ![4, 20050]⟩ : Shape).Idx → EReal)
    (y : (⟨2, ![4, 20050]⟩ : Shape).Idx → β) (j : (⟨2, ![4, 20050]⟩ : Shape).Idx) :
    ∃ p : Fin 20050, (Host.sort2 ⟨2, ![4, 20050]⟩ 1 cmp x y).1 j = x (ix2 ⟨(j 0).val, (j 0).isLt⟩ p)
      ∧ (Host.sort2 ⟨2, ![4, 20050]⟩ 1 cmp x y).2 j = y (ix2 ⟨(j 0).val, (j 0).isLt⟩ p) := by
  have hd : (1 : ℕ) < (⟨2, ![4, 20050]⟩ : Shape).rank := by decide
  obtain ⟨q, h1, h2⟩ : ∃ q : Fin 20050,
      (Host.sort2 ⟨2, ![4, 20050]⟩ 1 cmp x y).1 j = x (Shape.Idx.along j (1 : Fin 2) q)
        ∧ (Host.sort2 ⟨2, ![4, 20050]⟩ 1 cmp x y).2 j = y (Shape.Idx.along j (1 : Fin 2) q) := by
    unfold Host.sort2
    rw [dif_pos hd]
    exact ⟨_, rfl, rfl⟩
  have e : Shape.Idx.along j (1 : Fin 2) q = ix2 ⟨(j 0).val, (j 0).isLt⟩ q := by
    funext a
    match a with
    | 0 => exact Function.update_of_ne (by decide) _ _
    | 1 => exact Function.update_self _ _ _
  exact ⟨q, h1.trans (congrArg x e), h2.trans (congrArg y e)⟩

theorem topK_at {n : ℕ} (gt : EReal → EReal → BitVec 1) (x : (⟨2, ![4, 20050]⟩ : Shape).Idx → EReal)
    (h : (⟨2, ![4, 20050]⟩ : Shape).Slices (fun _ => 0) ⟨2, ![4, n]⟩) (b : Fin 4) (r : Fin n) :
    ∃ p : Fin 20050, (Host.topK ⟨2, ![4, n]⟩ 1 gt x h).1 (ix2 b r) = x (ix2 b p)
      ∧ (Host.topK ⟨2, ![4, n]⟩ 1 gt x h).2 (ix2 b r) = BitVec.ofNat 32 p.val := by
  obtain ⟨p, h1, h2⟩ := sort_at (fun l r => gt l.1 r.1) x
    (fun i => if hd : 1 < (⟨2, ![4, 20050]⟩ : Shape).rank then iotaInDim ⟨2, ![4, 20050]⟩ 32 ⟨1, hd⟩ i else 0#32)
    (fun a => ⟨0 + (ix2 b r (a.cast h.1.symm)).val, Nat.lt_of_lt_of_le (Nat.add_lt_add_left (ix2 b r _).isLt _) (h.2 a)⟩)
  have e : (⟨0 + (ix2 b r ((0 : Fin 2).cast h.1.symm)).val,
      Nat.lt_of_lt_of_le (Nat.add_lt_add_left (ix2 b r _).isLt _) (h.2 (0 : Fin 2))⟩ : Fin 4) = b :=
    Fin.ext (Nat.zero_add _)
  refine ⟨p, h1.trans (congrArg (fun v => x (ix2 v p)) e), h2.trans ?_⟩
  rfl

/-- The scores of all proposals. -/
def fgAll (A0 : Rois) (A1 : Gts) : (⟨2, ![4, 20050]⟩ : Shape).Idx → EReal := fun y =>
  fgScore A1 ⟨(y 0).val, (y 0).isLt⟩ (roi A0 A1 ⟨(y 0).val, (y 0).isLt⟩ ⟨(y 1).val, (y 1).isLt⟩)
def bgAll (A0 : Rois) (A1 : Gts) : (⟨2, ![4, 20050]⟩ : Shape).Idx → EReal := fun y =>
  bgScore A1 ⟨(y 0).val, (y 0).isLt⟩ (roi A0 A1 ⟨(y 0).val, (y 0).isLt⟩ ⟨(y 1).val, (y 1).isLt⟩)

theorem fits64 : (⟨2, ![4, 20050]⟩ : Shape).Slices (fun _ => 0) ⟨2, ![4, 64]⟩ := by decide
theorem fits192 : (⟨2, ![4, 20050]⟩ : Shape).Slices (fun _ => 0) ⟨2, ![4, 192]⟩ := by decide

/-- The foreground and the background choice of an image. -/
def fgPick (A0 : Rois) (A1 : Gts) (b : Fin 4) (r : Fin 64) : Fin 20050 :=
  (topK_at (FloatOps.cmpfTotal (F := Ideal) (φ := .f32) .gt) (fgAll A0 A1) fits64 b r).choose
def bgPick (A0 : Rois) (A1 : Gts) (b : Fin 4) (r : Fin 192) : Fin 20050 :=
  (topK_at (FloatOps.cmpfTotal (F := Ideal) (φ := .f32) .gt) (bgAll A0 A1) fits192 b r).choose

theorem fgPick_value (A0 : Rois) (A1 : Gts) (b : Fin 4) (r : Fin 64) :
    (Host.topK ⟨2, ![4, 64]⟩ 1 (FloatOps.cmpfTotal (F := Ideal) (φ := .f32) .gt) (fgAll A0 A1) fits64).1 (ix2 b r)
      = fgScore A1 b (roi A0 A1 b (fgPick A0 A1 b r)) :=
  (topK_at (FloatOps.cmpfTotal (F := Ideal) (φ := .f32) .gt) (fgAll A0 A1) fits64 b r).choose_spec.1
theorem fgPick_index (A0 : Rois) (A1 : Gts) (b : Fin 4) (r : Fin 64) :
    (Host.topK ⟨2, ![4, 64]⟩ 1 (FloatOps.cmpfTotal (F := Ideal) (φ := .f32) .gt) (fgAll A0 A1) fits64).2 (ix2 b r)
      = BitVec.ofNat 32 (fgPick A0 A1 b r).val :=
  (topK_at (FloatOps.cmpfTotal (F := Ideal) (φ := .f32) .gt) (fgAll A0 A1) fits64 b r).choose_spec.2
theorem bgPick_index (A0 : Rois) (A1 : Gts) (b : Fin 4) (r : Fin 192) :
    (Host.topK ⟨2, ![4, 192]⟩ 1 (FloatOps.cmpfTotal (F := Ideal) (φ := .f32) .gt) (bgAll A0 A1) fits192).2 (ix2 b r)
      = BitVec.ofNat 32 (bgPick A0 A1 b r).val :=
  (topK_at (FloatOps.cmpfTotal (F := Ideal) (φ := .f32) .gt) (bgAll A0 A1) fits192 b r).choose_spec.2

/-- The chosen proposals of an image: foreground first. -/
def keep (A0 : Rois) (A1 : Gts) (b : Fin 4) (r : Fin 256) : Fin 20050 :=
  if h : r.val < 64 then fgPick A0 A1 b ⟨r.val, h⟩ else bgPick A0 A1 b ⟨r.val - 64, by omega⟩
/-- Is the chosen proposal foreground? -/
def IsFg (A0 : Rois) (A1 : Gts) (b : Fin 4) (r : Fin 256) : Prop :=
  r.val < 64 ∧ half ≤ fgScore A1 b (roi A0 A1 b (keep A0 A1 b r))
/-- The box and the row of it that a chosen proposal belongs to, and its label. -/
def kept (A0 : Rois) (A1 : Gts) (b : Fin 4) (r : Fin 256) : Box := roi A0 A1 b (keep A0 A1 b r)
def row (A0 : Rois) (A1 : Gts) (b : Fin 4) (r : Fin 256) : Fin 50 := best A1 b (kept A0 A1 b r)
def label (A0 : Rois) (A1 : Gts) (b : Fin 4) (r : Fin 256) : EReal :=
  open Classical in if IsFg A0 A1 b r then ped A1 b (row A0 A1 b r) 4 else 0

/-- A foreground proposal's label is the one its box came with. -/
theorem label_eq (A0 : Rois) (A1 : Gts) (b : Fin 4) (r : Fin 256) :
    label A0 A1 b r = open Classical in if IsFg A0 A1 b r then A1 (ix3 b (row A0 A1 b r) 4) else 0 := by
  unfold label
  by_cases h : IsFg A0 A1 b r
  · rw [if_pos h, if_pos h]
    exact label_of_fg b _ (half_le_fgScore A1 b _ h.2)
  · rw [if_neg h, if_neg h]

end Cert.Spec

end
end
-- ==== Proof.MidHost.lean ====
module

public import proofs.«01_k».proof.Proof.Region0
public import proofs.«01_k».proof.Proof.Chosen

/-!
# Between the two calls

The host takes the chosen proposals off the first call's scores and packs, for the second call, the proposals beside
their rows of the best box, and the chosen row numbers beside a flag that is set for foreground.
-/

@[expose] public section

set_option maxRecDepth 16384
noncomputable section

namespace Cert.KernelIdeal.Mid

open Cert.KernelIdeal Cert.KernelIdeal.Gen Cert.KernelIdeal.Two Idealize.ShloMosaic Idealize.ShloMosaic.TcCoe
  Idealize.SL.Sem Idealize.ShloMosaic.StableHlo
open Cert.KernelIdeal.Vals

section
variable (V : Valuation τ sig (Elt Ideal))

theorem fg_raw (h : Fix1 V) (b : Fin 4) (x : Fin 20050) : v41 V (ix2 b x) = v39_0 V (ix3 b 0 ⟨x.val, by omega⟩) := by
  pointwise [e_v41 V h, e_v40 V h]
theorem bg_raw (h : Fix1 V) (b : Fin 4) (x : Fin 20050) : v43 V (ix2 b x) = v39_1 V (ix3 b 0 ⟨x.val, by omega⟩) := by
  pointwise [e_v43 V h, e_v42 V h]
theorem number_raw (h : Fix1 V) (b : Fin 4) (r : Fin 256) : v44 V (ix2 b r)
    = if hr : r.val < 64 then indices V (ix2 b ⟨r.val, hr⟩) else indices_8 V (ix2 b ⟨r.val - 64, by omega⟩) := by
  pointwise [e_v44 V h]
theorem aux_number (h : Fix1 V) (b : Fin 4) (r : Fin 256) :
    v54 V (ix3 b r 0) = FloatOps.sitofp (F := Ideal) .f32 (v44 V (ix2 b r)) := by
  pointwise [e_v54 V h, e_v51 V h, e_v50 V h, e_v52 V h, e_v49 V h, e_v47 V h, e_v46 V h, e_v45 V h, e_cst_9 V h,
    e_v48 V h, e_cst_10 V h, e_v53 V h, e_cst_11 V h]
theorem aux_flag (h : Fix1 V) (b : Fin 4) (r : Fin 256) : v54 V (ix3 b r 1)
    = if hr : r.val < 64 then (open Classical in if Spec.half ≤ values V (ix2 b ⟨r.val,
      hr⟩) then (1 : EReal) else 0) else 0 := by
  pointwise [e_v54 V h, e_v51 V h, e_v50 V h, e_v52 V h, e_v49 V h, e_v47 V h, e_v46 V h, e_v45 V h, e_cst_9 V h,
    e_v48 V h, e_cst_10 V h, e_v53 V h, e_cst_11 V h]
  by_cases hr : r.val < 64
  · rw [dif_pos hr, dif_pos hr, Spec.bit_value]
    exact Spec.ite_eq Iff.rfl rfl rfl
  · rw [dif_neg hr, dif_neg hr]
theorem pt_coord (h : Fix1 V) (b : Fin 4) (x : Fin 20480) (k : Fin 4) :
    v57 V (ix3 b x ⟨k.val, by omega⟩) = v37 V (ix3 b x k) := by
  have hk : k = 0 ∨ k = 1 ∨ k = 2 ∨ k = 3 := by omega
  rcases hk with rfl | rfl | rfl | rfl <;> pointwise [e_v57 V h, e_v55 V h, e_v56 V h, e_cst_12 V h]
theorem pt_row (h : Fix1 V) (b : Fin 4) (x : Fin 20480) : v57 V (ix3 b x 4) = v39_2 V (ix3 b 0 x) := by
  pointwise [e_v57 V h, e_v55 V h, e_v56 V h, e_cst_12 V h]
end

variable (m : (ℓ : Loc nD τ sig) → Buf (Elt Ideal) ℓ) (ρ : Dev nD → PrngReg) (c : Dev nD)

/-- The two arrays of boxes the program starts from. -/
abbrev A0 : Spec.Rois := Vals.arg0 (W1 m ρ c)
abbrev A1 : Spec.Gts := Vals.arg1 (W1 m ρ c)

theorem keep37 : v37 (W3 m ρ c) = v37 (W1 m ρ c) :=
  (W3_of m ρ c _ (by decide)).trans (W2_of m ρ c _ (by decide))
theorem keep32 : v32 (W3 m ρ c) = v32 (W1 m ρ c) :=
  (W3_of m ρ c _ (by decide)).trans (W2_of m ρ c _ (by decide))
theorem fg_arr (hs : ∀ c, Spec.Seen (A1 m ρ c)) : v39_0 (W3 m ρ c) = Region0.fgArr (W1 m ρ c) :=
  ((W3_of m ρ c _ (by decide)).trans (W2_arr m ρ c 2)).trans (Region0.final2 m ρ hs c)
theorem bg_arr (hs : ∀ c, Spec.Seen (A1 m ρ c)) : v39_1 (W3 m ρ c) = Region0.bgArr (W1 m ρ c) :=
  ((W3_of m ρ c _ (by decide)).trans (W2_arr m ρ c 3)).trans (Region0.final3 m ρ hs c)
theorem ga_arr (hs : ∀ c, Spec.Seen (A1 m ρ c)) : v39_2 (W3 m ρ c) = Region0.gaArr (W1 m ρ c) :=
  ((W3_of m ρ c _ (by decide)).trans (W2_arr m ρ c 4)).trans (Region0.final4 m ρ hs c)

theorem col_eq (b : Fin 4) (x : Fin 20050) :
    Region0.col (W1 m ρ c) b ⟨x.val, by omega⟩ = Spec.roi (A0 m ρ c) (A1 m ρ c) b x := funext fun k =>
  (pt_at _ (fix0 _) _ _ _).trans (coords_at _ (fix0 _) b ⟨x.val, by omega⟩ k x.isLt)

theorem fg_all (hs : ∀ c, Spec.Seen (A1 m ρ c)) : v41 (W3 m ρ c) = Spec.fgAll (A0 m ρ c) (A1 m ρ c) := by
  funext y
  rw [show y = ix2 (y 0) (y 1) from funext fun a => match a with | 0 => rfl | 1 => rfl]
  refine (fg_raw _ (fix1 _) _ _).trans ?_
  rw [fg_arr m ρ c hs]
  refine (if_pos (y 1).isLt).trans ?_
  exact congrArg (Spec.fgScore (A1 m ρ c) _) (col_eq m ρ c _ _)
theorem bg_all (hs : ∀ c, Spec.Seen (A1 m ρ c)) : v43 (W3 m ρ c) = Spec.bgAll (A0 m ρ c) (A1 m ρ c) := by
  funext y
  rw [show y = ix2 (y 0) (y 1) from funext fun a => match a with | 0 => rfl | 1 => rfl]
  refine (bg_raw _ (fix1 _) _ _).trans ?_
  rw [bg_arr m ρ c hs]
  refine (if_pos (y 1).isLt).trans ?_
  exact congrArg (Spec.bgScore (A1 m ρ c) _) (col_eq m ρ c _ _)

theorem fg_index (hs : ∀ c, Spec.Seen (A1 m ρ c)) (b : Fin 4) (r : Fin 64) :
    indices (W3 m ρ c) (ix2 b r) = BitVec.ofNat 32 (Spec.fgPick (A0 m ρ c) (A1 m ρ c) b r).val := by
  rw [e_indices _ (fix1 _), fg_all m ρ c hs]
  exact Spec.fgPick_index _ _ b r
theorem fg_value (hs : ∀ c, Spec.Seen (A1 m ρ c)) (b : Fin 4) (r : Fin 64) : values (W3 m ρ c) (ix2 b r)
    = Spec.fgScore (A1 m ρ c) b (Spec.roi (A0 m ρ c) (A1 m ρ c) b (Spec.fgPick (A0 m ρ c) (A1 m ρ c) b r)) := by
  rw [e_values _ (fix1 _), fg_all m ρ c hs]
  exact Spec.fgPick_value _ _ b r
theorem bg_index (hs : ∀ c, Spec.Seen (A1 m ρ c)) (b : Fin 4) (r : Fin 192) :
    indices_8 (W3 m ρ c) (ix2 b r) = BitVec.ofNat 32 (Spec.bgPick (A0 m ρ c) (A1 m ρ c) b r).val := by
  rw [e_indices_8 _ (fix1 _), bg_all m ρ c hs]
  exact Spec.bgPick_index _ _ b r

/-- The chosen row numbers, as numbers. -/
theorem number_at (hs : ∀ c, Spec.Seen (A1 m ρ c)) (b : Fin 4) (r : Fin 256) :
    v54 (W3 m ρ c) (ix3 b r 0) = (((Spec.keep (A0 m ρ c) (A1 m ρ c) b r).val : ℝ) : EReal) := by
  have e : v44 (W3 m ρ c) (ix2 b r) = BitVec.ofNat 32 (Spec.keep (A0 m ρ c) (A1 m ρ c) b r).val := by
    refine (number_raw _ (fix1 _) b r).trans ?_
    unfold Spec.keep
    split
    · exact fg_index m ρ c hs b _
    · exact bg_index m ρ c hs b _
  refine (aux_number _ (fix1 _) b r).trans ?_
  rw [e]
  exact Spec.int_value _ (by omega)

/-- The flag is set exactly for foreground. -/
theorem flag_at (hs : ∀ c, Spec.Seen (A1 m ρ c)) (b : Fin 4) (r : Fin 256) :
    0 < v54 (W3 m ρ c) (ix3 b r 1) ↔ Spec.IsFg (A0 m ρ c) (A1 m ρ c) b r := by
  rw [aux_flag _ (fix1 _) b r]
  by_cases hr : r.val < 64
  · have hk : Spec.keep (A0 m ρ c) (A1 m ρ c) b r = Spec.fgPick (A0 m ρ c) (A1 m ρ c) b ⟨r.val, hr⟩ := dif_pos hr
    rw [dif_pos hr, fg_value m ρ c hs]
    unfold Spec.IsFg
    rw [hk]
    constructor
    · intro h
      refine ⟨hr, ?_⟩
      by_contra hn
      rw [if_neg hn] at h
      exact lt_irrefl _ h
    · rintro ⟨-, h⟩
      rw [if_pos h]
      exact zero_lt_one
  · rw [dif_neg hr]
    exact ⟨fun h => absurd h (lt_irrefl _), fun h => absurd h.1 hr⟩

theorem coord_at (b : Fin 4) (x : Fin 20050) (k : Fin 4) :
    v57 (W3 m ρ c) (ix3 b ⟨x.val, by omega⟩ ⟨k.val, by omega⟩) = Spec.roi (A0 m ρ c) (A1 m ρ c) b x k := by
  refine (pt_coord _ (fix1 _) _ _ _).trans ?_
  rw [keep37]
  exact coords_at _ (fix0 _) b ⟨x.val, by omega⟩ k x.isLt
theorem row_at (hs : ∀ c, Spec.Seen (A1 m ρ c)) (b : Fin 4) (x : Fin 20050) : v57 (W3 m ρ c) (ix3 b ⟨x.val, by omega⟩ 4)
    = (((Spec.best (A1 m ρ c) b (Spec.roi (A0 m ρ c) (A1 m ρ c) b x)).val : ℝ) : EReal) := by
  refine (pt_row _ (fix1 _) _ _).trans ?_
  rw [ga_arr m ρ c hs]
  exact congrArg (fun q => (((Spec.best (A1 m ρ c) b q).val : ℝ) : EReal)) (col_eq m ρ c b x)
theorem box_at (b : Fin 4) (g : Fin 50) (k : Fin 5) :
    v32 (W3 m ρ c) (ix3 b ⟨g.val, by omega⟩ ⟨k.val, by omega⟩) = Spec.ped (A1 m ρ c) b g k := by
  rw [keep32]
  exact ped5_at _ (fix0 _) b g k

end Cert.KernelIdeal.Mid

end
end
-- ==== Proof.SampleSpec.lean ====
module

public import proofs.«01_k».proof.Proof.Spec

/-!
# Picking a row by a one-hot sum, and the regression targets

A sum of rows weighted by "is this row's number `p`" is row `p`. The targets are the shifts of a ground truth box
against a proposal, divided by a fixed scale.
-/

@[expose] public section

noncomputable section

namespace Cert.Spec

open Idealize.ShloMosaic

/-- A one bit number widened and read as a float. -/
theorem wide_bit (P : Prop) [Decidable P] :
    (FloatOps.sitofp (F := Ideal) .f32 (BitVec.setWidth 32 (BitVec.ofBool (decide P))) : EReal) = if P then 1 else 0 := by
  by_cases h : P
  · simpa [h] using int_value 1 (by norm_num)
  · simpa [h] using int_value 0 (by norm_num)

/-- A finite family continued by zero. -/
def extend {n : ℕ} (f : Fin n → EReal) (m : ℕ) : EReal := if h : m < n then f ⟨m, h⟩ else 0

theorem extend_of {n : ℕ} (f : Fin n → EReal) (m : ℕ) (h : m < n) : f ⟨m, h⟩ = extend f m := by
  unfold extend; rw [dif_pos h]

/-- Two whole numbers agree as extended reals exactly if they agree. -/
theorem nat_eq (a b : ℕ) : (((a : ℝ) : EReal) = ((b : ℝ) : EReal)) ↔ a = b := by
  rw [EReal.coe_eq_coe_iff]; exact Nat.cast_inj

/-- A one-hot sum over rows numbered `off, off + 1, …`. -/
theorem pick {n : ℕ} (G : ℕ → EReal) (off : ℕ) (p : ℕ) {w f : Fin n → EReal} {q : EReal} [∀ x, Decidable (w x = q)]
    (hq : q = ((p : ℝ) : EReal)) (hw : ∀ x, w x = (((off + x.val : ℕ) : ℝ) : EReal)) (hf : ∀ x, f x = G (off + x.val)) :
    ∑ x, FloatOps.sitofp (F := Ideal) .f32 (BitVec.setWidth 32 (BitVec.ofBool (decide (w x = q)))) * f x
      = if off ≤ p ∧ p < off + n then G p else 0 := by
  have hc : ∀ x, (w x = q) ↔ off + x.val = p := fun x => by rw [hw, hq, nat_eq]
  simp only [wide_bit, hc, hf]
  split_ifs with h
  · rw [Finset.sum_eq_single (⟨p - off, by omega⟩ : Fin n)]
    · rw [if_pos (by simp; omega), one_mul]; congr 1; simp; omega
    · intro i _ hi
      rw [if_neg (fun e => hi (Fin.ext (by simp; omega))), zero_mul]
    · intro h'; exact absurd (Finset.mem_univ _) h'
  · refine Finset.sum_eq_zero fun x _ => ?_
    rw [if_neg (by omega), zero_mul]

/-- Adding the next stretch of rows. -/
theorem add_pick {n : ℕ} (G : ℕ → EReal) (off : ℕ) (p : ℕ) {A : EReal} {w f : Fin n → EReal} {q : EReal}
    [∀ x, Decidable (w x = q)] (hq : q = ((p : ℝ) : EReal)) (hw : ∀ x, w x = (((off + x.val : ℕ) : ℝ) : EReal))
    (hf : ∀ x, f x = G (off + x.val)) (hA : A = if p < off then G p else 0) :
    A + ∑ x, FloatOps.sitofp (F := Ideal) .f32 (BitVec.setWidth 32 (BitVec.ofBool (decide (w x = q)))) * f x
      = if p < off + n then G p else 0 := by
  rw [pick G off p hq hw hf, hA]
  by_cases h1 : p < off
  · rw [if_pos h1, if_neg (by omega), if_pos (by omega), add_zero]
  · by_cases h2 : p < off + n
    · rw [if_neg h1, if_pos ⟨by omega, h2⟩, if_pos h2, zero_add]
    · rw [if_neg h1, if_neg (by omega), if_neg h2, zero_add]

/-- A row number counted from the start of a stretch. -/
theorem number {n : ℕ} (off : ℕ) (c : EReal) (hc : c = ((off : ℝ) : EReal)) (x : Fin n) (hn : n < 2 ^ 31) :
    FloatOps.sitofp (F := Ideal) .f32 (BitVec.ofNat 32 x.val) + c = (((off + x.val : ℕ) : ℝ) : EReal) := by
  rw [int_value _ (by omega), hc, ← EReal.coe_add]
  push_cast
  rw [add_comm]

/-! ## The regression targets -/

/-- The floor of a side, `1e-6`. -/
def tiny : EReal := Ideal.ofBits .f32 897988541#32
/-- A side of a box, and its middle. -/
def side (lo hi : EReal) : EReal := max (hi - lo + 1) tiny
def mid (lo hi : EReal) : EReal := lo + half * side lo hi

/-- The shift of a ground truth box against a proposal. -/
def shift (ex gt : Box) (k : Fin 4) : EReal :=
  if k.val = 0 then Ideal.div (mid (gt 0) (gt 2) - mid (ex 0) (ex 2)) (side (ex 0) (ex 2))
  else if k.val = 1 then Ideal.div (mid (gt 1) (gt 3) - mid (ex 1) (ex 3)) (side (ex 1) (ex 3))
  else if k.val = 2 then Ideal.log (Ideal.div (side (gt 0) (gt 2)) (side (ex 0) (ex 2)))
  else Ideal.log (Ideal.div (side (gt 1) (gt 3)) (side (ex 1) (ex 3)))

/-- The scale of a coordinate. -/
def scale (k : Fin 4) : EReal := if k.val < 2 then Ideal.ofBits .f32 1036831949#32 else Ideal.ofBits .f32 1045220557#32

/-- The target: nothing for background. -/
def target (lab : EReal) (ex gt : Box) (k : Fin 4) : EReal :=
  open Classical in if 0 < lab then Ideal.div (shift ex gt k) (scale k) else 0
/-- The weight: one for foreground. -/
def weight (lab : EReal) : EReal := open Classical in if 0 < lab then 1 else 0

end Cert.Spec

end
end
-- ==== Proof.SampleBody.lean ====
module

public import proofs.«01_k».proof.Proof.IdealRun
public import proofs.«01_k».proof.Proof.SampleSpec

/-!
# The sampling call's body on one block

The body picks, for each of the 256 chosen proposals, its row of coordinates and then its ground truth row, both by
one-hot products, and computes the results from them.
-/

@[expose] public section

set_option maxRecDepth 16384
noncomputable section

namespace Cert.KernelIdeal.Sample

open Cert.KernelIdeal Cert.KernelIdeal.Gen Cert.KernelIdeal.Two Idealize.ShloMosaic Idealize.ShloMosaic.TcCoe
  Idealize.SL.Sem
open Cert.Spec (Box number)

variable (i : grid1.Coords) (x0 : Vec Ideal S1x20480x8 .f32) (x1 : Vec Ideal S1x56x8 .f32) (x2 : Vec Ideal S1x256x8 .f32)

/-- The stretch starts, as numbers. -/
theorem start1 : (Ideal.ofBits .f32 1157627904#32 : EReal) = ((2048 : ℕ) : ℝ) := by
  simp only [Ideal.ofBits, Ideal.ieee]; simp [-EReal.coe_mul]; norm_num
theorem start2 : (Ideal.ofBits .f32 1166016512#32 : EReal) = ((4096 : ℕ) : ℝ) := by
  simp only [Ideal.ofBits, Ideal.ieee]; simp [-EReal.coe_mul]; norm_num
theorem start3 : (Ideal.ofBits .f32 1170210816#32 : EReal) = ((6144 : ℕ) : ℝ) := by
  simp only [Ideal.ofBits, Ideal.ieee]; simp [-EReal.coe_mul]; norm_num
theorem start4 : (Ideal.ofBits .f32 1174405120#32 : EReal) = ((8192 : ℕ) : ℝ) := by
  simp only [Ideal.ofBits, Ideal.ieee]; simp [-EReal.coe_mul]; norm_num
theorem start5 : (Ideal.ofBits .f32 1176502272#32 : EReal) = ((10240 : ℕ) : ℝ) := by
  simp only [Ideal.ofBits, Ideal.ieee]; simp [-EReal.coe_mul]; norm_num
theorem start6 : (Ideal.ofBits .f32 1178599424#32 : EReal) = ((12288 : ℕ) : ℝ) := by
  simp only [Ideal.ofBits, Ideal.ieee]; simp [-EReal.coe_mul]; norm_num
theorem start7 : (Ideal.ofBits .f32 1180696576#32 : EReal) = ((14336 : ℕ) : ℝ) := by
  simp only [Ideal.ofBits, Ideal.ieee]; simp [-EReal.coe_mul]; norm_num
theorem start8 : (Ideal.ofBits .f32 1182793728#32 : EReal) = ((16384 : ℕ) : ℝ) := by
  simp only [Ideal.ofBits, Ideal.ieee]; simp [-EReal.coe_mul]; norm_num
theorem start9 : (Ideal.ofBits .f32 1183842304#32 : EReal) = ((18432 : ℕ) : ℝ) := by
  simp only [Ideal.ofBits, Ideal.ieee]; simp [-EReal.coe_mul]; norm_num

/-- The first one-hot product gives the proposal's row. -/
theorem row_at (r : Fin 256) (p : Fin 20480) (hp : x2 (ix3 0 r 0) = ((p.val : ℝ) : EReal)) (k : Fin 8) :
    sample_v124 i x0 x1 x2 (ix2 r k) = x0 (ix3 0 p k) := by
  pointwise [sample_v124, sample_v2, k1_pay14, k1_pay11, k1_pay9, k1_pay10, k1_pay7, k1_pay6, k1_pay12, k1_pay13]
  generalize hGe : Spec.extend (fun n : Fin 20480 => x0 (ix3 0 n k)) = G
  have hG : ∀ n (h : n < 20480), x0 (ix3 0 ⟨n, h⟩ k) = G n := fun n h =>
    hGe ▸ Spec.extend_of (fun n : Fin 20480 => x0 (ix3 0 n k)) n h
  refine Eq.trans (b := if p.val < 18432 + 2048 then G p.val else 0) ?_ ?_
  · refine Spec.add_pick G 18432 p.val hp (fun x => number _ _ start9 x (by norm_num)) (fun x => hG _ _) ?_
    refine Spec.add_pick G 16384 p.val hp (fun x => number _ _ start8 x (by norm_num)) (fun x => hG _ _) ?_
    refine Spec.add_pick G 14336 p.val hp (fun x => number _ _ start7 x (by norm_num)) (fun x => hG _ _) ?_
    refine Spec.add_pick G 12288 p.val hp (fun x => number _ _ start6 x (by norm_num)) (fun x => hG _ _) ?_
    refine Spec.add_pick G 10240 p.val hp (fun x => number _ _ start5 x (by norm_num)) (fun x => hG _ _) ?_
    refine Spec.add_pick G 8192 p.val hp (fun x => number _ _ start4 x (by norm_num)) (fun x => hG _ _) ?_
    refine Spec.add_pick G 6144 p.val hp (fun x => number _ _ start3 x (by norm_num)) (fun x => hG _ _) ?_
    refine Spec.add_pick G 4096 p.val hp (fun x => number _ _ start2 x (by norm_num)) (fun x => hG _ _) ?_
    refine Spec.add_pick G 2048 p.val hp (fun x => number _ _ start1 x (by norm_num)) (fun x => hG _ _) ?_
    refine (Spec.pick G 0 p.val hp (fun x => ?_) (fun x => ?_)).trans ?_
    · rw [Nat.zero_add]; exact Spec.int_value _ (by omega)
    · exact (hG _ _).trans (congrArg G (Nat.zero_add _).symm)
    · exact Spec.ite_same (by omega) _ _
  · rw [if_pos (by omega)]
    exact (hG _ _).symm

/-- The second one-hot product gives the ground truth row. -/
theorem truth_at (acc : FVec Ideal S256x8 .f32) (r : Fin 256) (q : Fin 56) (hq : acc (ix2 r 4) = ((q.val : ℝ) : EReal))
    (k : Fin 8) : k1_pay16 acc (View.ld x1 r1_11) (ix2 r k) = x1 (ix3 0 q k) := by
  pointwise [k1_pay16]
  generalize hGe : Spec.extend (fun n : Fin 56 => x1 (ix3 0 n k)) = G
  have hG : ∀ n (h : n < 56), x1 (ix3 0 ⟨n, h⟩ k) = G n := fun n h =>
    hGe ▸ Spec.extend_of (fun n : Fin 56 => x1 (ix3 0 n k)) n h
  refine (Spec.pick G 0 q.val hq (fun x => ?_) (fun x => ?_)).trans ?_
  · rw [Nat.zero_add]; exact Spec.int_value _ (by omega)
  · exact (hG _ _).trans (congrArg G (Nat.zero_add _).symm)
  · rw [if_pos (by omega)]
    exact (hG _ _).symm

/-- What the blocks hold: the proposals `ex p`, the row `best p` of each one's box, the boxes `gt`, the chosen
proposals `keep` and their labels `lab`. -/
structure Holds (ex : Fin 20050 → Box) (best : Fin 20050 → Fin 50) (gt : Fin 50 → Fin 5 → EReal)
    (keep : Fin 256 → Fin 20050) (lab : Fin 256 → EReal) : Prop where
  exs (p : Fin 20050) (k : Fin 4) : x0 (ix3 0 ⟨p.val, by omega⟩ ⟨k.val, by omega⟩) = ex p k
  bests (p : Fin 20050) : x0 (ix3 0 ⟨p.val, by omega⟩ 4) = (((best p).val : ℝ) : EReal)
  gts (g : Fin 50) (k : Fin 5) : x1 (ix3 0 ⟨g.val, by omega⟩ ⟨k.val, by omega⟩) = gt g k
  keeps (r : Fin 256) : x2 (ix3 0 r 0) = (((keep r).val : ℝ) : EReal)
  labs (r : Fin 256) : lab r = open Classical in if 0 < x2 (ix3 0 r 1) then gt (best (keep r)) 4 else 0

variable {ex : Fin 20050 → Box} {best : Fin 20050 → Fin 50} {gt : Fin 50 → Fin 5 → EReal} {keep : Fin 256 → Fin 20050}
  {lab : Fin 256 → EReal} {x0 x1 x2}

theorem ex_at (h : Holds x0 x1 x2 ex best gt keep lab) (r : Fin 256) (k : Fin 4) :
    sample_v124 i x0 x1 x2 (ix2 r ⟨k.val, by omega⟩) = ex (keep r) k :=
  (row_at i x0 x1 x2 r ⟨(keep r).val, by omega⟩ (h.keeps r) _).trans (h.exs _ k)

theorem gt_at (h : Holds x0 x1 x2 ex best gt keep lab) (r : Fin 256) (k : Fin 5) :
    k1_pay16 (sample_v124 i x0 x1 x2) (View.ld x1 r1_11) (ix2 r ⟨k.val, by omega⟩) = gt (best (keep r)) k :=
  (truth_at x1 _ r ⟨(best (keep r)).val, by omega⟩
    ((row_at i x0 x1 x2 r ⟨(keep r).val, by omega⟩ (h.keeps r) _).trans (h.bests _)) _).trans (h.gts _ k)

theorem lab_at (h : Holds x0 x1 x2 ex best gt keep lab) (r : Fin 256) :
    sample_v141 i x0 x1 x2 (ix2 r 0) = lab r := by
  have hg := gt_at i h r 4
  pointwise [sample_v141, k1_pay18, k1_pay8, k1_pay6]
  rw [h.labs]
  exact Spec.ite_eq Iff.rfl hg rfl

/-- The chosen proposals. -/
theorem rois_out (h : Holds x0 x1 x2 ex best gt keep lab) (r : Fin 256) (k : Fin 5) :
    k1_pay3 (BitVec.ofNat 32 (i 0).val) (k1_pay15 (sample_v124 i x0 x1 x2)) (ix3 0 r k)
      = if hk : k.val < 1 then (((i 0).val : ℝ) : EReal) else ex (keep r) ⟨k.val - 1, by omega⟩ := by
  pointwise [k1_pay3, k1_pay15]
  by_cases hk : k.val < 1
  · rw [dif_pos hk, dif_pos hk]
    exact Spec.int_value _ (lt_trans (i 0).isLt (by decide))
  · rw [dif_neg hk, dif_neg hk]
    exact ex_at i h r ⟨k.val - 1, by omega⟩

theorem lab_out (h : Holds x0 x1 x2 ex best gt keep lab) (r : Fin 256) :
    k1_pay4 (sample_v141 i x0 x1 x2) (ix3 0 r 0) = lab r := by
  have := lab_at i h r
  pointwise [k1_pay4]
  exact this

theorem gt_out (h : Holds x0 x1 x2 ex best gt keep lab) (r : Fin 256) (k : Fin 5) :
    k1_pay5 (k1_pay16 (sample_v124 i x0 x1 x2) (View.ld x1 r1_11)) (ix3 0 r k) = gt (best (keep r)) k := by
  have := gt_at i h r k
  pointwise [k1_pay5]
  exact this

theorem inw_out (h : Holds x0 x1 x2 ex best gt keep lab) (r : Fin 256) (k : Fin 4) :
    k1_pay1 (sample_v212 i x0 x1 x2) (ix3 0 r k) = Spec.weight (lab r) := by
  have := lab_at i h r
  pointwise [k1_pay1, sample_v212, k1_pay31, k1_pay29]
  rw [this]
  exact Spec.ite_same Iff.rfl _ _

theorem outw_out (h : Holds x0 x1 x2 ex best gt keep lab) (r : Fin 256) (k : Fin 4) :
    k1_pay2 (sample_v212 i x0 x1 x2) (ix3 0 r k) = Spec.weight (lab r) := by
  have := lab_at i h r
  pointwise [k1_pay2, sample_v212, k1_pay31, k1_pay29]
  rw [this]
  exact Spec.ite_same Iff.rfl _ _

/-- The targets, from the picked rows. -/
theorem tgt_raw (lab : FVec Ideal S256x1 .f32) (acc : FVec Ideal S256x8 .f32) (r : Fin 256) (k : Fin 4) (l : EReal)
    (e g : Box) (hl : lab (ix2 r 0) = l) (he : ∀ k : Fin 4, acc (ix2 r ⟨k.val, by omega⟩) = e k)
    (hg : ∀ k : Fin 4, k1_pay16 acc (View.ld x1 r1_11) (ix2 r ⟨k.val, by omega⟩) = g k) :
    k1_pay30 lab (k1_pay21 acc (View.ld x1 r1_11)) (k1_pay22 acc (View.ld x1 r1_11)) (k1_pay23 acc (View.ld x1 r1_11))
      (k1_pay24 acc) (k1_pay25 acc) (k1_pay26 acc) (k1_pay27 acc) (k1_pay28 acc (View.ld x1 r1_11)) (ix3 0 r k)
      = Spec.target l e g k := by
  have ee : e = fun k : Fin 4 => acc (ix2 r ⟨k.val, by omega⟩) := funext fun k => (he k).symm
  have eg : g = fun k : Fin 4 => k1_pay16 acc (View.ld x1 r1_11) (ix2 r ⟨k.val, by omega⟩) := funext fun k => (hg k).symm
  subst ee eg hl
  clear he hg
  unfold Spec.target
  have hk : k = 0 ∨ k = 1 ∨ k = 2 ∨ k = 3 := by omega
  rcases hk with rfl | rfl | rfl | rfl
  · pointwise [k1_pay30, k1_pay21, k1_pay22, k1_pay23, k1_pay24, k1_pay25, k1_pay26, k1_pay27, k1_pay28, k1_pay19,
      k1_pay20, k1_pay15, k1_pay17, k1_pay29]
    exact Spec.ite_eq Iff.rfl rfl rfl
  · pointwise [k1_pay30, k1_pay21, k1_pay22, k1_pay23, k1_pay24, k1_pay25, k1_pay26, k1_pay27, k1_pay28, k1_pay19,
      k1_pay20, k1_pay15, k1_pay17, k1_pay29]
    exact Spec.ite_eq Iff.rfl rfl rfl
  · pointwise [k1_pay30, k1_pay21, k1_pay22, k1_pay23, k1_pay24, k1_pay25, k1_pay26, k1_pay27, k1_pay28, k1_pay19,
      k1_pay20, k1_pay15, k1_pay17, k1_pay29]
    exact Spec.ite_eq Iff.rfl rfl rfl
  · pointwise [k1_pay30, k1_pay21, k1_pay22, k1_pay23, k1_pay24, k1_pay25, k1_pay26, k1_pay27, k1_pay28, k1_pay19,
      k1_pay20, k1_pay15, k1_pay17, k1_pay29]
    exact Spec.ite_eq Iff.rfl rfl rfl

/-- The targets. -/
theorem tgt_out (h : Holds x0 x1 x2 ex best gt keep lab) (r : Fin 256) (k : Fin 4) :
    k1_pay30 (sample_v141 i x0 x1 x2) (k1_pay21 (sample_v124 i x0 x1 x2) (View.ld x1 r1_11))
      (k1_pay22 (sample_v124 i x0 x1 x2) (View.ld x1 r1_11)) (k1_pay23 (sample_v124 i x0 x1 x2) (View.ld x1 r1_11))
      (k1_pay24 (sample_v124 i x0 x1 x2)) (k1_pay25 (sample_v124 i x0 x1 x2)) (k1_pay26 (sample_v124 i x0 x1 x2))
      (k1_pay27 (sample_v124 i x0 x1 x2)) (k1_pay28 (sample_v124 i x0 x1 x2) (View.ld x1 r1_11)) (ix3 0 r k)
      = Spec.target (lab r) (ex (keep r)) (fun k => gt (best (keep r)) ⟨k.val, by omega⟩) k :=
  tgt_raw (x1 := x1) _ _ r k _ _ _ (lab_at i h r) (ex_at i h r) fun k => gt_at i h r ⟨k.val, by omega⟩

end Cert.KernelIdeal.Sample

end
end
-- ==== Proof.Region1.lean ====
module

public import proofs.«01_k».proof.Proof.MidHost
public import proofs.«01_k».proof.Proof.SampleBody

/-!
# The sampling call's six result arrays

Each grid point is one image: the body is shown all its proposals, its boxes and its chosen row numbers, and the blocks
written back tile the result arrays.
-/

@[expose] public section

set_option maxRecDepth 16384
noncomputable section

namespace Cert.KernelIdeal.Region1

open Cert.KernelIdeal Cert.KernelIdeal.Gen Cert.KernelIdeal.Two Idealize.ShloMosaic Idealize.ShloMosaic.TcCoe
  Idealize.SL.Sem
open Cert.KernelIdeal.Mid (A0 A1)

variable (m : (ℓ : Loc nD τ sig) → Buf (Elt Ideal) ℓ) (ρ : Dev nD → PrngReg)

theorem idx : ∀ t : Fin cfg1.N,
    win1_0.index t = ![(grid1.coords t 0).val, 0, 0] ∧ win1_1.index t = ![(grid1.coords t 0).val, 0, 0]
      ∧ win1_2.index t = ![(grid1.coords t 0).val, 0, 0] ∧ win1_3.index t = ![(grid1.coords t 0).val, 0, 0]
      ∧ win1_4.index t = ![(grid1.coords t 0).val, 0, 0] ∧ win1_5.index t = ![(grid1.coords t 0).val, 0, 0]
      ∧ win1_6.index t = ![(grid1.coords t 0).val, 0, 0] ∧ win1_7.index t = ![(grid1.coords t 0).val, 0, 0]
      ∧ win1_8.index t = ![(grid1.coords t 0).val, 0, 0] ∧ (grid1.coords t 0).val < 4 :=
  (by decide +kernel : ∀ t : Fin grid1.N, _)

/-- The image of a grid point. -/
def img (t : Fin cfg1.N) : Fin 4 := ⟨(grid1.coords t 0).val, (idx t).2.2.2.2.2.2.2.2.2⟩

theorem pt_block (c : Dev nD) (t : Fin cfg1.N) (x : Fin 20480) (k : Fin 8) :
    iblk1 (V3 m ρ) c 0 t (ix3 0 x k) = Vals.v57 (W3 m ρ c) (ix3 (img t) x k) := by
  blk_ext [iblk1, V3, Vals.v57, idx t, img]
theorem gt_block (c : Dev nD) (t : Fin cfg1.N) (g : Fin 56) (k : Fin 8) :
    iblk1 (V3 m ρ) c 1 t (ix3 0 g k) = Vals.v32 (W3 m ρ c) (ix3 (img t) g k) := by
  blk_ext [iblk1, V3, Vals.v32, idx t, img]
theorem aux_block (c : Dev nD) (t : Fin cfg1.N) (r : Fin 256) (k : Fin 8) :
    iblk1 (V3 m ρ) c 2 t (ix3 0 r k) = Vals.v54 (W3 m ρ c) (ix3 (img t) r k) := by
  blk_ext [iblk1, V3, Vals.v54, idx t, img]

/-- What the body is shown. -/
theorem holds (hs : ∀ c, Spec.Seen (A1 m ρ c)) (c : Dev nD) (t : Fin cfg1.N) :
    Sample.Holds (iblk1 (V3 m ρ) c 0 t) (iblk1 (V3 m ρ) c 1 t) (iblk1 (V3 m ρ) c 2 t)
      (Spec.roi (A0 m ρ c) (A1 m ρ c) (img t))
      (fun p => Spec.best (A1 m ρ c) (img t) (Spec.roi (A0 m ρ c) (A1 m ρ c) (img t) p))
      (Spec.ped (A1 m ρ c) (img t)) (Spec.keep (A0 m ρ c) (A1 m ρ c) (img t))
      (Spec.label (A0 m ρ c) (A1 m ρ c) (img t)) where
  exs p k := (pt_block m ρ c t _ _).trans (Mid.coord_at m ρ c (img t) p k)
  bests p := (pt_block m ρ c t _ _).trans (Mid.row_at m ρ c hs (img t) p)
  gts g k := (gt_block m ρ c t _ _).trans (Mid.box_at m ρ c (img t) g k)
  keeps r := (aux_block m ρ c t _ _).trans (Mid.number_at m ρ c hs (img t) r)
  labs r := by
    rw [aux_block]
    exact Spec.ite_eq (Mid.flag_at m ρ c hs (img t) r).symm rfl rfl

/-- The six results. -/
def roisArr (A0 : Spec.Rois) (A1 : Spec.Gts) : FVec Ideal S4x256x5 .f32 := fun y =>
  if hk : (y 2).val < 1 then (((y 0).val : ℝ) : EReal)
  else Spec.kept A0 A1 ⟨(y 0).val, (y 0).isLt⟩ ⟨(y 1).val, (y 1).isLt⟩ ⟨(y 2).val - 1, by have h : (y 2).val < 5 := (y 2).isLt; omega⟩
def labArr (A0 : Spec.Rois) (A1 : Spec.Gts) : FVec Ideal S4x256x1 .f32 := fun y =>
  Spec.label A0 A1 ⟨(y 0).val, (y 0).isLt⟩ ⟨(y 1).val, (y 1).isLt⟩
def tgtArr (A0 : Spec.Rois) (A1 : Spec.Gts) : FVec Ideal S4x256x4 .f32 := fun y =>
  Spec.target (Spec.label A0 A1 ⟨(y 0).val, (y 0).isLt⟩ ⟨(y 1).val, (y 1).isLt⟩)
    (Spec.kept A0 A1 ⟨(y 0).val, (y 0).isLt⟩ ⟨(y 1).val, (y 1).isLt⟩)
    (Spec.pedBox A1 ⟨(y 0).val, (y 0).isLt⟩ (Spec.row A0 A1 ⟨(y 0).val, (y 0).isLt⟩ ⟨(y 1).val, (y 1).isLt⟩))
    ⟨(y 2).val, (y 2).isLt⟩
def weightArr (A0 : Spec.Rois) (A1 : Spec.Gts) : FVec Ideal S4x256x4 .f32 := fun y =>
  Spec.weight (Spec.label A0 A1 ⟨(y 0).val, (y 0).isLt⟩ ⟨(y 1).val, (y 1).isLt⟩)
def gtArr (A0 : Spec.Rois) (A1 : Spec.Gts) : FVec Ideal S4x256x5 .f32 := fun y =>
  Spec.ped A1 ⟨(y 0).val, (y 0).isLt⟩ (Spec.row A0 A1 ⟨(y 0).val, (y 0).isLt⟩ ⟨(y 1).val, (y 1).isLt⟩)
    ⟨(y 2).val, (y 2).isLt⟩

theorem split {n : ℕ} (y : Shape.Idx ⟨3, ![1, 256, n]⟩) : ∃ (r : Fin 256) (k : Fin n), y = ix3 0 r k :=
  ⟨y 1, y 2, funext fun a => match a with
    | 0 => Subsingleton.elim (α := Fin 1) _ _
    | 1 => rfl
    | 2 => rfl⟩

/-- The load of the whole block of boxes. -/
theorem load_all (x : Vec Ideal S1x56x8 .f32) :
    (View.ld x r1_11 : Vec Ideal S1x56x8 .f32) = x :=
  View.ld_unit_lit (S := S1x56x8) (Val := Elt Ideal) (e := .f32) _ x (by decide)

/-- The chosen proposals. -/
theorem final3 (hs : ∀ c, Spec.Seen (A1 m ρ c)) (c : Dev nD) :
    (dat1 (V3 m ρ) c).arrAt 3 cfg1.N = roisArr (A0 m ρ c) (A1 m ρ c) := by
  refine (dat1 (V3 m ρ) c).arrAt_eq_of_covers 3 _ (by decide +kernel) fun t _ y => ?_
  blk_simp
  rw [after1_3]; frame_out
  obtain ⟨r, k, rfl⟩ := split y
  unfold roisArr
  blk_simp [idx t]
  exact Sample.rois_out _ (holds m ρ hs c t) r k

/-- The labels. -/
theorem final4 (hs : ∀ c, Spec.Seen (A1 m ρ c)) (c : Dev nD) :
    (dat1 (V3 m ρ) c).arrAt 4 cfg1.N = labArr (A0 m ρ c) (A1 m ρ c) := by
  refine (dat1 (V3 m ρ) c).arrAt_eq_of_covers 4 _ (by decide +kernel) fun t _ y => ?_
  blk_simp
  rw [after1_4]; frame_out
  obtain ⟨r, k, rfl⟩ := split y
  obtain rfl : k = 0 := Subsingleton.elim _ _
  unfold labArr
  blk_simp [idx t]
  exact Sample.lab_out _ (holds m ρ hs c t) r

/-- The targets. -/
theorem final5 (hs : ∀ c, Spec.Seen (A1 m ρ c)) (c : Dev nD) :
    (dat1 (V3 m ρ) c).arrAt 5 cfg1.N = tgtArr (A0 m ρ c) (A1 m ρ c) := by
  refine (dat1 (V3 m ρ) c).arrAt_eq_of_covers 5 _ (by decide +kernel) fun t _ y => ?_
  blk_simp
  rw [after1_5]; frame_out
  obtain ⟨r, k, rfl⟩ := split y
  have e := Sample.tgt_out (grid1.coords t) (holds m ρ hs c t) r k
  rw [load_all] at e
  refine e.trans ?_
  refine Eq.trans ?_ (congrArg (tgtArr (A0 m ρ c) (A1 m ρ c)) (?_ : ix3 (img t) r k = _))
  · rfl
  · blk_ext [idx t, img]

/-- The two weights. -/
theorem final6 (hs : ∀ c, Spec.Seen (A1 m ρ c)) (c : Dev nD) :
    (dat1 (V3 m ρ) c).arrAt 6 cfg1.N = weightArr (A0 m ρ c) (A1 m ρ c) := by
  refine (dat1 (V3 m ρ) c).arrAt_eq_of_covers 6 _ (by decide +kernel) fun t _ y => ?_
  blk_simp
  rw [after1_6]; frame_out
  obtain ⟨r, k, rfl⟩ := split y
  unfold weightArr
  blk_simp [idx t]
  exact Sample.inw_out _ (holds m ρ hs c t) r k
theorem final7 (hs : ∀ c, Spec.Seen (A1 m ρ c)) (c : Dev nD) :
    (dat1 (V3 m ρ) c).arrAt 7 cfg1.N = weightArr (A0 m ρ c) (A1 m ρ c) := by
  refine (dat1 (V3 m ρ) c).arrAt_eq_of_covers 7 _ (by decide +kernel) fun t _ y => ?_
  blk_simp
  rw [after1_7]; frame_out
  obtain ⟨r, k, rfl⟩ := split y
  unfold weightArr
  blk_simp [idx t]
  exact Sample.outw_out _ (holds m ρ hs c t) r k

/-- The boxes of the chosen proposals. -/
theorem final8 (hs : ∀ c, Spec.Seen (A1 m ρ c)) (c : Dev nD) :
    (dat1 (V3 m ρ) c).arrAt 8 cfg1.N = gtArr (A0 m ρ c) (A1 m ρ c) := by
  refine (dat1 (V3 m ρ) c).arrAt_eq_of_covers 8 _ (by decide +kernel) fun t _ y => ?_
  blk_simp
  rw [after1_8]; frame_out
  obtain ⟨r, k, rfl⟩ := split y
  have e := Sample.gt_out (grid1.coords t) (holds m ρ hs c t) r k
  rw [load_all] at e
  refine e.trans ?_
  refine Eq.trans ?_ (congrArg (gtArr (A0 m ρ c) (A1 m ρ c)) (?_ : ix3 (img t) r k = _))
  · rfl
  · blk_ext [idx t, img]

end Cert.KernelIdeal.Region1

end
end
-- ==== Proof.Results.lean ====
module

public import proofs.«01_k».proof.Proof.Region1

/-!
# The kernel's six results as functions of its two arrays of boxes
-/

@[expose] public section

set_option maxRecDepth 16384
noncomputable section

namespace Cert.KernelIdeal.Results

open Cert.KernelIdeal Cert.KernelIdeal.Gen Cert.KernelIdeal.Two Idealize.ShloMosaic Idealize.ShloMosaic.TcCoe
  Idealize.SL.Sem
open Cert.KernelIdeal.Mid (A0 A1)
open Cert.KernelIdeal.Region1 (roisArr labArr tgtArr weightArr gtArr)

variable (m : (ℓ : Loc nD τ sig) → Buf (Elt Ideal) ℓ) (ρ : Dev nD → PrngReg)

theorem rois (hs : ∀ c, Spec.Seen (A1 m ρ c)) (c : Dev nD) :
    Vals.out0 (W5 m ρ c) = roisArr (A0 m ρ c) (A1 m ρ c) :=
  ((W5_of m ρ c _ (by decide)).trans (W4_arr m ρ c 3)).trans (Region1.final3 m ρ hs c)

theorem labels (hs : ∀ c, Spec.Seen (A1 m ρ c)) (c : Dev nD) (b : Fin 4) (r : Fin 256) :
    Vals.out1 (W5 m ρ c) (ix2 b r) = Spec.label (A0 m ρ c) (A1 m ρ c) b r := by
  have e : Vals.v58_1 (W5 m ρ c) = labArr (A0 m ρ c) (A1 m ρ c) :=
    ((W5_of m ρ c _ (by decide)).trans (W4_arr m ρ c 4)).trans (Region1.final4 m ρ hs c)
  have e2 : Vals.out1 (W5 m ρ c) (ix2 b r) = Vals.v58_1 (W5 m ρ c) (ix3 b r 0) := by
    rw [Vals.e_out1 _ (Vals.fix2 _)]
    pointwise
  rw [e2, e]
  rfl

theorem targets (hs : ∀ c, Spec.Seen (A1 m ρ c)) (c : Dev nD) :
    Vals.out2 (W5 m ρ c) = tgtArr (A0 m ρ c) (A1 m ρ c) :=
  ((W5_of m ρ c _ (by decide)).trans (W4_arr m ρ c 5)).trans (Region1.final5 m ρ hs c)

theorem inside (hs : ∀ c, Spec.Seen (A1 m ρ c)) (c : Dev nD) :
    Vals.out3 (W5 m ρ c) = weightArr (A0 m ρ c) (A1 m ρ c) :=
  ((W5_of m ρ c _ (by decide)).trans (W4_arr m ρ c 6)).trans (Region1.final6 m ρ hs c)

theorem outside (hs : ∀ c, Spec.Seen (A1 m ρ c)) (c : Dev nD) :
    Vals.out4 (W5 m ρ c) = weightArr (A0 m ρ c) (A1 m ρ c) :=
  ((W5_of m ρ c _ (by decide)).trans (W4_arr m ρ c 7)).trans (Region1.final7 m ρ hs c)

theorem boxes (hs : ∀ c, Spec.Seen (A1 m ρ c)) (c : Dev nD) :
    Vals.out5 (W5 m ρ c) = gtArr (A0 m ρ c) (A1 m ρ c) :=
  ((W5_of m ρ c _ (by decide)).trans (W4_arr m ρ c 8)).trans (Region1.final8 m ρ hs c)

/-- The two arrays of boxes are the program's arguments. -/
theorem A0_eq (c : Dev nD) : A0 m ρ c = m ((c : Thread nD τ).loc main_arg0) := W1_args m ρ c main_arg0 (by decide)
theorem A1_eq (c : Dev nD) : A1 m ρ c = m ((c : Thread nD τ).loc main_arg1) := W1_args m ρ c main_arg1 (by decide)

end Cert.KernelIdeal.Results

end
end
-- ==== Proof.RefBufs.lean ====
module

public import proofs.«01_k».proof.Proof.RefRun
public import Idealize.ShloMosaic.Lib.Pointwise

/-! The buffers of the reference as arrays, and what it means that the equation of every operation holds. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

noncomputable def arg0 : FVec Ideal S4x20000x5 .f32 := V (Proc.devRef .tc main_arg0)
noncomputable def arg1 : FVec Ideal S4x50x5 .f32 := V (Proc.devRef .tc main_arg1)

/-- Every operation's equation holds. -/
def Fix : Prop := ∀ op ∈ (ops : List (HloOp τ sig (Elt Ideal))), op.result V = V

theorem in_part0 {op : HloOp τ sig (Elt Ideal)} (h : op ∈ part0) : op ∈ (ops : List (HloOp τ sig (Elt Ideal))) :=
  List.mem_append_left _ h
theorem in_chunk10 {op : HloOp τ sig (Elt Ideal)} (h : op ∈ chunk10) : op ∈ (ops : List (HloOp τ sig (Elt Ideal))) :=
  List.mem_append_right _ (List.mem_append_left _ (List.mem_append_left _ h))
theorem in_chunk11 {op : HloOp τ sig (Elt Ideal)} (h : op ∈ chunk11) : op ∈ (ops : List (HloOp τ sig (Elt Ideal))) :=
  List.mem_append_right _ (List.mem_append_left _ (List.mem_append_right _ (List.mem_append_left _ h)))
theorem in_chunk12 {op : HloOp τ sig (Elt Ideal)} (h : op ∈ chunk12) : op ∈ (ops : List (HloOp τ sig (Elt Ideal))) :=
  List.mem_append_right _ (List.mem_append_left _ (List.mem_append_right _ (List.mem_append_right _ (h))))
theorem in_chunk20 {op : HloOp τ sig (Elt Ideal)} (h : op ∈ chunk20) : op ∈ (ops : List (HloOp τ sig (Elt Ideal))) :=
  List.mem_append_right _ (List.mem_append_right _ (List.mem_append_left _ (List.mem_append_left _ h)))
theorem in_chunk21 {op : HloOp τ sig (Elt Ideal)} (h : op ∈ chunk21) : op ∈ (ops : List (HloOp τ sig (Elt Ideal))) :=
  List.mem_append_right _ (List.mem_append_right _ (List.mem_append_left _ (List.mem_append_right _ (List.mem_append_left _ h))))
theorem in_chunk22 {op : HloOp τ sig (Elt Ideal)} (h : op ∈ chunk22) : op ∈ (ops : List (HloOp τ sig (Elt Ideal))) :=
  List.mem_append_right _ (List.mem_append_right _ (List.mem_append_left _ (List.mem_append_right _ (List.mem_append_right _ (h)))))
theorem in_chunk30 {op : HloOp τ sig (Elt Ideal)} (h : op ∈ chunk30) : op ∈ (ops : List (HloOp τ sig (Elt Ideal))) :=
  List.mem_append_right _ (List.mem_append_right _ (List.mem_append_right _ (List.mem_append_left _ (List.mem_append_left _ h))))
theorem in_chunk31 {op : HloOp τ sig (Elt Ideal)} (h : op ∈ chunk31) : op ∈ (ops : List (HloOp τ sig (Elt Ideal))) :=
  List.mem_append_right _ (List.mem_append_right _ (List.mem_append_right _ (List.mem_append_left _ (List.mem_append_right _ (List.mem_append_left _ h)))))
theorem in_chunk32 {op : HloOp τ sig (Elt Ideal)} (h : op ∈ chunk32) : op ∈ (ops : List (HloOp τ sig (Elt Ideal))) :=
  List.mem_append_right _ (List.mem_append_right _ (List.mem_append_right _ (List.mem_append_left _ (List.mem_append_right _ (List.mem_append_right _ (h))))))
theorem in_chunk40 {op : HloOp τ sig (Elt Ideal)} (h : op ∈ chunk40) : op ∈ (ops : List (HloOp τ sig (Elt Ideal))) :=
  List.mem_append_right _ (List.mem_append_right _ (List.mem_append_right _ (List.mem_append_right _ (List.mem_append_left _ (List.mem_append_left _ h)))))
theorem in_chunk41 {op : HloOp τ sig (Elt Ideal)} (h : op ∈ chunk41) : op ∈ (ops : List (HloOp τ sig (Elt Ideal))) :=
  List.mem_append_right _ (List.mem_append_right _ (List.mem_append_right _ (List.mem_append_right _ (List.mem_append_left _ (List.mem_append_right _ (List.mem_append_left _ h))))))
theorem in_chunk42 {op : HloOp τ sig (Elt Ideal)} (h : op ∈ chunk42) : op ∈ (ops : List (HloOp τ sig (Elt Ideal))) :=
  List.mem_append_right _ (List.mem_append_right _ (List.mem_append_right _ (List.mem_append_right _ (List.mem_append_left _ (List.mem_append_right _ (List.mem_append_right _ (h)))))))
theorem in_chunk50 {op : HloOp τ sig (Elt Ideal)} (h : op ∈ chunk50) : op ∈ (ops : List (HloOp τ sig (Elt Ideal))) :=
  List.mem_append_right _ (List.mem_append_right _ (List.mem_append_right _ (List.mem_append_right _ (List.mem_append_right _ (List.mem_append_left _ (List.mem_append_left _ h))))))
theorem in_chunk51 {op : HloOp τ sig (Elt Ideal)} (h : op ∈ chunk51) : op ∈ (ops : List (HloOp τ sig (Elt Ideal))) :=
  List.mem_append_right _ (List.mem_append_right _ (List.mem_append_right _ (List.mem_append_right _ (List.mem_append_right _ (List.mem_append_left _ (List.mem_append_right _ (List.mem_append_left _ h)))))))
theorem in_chunk52 {op : HloOp τ sig (Elt Ideal)} (h : op ∈ chunk52) : op ∈ (ops : List (HloOp τ sig (Elt Ideal))) :=
  List.mem_append_right _ (List.mem_append_right _ (List.mem_append_right _ (List.mem_append_right _ (List.mem_append_right _ (List.mem_append_left _ (List.mem_append_right _ (List.mem_append_right _ (List.mem_append_left _ h))))))))
theorem in_chunk53 {op : HloOp τ sig (Elt Ideal)} (h : op ∈ chunk53) : op ∈ (ops : List (HloOp τ sig (Elt Ideal))) :=
  List.mem_append_right _ (List.mem_append_right _ (List.mem_append_right _ (List.mem_append_right _ (List.mem_append_right _ (List.mem_append_left _ (List.mem_append_right _ (List.mem_append_right _ (List.mem_append_right _ (List.mem_append_left _ h)))))))))
theorem in_chunk54 {op : HloOp τ sig (Elt Ideal)} (h : op ∈ chunk54) : op ∈ (ops : List (HloOp τ sig (Elt Ideal))) :=
  List.mem_append_right _ (List.mem_append_right _ (List.mem_append_right _ (List.mem_append_right _ (List.mem_append_right _ (List.mem_append_left _ (List.mem_append_right _ (List.mem_append_right _ (List.mem_append_right _ (List.mem_append_right _ (h))))))))))
theorem in_chunk60 {op : HloOp τ sig (Elt Ideal)} (h : op ∈ chunk60) : op ∈ (ops : List (HloOp τ sig (Elt Ideal))) :=
  List.mem_append_right _ (List.mem_append_right _ (List.mem_append_right _ (List.mem_append_right _ (List.mem_append_right _ (List.mem_append_right _ (List.mem_append_left _ h))))))
theorem in_chunk61 {op : HloOp τ sig (Elt Ideal)} (h : op ∈ chunk61) : op ∈ (ops : List (HloOp τ sig (Elt Ideal))) :=
  List.mem_append_right _ (List.mem_append_right _ (List.mem_append_right _ (List.mem_append_right _ (List.mem_append_right _ (List.mem_append_right _ (List.mem_append_right _ (List.mem_append_left _ h)))))))
theorem in_chunk62 {op : HloOp τ sig (Elt Ideal)} (h : op ∈ chunk62) : op ∈ (ops : List (HloOp τ sig (Elt Ideal))) :=
  List.mem_append_right _ (List.mem_append_right _ (List.mem_append_right _ (List.mem_append_right _ (List.mem_append_right _ (List.mem_append_right _ (List.mem_append_right _ (List.mem_append_right _ (h))))))))

variable {V} in
/-- The equation of the operation at a place of a list. -/
theorem Fix.at {l : List (HloOp τ sig (Elt Ideal))} (h : Fix V) (hl : ∀ {op}, op ∈ l → op ∈ (ops : List (HloOp τ sig (Elt Ideal)))) (i : Nat)
    {op : HloOp τ sig (Elt Ideal)} (hi : l[i]? = some op) : op.result V = V := h op (hl (List.mem_of_getElem? hi))

noncomputable def cst : FVec Ideal S4 .f32 := V (Proc.devRef .tc main_cst)
noncomputable def cst_0 : FVec Ideal S4 .f32 := V (Proc.devRef .tc main_cst_0)
noncomputable def cst_1 : FVec Ideal S4 .f32 := V (Proc.devRef .tc main_cst_1)
noncomputable def v0 : FVec Ideal S4x50x1 .f32 := V (Proc.devRef .tc main_v0)
noncomputable def v1 : FVec Ideal S4x50 .f32 := V (Proc.devRef .tc main_v1)
noncomputable def cst_2 : FVec Ideal S_ .f32 := V (Proc.devRef .tc main_cst_2)
noncomputable def v2 : FVec Ideal S4x50 .f32 := V (Proc.devRef .tc main_v2)
noncomputable def v3 : IVec S4x50 1 := V (Proc.devRef .tc main_v3)
noncomputable def cst_3 : FVec Ideal S_ .f32 := V (Proc.devRef .tc main_cst_3)
noncomputable def v4 : FVec Ideal S4x50 .f32 := V (Proc.devRef .tc main_v4)
noncomputable def v5 : IVec S4x50 1 := V (Proc.devRef .tc main_v5)
noncomputable def v6 : IVec S4x50 1 := V (Proc.devRef .tc main_v6)
noncomputable def v7 : IVec S4x50x1 1 := V (Proc.devRef .tc main_v7)
noncomputable def v8 : FVec Ideal S4x50x1 .f32 := V (Proc.devRef .tc main_v8)
noncomputable def v9 : FVec Ideal S4x50x5 .f32 := V (Proc.devRef .tc main_v9)
noncomputable def v10 : FVec Ideal S4x50x5 .f32 := V (Proc.devRef .tc main_v10)
noncomputable def v11 : FVec Ideal S4x50x4 .f32 := V (Proc.devRef .tc main_v11)
noncomputable def cst_4 : FVec Ideal S_ .f32 := V (Proc.devRef .tc main_cst_4)
noncomputable def v12 : FVec Ideal S4x50 .f32 := V (Proc.devRef .tc main_v12)
noncomputable def v13 : IVec S4x50 1 := V (Proc.devRef .tc main_v13)
noncomputable def v14 : IVec S4x50x1 1 := V (Proc.devRef .tc main_v14)
noncomputable def v15 : FVec Ideal S4x50x1 .f32 := V (Proc.devRef .tc main_v15)
noncomputable def v16 : FVec Ideal S4x50x4 .f32 := V (Proc.devRef .tc main_v16)
noncomputable def v17 : FVec Ideal S4x50x4 .f32 := V (Proc.devRef .tc main_v17)
noncomputable def v18 : FVec Ideal S4x50x4 .f32 := V (Proc.devRef .tc main_v18)
noncomputable def cst_5 : FVec Ideal S_ .f32 := V (Proc.devRef .tc main_cst_5)
noncomputable def v19 : FVec Ideal S4x50 .f32 := V (Proc.devRef .tc main_v19)
noncomputable def v20 : IVec S4x50 1 := V (Proc.devRef .tc main_v20)
noncomputable def v21 : IVec S4x50x1 1 := V (Proc.devRef .tc main_v21)
noncomputable def v22 : FVec Ideal S4x50x1 .f32 := V (Proc.devRef .tc main_v22)
noncomputable def v23 : FVec Ideal S4x50x4 .f32 := V (Proc.devRef .tc main_v23)
noncomputable def v24 : FVec Ideal S4x50x4 .f32 := V (Proc.devRef .tc main_v24)
noncomputable def v25 : FVec Ideal S4x50x1 .f32 := V (Proc.devRef .tc main_v25)
noncomputable def cst_6 : FVec Ideal S_ .f32 := V (Proc.devRef .tc main_cst_6)
noncomputable def v26 : FVec Ideal S4x50x1 .f32 := V (Proc.devRef .tc main_v26)
noncomputable def v27 : FVec Ideal S4x50x4 .f32 := V (Proc.devRef .tc main_v27)
noncomputable def v28 : FVec Ideal S4x50x5 .f32 := V (Proc.devRef .tc main_v28)
noncomputable def v29 : FVec Ideal S4x20050x5 .f32 := V (Proc.devRef .tc main_v29)
noncomputable def v30 : FVec Ideal S4x20050x4 .f32 := V (Proc.devRef .tc main_v30)
noncomputable def v31 : FVec Ideal S4x50x4 .f32 := V (Proc.devRef .tc main_v31)
noncomputable def v32 : FVec Ideal S4x50x1 .f32 := V (Proc.devRef .tc main_v32)
noncomputable def v33 : FVec Ideal S4x50 .f32 := V (Proc.devRef .tc main_v33)
noncomputable def v34 : FVec Ideal S4x50x1 .f32 := V (Proc.devRef .tc main_v34)
noncomputable def v35 : FVec Ideal S4x50 .f32 := V (Proc.devRef .tc main_v35)
noncomputable def v36 : FVec Ideal S4x50 .f32 := V (Proc.devRef .tc main_v36)
noncomputable def cst_7 : FVec Ideal S_ .f32 := V (Proc.devRef .tc main_cst_7)
noncomputable def v37 : FVec Ideal S4x50 .f32 := V (Proc.devRef .tc main_v37)
noncomputable def v38 : FVec Ideal S4x50 .f32 := V (Proc.devRef .tc main_v38)
noncomputable def v39 : FVec Ideal S4x50x1 .f32 := V (Proc.devRef .tc main_v39)
noncomputable def v40 : FVec Ideal S4x50 .f32 := V (Proc.devRef .tc main_v40)
noncomputable def v41 : FVec Ideal S4x50x1 .f32 := V (Proc.devRef .tc main_v41)
noncomputable def v42 : FVec Ideal S4x50 .f32 := V (Proc.devRef .tc main_v42)
noncomputable def v43 : FVec Ideal S4x50 .f32 := V (Proc.devRef .tc main_v43)
noncomputable def cst_8 : FVec Ideal S_ .f32 := V (Proc.devRef .tc main_cst_8)
noncomputable def v44 : FVec Ideal S4x50 .f32 := V (Proc.devRef .tc main_v44)
noncomputable def v45 : FVec Ideal S4x50 .f32 := V (Proc.devRef .tc main_v45)
noncomputable def v46 : FVec Ideal S4x50 .f32 := V (Proc.devRef .tc main_v46)
noncomputable def v47 : FVec Ideal S4x50x4 .f32 := V (Proc.devRef .tc main_v47)
noncomputable def cst_9 : FVec Ideal S_ .f32 := V (Proc.devRef .tc main_cst_9)
noncomputable def v48 : FVec Ideal S4x50 .f32 := V (Proc.devRef .tc main_v48)
noncomputable def cst_10 : FVec Ideal S_ .f32 := V (Proc.devRef .tc main_cst_10)
noncomputable def v49 : FVec Ideal S4x50 .f32 := V (Proc.devRef .tc main_v49)
noncomputable def v50 : IVec S4x50 1 := V (Proc.devRef .tc main_v50)
noncomputable def v51 : FVec Ideal S4x20050x2 .f32 := V (Proc.devRef .tc main_v51)
noncomputable def v52 : FVec Ideal S4x20050x1x2 .f32 := V (Proc.devRef .tc main_v52)
noncomputable def v53 : FVec Ideal S4x50x2 .f32 := V (Proc.devRef .tc main_v53)
noncomputable def v54 : FVec Ideal S4x1x50x2 .f32 := V (Proc.devRef .tc main_v54)
noncomputable def v55 : FVec Ideal S4x20050x50x2 .f32 := V (Proc.devRef .tc main_v55)
noncomputable def v56 : FVec Ideal S4x20050x50x2 .f32 := V (Proc.devRef .tc main_v56)
noncomputable def v57 : FVec Ideal S4x20050x50x2 .f32 := V (Proc.devRef .tc main_v57)
noncomputable def v58 : FVec Ideal S4x20050x2 .f32 := V (Proc.devRef .tc main_v58)
noncomputable def v59 : FVec Ideal S4x20050x1x2 .f32 := V (Proc.devRef .tc main_v59)
noncomputable def v60 : FVec Ideal S4x50x2 .f32 := V (Proc.devRef .tc main_v60)
noncomputable def v61 : FVec Ideal S4x1x50x2 .f32 := V (Proc.devRef .tc main_v61)
noncomputable def v62 : FVec Ideal S4x20050x50x2 .f32 := V (Proc.devRef .tc main_v62)
noncomputable def v63 : FVec Ideal S4x20050x50x2 .f32 := V (Proc.devRef .tc main_v63)
noncomputable def v64 : FVec Ideal S4x20050x50x2 .f32 := V (Proc.devRef .tc main_v64)
noncomputable def v65 : FVec Ideal S4x20050x50x2 .f32 := V (Proc.devRef .tc main_v65)
noncomputable def cst_11 : FVec Ideal S_ .f32 := V (Proc.devRef .tc main_cst_11)
noncomputable def v66 : FVec Ideal S4x20050x50x2 .f32 := V (Proc.devRef .tc main_v66)
noncomputable def v67 : FVec Ideal S4x20050x50x2 .f32 := V (Proc.devRef .tc main_v67)
noncomputable def cst_12 : FVec Ideal S_ .f32 := V (Proc.devRef .tc main_cst_12)
noncomputable def call0_v0 : FVec Ideal S_ .f32 := V (Proc.devRef .tc main_call0_v0)
noncomputable def call0_v1 : FVec Ideal S4x20050x50x2 .f32 := V (Proc.devRef .tc main_call0_v1)
noncomputable def v68 : FVec Ideal S4x20050x50x2 .f32 := V (Proc.devRef .tc main_v68)
noncomputable def v69 : FVec Ideal S4x20050x50x1 .f32 := V (Proc.devRef .tc main_v69)
noncomputable def v70 : FVec Ideal S4x20050x50 .f32 := V (Proc.devRef .tc main_v70)
noncomputable def v71 : FVec Ideal S4x20050x50x1 .f32 := V (Proc.devRef .tc main_v71)
noncomputable def v72 : FVec Ideal S4x20050x50 .f32 := V (Proc.devRef .tc main_v72)
noncomputable def v73 : FVec Ideal S4x20050x50 .f32 := V (Proc.devRef .tc main_v73)
noncomputable def v74 : FVec Ideal S4x20050x1 .f32 := V (Proc.devRef .tc main_v74)
noncomputable def v75 : FVec Ideal S4x20050 .f32 := V (Proc.devRef .tc main_v75)
noncomputable def v76 : FVec Ideal S4x20050x1 .f32 := V (Proc.devRef .tc main_v76)
noncomputable def v77 : FVec Ideal S4x20050 .f32 := V (Proc.devRef .tc main_v77)
noncomputable def v78 : FVec Ideal S4x20050 .f32 := V (Proc.devRef .tc main_v78)
noncomputable def cst_13 : FVec Ideal S_ .f32 := V (Proc.devRef .tc main_cst_13)
noncomputable def v79 : FVec Ideal S4x20050 .f32 := V (Proc.devRef .tc main_v79)
noncomputable def v80 : FVec Ideal S4x20050 .f32 := V (Proc.devRef .tc main_v80)
noncomputable def v81 : FVec Ideal S4x20050x1 .f32 := V (Proc.devRef .tc main_v81)
noncomputable def v82 : FVec Ideal S4x20050 .f32 := V (Proc.devRef .tc main_v82)
noncomputable def v83 : FVec Ideal S4x20050x1 .f32 := V (Proc.devRef .tc main_v83)
noncomputable def v84 : FVec Ideal S4x20050 .f32 := V (Proc.devRef .tc main_v84)
noncomputable def v85 : FVec Ideal S4x20050 .f32 := V (Proc.devRef .tc main_v85)
noncomputable def cst_14 : FVec Ideal S_ .f32 := V (Proc.devRef .tc main_cst_14)
noncomputable def v86 : FVec Ideal S4x20050 .f32 := V (Proc.devRef .tc main_v86)
noncomputable def v87 : FVec Ideal S4x20050 .f32 := V (Proc.devRef .tc main_v87)
noncomputable def v88 : FVec Ideal S4x20050 .f32 := V (Proc.devRef .tc main_v88)
noncomputable def v89 : FVec Ideal S4x20050x1 .f32 := V (Proc.devRef .tc main_v89)
noncomputable def v90 : FVec Ideal S4x1x50 .f32 := V (Proc.devRef .tc main_v90)
noncomputable def v91 : FVec Ideal S4x20050x50 .f32 := V (Proc.devRef .tc main_v91)
noncomputable def v92 : FVec Ideal S4x20050x50 .f32 := V (Proc.devRef .tc main_v92)
noncomputable def v93 : FVec Ideal S4x20050x50 .f32 := V (Proc.devRef .tc main_v93)
noncomputable def v94 : FVec Ideal S4x20050x50 .f32 := V (Proc.devRef .tc main_v94)
noncomputable def cst_15 : FVec Ideal S_ .f32 := V (Proc.devRef .tc main_cst_15)
noncomputable def v95 : FVec Ideal S4x20050x50 .f32 := V (Proc.devRef .tc main_v95)
noncomputable def v96 : FVec Ideal S4x20050x50 .f32 := V (Proc.devRef .tc main_v96)
noncomputable def v97 : FVec Ideal S4x20050x50 .f32 := V (Proc.devRef .tc main_v97)
noncomputable def v98 : IVec S4x1x50 1 := V (Proc.devRef .tc main_v98)
noncomputable def cst_16 : FVec Ideal S_ .f32 := V (Proc.devRef .tc main_cst_16)
noncomputable def call1_v0 : FVec Ideal S_ .f32 := V (Proc.devRef .tc main_call1_v0)
noncomputable def call1_v1 : IVec S4x20050x50 1 := V (Proc.devRef .tc main_call1_v1)
noncomputable def call1_v2 : FVec Ideal S4x20050x50 .f32 := V (Proc.devRef .tc main_call1_v2)
noncomputable def v99 : FVec Ideal S4x20050x50 .f32 := V (Proc.devRef .tc main_v99)
noncomputable def cst_17 : FVec Ideal S_ .f32 := V (Proc.devRef .tc main_cst_17)
noncomputable def v100 : FVec Ideal S4x20050 .f32 := V (Proc.devRef .tc main_v100)
noncomputable def call2_v0 : IVec S4x20050x50 32 := V (Proc.devRef .tc main_call2_v0)
noncomputable def call2_cst : FVec Ideal S_ .f32 := V (Proc.devRef .tc main_call2_cst)
noncomputable def call2_c : IVec S_ 32 := V (Proc.devRef .tc main_call2_c)
noncomputable def call2_v1_0 : FVec Ideal S4x20050 .f32 := V (Proc.devRef .tc main_call2_v1_0)
noncomputable def v101 : IVec S4x20050 32 := V (Proc.devRef .tc main_v101)
noncomputable def call3_c : IVec S_ 32 := V (Proc.devRef .tc main_call3_c)
noncomputable def call3_v0 : IVec S4x20050 32 := V (Proc.devRef .tc main_call3_v0)
noncomputable def call3_v1 : IVec S4x20050 1 := V (Proc.devRef .tc main_call3_v1)
noncomputable def call3_c_0 : IVec S_ 32 := V (Proc.devRef .tc main_call3_c_0)
noncomputable def call3_v2 : IVec S4x20050 32 := V (Proc.devRef .tc main_call3_v2)
noncomputable def call3_v3 : IVec S4x20050 32 := V (Proc.devRef .tc main_call3_v3)
noncomputable def call3_v4 : IVec S4x20050 32 := V (Proc.devRef .tc main_call3_v4)
noncomputable def call3_v5 : IVec S4x20050x1 32 := V (Proc.devRef .tc main_call3_v5)
noncomputable def call3_c_1 : IVec S1 32 := V (Proc.devRef .tc main_call3_c_1)
noncomputable def call3_c_2 : IVec S_ 32 := V (Proc.devRef .tc main_call3_c_2)
noncomputable def call3_v6 : IVec S4x20050x1 32 := V (Proc.devRef .tc main_call3_v6)
noncomputable def call3_v7 : IVec S4x20050x1 1 := V (Proc.devRef .tc main_call3_v7)
noncomputable def call3_v8 : IVec S1x1x1 32 := V (Proc.devRef .tc main_call3_v8)
noncomputable def call3_v9 : IVec S4x20050x1 32 := V (Proc.devRef .tc main_call3_v9)
noncomputable def call3_v10 : IVec S4x20050x1 1 := V (Proc.devRef .tc main_call3_v10)
noncomputable def call3_v11 : IVec S4x20050x1 1 := V (Proc.devRef .tc main_call3_v11)
noncomputable def call3_c_3 : IVec S_ 1 := V (Proc.devRef .tc main_call3_c_3)
noncomputable def call3_v12 : IVec S4x20050 1 := V (Proc.devRef .tc main_call3_v12)
noncomputable def call3_v13 : FVec Ideal S4x20050 .f32 := V (Proc.devRef .tc main_call3_v13)
noncomputable def call3_cst : FVec Ideal S_ .f32 := V (Proc.devRef .tc main_call3_cst)
noncomputable def call3_v14 : FVec Ideal S4x20050 .f32 := V (Proc.devRef .tc main_call3_v14)
noncomputable def v102 : FVec Ideal S4x20050 .f32 := V (Proc.devRef .tc main_v102)
noncomputable def cst_18 : FVec Ideal S_ .f32 := V (Proc.devRef .tc main_cst_18)
noncomputable def v103 : FVec Ideal S4x20050 .f32 := V (Proc.devRef .tc main_v103)
noncomputable def v104 : IVec S4x20050 1 := V (Proc.devRef .tc main_v104)
noncomputable def cst_19 : FVec Ideal S_ .f32 := V (Proc.devRef .tc main_cst_19)
noncomputable def call4_v0 : FVec Ideal S_ .f32 := V (Proc.devRef .tc main_call4_v0)
noncomputable def call4_v1 : FVec Ideal S4x20050 .f32 := V (Proc.devRef .tc main_call4_v1)
noncomputable def v105 : FVec Ideal S4x20050 .f32 := V (Proc.devRef .tc main_v105)
noncomputable def values : FVec Ideal S4x64 .f32 := V (Proc.devRef .tc main_values)
noncomputable def indices : IVec S4x64 32 := V (Proc.devRef .tc main_indices)
noncomputable def cst_20 : FVec Ideal S_ .f32 := V (Proc.devRef .tc main_cst_20)
noncomputable def v106 : FVec Ideal S4x64 .f32 := V (Proc.devRef .tc main_v106)
noncomputable def v107 : IVec S4x64 1 := V (Proc.devRef .tc main_v107)
noncomputable def v108 : FVec Ideal S4x20050x4 .f32 := V (Proc.devRef .tc main_v108)
noncomputable def v109 : FVec Ideal S4x50x1 .f32 := V (Proc.devRef .tc main_v109)
noncomputable def v110 : FVec Ideal S4x50 .f32 := V (Proc.devRef .tc main_v110)
noncomputable def v111 : FVec Ideal S4x50x1 .f32 := V (Proc.devRef .tc main_v111)
noncomputable def v112 : FVec Ideal S4x50 .f32 := V (Proc.devRef .tc main_v112)
noncomputable def v113 : FVec Ideal S4x50 .f32 := V (Proc.devRef .tc main_v113)
noncomputable def cst_21 : FVec Ideal S_ .f32 := V (Proc.devRef .tc main_cst_21)
noncomputable def v114 : FVec Ideal S4x50 .f32 := V (Proc.devRef .tc main_v114)
noncomputable def v115 : FVec Ideal S4x50 .f32 := V (Proc.devRef .tc main_v115)
noncomputable def v116 : FVec Ideal S4x50x1 .f32 := V (Proc.devRef .tc main_v116)
noncomputable def v117 : FVec Ideal S4x50 .f32 := V (Proc.devRef .tc main_v117)
noncomputable def v118 : FVec Ideal S4x50x1 .f32 := V (Proc.devRef .tc main_v118)
noncomputable def v119 : FVec Ideal S4x50 .f32 := V (Proc.devRef .tc main_v119)
noncomputable def v120 : FVec Ideal S4x50 .f32 := V (Proc.devRef .tc main_v120)
noncomputable def cst_22 : FVec Ideal S_ .f32 := V (Proc.devRef .tc main_cst_22)
noncomputable def v121 : FVec Ideal S4x50 .f32 := V (Proc.devRef .tc main_v121)
noncomputable def v122 : FVec Ideal S4x50 .f32 := V (Proc.devRef .tc main_v122)
noncomputable def v123 : FVec Ideal S4x50 .f32 := V (Proc.devRef .tc main_v123)
noncomputable def v124 : FVec Ideal S4x50x4 .f32 := V (Proc.devRef .tc main_v124)
noncomputable def cst_23 : FVec Ideal S_ .f32 := V (Proc.devRef .tc main_cst_23)
noncomputable def v125 : FVec Ideal S4x50 .f32 := V (Proc.devRef .tc main_v125)
noncomputable def cst_24 : FVec Ideal S_ .f32 := V (Proc.devRef .tc main_cst_24)
noncomputable def v126 : FVec Ideal S4x50 .f32 := V (Proc.devRef .tc main_v126)
noncomputable def v127 : IVec S4x50 1 := V (Proc.devRef .tc main_v127)
noncomputable def v128 : FVec Ideal S4x20050x2 .f32 := V (Proc.devRef .tc main_v128)
noncomputable def v129 : FVec Ideal S4x20050x1x2 .f32 := V (Proc.devRef .tc main_v129)
noncomputable def v130 : FVec Ideal S4x50x2 .f32 := V (Proc.devRef .tc main_v130)
noncomputable def v131 : FVec Ideal S4x1x50x2 .f32 := V (Proc.devRef .tc main_v131)
noncomputable def v132 : FVec Ideal S4x20050x50x2 .f32 := V (Proc.devRef .tc main_v132)
noncomputable def v133 : FVec Ideal S4x20050x50x2 .f32 := V (Proc.devRef .tc main_v133)
noncomputable def v134 : FVec Ideal S4x20050x50x2 .f32 := V (Proc.devRef .tc main_v134)
noncomputable def v135 : FVec Ideal S4x20050x2 .f32 := V (Proc.devRef .tc main_v135)
noncomputable def v136 : FVec Ideal S4x20050x1x2 .f32 := V (Proc.devRef .tc main_v136)
noncomputable def v137 : FVec Ideal S4x50x2 .f32 := V (Proc.devRef .tc main_v137)
noncomputable def v138 : FVec Ideal S4x1x50x2 .f32 := V (Proc.devRef .tc main_v138)
noncomputable def v139 : FVec Ideal S4x20050x50x2 .f32 := V (Proc.devRef .tc main_v139)
noncomputable def v140 : FVec Ideal S4x20050x50x2 .f32 := V (Proc.devRef .tc main_v140)
noncomputable def v141 : FVec Ideal S4x20050x50x2 .f32 := V (Proc.devRef .tc main_v141)
noncomputable def v142 : FVec Ideal S4x20050x50x2 .f32 := V (Proc.devRef .tc main_v142)
noncomputable def cst_25 : FVec Ideal S_ .f32 := V (Proc.devRef .tc main_cst_25)
noncomputable def v143 : FVec Ideal S4x20050x50x2 .f32 := V (Proc.devRef .tc main_v143)
noncomputable def v144 : FVec Ideal S4x20050x50x2 .f32 := V (Proc.devRef .tc main_v144)
noncomputable def cst_26 : FVec Ideal S_ .f32 := V (Proc.devRef .tc main_cst_26)
noncomputable def call5_v0 : FVec Ideal S_ .f32 := V (Proc.devRef .tc main_call5_v0)
noncomputable def call5_v1 : FVec Ideal S4x20050x50x2 .f32 := V (Proc.devRef .tc main_call5_v1)
noncomputable def v145 : FVec Ideal S4x20050x50x2 .f32 := V (Proc.devRef .tc main_v145)
noncomputable def v146 : FVec Ideal S4x20050x50x1 .f32 := V (Proc.devRef .tc main_v146)
noncomputable def v147 : FVec Ideal S4x20050x50 .f32 := V (Proc.devRef .tc main_v147)
noncomputable def v148 : FVec Ideal S4x20050x50x1 .f32 := V (Proc.devRef .tc main_v148)
noncomputable def v149 : FVec Ideal S4x20050x50 .f32 := V (Proc.devRef .tc main_v149)
noncomputable def v150 : FVec Ideal S4x20050x50 .f32 := V (Proc.devRef .tc main_v150)
noncomputable def v151 : FVec Ideal S4x20050x1 .f32 := V (Proc.devRef .tc main_v151)
noncomputable def v152 : FVec Ideal S4x20050 .f32 := V (Proc.devRef .tc main_v152)
noncomputable def v153 : FVec Ideal S4x20050x1 .f32 := V (Proc.devRef .tc main_v153)
noncomputable def v154 : FVec Ideal S4x20050 .f32 := V (Proc.devRef .tc main_v154)
noncomputable def v155 : FVec Ideal S4x20050 .f32 := V (Proc.devRef .tc main_v155)
noncomputable def cst_27 : FVec Ideal S_ .f32 := V (Proc.devRef .tc main_cst_27)
noncomputable def v156 : FVec Ideal S4x20050 .f32 := V (Proc.devRef .tc main_v156)
noncomputable def v157 : FVec Ideal S4x20050 .f32 := V (Proc.devRef .tc main_v157)
noncomputable def v158 : FVec Ideal S4x20050x1 .f32 := V (Proc.devRef .tc main_v158)
noncomputable def v159 : FVec Ideal S4x20050 .f32 := V (Proc.devRef .tc main_v159)
noncomputable def v160 : FVec Ideal S4x20050x1 .f32 := V (Proc.devRef .tc main_v160)
noncomputable def v161 : FVec Ideal S4x20050 .f32 := V (Proc.devRef .tc main_v161)
noncomputable def v162 : FVec Ideal S4x20050 .f32 := V (Proc.devRef .tc main_v162)
noncomputable def cst_28 : FVec Ideal S_ .f32 := V (Proc.devRef .tc main_cst_28)
noncomputable def v163 : FVec Ideal S4x20050 .f32 := V (Proc.devRef .tc main_v163)
noncomputable def v164 : FVec Ideal S4x20050 .f32 := V (Proc.devRef .tc main_v164)
noncomputable def v165 : FVec Ideal S4x20050 .f32 := V (Proc.devRef .tc main_v165)
noncomputable def v166 : FVec Ideal S4x20050x1 .f32 := V (Proc.devRef .tc main_v166)
noncomputable def v167 : FVec Ideal S4x1x50 .f32 := V (Proc.devRef .tc main_v167)
noncomputable def v168 : FVec Ideal S4x20050x50 .f32 := V (Proc.devRef .tc main_v168)
noncomputable def v169 : FVec Ideal S4x20050x50 .f32 := V (Proc.devRef .tc main_v169)
noncomputable def v170 : FVec Ideal S4x20050x50 .f32 := V (Proc.devRef .tc main_v170)
noncomputable def v171 : FVec Ideal S4x20050x50 .f32 := V (Proc.devRef .tc main_v171)
noncomputable def cst_29 : FVec Ideal S_ .f32 := V (Proc.devRef .tc main_cst_29)
noncomputable def v172 : FVec Ideal S4x20050x50 .f32 := V (Proc.devRef .tc main_v172)
noncomputable def v173 : FVec Ideal S4x20050x50 .f32 := V (Proc.devRef .tc main_v173)
noncomputable def v174 : FVec Ideal S4x20050x50 .f32 := V (Proc.devRef .tc main_v174)
noncomputable def v175 : IVec S4x1x50 1 := V (Proc.devRef .tc main_v175)
noncomputable def cst_30 : FVec Ideal S_ .f32 := V (Proc.devRef .tc main_cst_30)
noncomputable def call6_v0 : FVec Ideal S_ .f32 := V (Proc.devRef .tc main_call6_v0)
noncomputable def call6_v1 : IVec S4x20050x50 1 := V (Proc.devRef .tc main_call6_v1)
noncomputable def call6_v2 : FVec Ideal S4x20050x50 .f32 := V (Proc.devRef .tc main_call6_v2)
noncomputable def v176 : FVec Ideal S4x20050x50 .f32 := V (Proc.devRef .tc main_v176)
noncomputable def v177 : FVec Ideal S4x20050x4 .f32 := V (Proc.devRef .tc main_v177)
noncomputable def v178 : FVec Ideal S4x50x1 .f32 := V (Proc.devRef .tc main_v178)
noncomputable def v179 : FVec Ideal S4x50 .f32 := V (Proc.devRef .tc main_v179)
noncomputable def v180 : FVec Ideal S4x50x1 .f32 := V (Proc.devRef .tc main_v180)
noncomputable def v181 : FVec Ideal S4x50 .f32 := V (Proc.devRef .tc main_v181)
noncomputable def v182 : FVec Ideal S4x50 .f32 := V (Proc.devRef .tc main_v182)
noncomputable def cst_31 : FVec Ideal S_ .f32 := V (Proc.devRef .tc main_cst_31)
noncomputable def v183 : FVec Ideal S4x50 .f32 := V (Proc.devRef .tc main_v183)
noncomputable def v184 : FVec Ideal S4x50 .f32 := V (Proc.devRef .tc main_v184)
noncomputable def v185 : FVec Ideal S4x50x1 .f32 := V (Proc.devRef .tc main_v185)
noncomputable def v186 : FVec Ideal S4x50 .f32 := V (Proc.devRef .tc main_v186)
noncomputable def v187 : FVec Ideal S4x50x1 .f32 := V (Proc.devRef .tc main_v187)
noncomputable def v188 : FVec Ideal S4x50 .f32 := V (Proc.devRef .tc main_v188)
noncomputable def v189 : FVec Ideal S4x50 .f32 := V (Proc.devRef .tc main_v189)
noncomputable def cst_32 : FVec Ideal S_ .f32 := V (Proc.devRef .tc main_cst_32)
noncomputable def v190 : FVec Ideal S4x50 .f32 := V (Proc.devRef .tc main_v190)
noncomputable def v191 : FVec Ideal S4x50 .f32 := V (Proc.devRef .tc main_v191)
noncomputable def v192 : FVec Ideal S4x50 .f32 := V (Proc.devRef .tc main_v192)
noncomputable def v193 : FVec Ideal S4x50x4 .f32 := V (Proc.devRef .tc main_v193)
noncomputable def cst_33 : FVec Ideal S_ .f32 := V (Proc.devRef .tc main_cst_33)
noncomputable def v194 : FVec Ideal S4x50 .f32 := V (Proc.devRef .tc main_v194)
noncomputable def cst_34 : FVec Ideal S_ .f32 := V (Proc.devRef .tc main_cst_34)
noncomputable def v195 : FVec Ideal S4x50 .f32 := V (Proc.devRef .tc main_v195)
noncomputable def v196 : IVec S4x50 1 := V (Proc.devRef .tc main_v196)
noncomputable def v197 : FVec Ideal S4x20050x2 .f32 := V (Proc.devRef .tc main_v197)
noncomputable def v198 : FVec Ideal S4x20050x1x2 .f32 := V (Proc.devRef .tc main_v198)
noncomputable def v199 : FVec Ideal S4x50x2 .f32 := V (Proc.devRef .tc main_v199)
noncomputable def v200 : FVec Ideal S4x1x50x2 .f32 := V (Proc.devRef .tc main_v200)
noncomputable def v201 : FVec Ideal S4x20050x50x2 .f32 := V (Proc.devRef .tc main_v201)
noncomputable def v202 : FVec Ideal S4x20050x50x2 .f32 := V (Proc.devRef .tc main_v202)
noncomputable def v203 : FVec Ideal S4x20050x50x2 .f32 := V (Proc.devRef .tc main_v203)
noncomputable def v204 : FVec Ideal S4x20050x2 .f32 := V (Proc.devRef .tc main_v204)
noncomputable def v205 : FVec Ideal S4x20050x1x2 .f32 := V (Proc.devRef .tc main_v205)
noncomputable def v206 : FVec Ideal S4x50x2 .f32 := V (Proc.devRef .tc main_v206)
noncomputable def v207 : FVec Ideal S4x1x50x2 .f32 := V (Proc.devRef .tc main_v207)
noncomputable def v208 : FVec Ideal S4x20050x50x2 .f32 := V (Proc.devRef .tc main_v208)
noncomputable def v209 : FVec Ideal S4x20050x50x2 .f32 := V (Proc.devRef .tc main_v209)
noncomputable def v210 : FVec Ideal S4x20050x50x2 .f32 := V (Proc.devRef .tc main_v210)
noncomputable def v211 : FVec Ideal S4x20050x50x2 .f32 := V (Proc.devRef .tc main_v211)
noncomputable def cst_35 : FVec Ideal S_ .f32 := V (Proc.devRef .tc main_cst_35)
noncomputable def v212 : FVec Ideal S4x20050x50x2 .f32 := V (Proc.devRef .tc main_v212)
noncomputable def v213 : FVec Ideal S4x20050x50x2 .f32 := V (Proc.devRef .tc main_v213)
noncomputable def cst_36 : FVec Ideal S_ .f32 := V (Proc.devRef .tc main_cst_36)
noncomputable def call7_v0 : FVec Ideal S_ .f32 := V (Proc.devRef .tc main_call7_v0)
noncomputable def call7_v1 : FVec Ideal S4x20050x50x2 .f32 := V (Proc.devRef .tc main_call7_v1)
noncomputable def v214 : FVec Ideal S4x20050x50x2 .f32 := V (Proc.devRef .tc main_v214)
noncomputable def v215 : FVec Ideal S4x20050x50x1 .f32 := V (Proc.devRef .tc main_v215)
noncomputable def v216 : FVec Ideal S4x20050x50 .f32 := V (Proc.devRef .tc main_v216)
noncomputable def v217 : FVec Ideal S4x20050x50x1 .f32 := V (Proc.devRef .tc main_v217)
noncomputable def v218 : FVec Ideal S4x20050x50 .f32 := V (Proc.devRef .tc main_v218)
noncomputable def v219 : FVec Ideal S4x20050x50 .f32 := V (Proc.devRef .tc main_v219)
noncomputable def v220 : FVec Ideal S4x1x50 .f32 := V (Proc.devRef .tc main_v220)
noncomputable def cst_37 : FVec Ideal S_ .f32 := V (Proc.devRef .tc main_cst_37)
noncomputable def v221 : FVec Ideal S4x1x50 .f32 := V (Proc.devRef .tc main_v221)
noncomputable def v222 : FVec Ideal S4x1x50 .f32 := V (Proc.devRef .tc main_v222)
noncomputable def v223 : FVec Ideal S4x20050x50 .f32 := V (Proc.devRef .tc main_v223)
noncomputable def v224 : FVec Ideal S4x20050x50 .f32 := V (Proc.devRef .tc main_v224)
noncomputable def v225 : IVec S4x1x50 1 := V (Proc.devRef .tc main_v225)
noncomputable def cst_38 : FVec Ideal S_ .f32 := V (Proc.devRef .tc main_cst_38)
noncomputable def call8_v0 : FVec Ideal S_ .f32 := V (Proc.devRef .tc main_call8_v0)
noncomputable def call8_v1 : IVec S4x20050x50 1 := V (Proc.devRef .tc main_call8_v1)
noncomputable def call8_v2 : FVec Ideal S4x20050x50 .f32 := V (Proc.devRef .tc main_call8_v2)
noncomputable def v226 : FVec Ideal S4x20050x50 .f32 := V (Proc.devRef .tc main_v226)
noncomputable def cst_39 : FVec Ideal S_ .f32 := V (Proc.devRef .tc main_cst_39)
noncomputable def v227 : FVec Ideal S4x20050 .f32 := V (Proc.devRef .tc main_v227)
noncomputable def v228 : IVec S4x20050 1 := V (Proc.devRef .tc main_v228)
noncomputable def cst_40 : FVec Ideal S_ .f32 := V (Proc.devRef .tc main_cst_40)
noncomputable def v229 : FVec Ideal S4x20050 .f32 := V (Proc.devRef .tc main_v229)
noncomputable def v230 : IVec S4x20050 1 := V (Proc.devRef .tc main_v230)
noncomputable def v231 : IVec S4x20050 1 := V (Proc.devRef .tc main_v231)
noncomputable def cst_41 : FVec Ideal S_ .f32 := V (Proc.devRef .tc main_cst_41)
noncomputable def v232 : FVec Ideal S4x20050 .f32 := V (Proc.devRef .tc main_v232)
noncomputable def cst_42 : FVec Ideal S_ .f32 := V (Proc.devRef .tc main_cst_42)
noncomputable def v233 : FVec Ideal S4x20050 .f32 := V (Proc.devRef .tc main_v233)
noncomputable def v234 : IVec S4x20050 1 := V (Proc.devRef .tc main_v234)
noncomputable def cst_43 : FVec Ideal S_ .f32 := V (Proc.devRef .tc main_cst_43)
noncomputable def v235 : FVec Ideal S4x20050 .f32 := V (Proc.devRef .tc main_v235)
noncomputable def cst_44 : FVec Ideal S_ .f32 := V (Proc.devRef .tc main_cst_44)
noncomputable def v236 : FVec Ideal S4x20050 .f32 := V (Proc.devRef .tc main_v236)
noncomputable def v237 : IVec S4x20050 1 := V (Proc.devRef .tc main_v237)
noncomputable def v238 : IVec S4x20050 1 := V (Proc.devRef .tc main_v238)
noncomputable def v239 : IVec S4x20050 1 := V (Proc.devRef .tc main_v239)
noncomputable def cst_45 : FVec Ideal S_ .f32 := V (Proc.devRef .tc main_cst_45)
noncomputable def v240 : FVec Ideal S4x20050 .f32 := V (Proc.devRef .tc main_v240)
noncomputable def v241 : FVec Ideal S4x20050 .f32 := V (Proc.devRef .tc main_v241)
noncomputable def cst_46 : FVec Ideal S_ .f32 := V (Proc.devRef .tc main_cst_46)
noncomputable def call9_v0 : FVec Ideal S_ .f32 := V (Proc.devRef .tc main_call9_v0)
noncomputable def call9_v1 : FVec Ideal S4x20050 .f32 := V (Proc.devRef .tc main_call9_v1)
noncomputable def v242 : FVec Ideal S4x20050 .f32 := V (Proc.devRef .tc main_v242)
noncomputable def values_47 : FVec Ideal S4x192 .f32 := V (Proc.devRef .tc main_values_47)
noncomputable def indices_48 : IVec S4x192 32 := V (Proc.devRef .tc main_indices_48)
noncomputable def v243 : IVec S4x256 32 := V (Proc.devRef .tc main_v243)
noncomputable def c : IVec S_ 1 := V (Proc.devRef .tc main_c)
noncomputable def v244 : IVec S4x192 1 := V (Proc.devRef .tc main_v244)
noncomputable def v245 : IVec S4x256 1 := V (Proc.devRef .tc main_v245)
noncomputable def call10_c : IVec S_ 32 := V (Proc.devRef .tc main_call10_c)
noncomputable def call10_v0 : IVec S4x256 32 := V (Proc.devRef .tc main_call10_v0)
noncomputable def call10_v1 : IVec S4x256 1 := V (Proc.devRef .tc main_call10_v1)
noncomputable def call10_c_0 : IVec S_ 32 := V (Proc.devRef .tc main_call10_c_0)
noncomputable def call10_v2 : IVec S4x256 32 := V (Proc.devRef .tc main_call10_v2)
noncomputable def call10_v3 : IVec S4x256 32 := V (Proc.devRef .tc main_call10_v3)
noncomputable def call10_v4 : IVec S4x256 32 := V (Proc.devRef .tc main_call10_v4)
noncomputable def call10_v5 : IVec S4x256x1 32 := V (Proc.devRef .tc main_call10_v5)
noncomputable def call10_c_1 : IVec S1 32 := V (Proc.devRef .tc main_call10_c_1)
noncomputable def call10_c_2 : IVec S_ 32 := V (Proc.devRef .tc main_call10_c_2)
noncomputable def call10_v6 : IVec S4x256x1 32 := V (Proc.devRef .tc main_call10_v6)
noncomputable def call10_v7 : IVec S4x256x1 1 := V (Proc.devRef .tc main_call10_v7)
noncomputable def call10_v8 : IVec S1x1x1 32 := V (Proc.devRef .tc main_call10_v8)
noncomputable def call10_v9 : IVec S4x256x1 32 := V (Proc.devRef .tc main_call10_v9)
noncomputable def call10_v10 : IVec S4x256x1 1 := V (Proc.devRef .tc main_call10_v10)
noncomputable def call10_v11 : IVec S4x256x1 1 := V (Proc.devRef .tc main_call10_v11)
noncomputable def call10_c_3 : IVec S_ 1 := V (Proc.devRef .tc main_call10_c_3)
noncomputable def call10_v12 : IVec S4x256 1 := V (Proc.devRef .tc main_call10_v12)
noncomputable def call10_v13 : FVec Ideal S4x256 .f32 := V (Proc.devRef .tc main_call10_v13)
noncomputable def call10_cst : FVec Ideal S_ .f32 := V (Proc.devRef .tc main_call10_cst)
noncomputable def call10_v14 : FVec Ideal S4x256 .f32 := V (Proc.devRef .tc main_call10_v14)
noncomputable def v246 : FVec Ideal S4x256 .f32 := V (Proc.devRef .tc main_v246)
noncomputable def cst_49 : FVec Ideal S_ .f32 := V (Proc.devRef .tc main_cst_49)
noncomputable def call11_v0 : FVec Ideal S_ .f32 := V (Proc.devRef .tc main_call11_v0)
noncomputable def call11_v1 : FVec Ideal S4x256 .f32 := V (Proc.devRef .tc main_call11_v1)
noncomputable def v247 : FVec Ideal S4x256 .f32 := V (Proc.devRef .tc main_v247)
noncomputable def v248 : IVec S4x256x1 32 := V (Proc.devRef .tc main_v248)
noncomputable def v249 : IVec S4x256x5 32 := V (Proc.devRef .tc main_v249)
noncomputable def call12_c : IVec S_ 32 := V (Proc.devRef .tc main_call12_c)
noncomputable def call12_v0 : IVec S4x256x5 32 := V (Proc.devRef .tc main_call12_v0)
noncomputable def call12_v1 : IVec S4x256x5 1 := V (Proc.devRef .tc main_call12_v1)
noncomputable def call12_c_0 : IVec S_ 32 := V (Proc.devRef .tc main_call12_c_0)
noncomputable def call12_v2 : IVec S4x256x5 32 := V (Proc.devRef .tc main_call12_v2)
noncomputable def call12_v3 : IVec S4x256x5 32 := V (Proc.devRef .tc main_call12_v3)
noncomputable def call12_v4 : IVec S4x256x5 32 := V (Proc.devRef .tc main_call12_v4)
noncomputable def call12_v5 : IVec S4x256x5x1 32 := V (Proc.devRef .tc main_call12_v5)
noncomputable def call12_c_1 : IVec S1 32 := V (Proc.devRef .tc main_call12_c_1)
noncomputable def call12_c_2 : IVec S_ 32 := V (Proc.devRef .tc main_call12_c_2)
noncomputable def call12_v6 : IVec S4x256x5x1 32 := V (Proc.devRef .tc main_call12_v6)
noncomputable def call12_v7 : IVec S4x256x5x1 1 := V (Proc.devRef .tc main_call12_v7)
noncomputable def call12_v8 : IVec S1x1x1x1 32 := V (Proc.devRef .tc main_call12_v8)
noncomputable def call12_v9 : IVec S4x256x5x1 32 := V (Proc.devRef .tc main_call12_v9)
noncomputable def call12_v10 : IVec S4x256x5x1 1 := V (Proc.devRef .tc main_call12_v10)
noncomputable def call12_v11 : IVec S4x256x5x1 1 := V (Proc.devRef .tc main_call12_v11)
noncomputable def call12_c_3 : IVec S_ 1 := V (Proc.devRef .tc main_call12_c_3)
noncomputable def call12_v12 : IVec S4x256x5 1 := V (Proc.devRef .tc main_call12_v12)
noncomputable def call12_v13 : FVec Ideal S4x256x5 .f32 := V (Proc.devRef .tc main_call12_v13)
noncomputable def call12_cst : FVec Ideal S_ .f32 := V (Proc.devRef .tc main_call12_cst)
noncomputable def call12_v14 : FVec Ideal S4x256x5 .f32 := V (Proc.devRef .tc main_call12_v14)
noncomputable def v250 : FVec Ideal S4x256x5 .f32 := V (Proc.devRef .tc main_v250)
noncomputable def v251 : FVec Ideal S4 .f32 := V (Proc.devRef .tc main_v251)
noncomputable def v252 : FVec Ideal S4x1 .f32 := V (Proc.devRef .tc main_v252)
noncomputable def v253 : FVec Ideal S4x256 .f32 := V (Proc.devRef .tc main_v253)
noncomputable def c_50 : IVec S_ 32 := V (Proc.devRef .tc main_c_50)
noncomputable def v254 : IVec S1 32 := V (Proc.devRef .tc main_v254)
noncomputable def v255 : FVec Ideal S4x256x5 .f32 := V (Proc.devRef .tc main_v255)
noncomputable def call13_c : IVec S_ 32 := V (Proc.devRef .tc main_call13_c)
noncomputable def call13_v0 : IVec S4x256 32 := V (Proc.devRef .tc main_call13_v0)
noncomputable def call13_v1 : IVec S4x256 1 := V (Proc.devRef .tc main_call13_v1)
noncomputable def call13_c_0 : IVec S_ 32 := V (Proc.devRef .tc main_call13_c_0)
noncomputable def call13_v2 : IVec S4x256 32 := V (Proc.devRef .tc main_call13_v2)
noncomputable def call13_v3 : IVec S4x256 32 := V (Proc.devRef .tc main_call13_v3)
noncomputable def call13_v4 : IVec S4x256 32 := V (Proc.devRef .tc main_call13_v4)
noncomputable def call13_v5 : IVec S4x256x1 32 := V (Proc.devRef .tc main_call13_v5)
noncomputable def call13_c_1 : IVec S1 32 := V (Proc.devRef .tc main_call13_c_1)
noncomputable def call13_c_2 : IVec S_ 32 := V (Proc.devRef .tc main_call13_c_2)
noncomputable def call13_v6 : IVec S4x256x1 32 := V (Proc.devRef .tc main_call13_v6)
noncomputable def call13_v7 : IVec S4x256x1 1 := V (Proc.devRef .tc main_call13_v7)
noncomputable def call13_v8 : IVec S1x1x1 32 := V (Proc.devRef .tc main_call13_v8)
noncomputable def call13_v9 : IVec S4x256x1 32 := V (Proc.devRef .tc main_call13_v9)
noncomputable def call13_v10 : IVec S4x256x1 1 := V (Proc.devRef .tc main_call13_v10)
noncomputable def call13_v11 : IVec S4x256x1 1 := V (Proc.devRef .tc main_call13_v11)
noncomputable def call13_c_3 : IVec S_ 1 := V (Proc.devRef .tc main_call13_c_3)
noncomputable def call13_v12 : IVec S4x256 1 := V (Proc.devRef .tc main_call13_v12)
noncomputable def call13_v13 : IVec S4x256 32 := V (Proc.devRef .tc main_call13_v13)
noncomputable def call13_c_4 : IVec S_ 32 := V (Proc.devRef .tc main_call13_c_4)
noncomputable def call13_v14 : IVec S4x256 32 := V (Proc.devRef .tc main_call13_v14)
noncomputable def v256 : IVec S4x256 32 := V (Proc.devRef .tc main_v256)
noncomputable def v257 : IVec S4x256x1 32 := V (Proc.devRef .tc main_v257)
noncomputable def v258 : IVec S4x256x5 32 := V (Proc.devRef .tc main_v258)
noncomputable def call14_c : IVec S_ 32 := V (Proc.devRef .tc main_call14_c)
noncomputable def call14_v0 : IVec S4x256x5 32 := V (Proc.devRef .tc main_call14_v0)
noncomputable def call14_v1 : IVec S4x256x5 1 := V (Proc.devRef .tc main_call14_v1)
noncomputable def call14_c_0 : IVec S_ 32 := V (Proc.devRef .tc main_call14_c_0)
noncomputable def call14_v2 : IVec S4x256x5 32 := V (Proc.devRef .tc main_call14_v2)
noncomputable def call14_v3 : IVec S4x256x5 32 := V (Proc.devRef .tc main_call14_v3)
noncomputable def call14_v4 : IVec S4x256x5 32 := V (Proc.devRef .tc main_call14_v4)
noncomputable def call14_v5 : IVec S4x256x5x1 32 := V (Proc.devRef .tc main_call14_v5)
noncomputable def call14_c_1 : IVec S1 32 := V (Proc.devRef .tc main_call14_c_1)
noncomputable def call14_c_2 : IVec S_ 32 := V (Proc.devRef .tc main_call14_c_2)
noncomputable def call14_v6 : IVec S4x256x5x1 32 := V (Proc.devRef .tc main_call14_v6)
noncomputable def call14_v7 : IVec S4x256x5x1 1 := V (Proc.devRef .tc main_call14_v7)
noncomputable def call14_v8 : IVec S1x1x1x1 32 := V (Proc.devRef .tc main_call14_v8)
noncomputable def call14_v9 : IVec S4x256x5x1 32 := V (Proc.devRef .tc main_call14_v9)
noncomputable def call14_v10 : IVec S4x256x5x1 1 := V (Proc.devRef .tc main_call14_v10)
noncomputable def call14_v11 : IVec S4x256x5x1 1 := V (Proc.devRef .tc main_call14_v11)
noncomputable def call14_c_3 : IVec S_ 1 := V (Proc.devRef .tc main_call14_c_3)
noncomputable def call14_v12 : IVec S4x256x5 1 := V (Proc.devRef .tc main_call14_v12)
noncomputable def call14_v13 : FVec Ideal S4x256x5 .f32 := V (Proc.devRef .tc main_call14_v13)
noncomputable def call14_cst : FVec Ideal S_ .f32 := V (Proc.devRef .tc main_call14_cst)
noncomputable def call14_v14 : FVec Ideal S4x256x5 .f32 := V (Proc.devRef .tc main_call14_v14)
noncomputable def v259 : FVec Ideal S4x256x5 .f32 := V (Proc.devRef .tc main_v259)
noncomputable def v260 : FVec Ideal S4x256x4 .f32 := V (Proc.devRef .tc main_v260)
noncomputable def v261 : FVec Ideal S4x256x4 .f32 := V (Proc.devRef .tc main_v261)
noncomputable def v262 : FVec Ideal S4x256x1 .f32 := V (Proc.devRef .tc main_v262)
noncomputable def v263 : FVec Ideal S4x256 .f32 := V (Proc.devRef .tc main_v263)
noncomputable def v264 : FVec Ideal S4x256x1 .f32 := V (Proc.devRef .tc main_v264)
noncomputable def v265 : FVec Ideal S4x256 .f32 := V (Proc.devRef .tc main_v265)
noncomputable def v266 : FVec Ideal S4x256 .f32 := V (Proc.devRef .tc main_v266)
noncomputable def cst_51 : FVec Ideal S_ .f32 := V (Proc.devRef .tc main_cst_51)
noncomputable def v267 : FVec Ideal S4x256 .f32 := V (Proc.devRef .tc main_v267)
noncomputable def v268 : FVec Ideal S4x256 .f32 := V (Proc.devRef .tc main_v268)
noncomputable def cst_52 : FVec Ideal S_ .f32 := V (Proc.devRef .tc main_cst_52)
noncomputable def v269 : FVec Ideal S4x256 .f32 := V (Proc.devRef .tc main_v269)
noncomputable def v270 : FVec Ideal S4x256 .f32 := V (Proc.devRef .tc main_v270)
noncomputable def v271 : FVec Ideal S4x256x1 .f32 := V (Proc.devRef .tc main_v271)
noncomputable def v272 : FVec Ideal S4x256 .f32 := V (Proc.devRef .tc main_v272)
noncomputable def v273 : FVec Ideal S4x256x1 .f32 := V (Proc.devRef .tc main_v273)
noncomputable def v274 : FVec Ideal S4x256 .f32 := V (Proc.devRef .tc main_v274)
noncomputable def v275 : FVec Ideal S4x256 .f32 := V (Proc.devRef .tc main_v275)
noncomputable def cst_53 : FVec Ideal S_ .f32 := V (Proc.devRef .tc main_cst_53)
noncomputable def v276 : FVec Ideal S4x256 .f32 := V (Proc.devRef .tc main_v276)
noncomputable def v277 : FVec Ideal S4x256 .f32 := V (Proc.devRef .tc main_v277)
noncomputable def cst_54 : FVec Ideal S_ .f32 := V (Proc.devRef .tc main_cst_54)
noncomputable def v278 : FVec Ideal S4x256 .f32 := V (Proc.devRef .tc main_v278)
noncomputable def v279 : FVec Ideal S4x256 .f32 := V (Proc.devRef .tc main_v279)
noncomputable def v280 : FVec Ideal S4x256x1 .f32 := V (Proc.devRef .tc main_v280)
noncomputable def v281 : FVec Ideal S4x256 .f32 := V (Proc.devRef .tc main_v281)
noncomputable def cst_55 : FVec Ideal S_ .f32 := V (Proc.devRef .tc main_cst_55)
noncomputable def v282 : FVec Ideal S4x256 .f32 := V (Proc.devRef .tc main_v282)
noncomputable def v283 : FVec Ideal S4x256 .f32 := V (Proc.devRef .tc main_v283)
noncomputable def v284 : FVec Ideal S4x256 .f32 := V (Proc.devRef .tc main_v284)
noncomputable def v285 : FVec Ideal S4x256x1 .f32 := V (Proc.devRef .tc main_v285)
noncomputable def v286 : FVec Ideal S4x256 .f32 := V (Proc.devRef .tc main_v286)
noncomputable def cst_56 : FVec Ideal S_ .f32 := V (Proc.devRef .tc main_cst_56)
noncomputable def v287 : FVec Ideal S4x256 .f32 := V (Proc.devRef .tc main_v287)
noncomputable def v288 : FVec Ideal S4x256 .f32 := V (Proc.devRef .tc main_v288)
noncomputable def v289 : FVec Ideal S4x256 .f32 := V (Proc.devRef .tc main_v289)
noncomputable def v290 : FVec Ideal S4x256x1 .f32 := V (Proc.devRef .tc main_v290)
noncomputable def v291 : FVec Ideal S4x256 .f32 := V (Proc.devRef .tc main_v291)
noncomputable def v292 : FVec Ideal S4x256x1 .f32 := V (Proc.devRef .tc main_v292)
noncomputable def v293 : FVec Ideal S4x256 .f32 := V (Proc.devRef .tc main_v293)
noncomputable def v294 : FVec Ideal S4x256 .f32 := V (Proc.devRef .tc main_v294)
noncomputable def cst_57 : FVec Ideal S_ .f32 := V (Proc.devRef .tc main_cst_57)
noncomputable def v295 : FVec Ideal S4x256 .f32 := V (Proc.devRef .tc main_v295)
noncomputable def v296 : FVec Ideal S4x256 .f32 := V (Proc.devRef .tc main_v296)
noncomputable def cst_58 : FVec Ideal S_ .f32 := V (Proc.devRef .tc main_cst_58)
noncomputable def v297 : FVec Ideal S4x256 .f32 := V (Proc.devRef .tc main_v297)
noncomputable def v298 : FVec Ideal S4x256 .f32 := V (Proc.devRef .tc main_v298)
noncomputable def v299 : FVec Ideal S4x256x1 .f32 := V (Proc.devRef .tc main_v299)
noncomputable def v300 : FVec Ideal S4x256 .f32 := V (Proc.devRef .tc main_v300)
noncomputable def v301 : FVec Ideal S4x256x1 .f32 := V (Proc.devRef .tc main_v301)
noncomputable def v302 : FVec Ideal S4x256 .f32 := V (Proc.devRef .tc main_v302)
noncomputable def v303 : FVec Ideal S4x256 .f32 := V (Proc.devRef .tc main_v303)
noncomputable def cst_59 : FVec Ideal S_ .f32 := V (Proc.devRef .tc main_cst_59)
noncomputable def v304 : FVec Ideal S4x256 .f32 := V (Proc.devRef .tc main_v304)
noncomputable def v305 : FVec Ideal S4x256 .f32 := V (Proc.devRef .tc main_v305)
noncomputable def cst_60 : FVec Ideal S_ .f32 := V (Proc.devRef .tc main_cst_60)
noncomputable def v306 : FVec Ideal S4x256 .f32 := V (Proc.devRef .tc main_v306)
noncomputable def v307 : FVec Ideal S4x256 .f32 := V (Proc.devRef .tc main_v307)
noncomputable def v308 : FVec Ideal S4x256x1 .f32 := V (Proc.devRef .tc main_v308)
noncomputable def v309 : FVec Ideal S4x256 .f32 := V (Proc.devRef .tc main_v309)
noncomputable def cst_61 : FVec Ideal S_ .f32 := V (Proc.devRef .tc main_cst_61)
noncomputable def v310 : FVec Ideal S4x256 .f32 := V (Proc.devRef .tc main_v310)
noncomputable def v311 : FVec Ideal S4x256 .f32 := V (Proc.devRef .tc main_v311)
noncomputable def v312 : FVec Ideal S4x256 .f32 := V (Proc.devRef .tc main_v312)
noncomputable def v313 : FVec Ideal S4x256x1 .f32 := V (Proc.devRef .tc main_v313)
noncomputable def v314 : FVec Ideal S4x256 .f32 := V (Proc.devRef .tc main_v314)
noncomputable def cst_62 : FVec Ideal S_ .f32 := V (Proc.devRef .tc main_cst_62)
noncomputable def v315 : FVec Ideal S4x256 .f32 := V (Proc.devRef .tc main_v315)
noncomputable def v316 : FVec Ideal S4x256 .f32 := V (Proc.devRef .tc main_v316)
noncomputable def v317 : FVec Ideal S4x256 .f32 := V (Proc.devRef .tc main_v317)
noncomputable def v318 : FVec Ideal S4x256 .f32 := V (Proc.devRef .tc main_v318)
noncomputable def v319 : FVec Ideal S4x256 .f32 := V (Proc.devRef .tc main_v319)
noncomputable def v320 : FVec Ideal S4x256 .f32 := V (Proc.devRef .tc main_v320)
noncomputable def v321 : FVec Ideal S4x256 .f32 := V (Proc.devRef .tc main_v321)
noncomputable def v322 : FVec Ideal S4x256 .f32 := V (Proc.devRef .tc main_v322)
noncomputable def v323 : FVec Ideal S4x256 .f32 := V (Proc.devRef .tc main_v323)
noncomputable def v324 : FVec Ideal S4x256 .f32 := V (Proc.devRef .tc main_v324)
noncomputable def v325 : FVec Ideal S4x256 .f32 := V (Proc.devRef .tc main_v325)
noncomputable def v326 : FVec Ideal S4x256x1 .f32 := V (Proc.devRef .tc main_v326)
noncomputable def v327 : FVec Ideal S4x256x1 .f32 := V (Proc.devRef .tc main_v327)
noncomputable def v328 : FVec Ideal S4x256x1 .f32 := V (Proc.devRef .tc main_v328)
noncomputable def v329 : FVec Ideal S4x256x1 .f32 := V (Proc.devRef .tc main_v329)
noncomputable def v330 : FVec Ideal S4x256x4 .f32 := V (Proc.devRef .tc main_v330)
noncomputable def v331 : FVec Ideal S1x1x4 .f32 := V (Proc.devRef .tc main_v331)
noncomputable def v332 : FVec Ideal S4x256x4 .f32 := V (Proc.devRef .tc main_v332)
noncomputable def v333 : FVec Ideal S4x256x4 .f32 := V (Proc.devRef .tc main_v333)
noncomputable def v334 : FVec Ideal S1x1x4 .f32 := V (Proc.devRef .tc main_v334)
noncomputable def v335 : FVec Ideal S4x256x4 .f32 := V (Proc.devRef .tc main_v335)
noncomputable def v336 : FVec Ideal S4x256x4 .f32 := V (Proc.devRef .tc main_v336)
noncomputable def cst_63 : FVec Ideal S_ .f32 := V (Proc.devRef .tc main_cst_63)
noncomputable def v337 : FVec Ideal S4x256 .f32 := V (Proc.devRef .tc main_v337)
noncomputable def v338 : IVec S4x256 1 := V (Proc.devRef .tc main_v338)
noncomputable def v339 : IVec S4x256x1 1 := V (Proc.devRef .tc main_v339)
noncomputable def cst_64 : FVec Ideal S_ .f32 := V (Proc.devRef .tc main_cst_64)
noncomputable def call15_v0 : FVec Ideal S_ .f32 := V (Proc.devRef .tc main_call15_v0)
noncomputable def call15_v1 : IVec S4x256x4 1 := V (Proc.devRef .tc main_call15_v1)
noncomputable def call15_v2 : FVec Ideal S4x256x4 .f32 := V (Proc.devRef .tc main_call15_v2)
noncomputable def v340 : FVec Ideal S4x256x4 .f32 := V (Proc.devRef .tc main_v340)
noncomputable def cst_65 : FVec Ideal S_ .f32 := V (Proc.devRef .tc main_cst_65)
noncomputable def call16_v0 : FVec Ideal S_ .f32 := V (Proc.devRef .tc main_call16_v0)
noncomputable def call16_v1 : IVec S4x256x4 1 := V (Proc.devRef .tc main_call16_v1)
noncomputable def call16_v2 : FVec Ideal S4x256x4 .f32 := V (Proc.devRef .tc main_call16_v2)
noncomputable def call16_v3 : FVec Ideal S4x256x4 .f32 := V (Proc.devRef .tc main_call16_v3)
noncomputable def v341 : FVec Ideal S4x256x4 .f32 := V (Proc.devRef .tc main_v341)
noncomputable def cst_66 : FVec Ideal S_ .f32 := V (Proc.devRef .tc main_cst_66)
noncomputable def v342 : FVec Ideal S4x256x4 .f32 := V (Proc.devRef .tc main_v342)
noncomputable def v343 : IVec S4x256x4 1 := V (Proc.devRef .tc main_v343)
noncomputable def v344 : FVec Ideal S4x256x4 .f32 := V (Proc.devRef .tc main_v344)

end Cert.ReferenceIdeal.Vals

end
-- ==== Proof.RefEqs1.lean ====
module

public import proofs.«01_k».proof.Proof.RefBufs
public import Idealize.ShloMosaic.Lib.Pointwise

/-! The equations of the reference's operations, part 1 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_cst (h : Fix V) : cst V = constant S4 .f32 0x00000000#32 := by
  have e := eq_nullary (h.at in_part0 0 rfl)
  exact e
theorem e_cst_0 (h : Fix V) : cst_0 V = fun i => FloatOps.ofBits .f32 (lit0 (S4.rowMajor i)) := by
  have e := eq_nullary (h.at in_part0 1 rfl)
  exact e
theorem e_cst_1 (h : Fix V) : cst_1 V = constant S4 .f32 0x3F800000#32 := by
  have e := eq_nullary (h.at in_part0 2 rfl)
  exact e
theorem e_v0 (h : Fix V) : v0 V = extractStridedSlice S4x50x1 ![0, 0, 4] (arg1 V) slices_S4x50x5_S4x50x1_0_0_4 := by
  have e := eq_unary (h.at in_part0 3 rfl)
  exact e
theorem e_v1 (h : Fix V) : v1 V = shapeCast _ (v0 V) shapeCasts_S4x50x1_S4x50 := by
  have e := eq_reshape (h.at in_part0 4 rfl)
  exact e
theorem e_cst_2 (h : Fix V) : cst_2 V = constant S_ .f32 0x40000000#32 := by
  have e := eq_nullary (h.at in_part0 5 rfl)
  exact e
theorem e_v2 (h : Fix V) : v2 V = broadcastInDim S4x50 ![] bcast_S_S4x50 (cst_2 V) := by
  have e := eq_unary (h.at in_part0 6 rfl)
  exact e
theorem e_v3 (h : Fix V) : v3 V = cmpf .une (v1 V) (v2 V) := by
  have e := eq_binary (h.at in_part0 7 rfl)
  exact e
theorem e_cst_3 (h : Fix V) : cst_3 V = constant S_ .f32 0x40400000#32 := by
  have e := eq_nullary (h.at in_part0 8 rfl)
  exact e
theorem e_v4 (h : Fix V) : v4 V = broadcastInDim S4x50 ![] bcast_S_S4x50 (cst_3 V) := by
  have e := eq_unary (h.at in_part0 9 rfl)
  exact e
theorem e_v5 (h : Fix V) : v5 V = cmpf .une (v1 V) (v4 V) := by
  have e := eq_binary (h.at in_part0 10 rfl)
  exact e
theorem e_v6 (h : Fix V) : v6 V = andi (v3 V) (v5 V) := by
  have e := eq_binary (h.at in_part0 11 rfl)
  exact e
theorem e_v7 (h : Fix V) : v7 V = broadcastInDim S4x50x1 ![0, 1] bcast_S4x50_S4x50x1_0_1 (v6 V) := by
  have e := eq_unary (h.at in_part0 12 rfl)
  exact e
theorem e_v8 (h : Fix V) : v8 V = uitofp .f32 (v7 V) := by
  have e := eq_unary (h.at in_part0 13 rfl)
  exact e
theorem e_v9 (h : Fix V) : v9 V = broadcastInDim S4x50x5 ![0, 1, 2] bcast_S4x50x1_S4x50x5_0_1_2 (v8 V) := by
  have e := eq_unary (h.at in_part0 14 rfl)
  exact e
theorem e_v10 (h : Fix V) : v10 V = mulf (arg1 V) (v9 V) := by
  have e := eq_binary (h.at in_part0 15 rfl)
  exact e
theorem e_v11 (h : Fix V) : v11 V = extractStridedSlice S4x50x4 ![0, 0, 0] (arg1 V) slices_S4x50x5_S4x50x4_0_0_0 := by
  have e := eq_unary (h.at in_part0 16 rfl)
  exact e
theorem e_cst_4 (h : Fix V) : cst_4 V = constant S_ .f32 0x40000000#32 := by
  have e := eq_nullary (h.at in_part0 17 rfl)
  exact e
theorem e_v12 (h : Fix V) : v12 V = broadcastInDim S4x50 ![] bcast_S_S4x50 (cst_4 V) := by
  have e := eq_unary (h.at in_part0 18 rfl)
  exact e
theorem e_v13 (h : Fix V) : v13 V = cmpf .oeq (v1 V) (v12 V) := by
  have e := eq_binary (h.at in_part0 19 rfl)
  exact e
theorem e_v14 (h : Fix V) : v14 V = broadcastInDim S4x50x1 ![0, 1] bcast_S4x50_S4x50x1_0_1 (v13 V) := by
  have e := eq_unary (h.at in_part0 20 rfl)
  exact e
theorem e_v15 (h : Fix V) : v15 V = uitofp .f32 (v14 V) := by
  have e := eq_unary (h.at in_part0 21 rfl)
  exact e
theorem e_v16 (h : Fix V) : v16 V = broadcastInDim S4x50x4 ![0, 1, 2] bcast_S4x50x1_S4x50x4_0_1_2 (v15 V) := by
  have e := eq_unary (h.at in_part0 22 rfl)
  exact e
theorem e_v17 (h : Fix V) : v17 V = mulf (v11 V) (v16 V) := by
  have e := eq_binary (h.at in_part0 23 rfl)
  exact e
theorem e_v18 (h : Fix V) : v18 V = extractStridedSlice S4x50x4 ![0, 0, 0] (arg1 V) slices_S4x50x5_S4x50x4_0_0_0 := by
  have e := eq_unary (h.at in_part0 24 rfl)
  exact e
theorem e_cst_5 (h : Fix V) : cst_5 V = constant S_ .f32 0x40400000#32 := by
  have e := eq_nullary (h.at in_part0 25 rfl)
  exact e
theorem e_v19 (h : Fix V) : v19 V = broadcastInDim S4x50 ![] bcast_S_S4x50 (cst_5 V) := by
  have e := eq_unary (h.at in_part0 26 rfl)
  exact e
theorem e_v20 (h : Fix V) : v20 V = cmpf .oeq (v1 V) (v19 V) := by
  have e := eq_binary (h.at in_part0 27 rfl)
  exact e
theorem e_v21 (h : Fix V) : v21 V = broadcastInDim S4x50x1 ![0, 1] bcast_S4x50_S4x50x1_0_1 (v20 V) := by
  have e := eq_unary (h.at in_part0 28 rfl)
  exact e
theorem e_v22 (h : Fix V) : v22 V = uitofp .f32 (v21 V) := by
  have e := eq_unary (h.at in_part0 29 rfl)
  exact e
theorem e_v23 (h : Fix V) : v23 V = broadcastInDim S4x50x4 ![0, 1, 2] bcast_S4x50x1_S4x50x4_0_1_2 (v22 V) := by
  have e := eq_unary (h.at in_part0 30 rfl)
  exact e
theorem e_v24 (h : Fix V) : v24 V = mulf (v18 V) (v23 V) := by
  have e := eq_binary (h.at in_part0 31 rfl)
  exact e
theorem e_v25 (h : Fix V) : v25 V = extractStridedSlice S4x50x1 ![0, 0, 0] (v10 V) slices_S4x50x5_S4x50x1_0_0_0 := by
  have e := eq_unary (h.at in_part0 32 rfl)
  exact e
theorem e_cst_6 (h : Fix V) : cst_6 V = constant S_ .f32 0x00000000#32 := by
  have e := eq_nullary (h.at in_part0 33 rfl)
  exact e
theorem e_v26 (h : Fix V) : v26 V = broadcastInDim S4x50x1 ![] bcast_S_S4x50x1 (cst_6 V) := by
  have e := eq_unary (h.at in_part0 34 rfl)
  exact e
theorem e_v27 (h : Fix V) : v27 V = extractStridedSlice S4x50x4 ![0, 0, 0] (v10 V) slices_S4x50x5_S4x50x4_0_0_0 := by
  have e := eq_unary (h.at in_part0 35 rfl)
  exact e
theorem e_v28 (h : Fix V) : v28 V = concatenate S4x50x5 2 [⟨S4x50x1, (v26 V)⟩, ⟨S4x50x4, (v27 V)⟩] concatenates_S4x50x1_S4x50x4_S4x50x5_d2 := by
  have e := eq_binary (h.at in_part0 36 rfl)
  exact e
theorem e_v29 (h : Fix V) : v29 V = concatenate S4x20050x5 1 [⟨S4x20000x5, (arg0 V)⟩, ⟨S4x50x5, (v28 V)⟩] concatenates_S4x20000x5_S4x50x5_S4x20050x5_d1 := by
  have e := eq_binary (h.at in_part0 37 rfl)
  exact e
theorem e_v30 (h : Fix V) : v30 V = extractStridedSlice S4x20050x4 ![0, 0, 1] (v29 V) slices_S4x20050x5_S4x20050x4_0_0_1 := by
  have e := eq_unary (h.at in_part0 38 rfl)
  exact e
theorem e_v31 (h : Fix V) : v31 V = extractStridedSlice S4x50x4 ![0, 0, 0] (v10 V) slices_S4x50x5_S4x50x4_0_0_0 := by
  have e := eq_unary (h.at in_part0 39 rfl)
  exact e
theorem e_v32 (h : Fix V) : v32 V = extractStridedSlice S4x50x1 ![0, 0, 2] (v31 V) slices_S4x50x4_S4x50x1_0_0_2 := by
  have e := eq_unary (h.at in_part0 40 rfl)
  exact e
theorem e_v33 (h : Fix V) : v33 V = shapeCast _ (v32 V) shapeCasts_S4x50x1_S4x50 := by
  have e := eq_reshape (h.at in_part0 41 rfl)
  exact e
theorem e_v34 (h : Fix V) : v34 V = extractStridedSlice S4x50x1 ![0, 0, 0] (v31 V) slices_S4x50x4_S4x50x1_0_0_0 := by
  have e := eq_unary (h.at in_part0 42 rfl)
  exact e
theorem e_v35 (h : Fix V) : v35 V = shapeCast _ (v34 V) shapeCasts_S4x50x1_S4x50 := by
  have e := eq_reshape (h.at in_part0 43 rfl)
  exact e
theorem e_v36 (h : Fix V) : v36 V = subf (v33 V) (v35 V) := by
  have e := eq_binary (h.at in_part0 44 rfl)
  exact e
theorem e_cst_7 (h : Fix V) : cst_7 V = constant S_ .f32 0x3F800000#32 := by
  have e := eq_nullary (h.at in_part0 45 rfl)
  exact e
theorem e_v37 (h : Fix V) : v37 V = broadcastInDim S4x50 ![] bcast_S_S4x50 (cst_7 V) := by
  have e := eq_unary (h.at in_part0 46 rfl)
  exact e
theorem e_v38 (h : Fix V) : v38 V = addf (v36 V) (v37 V) := by
  have e := eq_binary (h.at in_part0 47 rfl)
  exact e
theorem e_v39 (h : Fix V) : v39 V = extractStridedSlice S4x50x1 ![0, 0, 3] (v31 V) slices_S4x50x4_S4x50x1_0_0_3 := by
  have e := eq_unary (h.at in_part0 48 rfl)
  exact e
theorem e_v40 (h : Fix V) : v40 V = shapeCast _ (v39 V) shapeCasts_S4x50x1_S4x50 := by
  have e := eq_reshape (h.at in_part0 49 rfl)
  exact e
theorem e_v41 (h : Fix V) : v41 V = extractStridedSlice S4x50x1 ![0, 0, 1] (v31 V) slices_S4x50x4_S4x50x1_0_0_1 := by
  have e := eq_unary (h.at in_part0 50 rfl)
  exact e
theorem e_v42 (h : Fix V) : v42 V = shapeCast _ (v41 V) shapeCasts_S4x50x1_S4x50 := by
  have e := eq_reshape (h.at in_part0 51 rfl)
  exact e
theorem e_v43 (h : Fix V) : v43 V = subf (v40 V) (v42 V) := by
  have e := eq_binary (h.at in_part0 52 rfl)
  exact e
theorem e_cst_8 (h : Fix V) : cst_8 V = constant S_ .f32 0x3F800000#32 := by
  have e := eq_nullary (h.at in_part0 53 rfl)
  exact e
theorem e_v44 (h : Fix V) : v44 V = broadcastInDim S4x50 ![] bcast_S_S4x50 (cst_8 V) := by
  have e := eq_unary (h.at in_part0 54 rfl)
  exact e
theorem e_v45 (h : Fix V) : v45 V = addf (v43 V) (v44 V) := by
  have e := eq_binary (h.at in_part0 55 rfl)
  exact e
theorem e_v46 (h : Fix V) : v46 V = mulf (v38 V) (v45 V) := by
  have e := eq_binary (h.at in_part0 56 rfl)
  exact e
theorem e_v47 (h : Fix V) : v47 V = Host.absf (v31 V) := by
  have e := eq_unary (h.at in_part0 57 rfl)
  exact e
theorem e_cst_9 (h : Fix V) : cst_9 V = constant S_ .f32 0x00000000#32 := by
  have e := eq_nullary (h.at in_part0 58 rfl)
  exact e
theorem e_v48 (h : Fix V) : v48 V = Host.reduceAdd (v47 V) (cst_9 V) reducesTo_S4x50x4_S4x50_d2 h_S_ := by
  have e := eq_binary (h.at in_part0 59 rfl)
  exact e
theorem e_cst_10 (h : Fix V) : cst_10 V = constant S_ .f32 0x00000000#32 := by
  have e := eq_nullary (h.at in_chunk10 0 rfl)
  exact e
theorem e_v49 (h : Fix V) : v49 V = broadcastInDim S4x50 ![] bcast_S_S4x50 (cst_10 V) := by
  have e := eq_unary (h.at in_chunk10 1 rfl)
  exact e
theorem e_v50 (h : Fix V) : v50 V = cmpf .oeq (v48 V) (v49 V) := by
  have e := eq_binary (h.at in_chunk10 2 rfl)
  exact e
theorem e_v51 (h : Fix V) : v51 V = extractStridedSlice S4x20050x2 ![0, 0, 0] (v30 V) slices_S4x20050x4_S4x20050x2_0_0_0 := by
  have e := eq_unary (h.at in_chunk10 3 rfl)
  exact e
theorem e_v52 (h : Fix V) : v52 V = broadcastInDim S4x20050x1x2 ![0, 1, 3] bcast_S4x20050x2_S4x20050x1x2_0_1_3 (v51 V) := by
  have e := eq_unary (h.at in_chunk10 4 rfl)
  exact e
theorem e_v53 (h : Fix V) : v53 V = extractStridedSlice S4x50x2 ![0, 0, 0] (v31 V) slices_S4x50x4_S4x50x2_0_0_0 := by
  have e := eq_unary (h.at in_chunk10 5 rfl)
  exact e
theorem e_v54 (h : Fix V) : v54 V = broadcastInDim S4x1x50x2 ![0, 2, 3] bcast_S4x50x2_S4x1x50x2_0_2_3 (v53 V) := by
  have e := eq_unary (h.at in_chunk10 6 rfl)
  exact e
theorem e_v55 (h : Fix V) : v55 V = broadcastInDim S4x20050x50x2 ![0, 1, 2, 3] bcast_S4x20050x1x2_S4x20050x50x2_0_1_2_3 (v52 V) := by
  have e := eq_unary (h.at in_chunk10 7 rfl)
  exact e
theorem e_v56 (h : Fix V) : v56 V = broadcastInDim S4x20050x50x2 ![0, 1, 2, 3] bcast_S4x1x50x2_S4x20050x50x2_0_1_2_3 (v54 V) := by
  have e := eq_unary (h.at in_chunk10 8 rfl)
  exact e
theorem e_v57 (h : Fix V) : v57 V = maximumf (v55 V) (v56 V) := by
  have e := eq_binary (h.at in_chunk10 9 rfl)
  exact e
theorem e_v58 (h : Fix V) : v58 V = extractStridedSlice S4x20050x2 ![0, 0, 2] (v30 V) slices_S4x20050x4_S4x20050x2_0_0_2 := by
  have e := eq_unary (h.at in_chunk10 10 rfl)
  exact e
theorem e_v59 (h : Fix V) : v59 V = broadcastInDim S4x20050x1x2 ![0, 1, 3] bcast_S4x20050x2_S4x20050x1x2_0_1_3 (v58 V) := by
  have e := eq_unary (h.at in_chunk10 11 rfl)
  exact e
theorem e_v60 (h : Fix V) : v60 V = extractStridedSlice S4x50x2 ![0, 0, 2] (v31 V) slices_S4x50x4_S4x50x2_0_0_2 := by
  have e := eq_unary (h.at in_chunk10 12 rfl)
  exact e
theorem e_v61 (h : Fix V) : v61 V = broadcastInDim S4x1x50x2 ![0, 2, 3] bcast_S4x50x2_S4x1x50x2_0_2_3 (v60 V) := by
  have e := eq_unary (h.at in_chunk10 13 rfl)
  exact e
theorem e_v62 (h : Fix V) : v62 V = broadcastInDim S4x20050x50x2 ![0, 1, 2, 3] bcast_S4x20050x1x2_S4x20050x50x2_0_1_2_3 (v59 V) := by
  have e := eq_unary (h.at in_chunk10 14 rfl)
  exact e
theorem e_v63 (h : Fix V) : v63 V = broadcastInDim S4x20050x50x2 ![0, 1, 2, 3] bcast_S4x1x50x2_S4x20050x50x2_0_1_2_3 (v61 V) := by
  have e := eq_unary (h.at in_chunk10 15 rfl)
  exact e
theorem e_v64 (h : Fix V) : v64 V = minimumf (v62 V) (v63 V) := by
  have e := eq_binary (h.at in_chunk10 16 rfl)
  exact e
theorem e_v65 (h : Fix V) : v65 V = subf (v64 V) (v57 V) := by
  have e := eq_binary (h.at in_chunk10 17 rfl)
  exact e
theorem e_cst_11 (h : Fix V) : cst_11 V = constant S_ .f32 0x3F800000#32 := by
  have e := eq_nullary (h.at in_chunk10 18 rfl)
  exact e
theorem e_v66 (h : Fix V) : v66 V = broadcastInDim S4x20050x50x2 ![] bcast_S_S4x20050x50x2 (cst_11 V) := by
  have e := eq_unary (h.at in_chunk10 19 rfl)
  exact e
theorem e_v67 (h : Fix V) : v67 V = addf (v65 V) (v66 V) := by
  have e := eq_binary (h.at in_chunk10 20 rfl)
  exact e
theorem e_cst_12 (h : Fix V) : cst_12 V = constant S_ .f32 0x00000000#32 := by
  have e := eq_nullary (h.at in_chunk10 21 rfl)
  exact e
theorem e_call0_v0 (h : Fix V) : call0_v0 V = (cst_12 V) := by
  have e := eq_unary (h.at in_chunk10 22 rfl)
  exact e
theorem e_call0_v1 (h : Fix V) : call0_v1 V = broadcastInDim S4x20050x50x2 ![] bcast_S_S4x20050x50x2 (call0_v0 V) := by
  have e := eq_unary (h.at in_chunk10 23 rfl)
  exact e
theorem e_v68 (h : Fix V) : v68 V = maximumf (call0_v1 V) (v67 V) := by
  have e := eq_binary (h.at in_chunk10 24 rfl)
  exact e
theorem e_v69 (h : Fix V) : v69 V = extractStridedSlice S4x20050x50x1 ![0, 0, 0, 0] (v68 V) slices_S4x20050x50x2_S4x20050x50x1_0_0_0_0 := by
  have e := eq_unary (h.at in_chunk10 25 rfl)
  exact e
theorem e_v70 (h : Fix V) : v70 V = shapeCast _ (v69 V) shapeCasts_S4x20050x50x1_S4x20050x50 := by
  have e := eq_reshape (h.at in_chunk10 26 rfl)
  exact e
theorem e_v71 (h : Fix V) : v71 V = extractStridedSlice S4x20050x50x1 ![0, 0, 0, 1] (v68 V) slices_S4x20050x50x2_S4x20050x50x1_0_0_0_1 := by
  have e := eq_unary (h.at in_chunk10 27 rfl)
  exact e
theorem e_v72 (h : Fix V) : v72 V = shapeCast _ (v71 V) shapeCasts_S4x20050x50x1_S4x20050x50 := by
  have e := eq_reshape (h.at in_chunk10 28 rfl)
  exact e
theorem e_v73 (h : Fix V) : v73 V = mulf (v70 V) (v72 V) := by
  have e := eq_binary (h.at in_chunk10 29 rfl)
  exact e

end Cert.ReferenceIdeal.Vals

end
-- ==== Proof.RefEqs2.lean ====
module

public import proofs.«01_k».proof.Proof.RefBufs
public import Idealize.ShloMosaic.Lib.Pointwise

/-! The equations of the reference's operations, part 2 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_v74 (h : Fix V) : v74 V = extractStridedSlice S4x20050x1 ![0, 0, 2] (v30 V) slices_S4x20050x4_S4x20050x1_0_0_2 := by
  have e := eq_unary (h.at in_chunk11 0 rfl)
  exact e
theorem e_v75 (h : Fix V) : v75 V = shapeCast _ (v74 V) shapeCasts_S4x20050x1_S4x20050 := by
  have e := eq_reshape (h.at in_chunk11 1 rfl)
  exact e
theorem e_v76 (h : Fix V) : v76 V = extractStridedSlice S4x20050x1 ![0, 0, 0] (v30 V) slices_S4x20050x4_S4x20050x1_0_0_0 := by
  have e := eq_unary (h.at in_chunk11 2 rfl)
  exact e
theorem e_v77 (h : Fix V) : v77 V = shapeCast _ (v76 V) shapeCasts_S4x20050x1_S4x20050 := by
  have e := eq_reshape (h.at in_chunk11 3 rfl)
  exact e
theorem e_v78 (h : Fix V) : v78 V = subf (v75 V) (v77 V) := by
  have e := eq_binary (h.at in_chunk11 4 rfl)
  exact e
theorem e_cst_13 (h : Fix V) : cst_13 V = constant S_ .f32 0x3F800000#32 := by
  have e := eq_nullary (h.at in_chunk11 5 rfl)
  exact e
theorem e_v79 (h : Fix V) : v79 V = broadcastInDim S4x20050 ![] bcast_S_S4x20050 (cst_13 V) := by
  have e := eq_unary (h.at in_chunk11 6 rfl)
  exact e
theorem e_v80 (h : Fix V) : v80 V = addf (v78 V) (v79 V) := by
  have e := eq_binary (h.at in_chunk11 7 rfl)
  exact e
theorem e_v81 (h : Fix V) : v81 V = extractStridedSlice S4x20050x1 ![0, 0, 3] (v30 V) slices_S4x20050x4_S4x20050x1_0_0_3 := by
  have e := eq_unary (h.at in_chunk11 8 rfl)
  exact e
theorem e_v82 (h : Fix V) : v82 V = shapeCast _ (v81 V) shapeCasts_S4x20050x1_S4x20050 := by
  have e := eq_reshape (h.at in_chunk11 9 rfl)
  exact e
theorem e_v83 (h : Fix V) : v83 V = extractStridedSlice S4x20050x1 ![0, 0, 1] (v30 V) slices_S4x20050x4_S4x20050x1_0_0_1 := by
  have e := eq_unary (h.at in_chunk11 10 rfl)
  exact e
theorem e_v84 (h : Fix V) : v84 V = shapeCast _ (v83 V) shapeCasts_S4x20050x1_S4x20050 := by
  have e := eq_reshape (h.at in_chunk11 11 rfl)
  exact e
theorem e_v85 (h : Fix V) : v85 V = subf (v82 V) (v84 V) := by
  have e := eq_binary (h.at in_chunk11 12 rfl)
  exact e
theorem e_cst_14 (h : Fix V) : cst_14 V = constant S_ .f32 0x3F800000#32 := by
  have e := eq_nullary (h.at in_chunk11 13 rfl)
  exact e
theorem e_v86 (h : Fix V) : v86 V = broadcastInDim S4x20050 ![] bcast_S_S4x20050 (cst_14 V) := by
  have e := eq_unary (h.at in_chunk11 14 rfl)
  exact e
theorem e_v87 (h : Fix V) : v87 V = addf (v85 V) (v86 V) := by
  have e := eq_binary (h.at in_chunk11 15 rfl)
  exact e
theorem e_v88 (h : Fix V) : v88 V = mulf (v80 V) (v87 V) := by
  have e := eq_binary (h.at in_chunk11 16 rfl)
  exact e
theorem e_v89 (h : Fix V) : v89 V = broadcastInDim S4x20050x1 ![0, 1] bcast_S4x20050_S4x20050x1_0_1 (v88 V) := by
  have e := eq_unary (h.at in_chunk11 17 rfl)
  exact e
theorem e_v90 (h : Fix V) : v90 V = broadcastInDim S4x1x50 ![0, 2] bcast_S4x50_S4x1x50_0_2 (v46 V) := by
  have e := eq_unary (h.at in_chunk11 18 rfl)
  exact e
theorem e_v91 (h : Fix V) : v91 V = broadcastInDim S4x20050x50 ![0, 1, 2] bcast_S4x20050x1_S4x20050x50_0_1_2 (v89 V) := by
  have e := eq_unary (h.at in_chunk11 19 rfl)
  exact e
theorem e_v92 (h : Fix V) : v92 V = broadcastInDim S4x20050x50 ![0, 1, 2] bcast_S4x1x50_S4x20050x50_0_1_2 (v90 V) := by
  have e := eq_unary (h.at in_chunk11 20 rfl)
  exact e
theorem e_v93 (h : Fix V) : v93 V = addf (v91 V) (v92 V) := by
  have e := eq_binary (h.at in_chunk11 21 rfl)
  exact e
theorem e_v94 (h : Fix V) : v94 V = subf (v93 V) (v73 V) := by
  have e := eq_binary (h.at in_chunk11 22 rfl)
  exact e
theorem e_cst_15 (h : Fix V) : cst_15 V = constant S_ .f32 0x322BCC77#32 := by
  have e := eq_nullary (h.at in_chunk11 23 rfl)
  exact e
theorem e_v95 (h : Fix V) : v95 V = broadcastInDim S4x20050x50 ![] bcast_S_S4x20050x50 (cst_15 V) := by
  have e := eq_unary (h.at in_chunk11 24 rfl)
  exact e
theorem e_v96 (h : Fix V) : v96 V = maximumf (v94 V) (v95 V) := by
  have e := eq_binary (h.at in_chunk11 25 rfl)
  exact e
theorem e_v97 (h : Fix V) : v97 V = Host.divf (v73 V) (v96 V) := by
  have e := eq_binary (h.at in_chunk11 26 rfl)
  exact e
theorem e_v98 (h : Fix V) : v98 V = broadcastInDim S4x1x50 ![0, 2] bcast_S4x50_S4x1x50_0_2 (v50 V) := by
  have e := eq_unary (h.at in_chunk11 27 rfl)
  exact e
theorem e_cst_16 (h : Fix V) : cst_16 V = constant S_ .f32 0x00000000#32 := by
  have e := eq_nullary (h.at in_chunk11 28 rfl)
  exact e
theorem e_call1_v0 (h : Fix V) : call1_v0 V = (cst_16 V) := by
  have e := eq_unary (h.at in_chunk11 29 rfl)
  exact e
theorem e_call1_v1 (h : Fix V) : call1_v1 V = broadcastInDim S4x20050x50 ![0, 1, 2] bcast_S4x1x50_S4x20050x50_0_1_2 (v98 V) := by
  have e := eq_unary (h.at in_chunk12 0 rfl)
  exact e
theorem e_call1_v2 (h : Fix V) : call1_v2 V = broadcastInDim S4x20050x50 ![] bcast_S_S4x20050x50 (call1_v0 V) := by
  have e := eq_unary (h.at in_chunk12 1 rfl)
  exact e
theorem e_v99 (h : Fix V) : v99 V = select (call1_v1 V) (call1_v2 V) (v97 V) := by
  have e := eq_ternary (h.at in_chunk12 2 rfl)
  exact e
theorem e_cst_17 (h : Fix V) : cst_17 V = constant S_ .f32 0xFF800000#32 := by
  have e := eq_nullary (h.at in_chunk12 3 rfl)
  exact e
theorem e_v100 (h : Fix V) : v100 V = Host.reduce FloatOps.maximumf (v99 V) (cst_17 V) reducesTo_S4x20050x50_S4x20050_d2 h_S_ := by
  have e := eq_binary (h.at in_chunk12 4 rfl)
  exact e
theorem e_call2_v0 (h : Fix V) : call2_v0 V = iotaInDim S4x20050x50 32 2 := by
  have e := eq_nullary (h.at in_chunk20 0 rfl)
  exact e
theorem e_call2_cst (h : Fix V) : call2_cst V = constant S_ .f32 0xFF800000#32 := by
  have e := eq_nullary (h.at in_chunk20 1 rfl)
  exact e
theorem e_call2_c (h : Fix V) : call2_c V = constantI S_ 32 0#32 := by
  have e := eq_nullary (h.at in_chunk20 2 rfl)
  exact e
theorem e_call2_v1_0 (h : Fix V) : call2_v1_0 V = fun j => (Host.argReduce reducer_argmax_f32_i32 (v99 V) (call2_v0 V) (call2_cst V) (call2_c V) reducesTo_S4x20050x50_S4x20050_d2 h_S_ j).1 := by
  have e := eq_quaternary (h.at in_chunk20 3 rfl)
  exact e
theorem e_v101 (h : Fix V) : v101 V = fun j => (Host.argReduce reducer_argmax_f32_i32 (v99 V) (call2_v0 V) (call2_cst V) (call2_c V) reducesTo_S4x20050x50_S4x20050_d2 h_S_ j).2 := by
  have e := eq_quaternary (h.at in_chunk20 4 rfl)
  exact e
theorem e_call3_c (h : Fix V) : call3_c V = constantI S_ 32 0#32 := by
  have e := eq_nullary (h.at in_chunk20 5 rfl)
  exact e
theorem e_call3_v0 (h : Fix V) : call3_v0 V = broadcastInDim S4x20050 ![] bcast_S_S4x20050 (call3_c V) := by
  have e := eq_unary (h.at in_chunk20 6 rfl)
  exact e
theorem e_call3_v1 (h : Fix V) : call3_v1 V = cmpi .slt (v101 V) (call3_v0 V) := by
  have e := eq_binary (h.at in_chunk20 7 rfl)
  exact e
theorem e_call3_c_0 (h : Fix V) : call3_c_0 V = constantI S_ 32 50#32 := by
  have e := eq_nullary (h.at in_chunk20 8 rfl)
  exact e
theorem e_call3_v2 (h : Fix V) : call3_v2 V = broadcastInDim S4x20050 ![] bcast_S_S4x20050 (call3_c_0 V) := by
  have e := eq_unary (h.at in_chunk20 9 rfl)
  exact e
theorem e_call3_v3 (h : Fix V) : call3_v3 V = addi (v101 V) (call3_v2 V) := by
  have e := eq_binary (h.at in_chunk20 10 rfl)
  exact e
theorem e_call3_v4 (h : Fix V) : call3_v4 V = select (call3_v1 V) (call3_v3 V) (v101 V) := by
  have e := eq_ternary (h.at in_chunk20 11 rfl)
  exact e
theorem e_call3_v5 (h : Fix V) : call3_v5 V = shapeCast _ (call3_v4 V) shapeCasts_S4x20050_S4x20050x1 := by
  have e := eq_reshape (h.at in_chunk20 12 rfl)
  exact e
theorem e_call3_c_1 (h : Fix V) : call3_c_1 V = constantI S1 32 49#32 := by
  have e := eq_nullary (h.at in_chunk20 13 rfl)
  exact e
theorem e_call3_c_2 (h : Fix V) : call3_c_2 V = constantI S_ 32 0#32 := by
  have e := eq_nullary (h.at in_chunk20 14 rfl)
  exact e
theorem e_call3_v6 (h : Fix V) : call3_v6 V = broadcastInDim S4x20050x1 ![] bcast_S_S4x20050x1 (call3_c_2 V) := by
  have e := eq_unary (h.at in_chunk20 15 rfl)
  exact e
theorem e_call3_v7 (h : Fix V) : call3_v7 V = cmpi .sge (call3_v5 V) (call3_v6 V) := by
  have e := eq_binary (h.at in_chunk20 16 rfl)
  exact e
theorem e_call3_v8 (h : Fix V) : call3_v8 V = broadcastInDim S1x1x1 ![2] bcast_S1_S1x1x1_2 (call3_c_1 V) := by
  have e := eq_unary (h.at in_chunk20 17 rfl)
  exact e
theorem e_call3_v9 (h : Fix V) : call3_v9 V = broadcastInDim S4x20050x1 ![0, 1, 2] bcast_S1x1x1_S4x20050x1_0_1_2 (call3_v8 V) := by
  have e := eq_unary (h.at in_chunk20 18 rfl)
  exact e
theorem e_call3_v10 (h : Fix V) : call3_v10 V = cmpi .sle (call3_v5 V) (call3_v9 V) := by
  have e := eq_binary (h.at in_chunk20 19 rfl)
  exact e
theorem e_call3_v11 (h : Fix V) : call3_v11 V = andi (call3_v7 V) (call3_v10 V) := by
  have e := eq_binary (h.at in_chunk20 20 rfl)
  exact e
theorem e_call3_c_3 (h : Fix V) : call3_c_3 V = constantI S_ 1 1#1 := by
  have e := eq_nullary (h.at in_chunk20 21 rfl)
  exact e
theorem e_call3_v12 (h : Fix V) : call3_v12 V = Host.reduce IntOp.andi (call3_v11 V) (call3_c_3 V) reducesTo_S4x20050x1_S4x20050_d2 h_S_ := by
  have e := eq_binary (h.at in_chunk20 22 rfl)
  exact e
theorem e_call3_v13 (h : Fix V) : call3_v13 V = Host.gather gather_S4x50_S4x20050x1_S4x20050_n_1_0_0_1_2_11 (v1 V) (call3_v5 V) := by
  have e := eq_binary (h.at in_chunk20 23 rfl)
  exact e
theorem e_call3_cst (h : Fix V) : call3_cst V = constant S_ .f32 0x7FC00000#32 := by
  have e := eq_nullary (h.at in_chunk20 24 rfl)
  exact e
theorem e_call3_v14 (h : Fix V) : call3_v14 V = broadcastInDim S4x20050 ![] bcast_S_S4x20050 (call3_cst V) := by
  have e := eq_unary (h.at in_chunk20 25 rfl)
  exact e
theorem e_v102 (h : Fix V) : v102 V = select (call3_v12 V) (call3_v13 V) (call3_v14 V) := by
  have e := eq_ternary (h.at in_chunk20 26 rfl)
  exact e
theorem e_cst_18 (h : Fix V) : cst_18 V = constant S_ .f32 0x3F000000#32 := by
  have e := eq_nullary (h.at in_chunk20 27 rfl)
  exact e
theorem e_v103 (h : Fix V) : v103 V = broadcastInDim S4x20050 ![] bcast_S_S4x20050 (cst_18 V) := by
  have e := eq_unary (h.at in_chunk20 28 rfl)
  exact e
theorem e_v104 (h : Fix V) : v104 V = cmpf .oge (v100 V) (v103 V) := by
  have e := eq_binary (h.at in_chunk20 29 rfl)
  exact e

end Cert.ReferenceIdeal.Vals

end
-- ==== Proof.RefEqs3.lean ====
module

public import proofs.«01_k».proof.Proof.RefBufs
public import Idealize.ShloMosaic.Lib.Pointwise

/-! The equations of the reference's operations, part 3 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_cst_19 (h : Fix V) : cst_19 V = constant S_ .f32 0xBF800000#32 := by
  have e := eq_nullary (h.at in_chunk21 0 rfl)
  exact e
theorem e_call4_v0 (h : Fix V) : call4_v0 V = (cst_19 V) := by
  have e := eq_unary (h.at in_chunk21 1 rfl)
  exact e
theorem e_call4_v1 (h : Fix V) : call4_v1 V = broadcastInDim S4x20050 ![] bcast_S_S4x20050 (call4_v0 V) := by
  have e := eq_unary (h.at in_chunk21 2 rfl)
  exact e
theorem e_v105 (h : Fix V) : v105 V = select (v104 V) (v100 V) (call4_v1 V) := by
  have e := eq_ternary (h.at in_chunk21 3 rfl)
  exact e
theorem e_values (h : Fix V) : values V = (Host.topK S4x64 1 (FloatOps.cmpfTotal .gt) (v105 V) sliceFits_S4x20050_S4x64).1 := by
  have e := eq_unary (h.at in_chunk21 4 rfl)
  exact e
theorem e_indices (h : Fix V) : indices V = (Host.topK S4x64 1 (FloatOps.cmpfTotal .gt) (v105 V) sliceFits_S4x20050_S4x64).2 := by
  have e := eq_unary (h.at in_chunk21 5 rfl)
  exact e
theorem e_cst_20 (h : Fix V) : cst_20 V = constant S_ .f32 0x3F000000#32 := by
  have e := eq_nullary (h.at in_chunk21 6 rfl)
  exact e
theorem e_v106 (h : Fix V) : v106 V = broadcastInDim S4x64 ![] bcast_S_S4x64 (cst_20 V) := by
  have e := eq_unary (h.at in_chunk21 7 rfl)
  exact e
theorem e_v107 (h : Fix V) : v107 V = cmpf .oge (values V) (v106 V) := by
  have e := eq_binary (h.at in_chunk21 8 rfl)
  exact e
theorem e_v108 (h : Fix V) : v108 V = extractStridedSlice S4x20050x4 ![0, 0, 1] (v29 V) slices_S4x20050x5_S4x20050x4_0_0_1 := by
  have e := eq_unary (h.at in_chunk21 9 rfl)
  exact e
theorem e_v109 (h : Fix V) : v109 V = extractStridedSlice S4x50x1 ![0, 0, 2] (v24 V) slices_S4x50x4_S4x50x1_0_0_2 := by
  have e := eq_unary (h.at in_chunk21 10 rfl)
  exact e
theorem e_v110 (h : Fix V) : v110 V = shapeCast _ (v109 V) shapeCasts_S4x50x1_S4x50 := by
  have e := eq_reshape (h.at in_chunk21 11 rfl)
  exact e
theorem e_v111 (h : Fix V) : v111 V = extractStridedSlice S4x50x1 ![0, 0, 0] (v24 V) slices_S4x50x4_S4x50x1_0_0_0 := by
  have e := eq_unary (h.at in_chunk21 12 rfl)
  exact e
theorem e_v112 (h : Fix V) : v112 V = shapeCast _ (v111 V) shapeCasts_S4x50x1_S4x50 := by
  have e := eq_reshape (h.at in_chunk21 13 rfl)
  exact e
theorem e_v113 (h : Fix V) : v113 V = subf (v110 V) (v112 V) := by
  have e := eq_binary (h.at in_chunk21 14 rfl)
  exact e
theorem e_cst_21 (h : Fix V) : cst_21 V = constant S_ .f32 0x3F800000#32 := by
  have e := eq_nullary (h.at in_chunk21 15 rfl)
  exact e
theorem e_v114 (h : Fix V) : v114 V = broadcastInDim S4x50 ![] bcast_S_S4x50 (cst_21 V) := by
  have e := eq_unary (h.at in_chunk21 16 rfl)
  exact e
theorem e_v115 (h : Fix V) : v115 V = addf (v113 V) (v114 V) := by
  have e := eq_binary (h.at in_chunk21 17 rfl)
  exact e
theorem e_v116 (h : Fix V) : v116 V = extractStridedSlice S4x50x1 ![0, 0, 3] (v24 V) slices_S4x50x4_S4x50x1_0_0_3 := by
  have e := eq_unary (h.at in_chunk21 18 rfl)
  exact e
theorem e_v117 (h : Fix V) : v117 V = shapeCast _ (v116 V) shapeCasts_S4x50x1_S4x50 := by
  have e := eq_reshape (h.at in_chunk21 19 rfl)
  exact e
theorem e_v118 (h : Fix V) : v118 V = extractStridedSlice S4x50x1 ![0, 0, 1] (v24 V) slices_S4x50x4_S4x50x1_0_0_1 := by
  have e := eq_unary (h.at in_chunk21 20 rfl)
  exact e
theorem e_v119 (h : Fix V) : v119 V = shapeCast _ (v118 V) shapeCasts_S4x50x1_S4x50 := by
  have e := eq_reshape (h.at in_chunk21 21 rfl)
  exact e
theorem e_v120 (h : Fix V) : v120 V = subf (v117 V) (v119 V) := by
  have e := eq_binary (h.at in_chunk21 22 rfl)
  exact e
theorem e_cst_22 (h : Fix V) : cst_22 V = constant S_ .f32 0x3F800000#32 := by
  have e := eq_nullary (h.at in_chunk21 23 rfl)
  exact e
theorem e_v121 (h : Fix V) : v121 V = broadcastInDim S4x50 ![] bcast_S_S4x50 (cst_22 V) := by
  have e := eq_unary (h.at in_chunk21 24 rfl)
  exact e
theorem e_v122 (h : Fix V) : v122 V = addf (v120 V) (v121 V) := by
  have e := eq_binary (h.at in_chunk21 25 rfl)
  exact e
theorem e_v123 (h : Fix V) : v123 V = mulf (v115 V) (v122 V) := by
  have e := eq_binary (h.at in_chunk21 26 rfl)
  exact e
theorem e_v124 (h : Fix V) : v124 V = Host.absf (v24 V) := by
  have e := eq_unary (h.at in_chunk21 27 rfl)
  exact e
theorem e_cst_23 (h : Fix V) : cst_23 V = constant S_ .f32 0x00000000#32 := by
  have e := eq_nullary (h.at in_chunk21 28 rfl)
  exact e
theorem e_v125 (h : Fix V) : v125 V = Host.reduceAdd (v124 V) (cst_23 V) reducesTo_S4x50x4_S4x50_d2 h_S_ := by
  have e := eq_binary (h.at in_chunk21 29 rfl)
  exact e
theorem e_cst_24 (h : Fix V) : cst_24 V = constant S_ .f32 0x00000000#32 := by
  have e := eq_nullary (h.at in_chunk22 0 rfl)
  exact e
theorem e_v126 (h : Fix V) : v126 V = broadcastInDim S4x50 ![] bcast_S_S4x50 (cst_24 V) := by
  have e := eq_unary (h.at in_chunk22 1 rfl)
  exact e
theorem e_v127 (h : Fix V) : v127 V = cmpf .oeq (v125 V) (v126 V) := by
  have e := eq_binary (h.at in_chunk22 2 rfl)
  exact e
theorem e_v128 (h : Fix V) : v128 V = extractStridedSlice S4x20050x2 ![0, 0, 0] (v108 V) slices_S4x20050x4_S4x20050x2_0_0_0 := by
  have e := eq_unary (h.at in_chunk22 3 rfl)
  exact e
theorem e_v129 (h : Fix V) : v129 V = broadcastInDim S4x20050x1x2 ![0, 1, 3] bcast_S4x20050x2_S4x20050x1x2_0_1_3 (v128 V) := by
  have e := eq_unary (h.at in_chunk22 4 rfl)
  exact e
theorem e_v130 (h : Fix V) : v130 V = extractStridedSlice S4x50x2 ![0, 0, 0] (v24 V) slices_S4x50x4_S4x50x2_0_0_0 := by
  have e := eq_unary (h.at in_chunk22 5 rfl)
  exact e
theorem e_v131 (h : Fix V) : v131 V = broadcastInDim S4x1x50x2 ![0, 2, 3] bcast_S4x50x2_S4x1x50x2_0_2_3 (v130 V) := by
  have e := eq_unary (h.at in_chunk22 6 rfl)
  exact e
theorem e_v132 (h : Fix V) : v132 V = broadcastInDim S4x20050x50x2 ![0, 1, 2, 3] bcast_S4x20050x1x2_S4x20050x50x2_0_1_2_3 (v129 V) := by
  have e := eq_unary (h.at in_chunk22 7 rfl)
  exact e
theorem e_v133 (h : Fix V) : v133 V = broadcastInDim S4x20050x50x2 ![0, 1, 2, 3] bcast_S4x1x50x2_S4x20050x50x2_0_1_2_3 (v131 V) := by
  have e := eq_unary (h.at in_chunk22 8 rfl)
  exact e
theorem e_v134 (h : Fix V) : v134 V = maximumf (v132 V) (v133 V) := by
  have e := eq_binary (h.at in_chunk22 9 rfl)
  exact e
theorem e_v135 (h : Fix V) : v135 V = extractStridedSlice S4x20050x2 ![0, 0, 2] (v108 V) slices_S4x20050x4_S4x20050x2_0_0_2 := by
  have e := eq_unary (h.at in_chunk22 10 rfl)
  exact e
theorem e_v136 (h : Fix V) : v136 V = broadcastInDim S4x20050x1x2 ![0, 1, 3] bcast_S4x20050x2_S4x20050x1x2_0_1_3 (v135 V) := by
  have e := eq_unary (h.at in_chunk22 11 rfl)
  exact e
theorem e_v137 (h : Fix V) : v137 V = extractStridedSlice S4x50x2 ![0, 0, 2] (v24 V) slices_S4x50x4_S4x50x2_0_0_2 := by
  have e := eq_unary (h.at in_chunk22 12 rfl)
  exact e
theorem e_v138 (h : Fix V) : v138 V = broadcastInDim S4x1x50x2 ![0, 2, 3] bcast_S4x50x2_S4x1x50x2_0_2_3 (v137 V) := by
  have e := eq_unary (h.at in_chunk22 13 rfl)
  exact e
theorem e_v139 (h : Fix V) : v139 V = broadcastInDim S4x20050x50x2 ![0, 1, 2, 3] bcast_S4x20050x1x2_S4x20050x50x2_0_1_2_3 (v136 V) := by
  have e := eq_unary (h.at in_chunk22 14 rfl)
  exact e
theorem e_v140 (h : Fix V) : v140 V = broadcastInDim S4x20050x50x2 ![0, 1, 2, 3] bcast_S4x1x50x2_S4x20050x50x2_0_1_2_3 (v138 V) := by
  have e := eq_unary (h.at in_chunk22 15 rfl)
  exact e
theorem e_v141 (h : Fix V) : v141 V = minimumf (v139 V) (v140 V) := by
  have e := eq_binary (h.at in_chunk22 16 rfl)
  exact e
theorem e_v142 (h : Fix V) : v142 V = subf (v141 V) (v134 V) := by
  have e := eq_binary (h.at in_chunk22 17 rfl)
  exact e
theorem e_cst_25 (h : Fix V) : cst_25 V = constant S_ .f32 0x3F800000#32 := by
  have e := eq_nullary (h.at in_chunk22 18 rfl)
  exact e
theorem e_v143 (h : Fix V) : v143 V = broadcastInDim S4x20050x50x2 ![] bcast_S_S4x20050x50x2 (cst_25 V) := by
  have e := eq_unary (h.at in_chunk22 19 rfl)
  exact e
theorem e_v144 (h : Fix V) : v144 V = addf (v142 V) (v143 V) := by
  have e := eq_binary (h.at in_chunk22 20 rfl)
  exact e
theorem e_cst_26 (h : Fix V) : cst_26 V = constant S_ .f32 0x00000000#32 := by
  have e := eq_nullary (h.at in_chunk22 21 rfl)
  exact e
theorem e_call5_v0 (h : Fix V) : call5_v0 V = (cst_26 V) := by
  have e := eq_unary (h.at in_chunk22 22 rfl)
  exact e
theorem e_call5_v1 (h : Fix V) : call5_v1 V = broadcastInDim S4x20050x50x2 ![] bcast_S_S4x20050x50x2 (call5_v0 V) := by
  have e := eq_unary (h.at in_chunk22 23 rfl)
  exact e
theorem e_v145 (h : Fix V) : v145 V = maximumf (call5_v1 V) (v144 V) := by
  have e := eq_binary (h.at in_chunk22 24 rfl)
  exact e
theorem e_v146 (h : Fix V) : v146 V = extractStridedSlice S4x20050x50x1 ![0, 0, 0, 0] (v145 V) slices_S4x20050x50x2_S4x20050x50x1_0_0_0_0 := by
  have e := eq_unary (h.at in_chunk22 25 rfl)
  exact e
theorem e_v147 (h : Fix V) : v147 V = shapeCast _ (v146 V) shapeCasts_S4x20050x50x1_S4x20050x50 := by
  have e := eq_reshape (h.at in_chunk22 26 rfl)
  exact e
theorem e_v148 (h : Fix V) : v148 V = extractStridedSlice S4x20050x50x1 ![0, 0, 0, 1] (v145 V) slices_S4x20050x50x2_S4x20050x50x1_0_0_0_1 := by
  have e := eq_unary (h.at in_chunk22 27 rfl)
  exact e
theorem e_v149 (h : Fix V) : v149 V = shapeCast _ (v148 V) shapeCasts_S4x20050x50x1_S4x20050x50 := by
  have e := eq_reshape (h.at in_chunk22 28 rfl)
  exact e
theorem e_v150 (h : Fix V) : v150 V = mulf (v147 V) (v149 V) := by
  have e := eq_binary (h.at in_chunk30 0 rfl)
  exact e
theorem e_v151 (h : Fix V) : v151 V = extractStridedSlice S4x20050x1 ![0, 0, 2] (v108 V) slices_S4x20050x4_S4x20050x1_0_0_2 := by
  have e := eq_unary (h.at in_chunk30 1 rfl)
  exact e
theorem e_v152 (h : Fix V) : v152 V = shapeCast _ (v151 V) shapeCasts_S4x20050x1_S4x20050 := by
  have e := eq_reshape (h.at in_chunk30 2 rfl)
  exact e
theorem e_v153 (h : Fix V) : v153 V = extractStridedSlice S4x20050x1 ![0, 0, 0] (v108 V) slices_S4x20050x4_S4x20050x1_0_0_0 := by
  have e := eq_unary (h.at in_chunk30 3 rfl)
  exact e
theorem e_v154 (h : Fix V) : v154 V = shapeCast _ (v153 V) shapeCasts_S4x20050x1_S4x20050 := by
  have e := eq_reshape (h.at in_chunk30 4 rfl)
  exact e
theorem e_v155 (h : Fix V) : v155 V = subf (v152 V) (v154 V) := by
  have e := eq_binary (h.at in_chunk30 5 rfl)
  exact e
theorem e_cst_27 (h : Fix V) : cst_27 V = constant S_ .f32 0x3F800000#32 := by
  have e := eq_nullary (h.at in_chunk30 6 rfl)
  exact e
theorem e_v156 (h : Fix V) : v156 V = broadcastInDim S4x20050 ![] bcast_S_S4x20050 (cst_27 V) := by
  have e := eq_unary (h.at in_chunk30 7 rfl)
  exact e
theorem e_v157 (h : Fix V) : v157 V = addf (v155 V) (v156 V) := by
  have e := eq_binary (h.at in_chunk30 8 rfl)
  exact e
theorem e_v158 (h : Fix V) : v158 V = extractStridedSlice S4x20050x1 ![0, 0, 3] (v108 V) slices_S4x20050x4_S4x20050x1_0_0_3 := by
  have e := eq_unary (h.at in_chunk30 9 rfl)
  exact e
theorem e_v159 (h : Fix V) : v159 V = shapeCast _ (v158 V) shapeCasts_S4x20050x1_S4x20050 := by
  have e := eq_reshape (h.at in_chunk30 10 rfl)
  exact e
theorem e_v160 (h : Fix V) : v160 V = extractStridedSlice S4x20050x1 ![0, 0, 1] (v108 V) slices_S4x20050x4_S4x20050x1_0_0_1 := by
  have e := eq_unary (h.at in_chunk30 11 rfl)
  exact e
theorem e_v161 (h : Fix V) : v161 V = shapeCast _ (v160 V) shapeCasts_S4x20050x1_S4x20050 := by
  have e := eq_reshape (h.at in_chunk30 12 rfl)
  exact e
theorem e_v162 (h : Fix V) : v162 V = subf (v159 V) (v161 V) := by
  have e := eq_binary (h.at in_chunk30 13 rfl)
  exact e
theorem e_cst_28 (h : Fix V) : cst_28 V = constant S_ .f32 0x3F800000#32 := by
  have e := eq_nullary (h.at in_chunk30 14 rfl)
  exact e
theorem e_v163 (h : Fix V) : v163 V = broadcastInDim S4x20050 ![] bcast_S_S4x20050 (cst_28 V) := by
  have e := eq_unary (h.at in_chunk30 15 rfl)
  exact e
theorem e_v164 (h : Fix V) : v164 V = addf (v162 V) (v163 V) := by
  have e := eq_binary (h.at in_chunk30 16 rfl)
  exact e
theorem e_v165 (h : Fix V) : v165 V = mulf (v157 V) (v164 V) := by
  have e := eq_binary (h.at in_chunk30 17 rfl)
  exact e
theorem e_v166 (h : Fix V) : v166 V = broadcastInDim S4x20050x1 ![0, 1] bcast_S4x20050_S4x20050x1_0_1 (v165 V) := by
  have e := eq_unary (h.at in_chunk30 18 rfl)
  exact e
theorem e_v167 (h : Fix V) : v167 V = broadcastInDim S4x1x50 ![0, 2] bcast_S4x50_S4x1x50_0_2 (v123 V) := by
  have e := eq_unary (h.at in_chunk30 19 rfl)
  exact e
theorem e_v168 (h : Fix V) : v168 V = broadcastInDim S4x20050x50 ![0, 1, 2] bcast_S4x20050x1_S4x20050x50_0_1_2 (v166 V) := by
  have e := eq_unary (h.at in_chunk30 20 rfl)
  exact e
theorem e_v169 (h : Fix V) : v169 V = broadcastInDim S4x20050x50 ![0, 1, 2] bcast_S4x1x50_S4x20050x50_0_1_2 (v167 V) := by
  have e := eq_unary (h.at in_chunk30 21 rfl)
  exact e
theorem e_v170 (h : Fix V) : v170 V = addf (v168 V) (v169 V) := by
  have e := eq_binary (h.at in_chunk30 22 rfl)
  exact e
theorem e_v171 (h : Fix V) : v171 V = subf (v170 V) (v150 V) := by
  have e := eq_binary (h.at in_chunk30 23 rfl)
  exact e
theorem e_cst_29 (h : Fix V) : cst_29 V = constant S_ .f32 0x322BCC77#32 := by
  have e := eq_nullary (h.at in_chunk30 24 rfl)
  exact e
theorem e_v172 (h : Fix V) : v172 V = broadcastInDim S4x20050x50 ![] bcast_S_S4x20050x50 (cst_29 V) := by
  have e := eq_unary (h.at in_chunk30 25 rfl)
  exact e
theorem e_v173 (h : Fix V) : v173 V = maximumf (v171 V) (v172 V) := by
  have e := eq_binary (h.at in_chunk30 26 rfl)
  exact e
theorem e_v174 (h : Fix V) : v174 V = Host.divf (v150 V) (v173 V) := by
  have e := eq_binary (h.at in_chunk30 27 rfl)
  exact e
theorem e_v175 (h : Fix V) : v175 V = broadcastInDim S4x1x50 ![0, 2] bcast_S4x50_S4x1x50_0_2 (v127 V) := by
  have e := eq_unary (h.at in_chunk30 28 rfl)
  exact e
theorem e_cst_30 (h : Fix V) : cst_30 V = constant S_ .f32 0x00000000#32 := by
  have e := eq_nullary (h.at in_chunk30 29 rfl)
  exact e

end Cert.ReferenceIdeal.Vals

end
-- ==== Proof.RefEqs4.lean ====
module

public import proofs.«01_k».proof.Proof.RefBufs
public import Idealize.ShloMosaic.Lib.Pointwise

/-! The equations of the reference's operations, part 4 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_call6_v0 (h : Fix V) : call6_v0 V = (cst_30 V) := by
  have e := eq_unary (h.at in_chunk31 0 rfl)
  exact e
theorem e_call6_v1 (h : Fix V) : call6_v1 V = broadcastInDim S4x20050x50 ![0, 1, 2] bcast_S4x1x50_S4x20050x50_0_1_2 (v175 V) := by
  have e := eq_unary (h.at in_chunk31 1 rfl)
  exact e
theorem e_call6_v2 (h : Fix V) : call6_v2 V = broadcastInDim S4x20050x50 ![] bcast_S_S4x20050x50 (call6_v0 V) := by
  have e := eq_unary (h.at in_chunk31 2 rfl)
  exact e
theorem e_v176 (h : Fix V) : v176 V = select (call6_v1 V) (call6_v2 V) (v174 V) := by
  have e := eq_ternary (h.at in_chunk31 3 rfl)
  exact e
theorem e_v177 (h : Fix V) : v177 V = extractStridedSlice S4x20050x4 ![0, 0, 1] (v29 V) slices_S4x20050x5_S4x20050x4_0_0_1 := by
  have e := eq_unary (h.at in_chunk31 4 rfl)
  exact e
theorem e_v178 (h : Fix V) : v178 V = extractStridedSlice S4x50x1 ![0, 0, 2] (v17 V) slices_S4x50x4_S4x50x1_0_0_2 := by
  have e := eq_unary (h.at in_chunk31 5 rfl)
  exact e
theorem e_v179 (h : Fix V) : v179 V = shapeCast _ (v178 V) shapeCasts_S4x50x1_S4x50 := by
  have e := eq_reshape (h.at in_chunk31 6 rfl)
  exact e
theorem e_v180 (h : Fix V) : v180 V = extractStridedSlice S4x50x1 ![0, 0, 0] (v17 V) slices_S4x50x4_S4x50x1_0_0_0 := by
  have e := eq_unary (h.at in_chunk31 7 rfl)
  exact e
theorem e_v181 (h : Fix V) : v181 V = shapeCast _ (v180 V) shapeCasts_S4x50x1_S4x50 := by
  have e := eq_reshape (h.at in_chunk31 8 rfl)
  exact e
theorem e_v182 (h : Fix V) : v182 V = subf (v179 V) (v181 V) := by
  have e := eq_binary (h.at in_chunk31 9 rfl)
  exact e
theorem e_cst_31 (h : Fix V) : cst_31 V = constant S_ .f32 0x3F800000#32 := by
  have e := eq_nullary (h.at in_chunk31 10 rfl)
  exact e
theorem e_v183 (h : Fix V) : v183 V = broadcastInDim S4x50 ![] bcast_S_S4x50 (cst_31 V) := by
  have e := eq_unary (h.at in_chunk31 11 rfl)
  exact e
theorem e_v184 (h : Fix V) : v184 V = addf (v182 V) (v183 V) := by
  have e := eq_binary (h.at in_chunk31 12 rfl)
  exact e
theorem e_v185 (h : Fix V) : v185 V = extractStridedSlice S4x50x1 ![0, 0, 3] (v17 V) slices_S4x50x4_S4x50x1_0_0_3 := by
  have e := eq_unary (h.at in_chunk31 13 rfl)
  exact e
theorem e_v186 (h : Fix V) : v186 V = shapeCast _ (v185 V) shapeCasts_S4x50x1_S4x50 := by
  have e := eq_reshape (h.at in_chunk31 14 rfl)
  exact e
theorem e_v187 (h : Fix V) : v187 V = extractStridedSlice S4x50x1 ![0, 0, 1] (v17 V) slices_S4x50x4_S4x50x1_0_0_1 := by
  have e := eq_unary (h.at in_chunk31 15 rfl)
  exact e
theorem e_v188 (h : Fix V) : v188 V = shapeCast _ (v187 V) shapeCasts_S4x50x1_S4x50 := by
  have e := eq_reshape (h.at in_chunk31 16 rfl)
  exact e
theorem e_v189 (h : Fix V) : v189 V = subf (v186 V) (v188 V) := by
  have e := eq_binary (h.at in_chunk31 17 rfl)
  exact e
theorem e_cst_32 (h : Fix V) : cst_32 V = constant S_ .f32 0x3F800000#32 := by
  have e := eq_nullary (h.at in_chunk31 18 rfl)
  exact e
theorem e_v190 (h : Fix V) : v190 V = broadcastInDim S4x50 ![] bcast_S_S4x50 (cst_32 V) := by
  have e := eq_unary (h.at in_chunk31 19 rfl)
  exact e
theorem e_v191 (h : Fix V) : v191 V = addf (v189 V) (v190 V) := by
  have e := eq_binary (h.at in_chunk31 20 rfl)
  exact e
theorem e_v192 (h : Fix V) : v192 V = mulf (v184 V) (v191 V) := by
  have e := eq_binary (h.at in_chunk31 21 rfl)
  exact e
theorem e_v193 (h : Fix V) : v193 V = Host.absf (v17 V) := by
  have e := eq_unary (h.at in_chunk31 22 rfl)
  exact e
theorem e_cst_33 (h : Fix V) : cst_33 V = constant S_ .f32 0x00000000#32 := by
  have e := eq_nullary (h.at in_chunk31 23 rfl)
  exact e
theorem e_v194 (h : Fix V) : v194 V = Host.reduceAdd (v193 V) (cst_33 V) reducesTo_S4x50x4_S4x50_d2 h_S_ := by
  have e := eq_binary (h.at in_chunk31 24 rfl)
  exact e
theorem e_cst_34 (h : Fix V) : cst_34 V = constant S_ .f32 0x00000000#32 := by
  have e := eq_nullary (h.at in_chunk31 25 rfl)
  exact e
theorem e_v195 (h : Fix V) : v195 V = broadcastInDim S4x50 ![] bcast_S_S4x50 (cst_34 V) := by
  have e := eq_unary (h.at in_chunk31 26 rfl)
  exact e
theorem e_v196 (h : Fix V) : v196 V = cmpf .oeq (v194 V) (v195 V) := by
  have e := eq_binary (h.at in_chunk31 27 rfl)
  exact e
theorem e_v197 (h : Fix V) : v197 V = extractStridedSlice S4x20050x2 ![0, 0, 0] (v177 V) slices_S4x20050x4_S4x20050x2_0_0_0 := by
  have e := eq_unary (h.at in_chunk31 28 rfl)
  exact e
theorem e_v198 (h : Fix V) : v198 V = broadcastInDim S4x20050x1x2 ![0, 1, 3] bcast_S4x20050x2_S4x20050x1x2_0_1_3 (v197 V) := by
  have e := eq_unary (h.at in_chunk31 29 rfl)
  exact e
theorem e_v199 (h : Fix V) : v199 V = extractStridedSlice S4x50x2 ![0, 0, 0] (v17 V) slices_S4x50x4_S4x50x2_0_0_0 := by
  have e := eq_unary (h.at in_chunk32 0 rfl)
  exact e
theorem e_v200 (h : Fix V) : v200 V = broadcastInDim S4x1x50x2 ![0, 2, 3] bcast_S4x50x2_S4x1x50x2_0_2_3 (v199 V) := by
  have e := eq_unary (h.at in_chunk32 1 rfl)
  exact e
theorem e_v201 (h : Fix V) : v201 V = broadcastInDim S4x20050x50x2 ![0, 1, 2, 3] bcast_S4x20050x1x2_S4x20050x50x2_0_1_2_3 (v198 V) := by
  have e := eq_unary (h.at in_chunk32 2 rfl)
  exact e
theorem e_v202 (h : Fix V) : v202 V = broadcastInDim S4x20050x50x2 ![0, 1, 2, 3] bcast_S4x1x50x2_S4x20050x50x2_0_1_2_3 (v200 V) := by
  have e := eq_unary (h.at in_chunk40 0 rfl)
  exact e
theorem e_v203 (h : Fix V) : v203 V = maximumf (v201 V) (v202 V) := by
  have e := eq_binary (h.at in_chunk40 1 rfl)
  exact e
theorem e_v204 (h : Fix V) : v204 V = extractStridedSlice S4x20050x2 ![0, 0, 2] (v177 V) slices_S4x20050x4_S4x20050x2_0_0_2 := by
  have e := eq_unary (h.at in_chunk40 2 rfl)
  exact e
theorem e_v205 (h : Fix V) : v205 V = broadcastInDim S4x20050x1x2 ![0, 1, 3] bcast_S4x20050x2_S4x20050x1x2_0_1_3 (v204 V) := by
  have e := eq_unary (h.at in_chunk40 3 rfl)
  exact e
theorem e_v206 (h : Fix V) : v206 V = extractStridedSlice S4x50x2 ![0, 0, 2] (v17 V) slices_S4x50x4_S4x50x2_0_0_2 := by
  have e := eq_unary (h.at in_chunk40 4 rfl)
  exact e
theorem e_v207 (h : Fix V) : v207 V = broadcastInDim S4x1x50x2 ![0, 2, 3] bcast_S4x50x2_S4x1x50x2_0_2_3 (v206 V) := by
  have e := eq_unary (h.at in_chunk40 5 rfl)
  exact e
theorem e_v208 (h : Fix V) : v208 V = broadcastInDim S4x20050x50x2 ![0, 1, 2, 3] bcast_S4x20050x1x2_S4x20050x50x2_0_1_2_3 (v205 V) := by
  have e := eq_unary (h.at in_chunk40 6 rfl)
  exact e
theorem e_v209 (h : Fix V) : v209 V = broadcastInDim S4x20050x50x2 ![0, 1, 2, 3] bcast_S4x1x50x2_S4x20050x50x2_0_1_2_3 (v207 V) := by
  have e := eq_unary (h.at in_chunk40 7 rfl)
  exact e
theorem e_v210 (h : Fix V) : v210 V = minimumf (v208 V) (v209 V) := by
  have e := eq_binary (h.at in_chunk40 8 rfl)
  exact e
theorem e_v211 (h : Fix V) : v211 V = subf (v210 V) (v203 V) := by
  have e := eq_binary (h.at in_chunk40 9 rfl)
  exact e
theorem e_cst_35 (h : Fix V) : cst_35 V = constant S_ .f32 0x3F800000#32 := by
  have e := eq_nullary (h.at in_chunk40 10 rfl)
  exact e
theorem e_v212 (h : Fix V) : v212 V = broadcastInDim S4x20050x50x2 ![] bcast_S_S4x20050x50x2 (cst_35 V) := by
  have e := eq_unary (h.at in_chunk40 11 rfl)
  exact e
theorem e_v213 (h : Fix V) : v213 V = addf (v211 V) (v212 V) := by
  have e := eq_binary (h.at in_chunk40 12 rfl)
  exact e
theorem e_cst_36 (h : Fix V) : cst_36 V = constant S_ .f32 0x00000000#32 := by
  have e := eq_nullary (h.at in_chunk40 13 rfl)
  exact e
theorem e_call7_v0 (h : Fix V) : call7_v0 V = (cst_36 V) := by
  have e := eq_unary (h.at in_chunk40 14 rfl)
  exact e
theorem e_call7_v1 (h : Fix V) : call7_v1 V = broadcastInDim S4x20050x50x2 ![] bcast_S_S4x20050x50x2 (call7_v0 V) := by
  have e := eq_unary (h.at in_chunk40 15 rfl)
  exact e
theorem e_v214 (h : Fix V) : v214 V = maximumf (call7_v1 V) (v213 V) := by
  have e := eq_binary (h.at in_chunk40 16 rfl)
  exact e
theorem e_v215 (h : Fix V) : v215 V = extractStridedSlice S4x20050x50x1 ![0, 0, 0, 0] (v214 V) slices_S4x20050x50x2_S4x20050x50x1_0_0_0_0 := by
  have e := eq_unary (h.at in_chunk40 17 rfl)
  exact e
theorem e_v216 (h : Fix V) : v216 V = shapeCast _ (v215 V) shapeCasts_S4x20050x50x1_S4x20050x50 := by
  have e := eq_reshape (h.at in_chunk40 18 rfl)
  exact e
theorem e_v217 (h : Fix V) : v217 V = extractStridedSlice S4x20050x50x1 ![0, 0, 0, 1] (v214 V) slices_S4x20050x50x2_S4x20050x50x1_0_0_0_1 := by
  have e := eq_unary (h.at in_chunk40 19 rfl)
  exact e
theorem e_v218 (h : Fix V) : v218 V = shapeCast _ (v217 V) shapeCasts_S4x20050x50x1_S4x20050x50 := by
  have e := eq_reshape (h.at in_chunk40 20 rfl)
  exact e
theorem e_v219 (h : Fix V) : v219 V = mulf (v216 V) (v218 V) := by
  have e := eq_binary (h.at in_chunk40 21 rfl)
  exact e
theorem e_v220 (h : Fix V) : v220 V = broadcastInDim S4x1x50 ![0, 2] bcast_S4x50_S4x1x50_0_2 (v192 V) := by
  have e := eq_unary (h.at in_chunk40 22 rfl)
  exact e
theorem e_cst_37 (h : Fix V) : cst_37 V = constant S_ .f32 0x322BCC77#32 := by
  have e := eq_nullary (h.at in_chunk40 23 rfl)
  exact e
theorem e_v221 (h : Fix V) : v221 V = broadcastInDim S4x1x50 ![] bcast_S_S4x1x50 (cst_37 V) := by
  have e := eq_unary (h.at in_chunk40 24 rfl)
  exact e
theorem e_v222 (h : Fix V) : v222 V = maximumf (v220 V) (v221 V) := by
  have e := eq_binary (h.at in_chunk40 25 rfl)
  exact e
theorem e_v223 (h : Fix V) : v223 V = broadcastInDim S4x20050x50 ![0, 1, 2] bcast_S4x1x50_S4x20050x50_0_1_2 (v222 V) := by
  have e := eq_unary (h.at in_chunk40 26 rfl)
  exact e
theorem e_v224 (h : Fix V) : v224 V = Host.divf (v219 V) (v223 V) := by
  have e := eq_binary (h.at in_chunk40 27 rfl)
  exact e
theorem e_v225 (h : Fix V) : v225 V = broadcastInDim S4x1x50 ![0, 2] bcast_S4x50_S4x1x50_0_2 (v196 V) := by
  have e := eq_unary (h.at in_chunk40 28 rfl)
  exact e
theorem e_cst_38 (h : Fix V) : cst_38 V = constant S_ .f32 0x00000000#32 := by
  have e := eq_nullary (h.at in_chunk40 29 rfl)
  exact e

end Cert.ReferenceIdeal.Vals

end
-- ==== Proof.RefEqs5.lean ====
module

public import proofs.«01_k».proof.Proof.RefBufs
public import Idealize.ShloMosaic.Lib.Pointwise

/-! The equations of the reference's operations, part 5 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_call8_v0 (h : Fix V) : call8_v0 V = (cst_38 V) := by
  have e := eq_unary (h.at in_chunk41 0 rfl)
  exact e
theorem e_call8_v1 (h : Fix V) : call8_v1 V = broadcastInDim S4x20050x50 ![0, 1, 2] bcast_S4x1x50_S4x20050x50_0_1_2 (v225 V) := by
  have e := eq_unary (h.at in_chunk41 1 rfl)
  exact e
theorem e_call8_v2 (h : Fix V) : call8_v2 V = broadcastInDim S4x20050x50 ![] bcast_S_S4x20050x50 (call8_v0 V) := by
  have e := eq_unary (h.at in_chunk41 2 rfl)
  exact e
theorem e_v226 (h : Fix V) : v226 V = select (call8_v1 V) (call8_v2 V) (v224 V) := by
  have e := eq_ternary (h.at in_chunk41 3 rfl)
  exact e
theorem e_cst_39 (h : Fix V) : cst_39 V = constant S_ .f32 0x3F000000#32 := by
  have e := eq_nullary (h.at in_chunk41 4 rfl)
  exact e
theorem e_v227 (h : Fix V) : v227 V = broadcastInDim S4x20050 ![] bcast_S_S4x20050 (cst_39 V) := by
  have e := eq_unary (h.at in_chunk41 5 rfl)
  exact e
theorem e_v228 (h : Fix V) : v228 V = cmpf .olt (v100 V) (v227 V) := by
  have e := eq_binary (h.at in_chunk41 6 rfl)
  exact e
theorem e_cst_40 (h : Fix V) : cst_40 V = constant S_ .f32 0x3DCCCCCD#32 := by
  have e := eq_nullary (h.at in_chunk41 7 rfl)
  exact e
theorem e_v229 (h : Fix V) : v229 V = broadcastInDim S4x20050 ![] bcast_S_S4x20050 (cst_40 V) := by
  have e := eq_unary (h.at in_chunk41 8 rfl)
  exact e
theorem e_v230 (h : Fix V) : v230 V = cmpf .oge (v100 V) (v229 V) := by
  have e := eq_binary (h.at in_chunk41 9 rfl)
  exact e
theorem e_v231 (h : Fix V) : v231 V = andi (v228 V) (v230 V) := by
  have e := eq_binary (h.at in_chunk41 10 rfl)
  exact e
theorem e_cst_41 (h : Fix V) : cst_41 V = constant S_ .f32 0x00000000#32 := by
  have e := eq_nullary (h.at in_chunk41 11 rfl)
  exact e
theorem e_v232 (h : Fix V) : v232 V = Host.reduceAdd (v176 V) (cst_41 V) reducesTo_S4x20050x50_S4x20050_d2 h_S_ := by
  have e := eq_binary (h.at in_chunk41 12 rfl)
  exact e
theorem e_cst_42 (h : Fix V) : cst_42 V = constant S_ .f32 0x358637BD#32 := by
  have e := eq_nullary (h.at in_chunk41 13 rfl)
  exact e
theorem e_v233 (h : Fix V) : v233 V = broadcastInDim S4x20050 ![] bcast_S_S4x20050 (cst_42 V) := by
  have e := eq_unary (h.at in_chunk41 14 rfl)
  exact e
theorem e_v234 (h : Fix V) : v234 V = cmpf .ole (v232 V) (v233 V) := by
  have e := eq_binary (h.at in_chunk41 15 rfl)
  exact e
theorem e_cst_43 (h : Fix V) : cst_43 V = constant S_ .f32 0x00000000#32 := by
  have e := eq_nullary (h.at in_chunk41 16 rfl)
  exact e
theorem e_v235 (h : Fix V) : v235 V = Host.reduceAdd (v226 V) (cst_43 V) reducesTo_S4x20050x50_S4x20050_d2 h_S_ := by
  have e := eq_binary (h.at in_chunk41 17 rfl)
  exact e
theorem e_cst_44 (h : Fix V) : cst_44 V = constant S_ .f32 0x358637BD#32 := by
  have e := eq_nullary (h.at in_chunk41 18 rfl)
  exact e
theorem e_v236 (h : Fix V) : v236 V = broadcastInDim S4x20050 ![] bcast_S_S4x20050 (cst_44 V) := by
  have e := eq_unary (h.at in_chunk41 19 rfl)
  exact e
theorem e_v237 (h : Fix V) : v237 V = cmpf .ole (v235 V) (v236 V) := by
  have e := eq_binary (h.at in_chunk41 20 rfl)
  exact e
theorem e_v238 (h : Fix V) : v238 V = andi (v234 V) (v237 V) := by
  have e := eq_binary (h.at in_chunk41 21 rfl)
  exact e
theorem e_v239 (h : Fix V) : v239 V = andi (v231 V) (v238 V) := by
  have e := eq_binary (h.at in_chunk41 22 rfl)
  exact e
theorem e_cst_45 (h : Fix V) : cst_45 V = constant S_ .f32 0x3F800000#32 := by
  have e := eq_nullary (h.at in_chunk41 23 rfl)
  exact e
theorem e_v240 (h : Fix V) : v240 V = broadcastInDim S4x20050 ![] bcast_S_S4x20050 (cst_45 V) := by
  have e := eq_unary (h.at in_chunk41 24 rfl)
  exact e
theorem e_v241 (h : Fix V) : v241 V = addf (v240 V) (v100 V) := by
  have e := eq_binary (h.at in_chunk41 25 rfl)
  exact e
theorem e_cst_46 (h : Fix V) : cst_46 V = constant S_ .f32 0xBF800000#32 := by
  have e := eq_nullary (h.at in_chunk41 26 rfl)
  exact e
theorem e_call9_v0 (h : Fix V) : call9_v0 V = (cst_46 V) := by
  have e := eq_unary (h.at in_chunk41 27 rfl)
  exact e
theorem e_call9_v1 (h : Fix V) : call9_v1 V = broadcastInDim S4x20050 ![] bcast_S_S4x20050 (call9_v0 V) := by
  have e := eq_unary (h.at in_chunk41 28 rfl)
  exact e
theorem e_v242 (h : Fix V) : v242 V = select (v239 V) (v241 V) (call9_v1 V) := by
  have e := eq_ternary (h.at in_chunk41 29 rfl)
  exact e
theorem e_values_47 (h : Fix V) : values_47 V = (Host.topK S4x192 1 (FloatOps.cmpfTotal .gt) (v242 V) sliceFits_S4x20050_S4x192).1 := by
  have e := eq_unary (h.at in_chunk42 0 rfl)
  exact e
theorem e_indices_48 (h : Fix V) : indices_48 V = (Host.topK S4x192 1 (FloatOps.cmpfTotal .gt) (v242 V) sliceFits_S4x20050_S4x192).2 := by
  have e := eq_unary (h.at in_chunk42 1 rfl)
  exact e
theorem e_v243 (h : Fix V) : v243 V = concatenate S4x256 1 [⟨S4x64, (indices V)⟩, ⟨S4x192, (indices_48 V)⟩] concatenates_S4x64_S4x192_S4x256_d1 := by
  have e := eq_binary (h.at in_chunk42 2 rfl)
  exact e
theorem e_c (h : Fix V) : c V = constantI S_ 1 0#1 := by
  have e := eq_nullary (h.at in_chunk42 3 rfl)
  exact e
theorem e_v244 (h : Fix V) : v244 V = broadcastInDim S4x192 ![] bcast_S_S4x192 (c V) := by
  have e := eq_unary (h.at in_chunk42 4 rfl)
  exact e
theorem e_v245 (h : Fix V) : v245 V = concatenate S4x256 1 [⟨S4x64, (v107 V)⟩, ⟨S4x192, (v244 V)⟩] concatenates_S4x64_S4x192_S4x256_d1 := by
  have e := eq_binary (h.at in_chunk42 5 rfl)
  exact e
theorem e_call10_c (h : Fix V) : call10_c V = constantI S_ 32 0#32 := by
  have e := eq_nullary (h.at in_chunk42 6 rfl)
  exact e
theorem e_call10_v0 (h : Fix V) : call10_v0 V = broadcastInDim S4x256 ![] bcast_S_S4x256 (call10_c V) := by
  have e := eq_unary (h.at in_chunk42 7 rfl)
  exact e
theorem e_call10_v1 (h : Fix V) : call10_v1 V = cmpi .slt (v243 V) (call10_v0 V) := by
  have e := eq_binary (h.at in_chunk42 8 rfl)
  exact e
theorem e_call10_c_0 (h : Fix V) : call10_c_0 V = constantI S_ 32 20050#32 := by
  have e := eq_nullary (h.at in_chunk42 9 rfl)
  exact e
theorem e_call10_v2 (h : Fix V) : call10_v2 V = broadcastInDim S4x256 ![] bcast_S_S4x256 (call10_c_0 V) := by
  have e := eq_unary (h.at in_chunk42 10 rfl)
  exact e
theorem e_call10_v3 (h : Fix V) : call10_v3 V = addi (v243 V) (call10_v2 V) := by
  have e := eq_binary (h.at in_chunk42 11 rfl)
  exact e
theorem e_call10_v4 (h : Fix V) : call10_v4 V = select (call10_v1 V) (call10_v3 V) (v243 V) := by
  have e := eq_ternary (h.at in_chunk42 12 rfl)
  exact e
theorem e_call10_v5 (h : Fix V) : call10_v5 V = shapeCast _ (call10_v4 V) shapeCasts_S4x256_S4x256x1 := by
  have e := eq_reshape (h.at in_chunk42 13 rfl)
  exact e
theorem e_call10_c_1 (h : Fix V) : call10_c_1 V = constantI S1 32 20049#32 := by
  have e := eq_nullary (h.at in_chunk42 14 rfl)
  exact e
theorem e_call10_c_2 (h : Fix V) : call10_c_2 V = constantI S_ 32 0#32 := by
  have e := eq_nullary (h.at in_chunk42 15 rfl)
  exact e
theorem e_call10_v6 (h : Fix V) : call10_v6 V = broadcastInDim S4x256x1 ![] bcast_S_S4x256x1 (call10_c_2 V) := by
  have e := eq_unary (h.at in_chunk42 16 rfl)
  exact e
theorem e_call10_v7 (h : Fix V) : call10_v7 V = cmpi .sge (call10_v5 V) (call10_v6 V) := by
  have e := eq_binary (h.at in_chunk42 17 rfl)
  exact e
theorem e_call10_v8 (h : Fix V) : call10_v8 V = broadcastInDim S1x1x1 ![2] bcast_S1_S1x1x1_2 (call10_c_1 V) := by
  have e := eq_unary (h.at in_chunk42 18 rfl)
  exact e
theorem e_call10_v9 (h : Fix V) : call10_v9 V = broadcastInDim S4x256x1 ![0, 1, 2] bcast_S1x1x1_S4x256x1_0_1_2 (call10_v8 V) := by
  have e := eq_unary (h.at in_chunk42 19 rfl)
  exact e
theorem e_call10_v10 (h : Fix V) : call10_v10 V = cmpi .sle (call10_v5 V) (call10_v9 V) := by
  have e := eq_binary (h.at in_chunk42 20 rfl)
  exact e
theorem e_call10_v11 (h : Fix V) : call10_v11 V = andi (call10_v7 V) (call10_v10 V) := by
  have e := eq_binary (h.at in_chunk42 21 rfl)
  exact e
theorem e_call10_c_3 (h : Fix V) : call10_c_3 V = constantI S_ 1 1#1 := by
  have e := eq_nullary (h.at in_chunk42 22 rfl)
  exact e
theorem e_call10_v12 (h : Fix V) : call10_v12 V = Host.reduce IntOp.andi (call10_v11 V) (call10_c_3 V) reducesTo_S4x256x1_S4x256_d2 h_S_ := by
  have e := eq_binary (h.at in_chunk42 23 rfl)
  exact e
theorem e_call10_v13 (h : Fix V) : call10_v13 V = Host.gather gather_S4x20050_S4x256x1_S4x256_n_1_0_0_1_2_11 (v102 V) (call10_v5 V) := by
  have e := eq_binary (h.at in_chunk42 24 rfl)
  exact e
theorem e_call10_cst (h : Fix V) : call10_cst V = constant S_ .f32 0x7FC00000#32 := by
  have e := eq_nullary (h.at in_chunk42 25 rfl)
  exact e
theorem e_call10_v14 (h : Fix V) : call10_v14 V = broadcastInDim S4x256 ![] bcast_S_S4x256 (call10_cst V) := by
  have e := eq_unary (h.at in_chunk42 26 rfl)
  exact e
theorem e_v246 (h : Fix V) : v246 V = select (call10_v12 V) (call10_v13 V) (call10_v14 V) := by
  have e := eq_ternary (h.at in_chunk42 27 rfl)
  exact e

end Cert.ReferenceIdeal.Vals

end
-- ==== Proof.RefSpec1.lean ====
module

public import proofs.«01_k».proof.Proof.RefEqs1
public import proofs.«01_k».proof.Proof.RefEqs2
public import proofs.«01_k».proof.Proof.RefEqs3
public import proofs.«01_k».proof.Proof.RefEqs4
public import proofs.«01_k».proof.Proof.RefEqs5
public import proofs.«01_k».proof.Proof.Spec

/-!
# The reference's boxes, overlaps and scores at an index

Each array of the reference's first half, read at an index, as the quantity of `Spec` it holds.
-/

@[expose] public section

set_option maxRecDepth 16384
noncomputable section

namespace Cert.ReferenceIdeal.Vals

open Cert.ReferenceIdeal Cert.ReferenceIdeal.Gen Cert.ReferenceIdeal.Ops Idealize.ShloMosaic Idealize.ShloMosaic.TcCoe
  Idealize.SL.Sem Idealize.ShloMosaic.StableHlo
open Cert.Spec (ped pedBox hardBox ignBox iou iog)

variable (V : Valuation τ sig (Elt Ideal))

/-- The ordinary boxes. -/
theorem ped_at (h : Fix V) (b : Fin 4) (g : Fin 50) (k : Fin 5) : v10 V (ix3 b g k) = ped (arg1 V) b g k := by
  pointwise [e_v10 V h, e_v9 V h, e_v8 V h, e_v7 V h, e_v6 V h, e_v3 V h, e_v1 V h, e_v0 V h, e_v2 V h, e_cst_2 V h,
    e_v5 V h, e_v4 V h, e_cst_3 V h]
  rw [Spec.bit_and, Spec.bit_value]
  unfold ped Spec.two Spec.three
  congr 1

/-- The hard boxes. -/
theorem hard_at (h : Fix V) (b : Fin 4) (g : Fin 50) (k : Fin 4) : v24 V (ix3 b g k) = hardBox (arg1 V) b g k := by
  pointwise [e_v24 V h, e_v18 V h, e_v23 V h, e_v22 V h, e_v21 V h, e_v20 V h, e_v1 V h, e_v0 V h, e_v19 V h,
    e_cst_5 V h]
  rw [Spec.bit_value]
  unfold hardBox Spec.three
  congr 1

/-- The regions to ignore. -/
theorem ign_at (h : Fix V) (b : Fin 4) (g : Fin 50) (k : Fin 4) : v17 V (ix3 b g k) = ignBox (arg1 V) b g k := by
  pointwise [e_v17 V h, e_v11 V h, e_v16 V h, e_v15 V h, e_v14 V h, e_v13 V h, e_v1 V h, e_v0 V h, e_v12 V h,
    e_cst_4 V h]
  rw [Spec.bit_value]
  unfold ignBox Spec.two
  congr 1

/-- Every proposal's coordinates. -/
theorem roi_at (h : Fix V) (b : Fin 4) (m : Fin 20050) (k : Fin 4) :
    v30 V (ix3 b m k) = Spec.roi (arg0 V) (arg1 V) b m k := by
  pointwise [e_v30 V h, e_v29 V h, e_v28 V h, e_v26 V h, e_cst_6 V h, e_v27 V h]
  unfold Spec.roi
  split
  · simp only [Nat.add_comm 1]
  · exact ped_at V h b _ ⟨k.val, by omega⟩

theorem iou_mask (h : Fix V) (b : Fin 4) (m : Fin 20050) (g : Fin 50) :
    v99 V (ix3 b m g) = iou (fun k => v30 V (ix3 b m k)) (fun k => v10 V (ix3 b g ⟨k.val, by omega⟩)) := by
  pointwise [e_v99 V h, e_call1_v1 V h, e_v98 V h, e_v50 V h, e_v48 V h, e_v47 V h, e_v31 V h, e_cst_9 V h,
    e_v49 V h, e_cst_10 V h, e_call1_v2 V h, e_call1_v0 V h, e_cst_16 V h, e_v97 V h, e_v73 V h, e_v70 V h,
    e_v69 V h, e_v68 V h, e_call0_v1 V h, e_call0_v0 V h, e_cst_12 V h, e_v67 V h, e_v65 V h, e_v64 V h, e_v62 V h,
    e_v59 V h, e_v58 V h, e_v63 V h, e_v61 V h, e_v60 V h, e_v57 V h, e_v55 V h, e_v52 V h, e_v51 V h, e_v56 V h,
    e_v54 V h, e_v53 V h, e_v66 V h, e_cst_11 V h, e_v72 V h, e_v71 V h, e_v96 V h, e_v94 V h, e_v93 V h, e_v91 V h,
    e_v89 V h, e_v88 V h, e_v80 V h, e_v78 V h, e_v75 V h, e_v74 V h, e_v77 V h, e_v76 V h, e_v79 V h, e_cst_13 V h,
    e_v87 V h, e_v85 V h, e_v82 V h, e_v81 V h, e_v84 V h, e_v83 V h, e_v86 V h, e_cst_14 V h, e_v92 V h, e_v90 V h,
    e_v46 V h, e_v38 V h, e_v36 V h, e_v33 V h, e_v32 V h, e_v35 V h, e_v34 V h, e_v37 V h, e_cst_7 V h, e_v45 V h,
    e_v43 V h, e_v40 V h, e_v39 V h, e_v42 V h, e_v41 V h, e_v44 V h, e_cst_8 V h, e_v95 V h, e_cst_15 V h]
  unfold iou
  refine Spec.ite_eq ?_ rfl ?_
  · exact Spec.sumabs_eq_zero fun k => v10 V (ix3 b g ⟨k.val, by omega⟩)
  · rfl

/-- The overlaps with the ordinary boxes. -/
theorem iou_at (h : Fix V) (b : Fin 4) (m : Fin 20050) (g : Fin 50) :
    v99 V (ix3 b m g) = iou (Spec.roi (arg0 V) (arg1 V) b m) (pedBox (arg1 V) b g) := by
  rw [iou_mask V h]
  simp only [roi_at V h, ped_at V h]
  rfl

/-- The greatest overlap. -/
theorem best_at (h : Fix V) (b : Fin 4) (m : Fin 20050) :
    v100 V (ix2 b m) = Spec.bestIou (arg1 V) b (Spec.roi (arg0 V) (arg1 V) b m) := by
  pointwise [e_v100 V h, e_cst_17 V h]
  simp only [iou_at V h, Spec.ofBits_ninf]
  exact Spec.fold_max_eq _

/-- The foreground score. -/
theorem fg_at (h : Fix V) (b : Fin 4) (m : Fin 20050) :
    v105 V (ix2 b m) = Spec.fgScore (arg1 V) b (Spec.roi (arg0 V) (arg1 V) b m) := by
  pointwise [e_v105 V h, e_v104 V h, e_v103 V h, e_cst_18 V h, e_call4_v1 V h, e_call4_v0 V h, e_cst_19 V h]
  rw [best_at V h]
  unfold Spec.fgScore
  exact Spec.ite_same Iff.rfl _ _

theorem hard_mask (h : Fix V) (b : Fin 4) (m : Fin 20050) (g : Fin 50) :
    v176 V (ix3 b m g) = iou (fun k => v30 V (ix3 b m k)) (fun k => v24 V (ix3 b g k)) := by
  rw [show v30 V = v108 V from (e_v30 V h).trans (e_v108 V h).symm]
  pointwise [e_v176 V h, e_call6_v1 V h, e_v175 V h, e_v127 V h, e_v125 V h, e_v124 V h, e_cst_23 V h, e_v126 V h,
    e_cst_24 V h, e_call6_v2 V h, e_call6_v0 V h, e_cst_30 V h, e_v174 V h, e_v150 V h, e_v147 V h, e_v146 V h,
    e_v145 V h, e_call5_v1 V h, e_call5_v0 V h, e_cst_26 V h, e_v144 V h, e_v142 V h, e_v141 V h, e_v139 V h,
    e_v136 V h, e_v135 V h, e_v140 V h, e_v138 V h, e_v137 V h, e_v134 V h, e_v132 V h, e_v129 V h, e_v128 V h,
    e_v133 V h, e_v131 V h, e_v130 V h, e_v143 V h, e_cst_25 V h, e_v149 V h, e_v148 V h, e_v173 V h, e_v171 V h,
    e_v170 V h, e_v168 V h, e_v166 V h, e_v165 V h, e_v157 V h, e_v155 V h, e_v152 V h, e_v151 V h, e_v154 V h,
    e_v153 V h, e_v156 V h, e_cst_27 V h, e_v164 V h, e_v162 V h, e_v159 V h, e_v158 V h, e_v161 V h, e_v160 V h,
    e_v163 V h, e_cst_28 V h, e_v169 V h, e_v167 V h, e_v123 V h, e_v115 V h, e_v113 V h, e_v110 V h, e_v109 V h,
    e_v112 V h, e_v111 V h, e_v114 V h, e_cst_21 V h, e_v122 V h, e_v120 V h, e_v117 V h, e_v116 V h, e_v119 V h,
    e_v118 V h, e_v121 V h, e_cst_22 V h, e_v172 V h, e_cst_29 V h]
  unfold iou
  refine Spec.ite_eq ?_ rfl ?_
  · exact Spec.sumabs_eq_zero fun k => v24 V (ix3 b g k)
  · rfl

theorem ign_mask (h : Fix V) (b : Fin 4) (m : Fin 20050) (g : Fin 50) :
    v226 V (ix3 b m g) = iog (fun k => v30 V (ix3 b m k)) (fun k => v17 V (ix3 b g k)) := by
  rw [show v30 V = v177 V from (e_v30 V h).trans (e_v177 V h).symm]
  pointwise [e_v226 V h, e_call8_v1 V h, e_v225 V h, e_v196 V h, e_v194 V h, e_v193 V h, e_cst_33 V h, e_v195 V h,
    e_cst_34 V h, e_call8_v2 V h, e_call8_v0 V h, e_cst_38 V h, e_v224 V h, e_v219 V h, e_v216 V h, e_v215 V h,
    e_v214 V h, e_call7_v1 V h, e_call7_v0 V h, e_cst_36 V h, e_v213 V h, e_v211 V h, e_v210 V h, e_v208 V h,
    e_v205 V h, e_v204 V h, e_v209 V h, e_v207 V h, e_v206 V h, e_v203 V h, e_v201 V h, e_v198 V h, e_v197 V h,
    e_v202 V h, e_v200 V h, e_v199 V h, e_v212 V h, e_cst_35 V h, e_v218 V h, e_v217 V h, e_v223 V h, e_v222 V h,
    e_v220 V h, e_v192 V h, e_v184 V h, e_v182 V h, e_v179 V h, e_v178 V h, e_v181 V h, e_v180 V h, e_v183 V h,
    e_cst_31 V h, e_v191 V h, e_v189 V h, e_v186 V h, e_v185 V h, e_v188 V h, e_v187 V h, e_v190 V h, e_cst_32 V h,
    e_v221 V h, e_cst_37 V h]
  unfold iog
  refine Spec.ite_eq ?_ rfl ?_
  · exact Spec.sumabs_eq_zero fun k => v17 V (ix3 b g k)
  · rfl

/-- The background score. -/
theorem bg_at (h : Fix V) (b : Fin 4) (m : Fin 20050) :
    v242 V (ix2 b m) = Spec.bgScore (arg1 V) b (Spec.roi (arg0 V) (arg1 V) b m) := by
  pointwise [e_v242 V h, e_v239 V h, e_v231 V h, e_v228 V h, e_v227 V h, e_cst_39 V h, e_v230 V h, e_v229 V h,
    e_cst_40 V h, e_v238 V h, e_v234 V h, e_v232 V h, e_cst_41 V h, e_v233 V h, e_cst_42 V h, e_v237 V h, e_v235 V h,
    e_cst_43 V h, e_v236 V h, e_cst_44 V h, e_v241 V h, e_v240 V h, e_cst_45 V h, e_call9_v1 V h, e_call9_v0 V h,
    e_cst_46 V h]
  simp only [best_at V h, hard_mask V h, ign_mask V h, roi_at V h, hard_at V h, ign_at V h]
  rw [Spec.bit_and, Spec.bit_and, Spec.bit_and, Spec.bit_select]
  unfold Spec.bgScore Spec.BgOk Spec.hardSum Spec.ignSum
  exact Spec.ite_same Iff.rfl _ _

end Cert.ReferenceIdeal.Vals

end
end
-- ==== Proof.RefEqs6.lean ====
module

public import proofs.«01_k».proof.Proof.RefBufs
public import Idealize.ShloMosaic.Lib.Pointwise

/-! The equations of the reference's operations, part 6 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_cst_49 (h : Fix V) : cst_49 V = constant S_ .f32 0x00000000#32 := by
  have e := eq_nullary (h.at in_chunk50 0 rfl)
  exact e
theorem e_call11_v0 (h : Fix V) : call11_v0 V = (cst_49 V) := by
  have e := eq_unary (h.at in_chunk50 1 rfl)
  exact e
theorem e_call11_v1 (h : Fix V) : call11_v1 V = broadcastInDim S4x256 ![] bcast_S_S4x256 (call11_v0 V) := by
  have e := eq_unary (h.at in_chunk50 2 rfl)
  exact e
theorem e_v247 (h : Fix V) : v247 V = select (v245 V) (v246 V) (call11_v1 V) := by
  have e := eq_ternary (h.at in_chunk50 3 rfl)
  exact e
theorem e_v248 (h : Fix V) : v248 V = broadcastInDim S4x256x1 ![0, 1] bcast_S4x256_S4x256x1_0_1 (v243 V) := by
  have e := eq_unary (h.at in_chunk50 4 rfl)
  exact e
theorem e_v249 (h : Fix V) : v249 V = broadcastInDim S4x256x5 ![0, 1, 2] bcast_S4x256x1_S4x256x5_0_1_2 (v248 V) := by
  have e := eq_unary (h.at in_chunk50 5 rfl)
  exact e
theorem e_call12_c (h : Fix V) : call12_c V = constantI S_ 32 0#32 := by
  have e := eq_nullary (h.at in_chunk50 6 rfl)
  exact e
theorem e_call12_v0 (h : Fix V) : call12_v0 V = broadcastInDim S4x256x5 ![] bcast_S_S4x256x5 (call12_c V) := by
  have e := eq_unary (h.at in_chunk50 7 rfl)
  exact e
theorem e_call12_v1 (h : Fix V) : call12_v1 V = cmpi .slt (v249 V) (call12_v0 V) := by
  have e := eq_binary (h.at in_chunk50 8 rfl)
  exact e
theorem e_call12_c_0 (h : Fix V) : call12_c_0 V = constantI S_ 32 20050#32 := by
  have e := eq_nullary (h.at in_chunk50 9 rfl)
  exact e
theorem e_call12_v2 (h : Fix V) : call12_v2 V = broadcastInDim S4x256x5 ![] bcast_S_S4x256x5 (call12_c_0 V) := by
  have e := eq_unary (h.at in_chunk50 10 rfl)
  exact e
theorem e_call12_v3 (h : Fix V) : call12_v3 V = addi (v249 V) (call12_v2 V) := by
  have e := eq_binary (h.at in_chunk50 11 rfl)
  exact e
theorem e_call12_v4 (h : Fix V) : call12_v4 V = select (call12_v1 V) (call12_v3 V) (v249 V) := by
  have e := eq_ternary (h.at in_chunk50 12 rfl)
  exact e
theorem e_call12_v5 (h : Fix V) : call12_v5 V = shapeCast _ (call12_v4 V) shapeCasts_S4x256x5_S4x256x5x1 := by
  have e := eq_reshape (h.at in_chunk50 13 rfl)
  exact e
theorem e_call12_c_1 (h : Fix V) : call12_c_1 V = constantI S1 32 20049#32 := by
  have e := eq_nullary (h.at in_chunk50 14 rfl)
  exact e
theorem e_call12_c_2 (h : Fix V) : call12_c_2 V = constantI S_ 32 0#32 := by
  have e := eq_nullary (h.at in_chunk50 15 rfl)
  exact e
theorem e_call12_v6 (h : Fix V) : call12_v6 V = broadcastInDim S4x256x5x1 ![] bcast_S_S4x256x5x1 (call12_c_2 V) := by
  have e := eq_unary (h.at in_chunk50 16 rfl)
  exact e
theorem e_call12_v7 (h : Fix V) : call12_v7 V = cmpi .sge (call12_v5 V) (call12_v6 V) := by
  have e := eq_binary (h.at in_chunk50 17 rfl)
  exact e
theorem e_call12_v8 (h : Fix V) : call12_v8 V = broadcastInDim S1x1x1x1 ![3] bcast_S1_S1x1x1x1_3 (call12_c_1 V) := by
  have e := eq_unary (h.at in_chunk50 18 rfl)
  exact e
theorem e_call12_v9 (h : Fix V) : call12_v9 V = broadcastInDim S4x256x5x1 ![0, 1, 2, 3] bcast_S1x1x1x1_S4x256x5x1_0_1_2_3 (call12_v8 V) := by
  have e := eq_unary (h.at in_chunk50 19 rfl)
  exact e
theorem e_call12_v10 (h : Fix V) : call12_v10 V = cmpi .sle (call12_v5 V) (call12_v9 V) := by
  have e := eq_binary (h.at in_chunk50 20 rfl)
  exact e
theorem e_call12_v11 (h : Fix V) : call12_v11 V = andi (call12_v7 V) (call12_v10 V) := by
  have e := eq_binary (h.at in_chunk50 21 rfl)
  exact e
theorem e_call12_c_3 (h : Fix V) : call12_c_3 V = constantI S_ 1 1#1 := by
  have e := eq_nullary (h.at in_chunk50 22 rfl)
  exact e
theorem e_call12_v12 (h : Fix V) : call12_v12 V = Host.reduce IntOp.andi (call12_v11 V) (call12_c_3 V) reducesTo_S4x256x5x1_S4x256x5_d3 h_S_ := by
  have e := eq_binary (h.at in_chunk50 23 rfl)
  exact e
theorem e_call12_v13 (h : Fix V) : call12_v13 V = Host.gather gather_S4x20050x5_S4x256x5x1_S4x256x5_n_1_02_02_1_3_111 (v29 V) (call12_v5 V) := by
  have e := eq_binary (h.at in_chunk50 24 rfl)
  exact e
theorem e_call12_cst (h : Fix V) : call12_cst V = constant S_ .f32 0x7FC00000#32 := by
  have e := eq_nullary (h.at in_chunk50 25 rfl)
  exact e
theorem e_call12_v14 (h : Fix V) : call12_v14 V = broadcastInDim S4x256x5 ![] bcast_S_S4x256x5 (call12_cst V) := by
  have e := eq_unary (h.at in_chunk50 26 rfl)
  exact e
theorem e_v250 (h : Fix V) : v250 V = select (call12_v12 V) (call12_v13 V) (call12_v14 V) := by
  have e := eq_ternary (h.at in_chunk50 27 rfl)
  exact e
theorem e_v251 (h : Fix V) : v251 V = sitofp .f32 (iotaInDim S4 32 0) := by
  have e := eq_nullary (h.at in_chunk50 28 rfl)
  exact e
theorem e_v252 (h : Fix V) : v252 V = broadcastInDim S4x1 ![0] bcast_S4_S4x1_0 (v251 V) := by
  have e := eq_unary (h.at in_chunk50 29 rfl)
  exact e
theorem e_v253 (h : Fix V) : v253 V = broadcastInDim S4x256 ![0, 1] bcast_S4x1_S4x256_0_1 (v252 V) := by
  have e := eq_unary (h.at in_chunk51 0 rfl)
  exact e
theorem e_c_50 (h : Fix V) : c_50 V = constantI S_ 32 0#32 := by
  have e := eq_nullary (h.at in_chunk51 1 rfl)
  exact e
theorem e_v254 (h : Fix V) : v254 V = broadcastInDim S1 ![] bcast_S_S1 (c_50 V) := by
  have e := eq_unary (h.at in_chunk51 2 rfl)
  exact e
theorem e_v255 (h : Fix V) : v255 V = Host.scatter scatter_S4x256x5_S1_S4x256_01_2_2_0 (fun _ b => b) (v250 V) (v254 V) (v253 V) := by
  have e := eq_ternary (h.at in_chunk51 3 rfl)
  exact e
theorem e_call13_c (h : Fix V) : call13_c V = constantI S_ 32 0#32 := by
  have e := eq_nullary (h.at in_chunk51 4 rfl)
  exact e
theorem e_call13_v0 (h : Fix V) : call13_v0 V = broadcastInDim S4x256 ![] bcast_S_S4x256 (call13_c V) := by
  have e := eq_unary (h.at in_chunk51 5 rfl)
  exact e
theorem e_call13_v1 (h : Fix V) : call13_v1 V = cmpi .slt (v243 V) (call13_v0 V) := by
  have e := eq_binary (h.at in_chunk51 6 rfl)
  exact e
theorem e_call13_c_0 (h : Fix V) : call13_c_0 V = constantI S_ 32 20050#32 := by
  have e := eq_nullary (h.at in_chunk51 7 rfl)
  exact e
theorem e_call13_v2 (h : Fix V) : call13_v2 V = broadcastInDim S4x256 ![] bcast_S_S4x256 (call13_c_0 V) := by
  have e := eq_unary (h.at in_chunk51 8 rfl)
  exact e
theorem e_call13_v3 (h : Fix V) : call13_v3 V = addi (v243 V) (call13_v2 V) := by
  have e := eq_binary (h.at in_chunk51 9 rfl)
  exact e
theorem e_call13_v4 (h : Fix V) : call13_v4 V = select (call13_v1 V) (call13_v3 V) (v243 V) := by
  have e := eq_ternary (h.at in_chunk51 10 rfl)
  exact e
theorem e_call13_v5 (h : Fix V) : call13_v5 V = shapeCast _ (call13_v4 V) shapeCasts_S4x256_S4x256x1 := by
  have e := eq_reshape (h.at in_chunk51 11 rfl)
  exact e
theorem e_call13_c_1 (h : Fix V) : call13_c_1 V = constantI S1 32 20049#32 := by
  have e := eq_nullary (h.at in_chunk51 12 rfl)
  exact e
theorem e_call13_c_2 (h : Fix V) : call13_c_2 V = constantI S_ 32 0#32 := by
  have e := eq_nullary (h.at in_chunk51 13 rfl)
  exact e
theorem e_call13_v6 (h : Fix V) : call13_v6 V = broadcastInDim S4x256x1 ![] bcast_S_S4x256x1 (call13_c_2 V) := by
  have e := eq_unary (h.at in_chunk51 14 rfl)
  exact e
theorem e_call13_v7 (h : Fix V) : call13_v7 V = cmpi .sge (call13_v5 V) (call13_v6 V) := by
  have e := eq_binary (h.at in_chunk51 15 rfl)
  exact e
theorem e_call13_v8 (h : Fix V) : call13_v8 V = broadcastInDim S1x1x1 ![2] bcast_S1_S1x1x1_2 (call13_c_1 V) := by
  have e := eq_unary (h.at in_chunk51 16 rfl)
  exact e
theorem e_call13_v9 (h : Fix V) : call13_v9 V = broadcastInDim S4x256x1 ![0, 1, 2] bcast_S1x1x1_S4x256x1_0_1_2 (call13_v8 V) := by
  have e := eq_unary (h.at in_chunk51 17 rfl)
  exact e
theorem e_call13_v10 (h : Fix V) : call13_v10 V = cmpi .sle (call13_v5 V) (call13_v9 V) := by
  have e := eq_binary (h.at in_chunk51 18 rfl)
  exact e
theorem e_call13_v11 (h : Fix V) : call13_v11 V = andi (call13_v7 V) (call13_v10 V) := by
  have e := eq_binary (h.at in_chunk51 19 rfl)
  exact e
theorem e_call13_c_3 (h : Fix V) : call13_c_3 V = constantI S_ 1 1#1 := by
  have e := eq_nullary (h.at in_chunk51 20 rfl)
  exact e
theorem e_call13_v12 (h : Fix V) : call13_v12 V = Host.reduce IntOp.andi (call13_v11 V) (call13_c_3 V) reducesTo_S4x256x1_S4x256_d2 h_S_ := by
  have e := eq_binary (h.at in_chunk51 21 rfl)
  exact e
theorem e_call13_v13 (h : Fix V) : call13_v13 V = Host.gather gather_S4x20050_S4x256x1_S4x256_n_1_0_0_1_2_11 (v101 V) (call13_v5 V) := by
  have e := eq_binary (h.at in_chunk51 22 rfl)
  exact e
theorem e_call13_c_4 (h : Fix V) : call13_c_4 V = constantI S_ 32 2147483648#32 := by
  have e := eq_nullary (h.at in_chunk51 23 rfl)
  exact e
theorem e_call13_v14 (h : Fix V) : call13_v14 V = broadcastInDim S4x256 ![] bcast_S_S4x256 (call13_c_4 V) := by
  have e := eq_unary (h.at in_chunk51 24 rfl)
  exact e
theorem e_v256 (h : Fix V) : v256 V = select (call13_v12 V) (call13_v13 V) (call13_v14 V) := by
  have e := eq_ternary (h.at in_chunk51 25 rfl)
  exact e
theorem e_v257 (h : Fix V) : v257 V = broadcastInDim S4x256x1 ![0, 1] bcast_S4x256_S4x256x1_0_1 (v256 V) := by
  have e := eq_unary (h.at in_chunk51 26 rfl)
  exact e
theorem e_v258 (h : Fix V) : v258 V = broadcastInDim S4x256x5 ![0, 1, 2] bcast_S4x256x1_S4x256x5_0_1_2 (v257 V) := by
  have e := eq_unary (h.at in_chunk51 27 rfl)
  exact e
theorem e_call14_c (h : Fix V) : call14_c V = constantI S_ 32 0#32 := by
  have e := eq_nullary (h.at in_chunk51 28 rfl)
  exact e
theorem e_call14_v0 (h : Fix V) : call14_v0 V = broadcastInDim S4x256x5 ![] bcast_S_S4x256x5 (call14_c V) := by
  have e := eq_unary (h.at in_chunk51 29 rfl)
  exact e
theorem e_call14_v1 (h : Fix V) : call14_v1 V = cmpi .slt (v258 V) (call14_v0 V) := by
  have e := eq_binary (h.at in_chunk52 0 rfl)
  exact e
theorem e_call14_c_0 (h : Fix V) : call14_c_0 V = constantI S_ 32 50#32 := by
  have e := eq_nullary (h.at in_chunk52 1 rfl)
  exact e
theorem e_call14_v2 (h : Fix V) : call14_v2 V = broadcastInDim S4x256x5 ![] bcast_S_S4x256x5 (call14_c_0 V) := by
  have e := eq_unary (h.at in_chunk52 2 rfl)
  exact e
theorem e_call14_v3 (h : Fix V) : call14_v3 V = addi (v258 V) (call14_v2 V) := by
  have e := eq_binary (h.at in_chunk52 3 rfl)
  exact e
theorem e_call14_v4 (h : Fix V) : call14_v4 V = select (call14_v1 V) (call14_v3 V) (v258 V) := by
  have e := eq_ternary (h.at in_chunk52 4 rfl)
  exact e
theorem e_call14_v5 (h : Fix V) : call14_v5 V = shapeCast _ (call14_v4 V) shapeCasts_S4x256x5_S4x256x5x1 := by
  have e := eq_reshape (h.at in_chunk52 5 rfl)
  exact e
theorem e_call14_c_1 (h : Fix V) : call14_c_1 V = constantI S1 32 49#32 := by
  have e := eq_nullary (h.at in_chunk52 6 rfl)
  exact e
theorem e_call14_c_2 (h : Fix V) : call14_c_2 V = constantI S_ 32 0#32 := by
  have e := eq_nullary (h.at in_chunk52 7 rfl)
  exact e
theorem e_call14_v6 (h : Fix V) : call14_v6 V = broadcastInDim S4x256x5x1 ![] bcast_S_S4x256x5x1 (call14_c_2 V) := by
  have e := eq_unary (h.at in_chunk52 8 rfl)
  exact e
theorem e_call14_v7 (h : Fix V) : call14_v7 V = cmpi .sge (call14_v5 V) (call14_v6 V) := by
  have e := eq_binary (h.at in_chunk52 9 rfl)
  exact e
theorem e_call14_v8 (h : Fix V) : call14_v8 V = broadcastInDim S1x1x1x1 ![3] bcast_S1_S1x1x1x1_3 (call14_c_1 V) := by
  have e := eq_unary (h.at in_chunk52 10 rfl)
  exact e
theorem e_call14_v9 (h : Fix V) : call14_v9 V = broadcastInDim S4x256x5x1 ![0, 1, 2, 3] bcast_S1x1x1x1_S4x256x5x1_0_1_2_3 (call14_v8 V) := by
  have e := eq_unary (h.at in_chunk52 11 rfl)
  exact e
theorem e_call14_v10 (h : Fix V) : call14_v10 V = cmpi .sle (call14_v5 V) (call14_v9 V) := by
  have e := eq_binary (h.at in_chunk52 12 rfl)
  exact e
theorem e_call14_v11 (h : Fix V) : call14_v11 V = andi (call14_v7 V) (call14_v10 V) := by
  have e := eq_binary (h.at in_chunk52 13 rfl)
  exact e
theorem e_call14_c_3 (h : Fix V) : call14_c_3 V = constantI S_ 1 1#1 := by
  have e := eq_nullary (h.at in_chunk52 14 rfl)
  exact e
theorem e_call14_v12 (h : Fix V) : call14_v12 V = Host.reduce IntOp.andi (call14_v11 V) (call14_c_3 V) reducesTo_S4x256x5x1_S4x256x5_d3 h_S_ := by
  have e := eq_binary (h.at in_chunk52 15 rfl)
  exact e
theorem e_call14_v13 (h : Fix V) : call14_v13 V = Host.gather gather_S4x50x5_S4x256x5x1_S4x256x5_n_1_02_02_1_3_111 (v10 V) (call14_v5 V) := by
  have e := eq_binary (h.at in_chunk52 16 rfl)
  exact e
theorem e_call14_cst (h : Fix V) : call14_cst V = constant S_ .f32 0x7FC00000#32 := by
  have e := eq_nullary (h.at in_chunk52 17 rfl)
  exact e
theorem e_call14_v14 (h : Fix V) : call14_v14 V = broadcastInDim S4x256x5 ![] bcast_S_S4x256x5 (call14_cst V) := by
  have e := eq_unary (h.at in_chunk52 18 rfl)
  exact e
theorem e_v259 (h : Fix V) : v259 V = select (call14_v12 V) (call14_v13 V) (call14_v14 V) := by
  have e := eq_ternary (h.at in_chunk52 19 rfl)
  exact e
theorem e_v260 (h : Fix V) : v260 V = extractStridedSlice S4x256x4 ![0, 0, 1] (v255 V) slices_S4x256x5_S4x256x4_0_0_1 := by
  have e := eq_unary (h.at in_chunk52 20 rfl)
  exact e
theorem e_v261 (h : Fix V) : v261 V = extractStridedSlice S4x256x4 ![0, 0, 0] (v259 V) slices_S4x256x5_S4x256x4_0_0_0 := by
  have e := eq_unary (h.at in_chunk52 21 rfl)
  exact e
theorem e_v262 (h : Fix V) : v262 V = extractStridedSlice S4x256x1 ![0, 0, 2] (v260 V) slices_S4x256x4_S4x256x1_0_0_2 := by
  have e := eq_unary (h.at in_chunk52 22 rfl)
  exact e
theorem e_v263 (h : Fix V) : v263 V = shapeCast _ (v262 V) shapeCasts_S4x256x1_S4x256 := by
  have e := eq_reshape (h.at in_chunk52 23 rfl)
  exact e
theorem e_v264 (h : Fix V) : v264 V = extractStridedSlice S4x256x1 ![0, 0, 0] (v260 V) slices_S4x256x4_S4x256x1_0_0_0 := by
  have e := eq_unary (h.at in_chunk52 24 rfl)
  exact e
theorem e_v265 (h : Fix V) : v265 V = shapeCast _ (v264 V) shapeCasts_S4x256x1_S4x256 := by
  have e := eq_reshape (h.at in_chunk52 25 rfl)
  exact e
theorem e_v266 (h : Fix V) : v266 V = subf (v263 V) (v265 V) := by
  have e := eq_binary (h.at in_chunk52 26 rfl)
  exact e
theorem e_cst_51 (h : Fix V) : cst_51 V = constant S_ .f32 0x3F800000#32 := by
  have e := eq_nullary (h.at in_chunk52 27 rfl)
  exact e
theorem e_v267 (h : Fix V) : v267 V = broadcastInDim S4x256 ![] bcast_S_S4x256 (cst_51 V) := by
  have e := eq_unary (h.at in_chunk52 28 rfl)
  exact e
theorem e_v268 (h : Fix V) : v268 V = addf (v266 V) (v267 V) := by
  have e := eq_binary (h.at in_chunk52 29 rfl)
  exact e

end Cert.ReferenceIdeal.Vals

end
-- ==== Proof.RefEqs7.lean ====
module

public import proofs.«01_k».proof.Proof.RefBufs
public import Idealize.ShloMosaic.Lib.Pointwise

/-! The equations of the reference's operations, part 7 of 7. -/

@[expose] public section

set_option maxRecDepth 16384

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo
open Cert.Steps

variable (V : Valuation τ sig (Elt Ideal))

attribute [local irreducible] Host.reduce Host.gather Host.scatter Host.argReduce Host.topK

theorem e_cst_52 (h : Fix V) : cst_52 V = constant S_ .f32 0x358637BD#32 := by
  have e := eq_nullary (h.at in_chunk53 0 rfl)
  exact e
theorem e_v269 (h : Fix V) : v269 V = broadcastInDim S4x256 ![] bcast_S_S4x256 (cst_52 V) := by
  have e := eq_unary (h.at in_chunk53 1 rfl)
  exact e
theorem e_v270 (h : Fix V) : v270 V = maximumf (v268 V) (v269 V) := by
  have e := eq_binary (h.at in_chunk53 2 rfl)
  exact e
theorem e_v271 (h : Fix V) : v271 V = extractStridedSlice S4x256x1 ![0, 0, 3] (v260 V) slices_S4x256x4_S4x256x1_0_0_3 := by
  have e := eq_unary (h.at in_chunk53 3 rfl)
  exact e
theorem e_v272 (h : Fix V) : v272 V = shapeCast _ (v271 V) shapeCasts_S4x256x1_S4x256 := by
  have e := eq_reshape (h.at in_chunk53 4 rfl)
  exact e
theorem e_v273 (h : Fix V) : v273 V = extractStridedSlice S4x256x1 ![0, 0, 1] (v260 V) slices_S4x256x4_S4x256x1_0_0_1 := by
  have e := eq_unary (h.at in_chunk53 5 rfl)
  exact e
theorem e_v274 (h : Fix V) : v274 V = shapeCast _ (v273 V) shapeCasts_S4x256x1_S4x256 := by
  have e := eq_reshape (h.at in_chunk53 6 rfl)
  exact e
theorem e_v275 (h : Fix V) : v275 V = subf (v272 V) (v274 V) := by
  have e := eq_binary (h.at in_chunk53 7 rfl)
  exact e
theorem e_cst_53 (h : Fix V) : cst_53 V = constant S_ .f32 0x3F800000#32 := by
  have e := eq_nullary (h.at in_chunk53 8 rfl)
  exact e
theorem e_v276 (h : Fix V) : v276 V = broadcastInDim S4x256 ![] bcast_S_S4x256 (cst_53 V) := by
  have e := eq_unary (h.at in_chunk53 9 rfl)
  exact e
theorem e_v277 (h : Fix V) : v277 V = addf (v275 V) (v276 V) := by
  have e := eq_binary (h.at in_chunk53 10 rfl)
  exact e
theorem e_cst_54 (h : Fix V) : cst_54 V = constant S_ .f32 0x358637BD#32 := by
  have e := eq_nullary (h.at in_chunk53 11 rfl)
  exact e
theorem e_v278 (h : Fix V) : v278 V = broadcastInDim S4x256 ![] bcast_S_S4x256 (cst_54 V) := by
  have e := eq_unary (h.at in_chunk53 12 rfl)
  exact e
theorem e_v279 (h : Fix V) : v279 V = maximumf (v277 V) (v278 V) := by
  have e := eq_binary (h.at in_chunk53 13 rfl)
  exact e
theorem e_v280 (h : Fix V) : v280 V = extractStridedSlice S4x256x1 ![0, 0, 0] (v260 V) slices_S4x256x4_S4x256x1_0_0_0 := by
  have e := eq_unary (h.at in_chunk53 14 rfl)
  exact e
theorem e_v281 (h : Fix V) : v281 V = shapeCast _ (v280 V) shapeCasts_S4x256x1_S4x256 := by
  have e := eq_reshape (h.at in_chunk53 15 rfl)
  exact e
theorem e_cst_55 (h : Fix V) : cst_55 V = constant S_ .f32 0x3F000000#32 := by
  have e := eq_nullary (h.at in_chunk53 16 rfl)
  exact e
theorem e_v282 (h : Fix V) : v282 V = broadcastInDim S4x256 ![] bcast_S_S4x256 (cst_55 V) := by
  have e := eq_unary (h.at in_chunk53 17 rfl)
  exact e
theorem e_v283 (h : Fix V) : v283 V = mulf (v282 V) (v270 V) := by
  have e := eq_binary (h.at in_chunk53 18 rfl)
  exact e
theorem e_v284 (h : Fix V) : v284 V = addf (v281 V) (v283 V) := by
  have e := eq_binary (h.at in_chunk53 19 rfl)
  exact e
theorem e_v285 (h : Fix V) : v285 V = extractStridedSlice S4x256x1 ![0, 0, 1] (v260 V) slices_S4x256x4_S4x256x1_0_0_1 := by
  have e := eq_unary (h.at in_chunk53 20 rfl)
  exact e
theorem e_v286 (h : Fix V) : v286 V = shapeCast _ (v285 V) shapeCasts_S4x256x1_S4x256 := by
  have e := eq_reshape (h.at in_chunk53 21 rfl)
  exact e
theorem e_cst_56 (h : Fix V) : cst_56 V = constant S_ .f32 0x3F000000#32 := by
  have e := eq_nullary (h.at in_chunk53 22 rfl)
  exact e
theorem e_v287 (h : Fix V) : v287 V = broadcastInDim S4x256 ![] bcast_S_S4x256 (cst_56 V) := by
  have e := eq_unary (h.at in_chunk53 23 rfl)
  exact e
theorem e_v288 (h : Fix V) : v288 V = mulf (v287 V) (v279 V) := by
  have e := eq_binary (h.at in_chunk53 24 rfl)
  exact e
theorem e_v289 (h : Fix V) : v289 V = addf (v286 V) (v288 V) := by
  have e := eq_binary (h.at in_chunk53 25 rfl)
  exact e
theorem e_v290 (h : Fix V) : v290 V = extractStridedSlice S4x256x1 ![0, 0, 2] (v261 V) slices_S4x256x4_S4x256x1_0_0_2 := by
  have e := eq_unary (h.at in_chunk53 26 rfl)
  exact e
theorem e_v291 (h : Fix V) : v291 V = shapeCast _ (v290 V) shapeCasts_S4x256x1_S4x256 := by
  have e := eq_reshape (h.at in_chunk53 27 rfl)
  exact e
theorem e_v292 (h : Fix V) : v292 V = extractStridedSlice S4x256x1 ![0, 0, 0] (v261 V) slices_S4x256x4_S4x256x1_0_0_0 := by
  have e := eq_unary (h.at in_chunk53 28 rfl)
  exact e
theorem e_v293 (h : Fix V) : v293 V = shapeCast _ (v292 V) shapeCasts_S4x256x1_S4x256 := by
  have e := eq_reshape (h.at in_chunk53 29 rfl)
  exact e
theorem e_v294 (h : Fix V) : v294 V = subf (v291 V) (v293 V) := by
  have e := eq_binary (h.at in_chunk54 0 rfl)
  exact e
theorem e_cst_57 (h : Fix V) : cst_57 V = constant S_ .f32 0x3F800000#32 := by
  have e := eq_nullary (h.at in_chunk54 1 rfl)
  exact e
theorem e_v295 (h : Fix V) : v295 V = broadcastInDim S4x256 ![] bcast_S_S4x256 (cst_57 V) := by
  have e := eq_unary (h.at in_chunk54 2 rfl)
  exact e
theorem e_v296 (h : Fix V) : v296 V = addf (v294 V) (v295 V) := by
  have e := eq_binary (h.at in_chunk54 3 rfl)
  exact e
theorem e_cst_58 (h : Fix V) : cst_58 V = constant S_ .f32 0x358637BD#32 := by
  have e := eq_nullary (h.at in_chunk54 4 rfl)
  exact e
theorem e_v297 (h : Fix V) : v297 V = broadcastInDim S4x256 ![] bcast_S_S4x256 (cst_58 V) := by
  have e := eq_unary (h.at in_chunk60 0 rfl)
  exact e
theorem e_v298 (h : Fix V) : v298 V = maximumf (v296 V) (v297 V) := by
  have e := eq_binary (h.at in_chunk60 1 rfl)
  exact e
theorem e_v299 (h : Fix V) : v299 V = extractStridedSlice S4x256x1 ![0, 0, 3] (v261 V) slices_S4x256x4_S4x256x1_0_0_3 := by
  have e := eq_unary (h.at in_chunk60 2 rfl)
  exact e
theorem e_v300 (h : Fix V) : v300 V = shapeCast _ (v299 V) shapeCasts_S4x256x1_S4x256 := by
  have e := eq_reshape (h.at in_chunk60 3 rfl)
  exact e
theorem e_v301 (h : Fix V) : v301 V = extractStridedSlice S4x256x1 ![0, 0, 1] (v261 V) slices_S4x256x4_S4x256x1_0_0_1 := by
  have e := eq_unary (h.at in_chunk60 4 rfl)
  exact e
theorem e_v302 (h : Fix V) : v302 V = shapeCast _ (v301 V) shapeCasts_S4x256x1_S4x256 := by
  have e := eq_reshape (h.at in_chunk60 5 rfl)
  exact e
theorem e_v303 (h : Fix V) : v303 V = subf (v300 V) (v302 V) := by
  have e := eq_binary (h.at in_chunk60 6 rfl)
  exact e
theorem e_cst_59 (h : Fix V) : cst_59 V = constant S_ .f32 0x3F800000#32 := by
  have e := eq_nullary (h.at in_chunk60 7 rfl)
  exact e
theorem e_v304 (h : Fix V) : v304 V = broadcastInDim S4x256 ![] bcast_S_S4x256 (cst_59 V) := by
  have e := eq_unary (h.at in_chunk60 8 rfl)
  exact e
theorem e_v305 (h : Fix V) : v305 V = addf (v303 V) (v304 V) := by
  have e := eq_binary (h.at in_chunk60 9 rfl)
  exact e
theorem e_cst_60 (h : Fix V) : cst_60 V = constant S_ .f32 0x358637BD#32 := by
  have e := eq_nullary (h.at in_chunk60 10 rfl)
  exact e
theorem e_v306 (h : Fix V) : v306 V = broadcastInDim S4x256 ![] bcast_S_S4x256 (cst_60 V) := by
  have e := eq_unary (h.at in_chunk60 11 rfl)
  exact e
theorem e_v307 (h : Fix V) : v307 V = maximumf (v305 V) (v306 V) := by
  have e := eq_binary (h.at in_chunk60 12 rfl)
  exact e
theorem e_v308 (h : Fix V) : v308 V = extractStridedSlice S4x256x1 ![0, 0, 0] (v261 V) slices_S4x256x4_S4x256x1_0_0_0 := by
  have e := eq_unary (h.at in_chunk60 13 rfl)
  exact e
theorem e_v309 (h : Fix V) : v309 V = shapeCast _ (v308 V) shapeCasts_S4x256x1_S4x256 := by
  have e := eq_reshape (h.at in_chunk60 14 rfl)
  exact e
theorem e_cst_61 (h : Fix V) : cst_61 V = constant S_ .f32 0x3F000000#32 := by
  have e := eq_nullary (h.at in_chunk60 15 rfl)
  exact e
theorem e_v310 (h : Fix V) : v310 V = broadcastInDim S4x256 ![] bcast_S_S4x256 (cst_61 V) := by
  have e := eq_unary (h.at in_chunk60 16 rfl)
  exact e
theorem e_v311 (h : Fix V) : v311 V = mulf (v310 V) (v298 V) := by
  have e := eq_binary (h.at in_chunk60 17 rfl)
  exact e
theorem e_v312 (h : Fix V) : v312 V = addf (v309 V) (v311 V) := by
  have e := eq_binary (h.at in_chunk60 18 rfl)
  exact e
theorem e_v313 (h : Fix V) : v313 V = extractStridedSlice S4x256x1 ![0, 0, 1] (v261 V) slices_S4x256x4_S4x256x1_0_0_1 := by
  have e := eq_unary (h.at in_chunk60 19 rfl)
  exact e
theorem e_v314 (h : Fix V) : v314 V = shapeCast _ (v313 V) shapeCasts_S4x256x1_S4x256 := by
  have e := eq_reshape (h.at in_chunk60 20 rfl)
  exact e
theorem e_cst_62 (h : Fix V) : cst_62 V = constant S_ .f32 0x3F000000#32 := by
  have e := eq_nullary (h.at in_chunk60 21 rfl)
  exact e
theorem e_v315 (h : Fix V) : v315 V = broadcastInDim S4x256 ![] bcast_S_S4x256 (cst_62 V) := by
  have e := eq_unary (h.at in_chunk60 22 rfl)
  exact e
theorem e_v316 (h : Fix V) : v316 V = mulf (v315 V) (v307 V) := by
  have e := eq_binary (h.at in_chunk60 23 rfl)
  exact e
theorem e_v317 (h : Fix V) : v317 V = addf (v314 V) (v316 V) := by
  have e := eq_binary (h.at in_chunk60 24 rfl)
  exact e
theorem e_v318 (h : Fix V) : v318 V = subf (v312 V) (v284 V) := by
  have e := eq_binary (h.at in_chunk60 25 rfl)
  exact e
theorem e_v319 (h : Fix V) : v319 V = Host.divf (v318 V) (v270 V) := by
  have e := eq_binary (h.at in_chunk60 26 rfl)
  exact e
theorem e_v320 (h : Fix V) : v320 V = subf (v317 V) (v289 V) := by
  have e := eq_binary (h.at in_chunk60 27 rfl)
  exact e
theorem e_v321 (h : Fix V) : v321 V = Host.divf (v320 V) (v279 V) := by
  have e := eq_binary (h.at in_chunk60 28 rfl)
  exact e
theorem e_v322 (h : Fix V) : v322 V = Host.divf (v298 V) (v270 V) := by
  have e := eq_binary (h.at in_chunk60 29 rfl)
  exact e
theorem e_v323 (h : Fix V) : v323 V = Host.log (v322 V) := by
  have e := eq_unary (h.at in_chunk61 0 rfl)
  exact e
theorem e_v324 (h : Fix V) : v324 V = Host.divf (v307 V) (v279 V) := by
  have e := eq_binary (h.at in_chunk61 1 rfl)
  exact e
theorem e_v325 (h : Fix V) : v325 V = Host.log (v324 V) := by
  have e := eq_unary (h.at in_chunk61 2 rfl)
  exact e
theorem e_v326 (h : Fix V) : v326 V = broadcastInDim S4x256x1 ![0, 1] bcast_S4x256_S4x256x1_0_1 (v319 V) := by
  have e := eq_unary (h.at in_chunk61 3 rfl)
  exact e
theorem e_v327 (h : Fix V) : v327 V = broadcastInDim S4x256x1 ![0, 1] bcast_S4x256_S4x256x1_0_1 (v321 V) := by
  have e := eq_unary (h.at in_chunk61 4 rfl)
  exact e
theorem e_v328 (h : Fix V) : v328 V = broadcastInDim S4x256x1 ![0, 1] bcast_S4x256_S4x256x1_0_1 (v323 V) := by
  have e := eq_unary (h.at in_chunk61 5 rfl)
  exact e
theorem e_v329 (h : Fix V) : v329 V = broadcastInDim S4x256x1 ![0, 1] bcast_S4x256_S4x256x1_0_1 (v325 V) := by
  have e := eq_unary (h.at in_chunk61 6 rfl)
  exact e
theorem e_v330 (h : Fix V) : v330 V = concatenate S4x256x4 2 [⟨S4x256x1, v326 V⟩, ⟨S4x256x1, v327 V⟩, ⟨S4x256x1, v328 V⟩, ⟨S4x256x1, v329 V⟩] concatenates_S4x256x1_S4x256x1_S4x256x1_S4x256x1_S4x256x4_d2 := by
  have e := eq_nary (h.at in_chunk61 7 rfl)
  exact e
theorem e_v331 (h : Fix V) : v331 V = broadcastInDim S1x1x4 ![2] bcast_S4_S1x1x4_2 (cst V) := by
  have e := eq_unary (h.at in_chunk61 8 rfl)
  exact e
theorem e_v332 (h : Fix V) : v332 V = broadcastInDim S4x256x4 ![0, 1, 2] bcast_S1x1x4_S4x256x4_0_1_2 (v331 V) := by
  have e := eq_unary (h.at in_chunk61 9 rfl)
  exact e
theorem e_v333 (h : Fix V) : v333 V = subf (v330 V) (v332 V) := by
  have e := eq_binary (h.at in_chunk61 10 rfl)
  exact e
theorem e_v334 (h : Fix V) : v334 V = broadcastInDim S1x1x4 ![2] bcast_S4_S1x1x4_2 (cst_0 V) := by
  have e := eq_unary (h.at in_chunk61 11 rfl)
  exact e
theorem e_v335 (h : Fix V) : v335 V = broadcastInDim S4x256x4 ![0, 1, 2] bcast_S1x1x4_S4x256x4_0_1_2 (v334 V) := by
  have e := eq_unary (h.at in_chunk61 12 rfl)
  exact e
theorem e_v336 (h : Fix V) : v336 V = Host.divf (v333 V) (v335 V) := by
  have e := eq_binary (h.at in_chunk61 13 rfl)
  exact e
theorem e_cst_63 (h : Fix V) : cst_63 V = constant S_ .f32 0x00000000#32 := by
  have e := eq_nullary (h.at in_chunk61 14 rfl)
  exact e
theorem e_v337 (h : Fix V) : v337 V = broadcastInDim S4x256 ![] bcast_S_S4x256 (cst_63 V) := by
  have e := eq_unary (h.at in_chunk61 15 rfl)
  exact e
theorem e_v338 (h : Fix V) : v338 V = cmpf .ogt (v247 V) (v337 V) := by
  have e := eq_binary (h.at in_chunk61 16 rfl)
  exact e
theorem e_v339 (h : Fix V) : v339 V = broadcastInDim S4x256x1 ![0, 1] bcast_S4x256_S4x256x1_0_1 (v338 V) := by
  have e := eq_unary (h.at in_chunk61 17 rfl)
  exact e
theorem e_cst_64 (h : Fix V) : cst_64 V = constant S_ .f32 0x00000000#32 := by
  have e := eq_nullary (h.at in_chunk61 18 rfl)
  exact e
theorem e_call15_v0 (h : Fix V) : call15_v0 V = (cst_64 V) := by
  have e := eq_unary (h.at in_chunk61 19 rfl)
  exact e
theorem e_call15_v1 (h : Fix V) : call15_v1 V = broadcastInDim S4x256x4 ![0, 1, 2] bcast_S4x256x1_S4x256x4_0_1_2 (v339 V) := by
  have e := eq_unary (h.at in_chunk61 20 rfl)
  exact e
theorem e_call15_v2 (h : Fix V) : call15_v2 V = broadcastInDim S4x256x4 ![] bcast_S_S4x256x4 (call15_v0 V) := by
  have e := eq_unary (h.at in_chunk61 21 rfl)
  exact e
theorem e_v340 (h : Fix V) : v340 V = select (call15_v1 V) (v336 V) (call15_v2 V) := by
  have e := eq_ternary (h.at in_chunk61 22 rfl)
  exact e
theorem e_cst_65 (h : Fix V) : cst_65 V = constant S_ .f32 0x00000000#32 := by
  have e := eq_nullary (h.at in_chunk61 23 rfl)
  exact e
theorem e_call16_v0 (h : Fix V) : call16_v0 V = (cst_65 V) := by
  have e := eq_unary (h.at in_chunk61 24 rfl)
  exact e
theorem e_call16_v1 (h : Fix V) : call16_v1 V = broadcastInDim S4x256x4 ![0, 1, 2] bcast_S4x256x1_S4x256x4_0_1_2 (v339 V) := by
  have e := eq_unary (h.at in_chunk61 25 rfl)
  exact e
theorem e_call16_v2 (h : Fix V) : call16_v2 V = broadcastInDim S4x256x4 ![2] bcast_S4_S4x256x4_2 (cst_1 V) := by
  have e := eq_unary (h.at in_chunk61 26 rfl)
  exact e
theorem e_call16_v3 (h : Fix V) : call16_v3 V = broadcastInDim S4x256x4 ![] bcast_S_S4x256x4 (call16_v0 V) := by
  have e := eq_unary (h.at in_chunk61 27 rfl)
  exact e
theorem e_v341 (h : Fix V) : v341 V = select (call16_v1 V) (call16_v2 V) (call16_v3 V) := by
  have e := eq_ternary (h.at in_chunk61 28 rfl)
  exact e
theorem e_cst_66 (h : Fix V) : cst_66 V = constant S_ .f32 0x00000000#32 := by
  have e := eq_nullary (h.at in_chunk61 29 rfl)
  exact e
theorem e_v342 (h : Fix V) : v342 V = broadcastInDim S4x256x4 ![] bcast_S_S4x256x4 (cst_66 V) := by
  have e := eq_unary (h.at in_chunk62 0 rfl)
  exact e
theorem e_v343 (h : Fix V) : v343 V = cmpf .ogt (v341 V) (v342 V) := by
  have e := eq_binary (h.at in_chunk62 1 rfl)
  exact e
theorem e_v344 (h : Fix V) : v344 V = uitofp .f32 (v343 V) := by
  have e := eq_unary (h.at in_chunk62 2 rfl)
  exact e

end Cert.ReferenceIdeal.Vals

end
-- ==== Proof.ArgMax.lean ====
module

public import proofs.«01_k».proof.ReferenceIdeal
public import proofs.«01_k».proof.Proof.Spec

/-!
# The reference's argmax is the first greatest entry

A fold by "greater value, else smaller index" over the pairs of a row, in whatever order, ends at the pair that beats
all others, which is the row's first greatest entry.
-/

@[expose] public section

noncomputable section

namespace Cert.ReferenceIdeal.ArgMax

open Cert.ReferenceIdeal Idealize.ShloMosaic

/-- A (value, index) pair is no better than another. -/
def Worse (p q : EReal × ℕ) : Prop := p.1 < q.1 ∨ (p.1 = q.1 ∧ q.2 ≤ p.2)

theorem worse_refl (p : EReal × ℕ) : Worse p p := Or.inr ⟨rfl, le_rfl⟩
theorem worse_trans {p q r : EReal × ℕ} (h : Worse p q) (h' : Worse q r) : Worse p r := by
  rcases h with h | ⟨e, l⟩ <;> rcases h' with h' | ⟨e', l'⟩
  · exact Or.inl (h.trans h')
  · exact Or.inl (e' ▸ h)
  · exact Or.inl (e ▸ h')
  · exact Or.inr ⟨e.trans e', l'.trans l⟩

/-- A pair as the fold sees it. -/
def word (p : EReal × ℕ) : Ideal .f32 × BitVec 32 := (p.1, BitVec.ofNat 32 p.2)

theorem int_of (n : ℕ) (hn : n < 50) : (BitVec.ofNat 32 n).toInt = (n : ℤ) := by
  rw [BitVec.toInt_ofNat']
  have hn' : n % 2 ^ 32 = n := Nat.mod_eq_of_lt (by omega)
  simp only [Int.bmod]
  norm_num
  omega

open Classical in
/-- One step keeps the better pair. -/
theorem step (p q : EReal × ℕ) (hp : p.2 < 50) (hq : q.2 < 50) :
    reducer_argmax_f32_i32 (F := Ideal) (word p) (word q) = word (if Worse p q then q else p) := by
  obtain ⟨v, i⟩ := p
  obtain ⟨w, j⟩ := q
  have hs : IntOp.cmpi CmpIPredicate.slt (BitVec.ofNat 32 i) (BitVec.ofNat 32 j) = BitVec.ofBool (decide (i < j)) := by
    have e : (BitVec.ofNat 32 i).slt (BitVec.ofNat 32 j) = decide (i < j) := by
      rw [BitVec.slt_eq_decide, int_of i hp, int_of j hq]
      exact decide_eq_decide.2 Int.ofNat_lt
    show BitVec.ofBool ((BitVec.ofNat 32 i).slt (BitVec.ofNat 32 j)) = _
    rw [e]
  have hg : FloatOps.cmpf (F := Ideal) (φ := .f32) CmpFPredicate.ogt v w = BitVec.ofBool (decide (w < v)) := rfl
  have he : FloatOps.cmpf (F := Ideal) (φ := .f32) CmpFPredicate.oeq v w = BitVec.ofBool (decide (v = w)) := rfl
  have hn : FloatOps.cmpf (F := Ideal) (φ := .f32) CmpFPredicate.une v v = 0#1 := by
    show BitVec.ofBool (decide (v ≠ v)) = 0#1
    simp
  simp only [reducer_argmax_f32_i32, word, hs, hg, he, hn]
  rcases lt_trichotomy v w with h | h | h
  · have h1 : ¬ w < v := not_lt.2 h.le
    have h2 : v ≠ w := h.ne
    have h3 : Worse (v, i) (w, j) := Or.inl h
    simp [h1, h2, h3, IntOp.ori, IntOp.andi, Scalar.select]
  · subst h
    by_cases hij : i < j
    · have h3 : ¬ Worse (v, i) (v, j) := by
        rintro (h | ⟨-, h⟩)
        · exact lt_irrefl _ h
        · exact absurd h (not_le.2 hij)
      simp [h3, hij, IntOp.ori, IntOp.andi, Scalar.select]
    · have h3 : Worse (v, i) (v, j) := Or.inr ⟨rfl, not_lt.1 hij⟩
      simp [h3, hij, IntOp.ori, IntOp.andi, Scalar.select]
  · have h2 : v ≠ w := h.ne'
    have h3 : ¬ Worse (v, i) (w, j) := by
      rintro (h' | ⟨e, -⟩)
      · exact absurd h' (not_lt.2 h.le)
      · exact h2 e
    simp [h, h2, h3, IntOp.ori, IntOp.andi, Scalar.select]

/-- The fold ends at a pair of the list (or the first one) that beats them all. -/
theorem fold {ι : Type} (L : List ι) (pr : ι → EReal × ℕ) (hpr : ∀ n, (pr n).2 < 50) (a : EReal × ℕ) (ha : a.2 < 50) :
    ∃ p : EReal × ℕ, L.foldl (fun r n => reducer_argmax_f32_i32 (F := Ideal) r (word (pr n))) (word a) = word p
      ∧ p.2 < 50 ∧ (p = a ∨ ∃ n ∈ L, p = pr n) ∧ Worse a p ∧ ∀ n ∈ L, Worse (pr n) p := by
  classical
  induction L generalizing a with
  | nil => exact ⟨a, rfl, ha, Or.inl rfl, worse_refl a, fun n hn => absurd hn (by simp)⟩
  | cons m L ih =>
    rw [List.foldl_cons, step a (pr m) ha (hpr m)]
    by_cases h : Worse a (pr m)
    · rw [if_pos h]
      obtain ⟨p, e, lt, mem, w, ws⟩ := ih (pr m) (hpr m)
      refine ⟨p, e, lt, Or.inr ?_, worse_trans h w, ?_⟩
      · rcases mem with rfl | ⟨n, hn, rfl⟩
        · exact ⟨m, by simp, rfl⟩
        · exact ⟨n, by simp [hn], rfl⟩
      · intro n hn
        rcases List.mem_cons.1 hn with rfl | hn
        · exact w
        · exact ws n hn
    · rw [if_neg h]
      obtain ⟨p, e, lt, mem, w, ws⟩ := ih a ha
      have hm : Worse (pr m) a := by
        rcases lt_trichotomy (pr m).1 a.1 with h1 | h1 | h1
        · exact Or.inl h1
        · by_cases h2 : a.2 ≤ (pr m).2
          · exact Or.inr ⟨h1, h2⟩
          · exact absurd (Or.inr ⟨h1.symm, by omega⟩) h
        · exact absurd (Or.inl h1) h
      refine ⟨p, e, lt, ?_, w, ?_⟩
      · rcases mem with rfl | ⟨n, hn, rfl⟩
        · exact Or.inl rfl
        · exact Or.inr ⟨n, by simp [hn], rfl⟩
      · intro n hn
        rcases List.mem_cons.1 hn with rfl | hn
        · exact worse_trans hm w
        · exact ws n hn

/-- Over the pairs of a whole row the fold's index is the first greatest entry's. -/
theorem fold_row {ι : Type} (L : List ι) (f : Fin 50 → EReal) (g : ι → Fin 50) (hall : ∀ i, ∃ n ∈ L, g n = i) :
    (L.foldl (fun r n => reducer_argmax_f32_i32 (F := Ideal) r (f (g n), BitVec.ofNat 32 (g n).val)) (⊥, 0#32)).2
      = BitVec.ofNat 32 (Spec.firstMax f).val := by
  obtain ⟨p, e, lt, mem, -, ws⟩ := fold L (fun n => (f (g n), (g n).val)) (fun n => (g n).isLt) (⊥, 0) (by norm_num)
  have hw : ∀ i, Worse (f i, i.val) p := fun i => by
    obtain ⟨n, hn, rfl⟩ := hall i
    exact ws n hn
  have hf : f ⟨p.2, lt⟩ = p.1 := by
    rcases mem with rfl | ⟨n, -, rfl⟩
    · rcases hw ⟨0, by norm_num⟩ with h | ⟨h, -⟩
      · exact absurd h not_lt_bot
      · exact h
    · rfl
  have hm : Spec.IsFirstMax f ⟨p.2, lt⟩ := by
    refine ⟨fun i => ?_, fun i hi => ?_⟩
    · rw [hf]
      rcases hw i with h | ⟨h, -⟩
      · exact h.le
      · exact h.le
    · rw [hf]
      rcases hw i with h | ⟨-, h⟩
      · exact h
      · exact absurd h (not_le.2 hi)
  refine (congrArg Prod.snd e).trans ?_
  show BitVec.ofNat 32 p.2 = _
  rw [← Spec.firstMax_unique hm]

/-- The reference's argmax along the last axis. -/
theorem argmax_at [Facts₀] (x : FVec Ideal S4x20050x50 .f32) (y : IVec S4x20050x50 32) (ix : FVec Ideal S_ .f32)
    (iy : IVec S_ 32) (h : S4x20050x50.ReducesTo [2] S4x20050) (hu : 0 < S_.numel)
    (hy : ∀ b m g, y (ix3 b m g) = BitVec.ofNat 32 g.val) (hx : ∀ i, ix i = ⊥) (hi : ∀ i, iy i = 0#32) (b : Fin 4)
    (m : Fin 20050) :
    (Host.argReduce reducer_argmax_f32_i32 x y ix iy h hu (ix2 b m)).2
      = BitVec.ofNat 32 (Spec.firstMax fun g => x (ix3 b m g)).val := by
  rw [Ideal.argReduce_eq_reduce2]
  unfold Host.reduce2
  rw [hx, hi]
  have hd : ∀ i : S4x20050x50.Idx, h.drop i = ix2 b m → ∃ g : Fin 50, i = ix3 b m g := fun i e => by
    have e0 : (h.drop i 0).val = i 0 := h.drop_apply_val_of_eq i 0 0
    have e1 : (h.drop i 1).val = i 1 := h.drop_apply_val_of_eq i 1 1
    rw [e] at e0 e1
    refine ⟨i 2, funext fun a => ?_⟩
    match a with
    | 0 => exact Fin.ext e0.symm
    | 1 => exact Fin.ext e1.symm
    | 2 => rfl
  have hd' : ∀ g : Fin 50, h.drop (ix3 b m g) = ix2 b m := fun g => funext fun a => Fin.ext (by
    match a with
    | 0 => exact h.drop_apply_val_of_eq _ 0 0
    | 1 => exact h.drop_apply_val_of_eq _ 1 1)
  refine Eq.trans ?_ (fold_row
    ((List.finRange S4x20050x50.numel).filter fun n => h.drop (S4x20050x50.rowMajor.symm n) = ix2 b m)
    (fun g => x (ix3 b m g)) (fun n => S4x20050x50.rowMajor.symm n 2) fun g => ?_)
  · refine congrArg Prod.snd (List.foldl_ext _ _ _ fun r n hn => ?_)
    obtain ⟨g, hg⟩ := hd _ (of_decide_eq_true (List.mem_filter.1 hn).2)
    rw [hg, hy]
    rfl
  · refine ⟨S4x20050x50.rowMajor (ix3 b m g), ?_, ?_⟩
    · rw [List.mem_filter]
      refine ⟨List.mem_finRange _, decide_eq_true ?_⟩
      rw [Equiv.symm_apply_apply]; exact hd' g
    · show S4x20050x50.rowMajor.symm (S4x20050x50.rowMajor (ix3 b m g)) 2 = g
      rw [Equiv.symm_apply_apply]; rfl

end Cert.ReferenceIdeal.ArgMax

end
end
-- ==== Proof.Gathers.lean ====
module

public import Idealize.ShloMosaic.Lib.Pointwise

/-!
# Gathers along an image's rows, read at an index

Both shapes of gather the reference uses read, in image `b`, the row whose number the index array holds (clamped into
the array).
-/

@[expose] public section

noncomputable section

namespace Cert.Rows

open Idealize.ShloMosaic

variable {α : Type} {N R C w : ℕ}

/-- One number per row and image. -/
abbrev flat (N R : ℕ) (wf : GatherDims.WF ⟨2, ![4, N]⟩ ⟨3, ![4, R, 1]⟩ ⟨2, ![4, R]⟩ [] [1] [0] [1] [0] 2 ![1, 1]) :
    GatherDims ⟨2, ![4, N]⟩ ⟨3, ![4, R, 1]⟩ ⟨2, ![4, R]⟩ :=
  { offsetDims := [], collapsedSliceDims := [1], operandBatchingDims := [0], startIndicesBatchingDims := [0],
    startIndexMap := [1], indexVectorDim := 2, sliceSizes := ![1, 1], wf := wf }

/-- Several numbers per row and image. -/
abbrev wide (N R C : ℕ)
    (wf : GatherDims.WF ⟨3, ![4, N, C]⟩ ⟨4, ![4, R, C, 1]⟩ ⟨3, ![4, R, C]⟩ [] [1] [0, 2] [1] [0, 2] 3 ![1, 1, 1]) :
    GatherDims ⟨3, ![4, N, C]⟩ ⟨4, ![4, R, C, 1]⟩ ⟨3, ![4, R, C]⟩ :=
  { offsetDims := [], collapsedSliceDims := [1], operandBatchingDims := [0, 2], startIndicesBatchingDims := [0, 2],
    startIndexMap := [1], indexVectorDim := 3, sliceSizes := ![1, 1, 1], wf := wf }

theorem flat_at (wf) (hN : 0 < N) (x : (⟨2, ![4, N]⟩ : Shape).Idx → α) (idx : IVec ⟨3, ![4, R, 1]⟩ w) (b : Fin 4) (r : Fin R) :
    Host.gather (flat N R wf) x idx (ix2 b r) = x (ix2 b ⟨min (idx (ix3 b r 0)).toInt.toNat (N - 1), by omega⟩) := by
  have e0 : (flat N R wf).start (ix2 b r) idx 0 + (flat N R wf).batchCoord (ix2 b r) 0 + (flat N R wf).offCoord (ix2 b r) 0
      = b.val := by
    rw [GatherDims.start_batching _ _ _ _ (by simp),
      GatherDims.offCoord_eq_zero _ _ _ (fun h => ((GatherDims.mem_sKept _ _).mp h).2 (by simp))]
    unfold GatherDims.batchCoord
    rw [dif_pos (by simp)]
    simp only [Nat.zero_add, Nat.add_zero]
    rfl
  have e1 : (flat N R wf).start (ix2 b r) idx 1 + (flat N R wf).batchCoord (ix2 b r) 1 + (flat N R wf).offCoord (ix2 b r) 1
      = min (idx (ix3 b r 0)).toInt.toNat (N - 1) := by
    rw [GatherDims.batchCoord_eq_zero _ _ _ (by simp),
      GatherDims.offCoord_eq_zero _ _ _ (fun h => ((GatherDims.mem_sKept _ _).mp h).1 (by simp))]
    unfold GatherDims.start
    rw [dif_pos (by simp)]
    have hi : (flat N R wf).siIdx (ix2 b r) ⟨List.idxOf (1 : Fin 2) (flat N R wf).startIndexMap,
        List.idxOf_lt_length_iff.2 (by simp)⟩ = ix3 b r 0 :=
      funext fun a => Fin.ext (match a with | 0 => rfl | 1 => rfl | 2 => rfl)
    simp only [Nat.add_zero]
    exact congrArg (fun v => min (idx v).toInt.toNat (N - 1)) hi
  refine congrArg x (funext fun a => Fin.ext ?_)
  match a with
  | 0 => exact e0
  | 1 => exact e1

theorem wide_at (wf) (hN : 0 < N) (x : (⟨3, ![4, N, C]⟩ : Shape).Idx → α) (idx : IVec ⟨4, ![4, R, C, 1]⟩ w) (b : Fin 4)
    (r : Fin R) (k : Fin C) :
    Host.gather (wide N R C wf) x idx (ix3 b r k)
      = x (ix3 b ⟨min (idx (ix4 b r k 0)).toInt.toNat (N - 1), by omega⟩ k) := by
  have e0 : (wide N R C wf).start (ix3 b r k) idx 0 + (wide N R C wf).batchCoord (ix3 b r k) 0
      + (wide N R C wf).offCoord (ix3 b r k) 0 = b.val := by
    rw [GatherDims.start_batching _ _ _ _ (by simp),
      GatherDims.offCoord_eq_zero _ _ _ (fun h => ((GatherDims.mem_sKept _ _).mp h).2 (by simp))]
    unfold GatherDims.batchCoord
    rw [dif_pos (by simp)]
    simp only [Nat.zero_add, Nat.add_zero]
    rfl
  have e2 : (wide N R C wf).start (ix3 b r k) idx 2 + (wide N R C wf).batchCoord (ix3 b r k) 2
      + (wide N R C wf).offCoord (ix3 b r k) 2 = k.val := by
    rw [GatherDims.start_batching _ _ _ _ (by simp),
      GatherDims.offCoord_eq_zero _ _ _ (fun h => ((GatherDims.mem_sKept _ _).mp h).2 (by simp))]
    unfold GatherDims.batchCoord
    rw [dif_pos (by simp)]
    simp only [Nat.zero_add, Nat.add_zero]
    rfl
  have e1 : (wide N R C wf).start (ix3 b r k) idx 1 + (wide N R C wf).batchCoord (ix3 b r k) 1
      + (wide N R C wf).offCoord (ix3 b r k) 1 = min (idx (ix4 b r k 0)).toInt.toNat (N - 1) := by
    rw [GatherDims.batchCoord_eq_zero _ _ _ (by simp),
      GatherDims.offCoord_eq_zero _ _ _ (fun h => ((GatherDims.mem_sKept _ _).mp h).1 (by simp))]
    unfold GatherDims.start
    rw [dif_pos (by simp)]
    have hi : (wide N R C wf).siIdx (ix3 b r k) ⟨List.idxOf (1 : Fin 3) (wide N R C wf).startIndexMap,
        List.idxOf_lt_length_iff.2 (by simp)⟩ = ix4 b r k 0 :=
      funext fun a => Fin.ext (match a with | 0 => rfl | 1 => rfl | 2 => rfl | 3 => rfl)
    simp only [Nat.add_zero]
    exact congrArg (fun v => min (idx v).toInt.toNat (N - 1)) hi
  refine congrArg x (funext fun a => Fin.ext ?_)
  match a with
  | 0 => exact e0
  | 1 => exact e1
  | 2 => exact e2

/-- A row number that lies in the array is not clamped. -/
theorem in_range (p n : ℕ) (hp : p < n) (hn : n < 2 ^ 31) : min (BitVec.ofNat 32 p).toInt.toNat (n - 1) = p := by
  have : (BitVec.ofNat 32 p).toInt = (p : ℤ) := by
    rw [BitVec.toInt_ofNat']
    have hn' : p % 2 ^ 32 = p := Nat.mod_eq_of_lt (by omega)
    simp only [Int.bmod]
    norm_num at hn ⊢
    omega
  rw [this]; simp; omega

/-- A row number that lies in the array is not wrapped. -/
theorem unwrapped (p n : ℕ) (s : BitVec 32) (hp : p < n) (hn : n < 2 ^ 31) :
    Scalar.select (IntOp.cmpi CmpIPredicate.slt (BitVec.ofNat 32 p) 0#32) s (BitVec.ofNat 32 p) = BitVec.ofNat 32 p := by
  have h : (BitVec.ofNat 32 p).slt 0#32 = false := by
    rw [BitVec.slt_eq_decide]
    have : (BitVec.ofNat 32 p).toInt = (p : ℤ) := by
      rw [BitVec.toInt_ofNat']
      have hn' : p % 2 ^ 32 = p := Nat.mod_eq_of_lt (by omega)
      simp only [Int.bmod]
      norm_num at hn ⊢
      omega
    rw [this]; simp
  simp [IntOp.cmpi, Scalar.select, h]

end Cert.Rows

end
end
-- ==== Proof.RowNumbers.lean ====
module

public import proofs.«01_k».proof.Proof.Gathers
public import Idealize.ShloMosaic.Lib.Routing.OpsPair
public import Idealize.ShloMosaic.Lib.Routing.OpsSet

/-!
# Row numbers in range, and writing one column

A row number that lies in the array passes the test a gather with a fill value makes. A scatter whose only index is zero
writes the first column.
-/

@[expose] public section

noncomputable section

namespace Cert.Rows

open Idealize.ShloMosaic Idealize.ShloMosaic.Routing

theorem int_of (p n : ℕ) (hp : p < n) (hn : n < 2 ^ 31) : (BitVec.ofNat 32 p).toInt = (p : ℤ) := by
  rw [BitVec.toInt_ofNat']
  have hn' : p % 2 ^ 32 = p := Nat.mod_eq_of_lt (by omega)
  simp only [Int.bmod]
  norm_num at hn ⊢
  omega

/-- The test passes. -/
theorem passes (p n : ℕ) (w s c : BitVec 32) (hw : w = BitVec.ofNat 32 p) (hp : p < n) (hn : n < 2 ^ 31)
    (hc : c = BitVec.ofNat 32 (n - 1)) :
    Finset.fold IntOp.andi (1#1) (fun _ : Fin 1 => IntOp.andi
      (IntOp.cmpi CmpIPredicate.sge (Scalar.select (IntOp.cmpi CmpIPredicate.slt w 0#32) s w) 0#32)
      (IntOp.cmpi CmpIPredicate.sle (Scalar.select (IntOp.cmpi CmpIPredicate.slt w 0#32) s w) c)) Finset.univ = 1#1 := by
  subst hw hc
  rw [unwrapped p n s hp hn]
  have h1 : (0#32).sle (BitVec.ofNat 32 p) = true := by
    rw [BitVec.sle_eq_decide, int_of p n hp hn]; simp
  have h2 : (BitVec.ofNat 32 p).sle (BitVec.ofNat 32 (n - 1)) = true := by
    rw [BitVec.sle_eq_decide, int_of p n hp hn, int_of (n - 1) n (by omega) hn]; simp; omega
  rw [Finset.univ_unique, Finset.fold_singleton]
  simp [IntOp.cmpi, IntOp.andi, h1, h2]

/-- The scatter's dimension numbers: updates along the first two axes, the index names the third. -/
abbrev column (R C : ℕ) (wf : ScatterDims.WF ⟨3, ![4, R, C]⟩ ⟨1, ![1]⟩ ⟨2, ![4, R]⟩ [0, 1] [2] [2] 0) :
    ScatterDims ⟨3, ![4, R, C]⟩ ⟨1, ![1]⟩ ⟨2, ![4, R]⟩ :=
  { updateWindowDims := [0, 1], insertedWindowDims := [2], scatterDimsToOperandDims := [2], indexVectorDim := 0, wf := wf }

variable {R C : ℕ} {α : Type}

theorem lands (wf) (idx : IVec ⟨1, ![1]⟩ 32) (hi : ∀ i, idx i = 0#32) (b' b : Fin 4) (r' r : Fin R) (k : Fin C) :
    (column R C wf).resultIdx? (ix2 b' r') idx = some (ix3 b r k) ↔ b' = b ∧ r' = r ∧ k.val = 0 := by
  rw [resultIdx?_eq_some]
  have s : ∀ a, (column R C wf).start (ix2 b' r') idx a = 0 := fun a => by
    unfold ScatterDims.start
    split
    · rw [hi]; rfl
    · rfl
  have w0 : (column R C wf).window (ix2 b' r') 0 = b'.val := rfl
  have w1 : (column R C wf).window (ix2 b' r') 1 = r'.val := rfl
  have w2 : (column R C wf).window (ix2 b' r') 2 = 0 := rfl
  constructor
  · intro h
    have h0 := h 0
    have h1 := h 1
    have h2 := h 2
    rw [s, w0] at h0
    rw [s, w1] at h1
    rw [s, w2] at h2
    have e0 : ((ix3 b r k : Shape.Idx ⟨3, ![4, R, C]⟩) 0).val = b.val := rfl
    have e1 : ((ix3 b r k : Shape.Idx ⟨3, ![4, R, C]⟩) 1).val = r.val := rfl
    have e2 : ((ix3 b r k : Shape.Idx ⟨3, ![4, R, C]⟩) 2).val = k.val := rfl
    rw [e0] at h0; rw [e1] at h1; rw [e2] at h2
    exact ⟨Fin.ext (by omega), Fin.ext (by omega), by omega⟩
  · rintro ⟨rfl, rfl, hk⟩ a
    rw [s]
    match a with
    | 0 => rw [w0]; simp
    | 1 => rw [w1]; simp
    | 2 =>
      rw [w2]
      show (0 : ℤ) + 0 = (k.val : ℤ)
      omega

/-- The first column is the updates', the others the operand's. -/
theorem column_at (wf) (x : (⟨3, ![4, R, C]⟩ : Shape).Idx → α) (idx : IVec ⟨1, ![1]⟩ 32) (hi : ∀ i, idx i = 0#32)
    (u : (⟨2, ![4, R]⟩ : Shape).Idx → α) (b : Fin 4) (r : Fin R) (k : Fin C) :
    Host.scatter (column R C wf) (fun _ v => v) x idx u (ix3 b r k) = if k.val = 0 then u (ix2 b r) else x (ix3 b r k) := by
  have e2 : ∀ j : (⟨2, ![4, R]⟩ : Shape).Idx, j = ix2 (j 0) (j 1) := fun j => funext fun a => match a with
    | 0 => rfl
    | 1 => rfl
  by_cases hk : k.val = 0
  · rw [if_pos hk]
    refine scatter_set_hit _ _ _ _ _ _ (fun j hj => ?_) (ix2 b r) ((lands wf idx hi b b r r k).2 ⟨rfl, rfl, hk⟩)
    rw [e2 j] at hj
    obtain ⟨h0, h1, -⟩ := (lands wf idx hi _ b _ r k).1 hj
    exact congrArg u ((e2 j).trans (by rw [h0, h1]; rfl))
  · rw [if_neg hk]
    refine scatter_set_miss _ _ _ _ _ fun j hj => ?_
    rw [e2 j] at hj
    exact hk ((lands wf idx hi _ b _ r k).1 hj).2.2

end Cert.Rows

end
end
-- ==== Proof.RefSpec2.lean ====
module

public import proofs.«01_k».proof.Proof.RefSpec1
public import proofs.«01_k».proof.Proof.RefEqs6
public import proofs.«01_k».proof.Proof.RefEqs7
public import proofs.«01_k».proof.Proof.ArgMax
public import proofs.«01_k».proof.Proof.RowNumbers
public import proofs.«01_k».proof.Proof.Chosen
public import proofs.«01_k».proof.Proof.SampleSpec

/-!
# The reference's choice and its results at an index

The rows the reference's gathers read are the chosen proposals' and the chosen boxes', and the six results hold the
quantities of `Spec` at them.
-/

@[expose] public section

set_option maxRecDepth 16384
noncomputable section

namespace Cert.ReferenceIdeal.Vals

open Cert.ReferenceIdeal Cert.ReferenceIdeal.Gen Cert.ReferenceIdeal.Ops Idealize.ShloMosaic Idealize.ShloMosaic.TcCoe
  Idealize.SL.Sem Idealize.ShloMosaic.StableHlo

variable (V : Valuation τ sig (Elt Ideal))

/-- The row of the box that overlaps a proposal most. -/
theorem argmax_at (h : Fix V) (b : Fin 4) (m : Fin 20050) :
    v101 V (ix2 b m) = BitVec.ofNat 32 (Spec.best (arg1 V) b (Spec.roi (arg0 V) (arg1 V) b m)).val := by
  rw [e_v101 V h]
  refine (ArgMax.argmax_at _ _ _ _ _ _ (fun b m g => ?_) (fun i => ?_) (fun i => ?_) b m).trans ?_
  · rw [e_call2_v0 V h]; rfl
  · rw [e_call2_cst V h]; exact Spec.ofBits_ninf
  · rw [e_call2_c V h]; rfl
  · simp only [iou_at V h]; rfl

/-- Each proposal's candidate label: the label its box came with. -/
theorem cand_test (h : Fix V) (b : Fin 4) (m : Fin 20050) : call3_v12 V (ix2 b m) = 1#1 := by
  pointwise [e_call3_v12 V h, e_call3_v11 V h, e_call3_v7 V h, e_call3_v5 V h, e_call3_v4 V h, e_call3_v1 V h,
    e_call3_v0 V h, e_call3_c V h, e_call3_v3 V h, e_call3_v2 V h, e_call3_c_0 V h, e_call3_v6 V h, e_call3_c_2 V h,
    e_call3_v10 V h, e_call3_v9 V h, e_call3_v8 V h, e_call3_c_1 V h, e_call3_c_3 V h]
  exact Rows.passes _ 50 _ _ _ (argmax_at V h b m) (Fin.isLt _) (by norm_num) rfl

theorem cand_index (h : Fix V) (b : Fin 4) (m : Fin 20050) : call3_v5 V (ix3 b m 0)
    = BitVec.ofNat 32 (Spec.best (arg1 V) b (Spec.roi (arg0 V) (arg1 V) b m)).val := by
  pointwise [e_call3_v5 V h, e_call3_v4 V h, e_call3_v1 V h, e_call3_v0 V h, e_call3_c V h, e_call3_v3 V h,
    e_call3_v2 V h, e_call3_c_0 V h]
  rw [argmax_at V h b m]
  exact Rows.unwrapped _ 50 _ (Fin.isLt _) (by norm_num)

theorem label_of (h : Fix V) (b : Fin 4) (g : Fin 50) : v1 V (ix2 b g) = arg1 V (ix3 b g 4) := by
  pointwise [e_v1 V h, e_v0 V h]

theorem cand_at (h : Fix V) (b : Fin 4) (m : Fin 20050) :
    v102 V (ix2 b m) = arg1 V (ix3 b (Spec.best (arg1 V) b (Spec.roi (arg0 V) (arg1 V) b m)) 4) := by
  have e : v102 V (ix2 b m) = call3_v13 V (ix2 b m) := by
    rw [e_v102 V h]
    show Scalar.select (call3_v12 V (ix2 b m)) _ _ = _
    rw [cand_test V h]; rfl
  rw [e, e_call3_v13 V h]
  refine (Rows.flat_at gather_S4x50_S4x20050x1_S4x20050_n_1_0_0_1_2_11.wf (by norm_num) (v1 V) (call3_v5 V) b m).trans ?_
  rw [label_of V h]
  refine congrArg (fun g => arg1 V (ix3 b g 4)) (Fin.ext ?_)
  show min (call3_v5 V (ix3 b m 0)).toInt.toNat (50 - 1) = _
  rw [cand_index V h]
  exact Rows.in_range _ 50 (Fin.isLt _) (by norm_num)

/-- The scores, and the choice by them. -/
theorem fg_all (h : Fix V) : v105 V = Spec.fgAll (arg0 V) (arg1 V) := by
  funext y
  rw [show y = ix2 (y 0) (y 1) from funext fun a => match a with | 0 => rfl | 1 => rfl]
  exact fg_at V h _ _
theorem bg_all (h : Fix V) : v242 V = Spec.bgAll (arg0 V) (arg1 V) := by
  funext y
  rw [show y = ix2 (y 0) (y 1) from funext fun a => match a with | 0 => rfl | 1 => rfl]
  exact bg_at V h _ _

theorem fg_index (h : Fix V) (b : Fin 4) (r : Fin 64) :
    indices V (ix2 b r) = BitVec.ofNat 32 (Spec.fgPick (arg0 V) (arg1 V) b r).val := by
  rw [e_indices V h, fg_all V h]
  exact Spec.fgPick_index _ _ b r
theorem fg_value (h : Fix V) (b : Fin 4) (r : Fin 64) :
    values V (ix2 b r) = Spec.fgScore (arg1 V) b (Spec.roi (arg0 V) (arg1 V) b (Spec.fgPick (arg0 V) (arg1 V) b r)) := by
  rw [e_values V h, fg_all V h]
  exact Spec.fgPick_value _ _ b r
theorem bg_index (h : Fix V) (b : Fin 4) (r : Fin 192) :
    indices_48 V (ix2 b r) = BitVec.ofNat 32 (Spec.bgPick (arg0 V) (arg1 V) b r).val := by
  rw [e_indices_48 V h, bg_all V h]
  exact Spec.bgPick_index _ _ b r

/-- The chosen proposals' row numbers. -/
theorem keep_at (h : Fix V) (b : Fin 4) (r : Fin 256) :
    v243 V (ix2 b r) = BitVec.ofNat 32 (Spec.keep (arg0 V) (arg1 V) b r).val := by
  pointwise [e_v243 V h]
  unfold Spec.keep
  split
  · exact fg_index V h b _
  · exact bg_index V h b _

/-- The chosen proposals' candidate labels. -/
theorem chosen_test (h : Fix V) (b : Fin 4) (r : Fin 256) : call10_v12 V (ix2 b r) = 1#1 := by
  pointwise [e_call10_v12 V h, e_call10_v11 V h, e_call10_v7 V h, e_call10_v5 V h, e_call10_v4 V h, e_call10_v1 V h,
    e_call10_v0 V h, e_call10_c V h, e_call10_v3 V h, e_call10_v2 V h, e_call10_c_0 V h, e_call10_v6 V h,
    e_call10_c_2 V h, e_call10_v10 V h, e_call10_v9 V h, e_call10_v8 V h, e_call10_c_1 V h, e_call10_c_3 V h]
  exact Rows.passes _ 20050 _ _ _ (keep_at V h b r) (Fin.isLt _) (by norm_num) rfl

theorem chosen_index (h : Fix V) (b : Fin 4) (r : Fin 256) :
    call10_v5 V (ix3 b r 0) = BitVec.ofNat 32 (Spec.keep (arg0 V) (arg1 V) b r).val := by
  pointwise [e_call10_v5 V h, e_call10_v4 V h, e_call10_v1 V h, e_call10_v0 V h, e_call10_c V h, e_call10_v3 V h,
    e_call10_v2 V h, e_call10_c_0 V h]
  rw [keep_at V h b r]
  exact Rows.unwrapped _ 20050 _ (Fin.isLt _) (by norm_num)

theorem chosen_at (h : Fix V) (b : Fin 4) (r : Fin 256) :
    v246 V (ix2 b r) = arg1 V (ix3 b (Spec.row (arg0 V) (arg1 V) b r) 4) := by
  have e : v246 V (ix2 b r) = call10_v13 V (ix2 b r) := by
    rw [e_v246 V h]
    show Scalar.select (call10_v12 V (ix2 b r)) _ _ = _
    rw [chosen_test V h]; rfl
  rw [e, e_call10_v13 V h]
  refine (Rows.flat_at gather_S4x20050_S4x256x1_S4x256_n_1_0_0_1_2_11.wf (by norm_num) (v102 V) (call10_v5 V) b r).trans ?_
  rw [cand_at V h]
  refine congrArg (fun m => arg1 V (ix3 b (Spec.best (arg1 V) b (Spec.roi (arg0 V) (arg1 V) b m)) 4)) (Fin.ext ?_)
  show min (call10_v5 V (ix3 b r 0)).toInt.toNat (20050 - 1) = _
  rw [chosen_index V h]
  exact Rows.in_range _ 20050 (Fin.isLt _) (by norm_num)

/-- The labels. -/
theorem label_at (h : Fix V) (b : Fin 4) (r : Fin 256) :
    v247 V (ix2 b r) = Spec.label (arg0 V) (arg1 V) b r := by
  pointwise [e_v247 V h, e_v245 V h, e_v107 V h, e_v106 V h, e_cst_20 V h, e_v244 V h, e_c V h, e_call11_v1 V h,
    e_call11_v0 V h, e_cst_49 V h]
  rw [chosen_at V h, Spec.label_eq]
  by_cases hr : r.val < 64
  · rw [dif_pos hr, fg_value V h]
    have hk : Spec.keep (arg0 V) (arg1 V) b r = Spec.fgPick (arg0 V) (arg1 V) b ⟨r.val, hr⟩ := dif_pos hr
    have hf : Spec.IsFg (arg0 V) (arg1 V) b r ↔ Spec.half ≤ Spec.fgScore (arg1 V) b
        (Spec.roi (arg0 V) (arg1 V) b (Spec.fgPick (arg0 V) (arg1 V) b ⟨r.val, hr⟩)) := by
      unfold Spec.IsFg; rw [hk]; exact and_iff_right hr
    rw [Spec.bit_select]
    exact Spec.ite_eq hf.symm rfl rfl
  · rw [dif_neg hr, if_neg fun hf : Spec.IsFg _ _ b r => hr hf.1]
    rfl

/-- The chosen proposals. -/
theorem roi_test (h : Fix V) (b : Fin 4) (r : Fin 256) (k : Fin 5) : call12_v12 V (ix3 b r k) = 1#1 := by
  pointwise [e_call12_v12 V h, e_call12_v11 V h, e_call12_v7 V h, e_call12_v5 V h, e_call12_v4 V h, e_call12_v1 V h,
    e_v249 V h, e_v248 V h, e_call12_v0 V h, e_call12_c V h, e_call12_v3 V h, e_call12_v2 V h, e_call12_c_0 V h,
    e_call12_v6 V h, e_call12_c_2 V h, e_call12_v10 V h, e_call12_v9 V h, e_call12_v8 V h, e_call12_c_1 V h,
    e_call12_c_3 V h]
  exact Rows.passes _ 20050 _ _ _ (keep_at V h b r) (Fin.isLt _) (by norm_num) rfl

theorem roi_index (h : Fix V) (b : Fin 4) (r : Fin 256) (k : Fin 5) :
    call12_v5 V (ix4 b r k 0) = BitVec.ofNat 32 (Spec.keep (arg0 V) (arg1 V) b r).val := by
  pointwise [e_call12_v5 V h, e_call12_v4 V h, e_call12_v1 V h, e_v249 V h, e_v248 V h, e_call12_v0 V h,
    e_call12_c V h, e_call12_v3 V h, e_call12_v2 V h, e_call12_c_0 V h]
  rw [keep_at V h b r]
  exact Rows.unwrapped _ 20050 _ (Fin.isLt _) (by norm_num)

theorem roi_row (h : Fix V) (b : Fin 4) (r : Fin 256) (k : Fin 5) :
    v250 V (ix3 b r k) = v29 V (ix3 b (Spec.keep (arg0 V) (arg1 V) b r) k) := by
  have e : v250 V (ix3 b r k) = call12_v13 V (ix3 b r k) := by
    rw [e_v250 V h]
    show Scalar.select (call12_v12 V (ix3 b r k)) _ _ = _
    rw [roi_test V h]; rfl
  rw [e, e_call12_v13 V h]
  refine (Rows.wide_at gather_S4x20050x5_S4x256x5x1_S4x256x5_n_1_02_02_1_3_111.wf (by norm_num) (v29 V) (call12_v5 V)
    b r k).trans ?_
  refine congrArg (fun m => v29 V (ix3 b m k)) (Fin.ext ?_)
  show min (call12_v5 V (ix4 b r k 0)).toInt.toNat (20050 - 1) = _
  rw [roi_index V h]
  exact Rows.in_range _ 20050 (Fin.isLt _) (by norm_num)

theorem roi_cols (h : Fix V) (b : Fin 4) (m : Fin 20050) (k : Fin 4) :
    v29 V (ix3 b m ⟨k.val + 1, by omega⟩) = Spec.roi (arg0 V) (arg1 V) b m k := by
  rw [← roi_at V h]
  pointwise [e_v30 V h]
  simp only [Nat.add_comm 1]

theorem image_at (h : Fix V) (b : Fin 4) (r : Fin 256) : v253 V (ix2 b r) = ((b.val : ℝ) : EReal) := by
  pointwise [e_v253 V h, e_v252 V h, e_v251 V h]
  exact Spec.int_value _ (by omega)

theorem rois_at (h : Fix V) (b : Fin 4) (r : Fin 256) (k : Fin 5) : v255 V (ix3 b r k)
    = if hk : k.val < 1 then ((b.val : ℝ) : EReal) else Spec.kept (arg0 V) (arg1 V) b r ⟨k.val - 1, by omega⟩ := by
  rw [e_v255 V h]
  refine (Rows.column_at scatter_S4x256x5_S1_S4x256_01_2_2_0.wf (v250 V) (v254 V) (fun i => ?_) (v253 V) b r k).trans ?_
  · rw [e_v254 V h, e_c_50 V h]; rfl
  · by_cases hk : k.val < 1
    · rw [dif_pos hk, if_pos (by omega)]
      exact image_at V h b r
    · rw [dif_neg hk, if_neg (by omega), roi_row V h]
      refine Eq.trans ?_ (roi_cols V h b _ ⟨k.val - 1, by omega⟩)
      congr 2
      exact Fin.ext (by simp; omega)

/-- The boxes of the chosen proposals. -/
theorem rowno_test (h : Fix V) (b : Fin 4) (r : Fin 256) : call13_v12 V (ix2 b r) = 1#1 := by
  pointwise [e_call13_v12 V h, e_call13_v11 V h, e_call13_v7 V h, e_call13_v5 V h, e_call13_v4 V h, e_call13_v1 V h,
    e_call13_v0 V h, e_call13_c V h, e_call13_v3 V h, e_call13_v2 V h, e_call13_c_0 V h, e_call13_v6 V h,
    e_call13_c_2 V h, e_call13_v10 V h, e_call13_v9 V h, e_call13_v8 V h, e_call13_c_1 V h, e_call13_c_3 V h]
  exact Rows.passes _ 20050 _ _ _ (keep_at V h b r) (Fin.isLt _) (by norm_num) rfl

theorem rowno_index (h : Fix V) (b : Fin 4) (r : Fin 256) :
    call13_v5 V (ix3 b r 0) = BitVec.ofNat 32 (Spec.keep (arg0 V) (arg1 V) b r).val := by
  pointwise [e_call13_v5 V h, e_call13_v4 V h, e_call13_v1 V h, e_call13_v0 V h, e_call13_c V h, e_call13_v3 V h,
    e_call13_v2 V h, e_call13_c_0 V h]
  rw [keep_at V h b r]
  exact Rows.unwrapped _ 20050 _ (Fin.isLt _) (by norm_num)

theorem rowno_at (h : Fix V) (b : Fin 4) (r : Fin 256) :
    v256 V (ix2 b r) = BitVec.ofNat 32 (Spec.row (arg0 V) (arg1 V) b r).val := by
  have e : v256 V (ix2 b r) = call13_v13 V (ix2 b r) := by
    rw [e_v256 V h]
    show Scalar.select (call13_v12 V (ix2 b r)) _ _ = _
    rw [rowno_test V h]; rfl
  rw [e, e_call13_v13 V h]
  refine (Rows.flat_at gather_S4x20050_S4x256x1_S4x256_n_1_0_0_1_2_11.wf (by norm_num) (v101 V) (call13_v5 V) b r).trans ?_
  rw [argmax_at V h]
  refine congrArg (fun m => BitVec.ofNat 32 (Spec.best (arg1 V) b (Spec.roi (arg0 V) (arg1 V) b m)).val) (Fin.ext ?_)
  show min (call13_v5 V (ix3 b r 0)).toInt.toNat (20050 - 1) = _
  rw [rowno_index V h]
  exact Rows.in_range _ 20050 (Fin.isLt _) (by norm_num)

theorem gt_test (h : Fix V) (b : Fin 4) (r : Fin 256) (k : Fin 5) : call14_v12 V (ix3 b r k) = 1#1 := by
  pointwise [e_call14_v12 V h, e_call14_v11 V h, e_call14_v7 V h, e_call14_v5 V h, e_call14_v4 V h, e_call14_v1 V h,
    e_v258 V h, e_v257 V h, e_call14_v0 V h, e_call14_c V h, e_call14_v3 V h, e_call14_v2 V h, e_call14_c_0 V h,
    e_call14_v6 V h, e_call14_c_2 V h, e_call14_v10 V h, e_call14_v9 V h, e_call14_v8 V h, e_call14_c_1 V h,
    e_call14_c_3 V h]
  exact Rows.passes _ 50 _ _ _ (rowno_at V h b r) (Fin.isLt _) (by norm_num) rfl

theorem gt_index (h : Fix V) (b : Fin 4) (r : Fin 256) (k : Fin 5) :
    call14_v5 V (ix4 b r k 0) = BitVec.ofNat 32 (Spec.row (arg0 V) (arg1 V) b r).val := by
  pointwise [e_call14_v5 V h, e_call14_v4 V h, e_call14_v1 V h, e_v258 V h, e_v257 V h, e_call14_v0 V h,
    e_call14_c V h, e_call14_v3 V h, e_call14_v2 V h, e_call14_c_0 V h]
  rw [rowno_at V h b r]
  exact Rows.unwrapped _ 50 _ (Fin.isLt _) (by norm_num)

theorem gt_at (h : Fix V) (b : Fin 4) (r : Fin 256) (k : Fin 5) :
    v259 V (ix3 b r k) = Spec.ped (arg1 V) b (Spec.row (arg0 V) (arg1 V) b r) k := by
  have e : v259 V (ix3 b r k) = call14_v13 V (ix3 b r k) := by
    rw [e_v259 V h]
    show Scalar.select (call14_v12 V (ix3 b r k)) _ _ = _
    rw [gt_test V h]; rfl
  rw [e, e_call14_v13 V h]
  refine (Rows.wide_at gather_S4x50x5_S4x256x5x1_S4x256x5_n_1_02_02_1_3_111.wf (by norm_num) (v10 V) (call14_v5 V)
    b r k).trans ?_
  rw [ped_at V h]
  refine congrArg (fun g => Spec.ped (arg1 V) b g k) (Fin.ext ?_)
  show min (call14_v5 V (ix4 b r k 0)).toInt.toNat (50 - 1) = _
  rw [gt_index V h]
  exact Rows.in_range _ 50 (Fin.isLt _) (by norm_num)

/-- The weights. -/
theorem inw_at (h : Fix V) (b : Fin 4) (r : Fin 256) (k : Fin 4) :
    v341 V (ix3 b r k) = Spec.weight (Spec.label (arg0 V) (arg1 V) b r) := by
  pointwise [e_v341 V h, e_call16_v1 V h, e_v339 V h, e_v338 V h, e_v337 V h, e_cst_63 V h, e_call16_v2 V h,
    e_cst_1 V h, e_call16_v3 V h, e_call16_v0 V h, e_cst_65 V h]
  rw [label_at V h]
  exact Spec.ite_same Iff.rfl _ _

theorem outw_at (h : Fix V) (b : Fin 4) (r : Fin 256) (k : Fin 4) :
    v344 V (ix3 b r k) = Spec.weight (Spec.label (arg0 V) (arg1 V) b r) := by
  pointwise [e_v344 V h, e_v343 V h, e_v342 V h, e_cst_66 V h]
  rw [inw_at V h]
  unfold Spec.weight
  by_cases hl : 0 < Spec.label (arg0 V) (arg1 V) b r
  · rw [if_pos hl, Spec.bit_value, if_pos zero_lt_one]
  · rw [if_neg hl, Spec.bit_value, if_neg (lt_irrefl _)]

theorem scale_lit (k : Fin 4) : Ideal.ofBits FTy.f32 (lit0 (S4.rowMajor (ix1 k))) = Spec.scale k := by
  have hk : k = 0 ∨ k = 1 ∨ k = 2 ∨ k = 3 := by omega
  rcases hk with rfl | rfl | rfl | rfl <;> rfl

/-- The targets. -/
theorem tgt_at (h : Fix V) (b : Fin 4) (r : Fin 256) (k : Fin 4) : v340 V (ix3 b r k)
    = Spec.target (Spec.label (arg0 V) (arg1 V) b r) (Spec.kept (arg0 V) (arg1 V) b r)
        (Spec.pedBox (arg1 V) b (Spec.row (arg0 V) (arg1 V) b r)) k := by
  have hk : k = 0 ∨ k = 1 ∨ k = 2 ∨ k = 3 := by omega
  have r0 : v255 V (ix3 b r 1) = Spec.kept (arg0 V) (arg1 V) b r 0 := rois_at V h b r 1
  have r1 : v255 V (ix3 b r 2) = Spec.kept (arg0 V) (arg1 V) b r 1 := rois_at V h b r 2
  have r2 : v255 V (ix3 b r 3) = Spec.kept (arg0 V) (arg1 V) b r 2 := rois_at V h b r 3
  have r3 : v255 V (ix3 b r 4) = Spec.kept (arg0 V) (arg1 V) b r 3 := rois_at V h b r 4
  rcases hk with rfl | rfl | rfl | rfl
  · pointwise [e_v340 V h, e_call15_v1 V h, e_v339 V h, e_v338 V h, e_v337 V h, e_cst_63 V h, e_v336 V h, e_v333 V h,
    e_v330 V h, e_v326 V h, e_v319 V h, e_v318 V h, e_v312 V h, e_v309 V h, e_v308 V h, e_v261 V h, e_v311 V h,
    e_v310 V h, e_cst_61 V h, e_v298 V h, e_v296 V h, e_v294 V h, e_v291 V h, e_v290 V h, e_v293 V h, e_v292 V h,
    e_v295 V h, e_cst_57 V h, e_v297 V h, e_cst_58 V h, e_v284 V h, e_v281 V h, e_v280 V h, e_v260 V h, e_v283 V h,
    e_v282 V h, e_cst_55 V h, e_v270 V h, e_v268 V h, e_v266 V h, e_v263 V h, e_v262 V h, e_v265 V h, e_v264 V h,
    e_v267 V h, e_cst_51 V h, e_v269 V h, e_cst_52 V h, e_v327 V h, e_v321 V h, e_v320 V h, e_v317 V h, e_v314 V h,
    e_v313 V h, e_v316 V h, e_v315 V h, e_cst_62 V h, e_v307 V h, e_v305 V h, e_v303 V h, e_v300 V h, e_v299 V h,
    e_v302 V h, e_v301 V h, e_v304 V h, e_cst_59 V h, e_v306 V h, e_cst_60 V h, e_v289 V h, e_v286 V h, e_v285 V h,
    e_v288 V h, e_v287 V h, e_cst_56 V h, e_v279 V h, e_v277 V h, e_v275 V h, e_v272 V h, e_v271 V h, e_v274 V h,
    e_v273 V h, e_v276 V h, e_cst_53 V h, e_v278 V h, e_cst_54 V h, e_v328 V h, e_v323 V h, e_v322 V h, e_v329 V h,
    e_v325 V h, e_v324 V h, e_v332 V h, e_v331 V h, e_cst V h, e_v335 V h, e_v334 V h, e_cst_0 V h, e_call15_v2 V h,
    e_call15_v0 V h, e_cst_64 V h]
    rw [label_at V h]
    simp only [r0, r1, r2, r3, gt_at V h]
    exact Spec.ite_eq Iff.rfl (congrArg₂ Ideal.div rfl (scale_lit 0)) rfl
  · pointwise [e_v340 V h, e_call15_v1 V h, e_v339 V h, e_v338 V h, e_v337 V h, e_cst_63 V h, e_v336 V h, e_v333 V h,
    e_v330 V h, e_v326 V h, e_v319 V h, e_v318 V h, e_v312 V h, e_v309 V h, e_v308 V h, e_v261 V h, e_v311 V h,
    e_v310 V h, e_cst_61 V h, e_v298 V h, e_v296 V h, e_v294 V h, e_v291 V h, e_v290 V h, e_v293 V h, e_v292 V h,
    e_v295 V h, e_cst_57 V h, e_v297 V h, e_cst_58 V h, e_v284 V h, e_v281 V h, e_v280 V h, e_v260 V h, e_v283 V h,
    e_v282 V h, e_cst_55 V h, e_v270 V h, e_v268 V h, e_v266 V h, e_v263 V h, e_v262 V h, e_v265 V h, e_v264 V h,
    e_v267 V h, e_cst_51 V h, e_v269 V h, e_cst_52 V h, e_v327 V h, e_v321 V h, e_v320 V h, e_v317 V h, e_v314 V h,
    e_v313 V h, e_v316 V h, e_v315 V h, e_cst_62 V h, e_v307 V h, e_v305 V h, e_v303 V h, e_v300 V h, e_v299 V h,
    e_v302 V h, e_v301 V h, e_v304 V h, e_cst_59 V h, e_v306 V h, e_cst_60 V h, e_v289 V h, e_v286 V h, e_v285 V h,
    e_v288 V h, e_v287 V h, e_cst_56 V h, e_v279 V h, e_v277 V h, e_v275 V h, e_v272 V h, e_v271 V h, e_v274 V h,
    e_v273 V h, e_v276 V h, e_cst_53 V h, e_v278 V h, e_cst_54 V h, e_v328 V h, e_v323 V h, e_v322 V h, e_v329 V h,
    e_v325 V h, e_v324 V h, e_v332 V h, e_v331 V h, e_cst V h, e_v335 V h, e_v334 V h, e_cst_0 V h, e_call15_v2 V h,
    e_call15_v0 V h, e_cst_64 V h]
    rw [label_at V h]
    simp only [r0, r1, r2, r3, gt_at V h]
    exact Spec.ite_eq Iff.rfl (congrArg₂ Ideal.div rfl (scale_lit 1)) rfl
  · pointwise [e_v340 V h, e_call15_v1 V h, e_v339 V h, e_v338 V h, e_v337 V h, e_cst_63 V h, e_v336 V h, e_v333 V h,
    e_v330 V h, e_v326 V h, e_v319 V h, e_v318 V h, e_v312 V h, e_v309 V h, e_v308 V h, e_v261 V h, e_v311 V h,
    e_v310 V h, e_cst_61 V h, e_v298 V h, e_v296 V h, e_v294 V h, e_v291 V h, e_v290 V h, e_v293 V h, e_v292 V h,
    e_v295 V h, e_cst_57 V h, e_v297 V h, e_cst_58 V h, e_v284 V h, e_v281 V h, e_v280 V h, e_v260 V h, e_v283 V h,
    e_v282 V h, e_cst_55 V h, e_v270 V h, e_v268 V h, e_v266 V h, e_v263 V h, e_v262 V h, e_v265 V h, e_v264 V h,
    e_v267 V h, e_cst_51 V h, e_v269 V h, e_cst_52 V h, e_v327 V h, e_v321 V h, e_v320 V h, e_v317 V h, e_v314 V h,
    e_v313 V h, e_v316 V h, e_v315 V h, e_cst_62 V h, e_v307 V h, e_v305 V h, e_v303 V h, e_v300 V h, e_v299 V h,
    e_v302 V h, e_v301 V h, e_v304 V h, e_cst_59 V h, e_v306 V h, e_cst_60 V h, e_v289 V h, e_v286 V h, e_v285 V h,
    e_v288 V h, e_v287 V h, e_cst_56 V h, e_v279 V h, e_v277 V h, e_v275 V h, e_v272 V h, e_v271 V h, e_v274 V h,
    e_v273 V h, e_v276 V h, e_cst_53 V h, e_v278 V h, e_cst_54 V h, e_v328 V h, e_v323 V h, e_v322 V h, e_v329 V h,
    e_v325 V h, e_v324 V h, e_v332 V h, e_v331 V h, e_cst V h, e_v335 V h, e_v334 V h, e_cst_0 V h, e_call15_v2 V h,
    e_call15_v0 V h, e_cst_64 V h]
    rw [label_at V h]
    simp only [r0, r1, r2, r3, gt_at V h]
    exact Spec.ite_eq Iff.rfl (congrArg₂ Ideal.div rfl (scale_lit 2)) rfl
  · pointwise [e_v340 V h, e_call15_v1 V h, e_v339 V h, e_v338 V h, e_v337 V h, e_cst_63 V h, e_v336 V h, e_v333 V h,
    e_v330 V h, e_v326 V h, e_v319 V h, e_v318 V h, e_v312 V h, e_v309 V h, e_v308 V h, e_v261 V h, e_v311 V h,
    e_v310 V h, e_cst_61 V h, e_v298 V h, e_v296 V h, e_v294 V h, e_v291 V h, e_v290 V h, e_v293 V h, e_v292 V h,
    e_v295 V h, e_cst_57 V h, e_v297 V h, e_cst_58 V h, e_v284 V h, e_v281 V h, e_v280 V h, e_v260 V h, e_v283 V h,
    e_v282 V h, e_cst_55 V h, e_v270 V h, e_v268 V h, e_v266 V h, e_v263 V h, e_v262 V h, e_v265 V h, e_v264 V h,
    e_v267 V h, e_cst_51 V h, e_v269 V h, e_cst_52 V h, e_v327 V h, e_v321 V h, e_v320 V h, e_v317 V h, e_v314 V h,
    e_v313 V h, e_v316 V h, e_v315 V h, e_cst_62 V h, e_v307 V h, e_v305 V h, e_v303 V h, e_v300 V h, e_v299 V h,
    e_v302 V h, e_v301 V h, e_v304 V h, e_cst_59 V h, e_v306 V h, e_cst_60 V h, e_v289 V h, e_v286 V h, e_v285 V h,
    e_v288 V h, e_v287 V h, e_cst_56 V h, e_v279 V h, e_v277 V h, e_v275 V h, e_v272 V h, e_v271 V h, e_v274 V h,
    e_v273 V h, e_v276 V h, e_cst_53 V h, e_v278 V h, e_cst_54 V h, e_v328 V h, e_v323 V h, e_v322 V h, e_v329 V h,
    e_v325 V h, e_v324 V h, e_v332 V h, e_v331 V h, e_cst V h, e_v335 V h, e_v334 V h, e_cst_0 V h, e_call15_v2 V h,
    e_call15_v0 V h, e_cst_64 V h]
    rw [label_at V h]
    simp only [r0, r1, r2, r3, gt_at V h]
    exact Spec.ite_eq Iff.rfl (congrArg₂ Ideal.div rfl (scale_lit 3)) rfl

end Cert.ReferenceIdeal.Vals

end
end
-- ==== Proof.Equal.lean ====
module

public import proofs.«01_k».proof.Defs
public import proofs.«01_k».proof.Proof.Gen.Pre_boxes_seen
public import proofs.«01_k».proof.Proof.Results
public import proofs.«01_k».proof.Proof.RefSpec2

/-!
# The two programs' results are the same

Under the precondition both programs hold, at every index of every result, the same quantity of the arguments.
-/

@[expose] public section

set_option maxRecDepth 16384
noncomputable section

namespace Cert.Equal

open Idealize.ShloMosaic Idealize.ShloMosaic.TcCoe Idealize.SL.Sem

section
open Cert.Pre_boxes_seen
/-- The precondition at a box. -/
theorem seen (a0 : FVec Ideal S4x20000x5 .f32) (a1 : FVec Ideal S4x50x5 .f32) (a2 : IVec S4 32)
    (h : fn (F := Ideal) a0 a1 a2 = fun _ => 1#1) : Spec.Seen a1 := by
  intro b g
  have hb := congrFun h (ix2 b g)
  pointwise [fn, fn_part1] at hb
  by_contra hn
  rw [not_or, not_or, not_or, not_exists] at hn
  obtain ⟨hk, h0, h2, h3⟩ := hn
  have k0 : a1 (ix3 b g 0) = 0 := not_not.1 (hk 0)
  have k1 : a1 (ix3 b g 1) = 0 := not_not.1 (hk 1)
  have k2 : a1 (ix3 b g 2) = 0 := not_not.1 (hk 2)
  have k3 : a1 (ix3 b g 3) = 0 := not_not.1 (hk 3)
  unfold Spec.two at h2
  unfold Spec.three at h3
  simp [k0, k1, k2, k3, h0, h2, h3, IntOp.ori] at hb
end

section
open Cert.ReferenceIdeal Cert.ReferenceIdeal.Vals
open Cert.KernelIdeal.Region1 (roisArr tgtArr weightArr gtArr)

variable (V : Valuation τ sig (Elt Ideal)) (h : Fix V)

theorem split {a b n : ℕ} (y : Shape.Idx ⟨3, ![a, b, n]⟩) : ∃ (i : Fin a) (r : Fin b) (k : Fin n), y = ix3 i r k :=
  ⟨y 0, y 1, y 2, funext fun j => match j with
    | 0 => rfl
    | 1 => rfl
    | 2 => rfl⟩

include h

/-- The reference's results, as arrays. -/
theorem ref_rois : v255 V = roisArr (arg0 V) (arg1 V) := by
  funext y
  obtain ⟨b, r, k, rfl⟩ := split y
  exact rois_at V h b r k
theorem ref_targets : v340 V = tgtArr (arg0 V) (arg1 V) := by
  funext y
  obtain ⟨b, r, k, rfl⟩ := split y
  exact tgt_at V h b r k
theorem ref_inside : v341 V = weightArr (arg0 V) (arg1 V) := by
  funext y
  obtain ⟨b, r, k, rfl⟩ := split y
  exact inw_at V h b r k
theorem ref_outside : v344 V = weightArr (arg0 V) (arg1 V) := by
  funext y
  obtain ⟨b, r, k, rfl⟩ := split y
  exact outw_at V h b r k
theorem ref_boxes : v259 V = gtArr (arg0 V) (arg1 V) := by
  funext y
  obtain ⟨b, r, k, rfl⟩ := split y
  exact gt_at V h b r k

/-- The labels, against any array that holds the labels of the same boxes. -/
theorem same_labels (u : FVec Ideal Cert.KernelIdeal.S4x256 .f32) (A0 : Spec.Rois) (A1 : Spec.Gts) (e0 : arg0 V = A0) (e1 : arg1 V = A1)
    (hu : ∀ b r, u (ix2 b r) = Spec.label A0 A1 b r) : v247 V = u := by
  funext y
  obtain ⟨b, r, rfl⟩ : ∃ (b : Fin 4) (r : Fin 256), y = ix2 b r :=
    ⟨y 0, y 1, funext fun j => match j with
      | 0 => rfl
      | 1 => rfl⟩
  subst e0 e1
  exact (label_at V h b r).trans (hu b r).symm
end

set_option maxHeartbeats 2000000 in
/-- From the same arguments both programs end with the same six results. -/
theorem algebraic : algebraic_KernelIdeal_ReferenceIdeal_pre_boxes_seen := by
  intro m g m' g' hpre hagree
  have hs : ∀ c, Spec.Seen (Cert.KernelIdeal.Mid.A1 m g c) := fun c => by
    rw [Cert.KernelIdeal.Results.A1_eq]
    exact seen _ _ _ (hpre c)
  have e0 : ∀ c, Cert.ReferenceIdeal.Vals.arg0 (Cert.ReferenceIdeal.Ops.fin m' c) = Cert.KernelIdeal.Mid.A0 m g c := fun c =>
    (Cert.ReferenceIdeal.Ops.fin_arg m' c _ (by decide)).trans
      ((hagree c).1.trans (Cert.KernelIdeal.Results.A0_eq m g c).symm)
  have e1 : ∀ c, Cert.ReferenceIdeal.Vals.arg1 (Cert.ReferenceIdeal.Ops.fin m' c) = Cert.KernelIdeal.Mid.A1 m g c := fun c =>
    (Cert.ReferenceIdeal.Ops.fin_arg m' c _ (by decide)).trans
      ((hagree c).2.1.trans (Cert.KernelIdeal.Results.A1_eq m g c).symm)
  have hf : ∀ c, Cert.ReferenceIdeal.Vals.Fix (Cert.ReferenceIdeal.Ops.fin m' c) := fun c =>
    Cert.ReferenceIdeal.Ops.fin_fix m' c
  have r0 : ∀ c, Cert.ReferenceIdeal.Vals.v255 (Cert.ReferenceIdeal.Ops.fin m' c) = Cert.KernelIdeal.Vals.out0 (Cert.KernelIdeal.Two.W5 m g c) := fun c => by
    rw [ref_rois _ (hf c), Cert.KernelIdeal.Results.rois m g hs c, e0 c, e1 c]
  have r1 : ∀ c, Cert.ReferenceIdeal.Vals.v247 (Cert.ReferenceIdeal.Ops.fin m' c) = Cert.KernelIdeal.Vals.out1 (Cert.KernelIdeal.Two.W5 m g c) := fun c => by
    exact same_labels _ (hf c) _ _ _ (e0 c) (e1 c) (Cert.KernelIdeal.Results.labels m g hs c)
  have r2 : ∀ c, Cert.ReferenceIdeal.Vals.v340 (Cert.ReferenceIdeal.Ops.fin m' c) = Cert.KernelIdeal.Vals.out2 (Cert.KernelIdeal.Two.W5 m g c) := fun c => by
    rw [ref_targets _ (hf c), Cert.KernelIdeal.Results.targets m g hs c, e0 c, e1 c]
  have r3 : ∀ c, Cert.ReferenceIdeal.Vals.v341 (Cert.ReferenceIdeal.Ops.fin m' c) = Cert.KernelIdeal.Vals.out3 (Cert.KernelIdeal.Two.W5 m g c) := fun c => by
    rw [ref_inside _ (hf c), Cert.KernelIdeal.Results.inside m g hs c, e0 c, e1 c]
  have r4 : ∀ c, Cert.ReferenceIdeal.Vals.v344 (Cert.ReferenceIdeal.Ops.fin m' c) = Cert.KernelIdeal.Vals.out4 (Cert.KernelIdeal.Two.W5 m g c) := fun c => by
    rw [ref_outside _ (hf c), Cert.KernelIdeal.Results.outside m g hs c, e0 c, e1 c]
  have r5 : ∀ c, Cert.ReferenceIdeal.Vals.v259 (Cert.ReferenceIdeal.Ops.fin m' c) = Cert.KernelIdeal.Vals.out5 (Cert.KernelIdeal.Two.W5 m g c) := fun c => by
    rw [ref_boxes _ (hf c), Cert.KernelIdeal.Results.boxes m g hs c, e0 c, e1 c]
  refine ⟨fun c => Cert.KernelIdeal.Vals.out0 (Cert.KernelIdeal.Two.W5 m g c),
    fun c => Cert.KernelIdeal.Vals.out1 (Cert.KernelIdeal.Two.W5 m g c),
    fun c => Cert.KernelIdeal.Vals.out2 (Cert.KernelIdeal.Two.W5 m g c),
    fun c => Cert.KernelIdeal.Vals.out3 (Cert.KernelIdeal.Two.W5 m g c),
    fun c => Cert.KernelIdeal.Vals.out4 (Cert.KernelIdeal.Two.W5 m g c),
    fun c => Cert.KernelIdeal.Vals.out5 (Cert.KernelIdeal.Two.W5 m g c), ?_, ?_⟩
  · refine θ_run_mono (Cert.KernelIdeal.Two.run m g) fun r hr c => ?_
    have hc := hr.1 c
    exact ⟨hc _ (Cert.KernelIdeal.Two.mem_uc _ (by decide)), hc _ (Cert.KernelIdeal.Two.mem_uc _ (by decide)),
      hc _ (Cert.KernelIdeal.Two.mem_uc _ (by decide)), hc _ (Cert.KernelIdeal.Two.mem_uc _ (by decide)),
      hc _ (Cert.KernelIdeal.Two.mem_uc _ (by decide)), hc _ (Cert.KernelIdeal.Two.mem_uc _ (by decide)),
      (hc _ (Cert.KernelIdeal.Two.mem_uc _ (by decide))).trans (Cert.KernelIdeal.Two.W5_main_arg0 m g c),
      (hc _ (Cert.KernelIdeal.Two.mem_uc _ (by decide))).trans (Cert.KernelIdeal.Two.W5_main_arg1 m g c),
      (hc _ (Cert.KernelIdeal.Two.mem_uc _ (by decide))).trans (Cert.KernelIdeal.Two.W5_main_arg2 m g c)⟩
  · refine θ_run_mono (Cert.ReferenceIdeal.Ops.run m' g') fun r hr c => ?_
    have hc := hr c
    exact ⟨(hc Cert.ReferenceIdeal.main_v255).trans (r0 c),
      (hc Cert.ReferenceIdeal.main_v247).trans (r1 c),
      (hc Cert.ReferenceIdeal.main_v340).trans (r2 c),
      (hc Cert.ReferenceIdeal.main_v341).trans (r3 c),
      (hc Cert.ReferenceIdeal.main_v344).trans (r4 c),
      (hc Cert.ReferenceIdeal.main_v259).trans (r5 c),
      (hc Cert.ReferenceIdeal.main_arg0).trans (Cert.ReferenceIdeal.Ops.fin_arg m' c _ (by decide)),
      (hc Cert.ReferenceIdeal.main_arg1).trans (Cert.ReferenceIdeal.Ops.fin_arg m' c _ (by decide)),
      (hc Cert.ReferenceIdeal.main_arg2).trans (Cert.ReferenceIdeal.Ops.fin_arg m' c _ (by decide))⟩

end Cert.Equal

end
end
-- ==== Proof.lean ====
/- The claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_boxes_seen
public import proofs.«01_k».proof.Proof.KernelRun
public import proofs.«01_k».proof.Proof.IdealRun
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_boxes_seen.Gen.facts, fun m g _ => Cert.Kernel.Two.frame m g, fun m g _ => Cert.KernelIdeal.Two.frame m g,
  fun m g _ => Cert.KernelIdeal.Two.frame m g, fun m g _ => Cert.ReferenceIdeal.Ops.frame m g,
  fun m g _ => Cert.ReferenceIdeal.Ops.frame m g, trivial, Cert.Equal.algebraic⟩

end Cert.Proof

end
